-- ==== Defs.lean ====
def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite_qk [hPre_finite_qk : Cert.Pre_finite_qk.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite_qk.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).1 = (fun _ => 1#1)
    ∧ (Cert.Pre_finite_qk.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))).2 = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite_qk [hPre_finite_qk : Cert.Pre_finite_qk.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite_qk.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).1 = (fun _ => 1#1)
    ∧ (Cert.Pre_finite_qk.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2))).2 = (fun _ => 1#1)

def Pre_AttnM (m : (ℓ : Loc Cert.AttnM.nD Cert.AttnM.τ Cert.AttnM.sig) → Buf (Elt Bits) ℓ) : Prop :=
  True

def Pre_AttnMIdeal (m : (ℓ : Loc Cert.AttnMIdeal.nD Cert.AttnMIdeal.τ Cert.AttnMIdeal.sig) → Buf (Elt Ideal) ℓ) : Prop :=
  True

def Pre_AttnMIdeal_finite_qk [hPre_finite_qk : Cert.Pre_finite_qk.Facts] (m : (ℓ : Loc Cert.AttnMIdeal.nD Cert.AttnMIdeal.τ Cert.AttnMIdeal.sig) → Buf (Elt Ideal) ℓ) : Prop :=
  ∀ c : Dev Cert.AttnMIdeal.nD,
    (Cert.Pre_finite_qk.fn (F := Ideal) (m ((c.tc : Thread Cert.AttnMIdeal.nD Cert.AttnMIdeal.τ).loc Cert.AttnMIdeal.main_arg0)) (m ((c.tc : Thread Cert.AttnMIdeal.nD Cert.AttnMIdeal.τ).loc Cert.AttnMIdeal.main_arg1)) (m ((c.tc : Thread Cert.AttnMIdeal.nD Cert.AttnMIdeal.τ).loc Cert.AttnMIdeal.main_arg2))).1 = (fun _ => 1#1)
    ∧ (Cert.Pre_finite_qk.fn (F := Ideal) (m ((c.tc : Thread Cert.AttnMIdeal.nD Cert.AttnMIdeal.τ).loc Cert.AttnMIdeal.main_arg0)) (m ((c.tc : Thread Cert.AttnMIdeal.nD Cert.AttnMIdeal.τ).loc Cert.AttnMIdeal.main_arg1)) (m ((c.tc : Thread Cert.AttnMIdeal.nD Cert.AttnMIdeal.τ).loc Cert.AttnMIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_AbProj (m : (ℓ : Loc Cert.AbProj.nD Cert.AbProj.τ Cert.AbProj.sig) → Buf (Elt Bits) ℓ) : Prop :=
  True

def Pre_AbProjIdeal (m : (ℓ : Loc Cert.AbProjIdeal.nD Cert.AbProjIdeal.τ Cert.AbProjIdeal.sig) → Buf (Elt Ideal) ℓ) : Prop :=
  True

def Pre_AbProjIdeal_finite_norm [hPre_finite_norm : Cert.Pre_finite_norm.Facts] (m : (ℓ : Loc Cert.AbProjIdeal.nD Cert.AbProjIdeal.τ Cert.AbProjIdeal.sig) → Buf (Elt Ideal) ℓ) : Prop :=
  ∀ c : Dev Cert.AbProjIdeal.nD,
    (Cert.Pre_finite_norm.fn (F := Ideal) (m ((c.tc : Thread Cert.AbProjIdeal.nD Cert.AbProjIdeal.τ).loc Cert.AbProjIdeal.main_arg0)) (m ((c.tc : Thread Cert.AbProjIdeal.nD Cert.AbProjIdeal.τ).loc Cert.AbProjIdeal.main_arg1)) (m ((c.tc : Thread Cert.AbProjIdeal.nD Cert.AbProjIdeal.τ).loc Cert.AbProjIdeal.main_arg2)) (m ((c.tc : Thread Cert.AbProjIdeal.nD Cert.AbProjIdeal.τ).loc Cert.AbProjIdeal.main_arg3))).1 = (fun _ => 1#1)
    ∧ (Cert.Pre_finite_norm.fn (F := Ideal) (m ((c.tc : Thread Cert.AbProjIdeal.nD Cert.AbProjIdeal.τ).loc Cert.AbProjIdeal.main_arg0)) (m ((c.tc : Thread Cert.AbProjIdeal.nD Cert.AbProjIdeal.τ).loc Cert.AbProjIdeal.main_arg1)) (m ((c.tc : Thread Cert.AbProjIdeal.nD Cert.AbProjIdeal.τ).loc Cert.AbProjIdeal.main_arg2)) (m ((c.tc : Thread Cert.AbProjIdeal.nD Cert.AbProjIdeal.τ).loc Cert.AbProjIdeal.main_arg3))).2 = (fun _ => 1#1)

def Pre_AbProjRefIdeal (m : (ℓ : Loc Cert.AbProjRefIdeal.nD Cert.AbProjRefIdeal.τ Cert.AbProjRefIdeal.sig) → Buf (Elt Ideal) ℓ) : Prop :=
  True

def Pre_AbProjRefIdeal_finite_norm [hPre_finite_norm : Cert.Pre_finite_norm.Facts] (m : (ℓ : Loc Cert.AbProjRefIdeal.nD Cert.AbProjRefIdeal.τ Cert.AbProjRefIdeal.sig) → Buf (Elt Ideal) ℓ) : Prop :=
  ∀ c : Dev Cert.AbProjRefIdeal.nD,
    (Cert.Pre_finite_norm.fn (F := Ideal) (m ((c.tc : Thread Cert.AbProjRefIdeal.nD Cert.AbProjRefIdeal.τ).loc Cert.AbProjRefIdeal.main_arg0)) (m ((c.tc : Thread Cert.AbProjRefIdeal.nD Cert.AbProjRefIdeal.τ).loc Cert.AbProjRefIdeal.main_arg1)) (m ((c.tc : Thread Cert.AbProjRefIdeal.nD Cert.AbProjRefIdeal.τ).loc Cert.AbProjRefIdeal.main_arg2)) (m ((c.tc : Thread Cert.AbProjRefIdeal.nD Cert.AbProjRefIdeal.τ).loc Cert.AbProjRefIdeal.main_arg3))).1 = (fun _ => 1#1)
    ∧ (Cert.Pre_finite_norm.fn (F := Ideal) (m ((c.tc : Thread Cert.AbProjRefIdeal.nD Cert.AbProjRefIdeal.τ).loc Cert.AbProjRefIdeal.main_arg0)) (m ((c.tc : Thread Cert.AbProjRefIdeal.nD Cert.AbProjRefIdeal.τ).loc Cert.AbProjRefIdeal.main_arg1)) (m ((c.tc : Thread Cert.AbProjRefIdeal.nD Cert.AbProjRefIdeal.τ).loc Cert.AbProjRefIdeal.main_arg2)) (m ((c.tc : Thread Cert.AbProjRefIdeal.nD Cert.AbProjRefIdeal.τ).loc Cert.AbProjRefIdeal.main_arg3))).2 = (fun _ => 1#1)

def Pre_MixAb (m : (ℓ : Loc Cert.MixAb.nD Cert.MixAb.τ Cert.MixAb.sig) → Buf (Elt Bits) ℓ) : Prop :=
  True

def Pre_MixAbIdeal (m : (ℓ : Loc Cert.MixAbIdeal.nD Cert.MixAbIdeal.τ Cert.MixAbIdeal.sig) → Buf (Elt Ideal) ℓ) : Prop :=
  True

def Pre_MixAbIdeal_finite_ab [hPre_finite_ab : Cert.Pre_finite_ab.Facts] (m : (ℓ : Loc Cert.MixAbIdeal.nD Cert.MixAbIdeal.τ Cert.MixAbIdeal.sig) → Buf (Elt Ideal) ℓ) : Prop :=
  ∀ c : Dev Cert.MixAbIdeal.nD,
    (Cert.Pre_finite_ab.fn (F := Ideal) (m ((c.tc : Thread Cert.MixAbIdeal.nD Cert.MixAbIdeal.τ).loc Cert.MixAbIdeal.main_arg0)) (m ((c.tc : Thread Cert.MixAbIdeal.nD Cert.MixAbIdeal.τ).loc Cert.MixAbIdeal.main_arg1)) (m ((c.tc : Thread Cert.MixAbIdeal.nD Cert.MixAbIdeal.τ).loc Cert.MixAbIdeal.main_arg2)) (m ((c.tc : Thread Cert.MixAbIdeal.nD Cert.MixAbIdeal.τ).loc Cert.MixAbIdeal.main_arg3)) (m ((c.tc : Thread Cert.MixAbIdeal.nD Cert.MixAbIdeal.τ).loc Cert.MixAbIdeal.main_arg4)) (m ((c.tc : Thread Cert.MixAbIdeal.nD Cert.MixAbIdeal.τ).loc Cert.MixAbIdeal.main_arg5)) (m ((c.tc : Thread Cert.MixAbIdeal.nD Cert.MixAbIdeal.τ).loc Cert.MixAbIdeal.main_arg6)) (m ((c.tc : Thread Cert.MixAbIdeal.nD Cert.MixAbIdeal.τ).loc Cert.MixAbIdeal.main_arg7)) (m ((c.tc : Thread Cert.MixAbIdeal.nD Cert.MixAbIdeal.τ).loc Cert.MixAbIdeal.main_arg8))).1 = (fun _ => 1#1)
    ∧ (Cert.Pre_finite_ab.fn (F := Ideal) (m ((c.tc : Thread Cert.MixAbIdeal.nD Cert.MixAbIdeal.τ).loc Cert.MixAbIdeal.main_arg0)) (m ((c.tc : Thread Cert.MixAbIdeal.nD Cert.MixAbIdeal.τ).loc Cert.MixAbIdeal.main_arg1)) (m ((c.tc : Thread Cert.MixAbIdeal.nD Cert.MixAbIdeal.τ).loc Cert.MixAbIdeal.main_arg2)) (m ((c.tc : Thread Cert.MixAbIdeal.nD Cert.MixAbIdeal.τ).loc Cert.MixAbIdeal.main_arg3)) (m ((c.tc : Thread Cert.MixAbIdeal.nD Cert.MixAbIdeal.τ).loc Cert.MixAbIdeal.main_arg4)) (m ((c.tc : Thread Cert.MixAbIdeal.nD Cert.MixAbIdeal.τ).loc Cert.MixAbIdeal.main_arg5)) (m ((c.tc : Thread Cert.MixAbIdeal.nD Cert.MixAbIdeal.τ).loc Cert.MixAbIdeal.main_arg6)) (m ((c.tc : Thread Cert.MixAbIdeal.nD Cert.MixAbIdeal.τ).loc Cert.MixAbIdeal.main_arg7)) (m ((c.tc : Thread Cert.MixAbIdeal.nD Cert.MixAbIdeal.τ).loc Cert.MixAbIdeal.main_arg8))).2.1 = (fun _ => 1#1)
    ∧ (Cert.Pre_finite_ab.fn (F := Ideal) (m ((c.tc : Thread Cert.MixAbIdeal.nD Cert.MixAbIdeal.τ).loc Cert.MixAbIdeal.main_arg0)) (m ((c.tc : Thread Cert.MixAbIdeal.nD Cert.MixAbIdeal.τ).loc Cert.MixAbIdeal.main_arg1)) (m ((c.tc : Thread Cert.MixAbIdeal.nD Cert.MixAbIdeal.τ).loc Cert.MixAbIdeal.main_arg2)) (m ((c.tc : Thread Cert.MixAbIdeal.nD Cert.MixAbIdeal.τ).loc Cert.MixAbIdeal.main_arg3)) (m ((c.tc : Thread Cert.MixAbIdeal.nD Cert.MixAbIdeal.τ).loc Cert.MixAbIdeal.main_arg4)) (m ((c.tc : Thread Cert.MixAbIdeal.nD Cert.MixAbIdeal.τ).loc Cert.MixAbIdeal.main_arg5)) (m ((c.tc : Thread Cert.MixAbIdeal.nD Cert.MixAbIdeal.τ).loc Cert.MixAbIdeal.main_arg6)) (m ((c.tc : Thread Cert.MixAbIdeal.nD Cert.MixAbIdeal.τ).loc Cert.MixAbIdeal.main_arg7)) (m ((c.tc : Thread Cert.MixAbIdeal.nD Cert.MixAbIdeal.τ).loc Cert.MixAbIdeal.main_arg8))).2.2.1 = (fun _ => 1#1)
    ∧ (Cert.Pre_finite_ab.fn (F := Ideal) (m ((c.tc : Thread Cert.MixAbIdeal.nD Cert.MixAbIdeal.τ).loc Cert.MixAbIdeal.main_arg0)) (m ((c.tc : Thread Cert.MixAbIdeal.nD Cert.MixAbIdeal.τ).loc Cert.MixAbIdeal.main_arg1)) (m ((c.tc : Thread Cert.MixAbIdeal.nD Cert.MixAbIdeal.τ).loc Cert.MixAbIdeal.main_arg2)) (m ((c.tc : Thread Cert.MixAbIdeal.nD Cert.MixAbIdeal.τ).loc Cert.MixAbIdeal.main_arg3)) (m ((c.tc : Thread Cert.MixAbIdeal.nD Cert.MixAbIdeal.τ).loc Cert.MixAbIdeal.main_arg4)) (m ((c.tc : Thread Cert.MixAbIdeal.nD Cert.MixAbIdeal.τ).loc Cert.MixAbIdeal.main_arg5)) (m ((c.tc : Thread Cert.MixAbIdeal.nD Cert.MixAbIdeal.τ).loc Cert.MixAbIdeal.main_arg6)) (m ((c.tc : Thread Cert.MixAbIdeal.nD Cert.MixAbIdeal.τ).loc Cert.MixAbIdeal.main_arg7)) (m ((c.tc : Thread Cert.MixAbIdeal.nD Cert.MixAbIdeal.τ).loc Cert.MixAbIdeal.main_arg8))).2.2.2 = (fun _ => 1#1)

def Pre_MixAbRefIdeal (m : (ℓ : Loc Cert.MixAbRefIdeal.nD Cert.MixAbRefIdeal.τ Cert.MixAbRefIdeal.sig) → Buf (Elt Ideal) ℓ) : Prop :=
  True

def Pre_MixAbRefIdeal_finite_ab [hPre_finite_ab : Cert.Pre_finite_ab.Facts] (m : (ℓ : Loc Cert.MixAbRefIdeal.nD Cert.MixAbRefIdeal.τ Cert.MixAbRefIdeal.sig) → Buf (Elt Ideal) ℓ) : Prop :=
  ∀ c : Dev Cert.MixAbRefIdeal.nD,
    (Cert.Pre_finite_ab.fn (F := Ideal) (m ((c.tc : Thread Cert.MixAbRefIdeal.nD Cert.MixAbRefIdeal.τ).loc Cert.MixAbRefIdeal.main_arg0)) (m ((c.tc : Thread Cert.MixAbRefIdeal.nD Cert.MixAbRefIdeal.τ).loc Cert.MixAbRefIdeal.main_arg1)) (m ((c.tc : Thread Cert.MixAbRefIdeal.nD Cert.MixAbRefIdeal.τ).loc Cert.MixAbRefIdeal.main_arg2)) (m ((c.tc : Thread Cert.MixAbRefIdeal.nD Cert.MixAbRefIdeal.τ).loc Cert.MixAbRefIdeal.main_arg3)) (m ((c.tc : Thread Cert.MixAbRefIdeal.nD Cert.MixAbRefIdeal.τ).loc Cert.MixAbRefIdeal.main_arg4)) (m ((c.tc : Thread Cert.MixAbRefIdeal.nD Cert.MixAbRefIdeal.τ).loc Cert.MixAbRefIdeal.main_arg5)) (m ((c.tc : Thread Cert.MixAbRefIdeal.nD Cert.MixAbRefIdeal.τ).loc Cert.MixAbRefIdeal.main_arg6)) (m ((c.tc : Thread Cert.MixAbRefIdeal.nD Cert.MixAbRefIdeal.τ).loc Cert.MixAbRefIdeal.main_arg7)) (m ((c.tc : Thread Cert.MixAbRefIdeal.nD Cert.MixAbRefIdeal.τ).loc Cert.MixAbRefIdeal.main_arg8))).1 = (fun _ => 1#1)
    ∧ (Cert.Pre_finite_ab.fn (F := Ideal) (m ((c.tc : Thread Cert.MixAbRefIdeal.nD Cert.MixAbRefIdeal.τ).loc Cert.MixAbRefIdeal.main_arg0)) (m ((c.tc : Thread Cert.MixAbRefIdeal.nD Cert.MixAbRefIdeal.τ).loc Cert.MixAbRefIdeal.main_arg1)) (m ((c.tc : Thread Cert.MixAbRefIdeal.nD Cert.MixAbRefIdeal.τ).loc Cert.MixAbRefIdeal.main_arg2)) (m ((c.tc : Thread Cert.MixAbRefIdeal.nD Cert.MixAbRefIdeal.τ).loc Cert.MixAbRefIdeal.main_arg3)) (m ((c.tc : Thread Cert.MixAbRefIdeal.nD Cert.MixAbRefIdeal.τ).loc Cert.MixAbRefIdeal.main_arg4)) (m ((c.tc : Thread Cert.MixAbRefIdeal.nD Cert.MixAbRefIdeal.τ).loc Cert.MixAbRefIdeal.main_arg5)) (m ((c.tc : Thread Cert.MixAbRefIdeal.nD Cert.MixAbRefIdeal.τ).loc Cert.MixAbRefIdeal.main_arg6)) (m ((c.tc : Thread Cert.MixAbRefIdeal.nD Cert.MixAbRefIdeal.τ).loc Cert.MixAbRefIdeal.main_arg7)) (m ((c.tc : Thread Cert.MixAbRefIdeal.nD Cert.MixAbRefIdeal.τ).loc Cert.MixAbRefIdeal.main_arg8))).2.1 = (fun _ => 1#1)
    ∧ (Cert.Pre_finite_ab.fn (F := Ideal) (m ((c.tc : Thread Cert.MixAbRefIdeal.nD Cert.MixAbRefIdeal.τ).loc Cert.MixAbRefIdeal.main_arg0)) (m ((c.tc : Thread Cert.MixAbRefIdeal.nD Cert.MixAbRefIdeal.τ).loc Cert.MixAbRefIdeal.main_arg1)) (m ((c.tc : Thread Cert.MixAbRefIdeal.nD Cert.MixAbRefIdeal.τ).loc Cert.MixAbRefIdeal.main_arg2)) (m ((c.tc : Thread Cert.MixAbRefIdeal.nD Cert.MixAbRefIdeal.τ).loc Cert.MixAbRefIdeal.main_arg3)) (m ((c.tc : Thread Cert.MixAbRefIdeal.nD Cert.MixAbRefIdeal.τ).loc Cert.MixAbRefIdeal.main_arg4)) (m ((c.tc : Thread Cert.MixAbRefIdeal.nD Cert.MixAbRefIdeal.τ).loc Cert.MixAbRefIdeal.main_arg5)) (m ((c.tc : Thread Cert.MixAbRefIdeal.nD Cert.MixAbRefIdeal.τ).loc Cert.MixAbRefIdeal.main_arg6)) (m ((c.tc : Thread Cert.MixAbRefIdeal.nD Cert.MixAbRefIdeal.τ).loc Cert.MixAbRefIdeal.main_arg7)) (m ((c.tc : Thread Cert.MixAbRefIdeal.nD Cert.MixAbRefIdeal.τ).loc Cert.MixAbRefIdeal.main_arg8))).2.2.1 = (fun _ => 1#1)
    ∧ (Cert.Pre_finite_ab.fn (F := Ideal) (m ((c.tc : Thread Cert.MixAbRefIdeal.nD Cert.MixAbRefIdeal.τ).loc Cert.MixAbRefIdeal.main_arg0)) (m ((c.tc : Thread Cert.MixAbRefIdeal.nD Cert.MixAbRefIdeal.τ).loc Cert.MixAbRefIdeal.main_arg1)) (m ((c.tc : Thread Cert.MixAbRefIdeal.nD Cert.MixAbRefIdeal.τ).loc Cert.MixAbRefIdeal.main_arg2)) (m ((c.tc : Thread Cert.MixAbRefIdeal.nD Cert.MixAbRefIdeal.τ).loc Cert.MixAbRefIdeal.main_arg3)) (m ((c.tc : Thread Cert.MixAbRefIdeal.nD Cert.MixAbRefIdeal.τ).loc Cert.MixAbRefIdeal.main_arg4)) (m ((c.tc : Thread Cert.MixAbRefIdeal.nD Cert.MixAbRefIdeal.τ).loc Cert.MixAbRefIdeal.main_arg5)) (m ((c.tc : Thread Cert.MixAbRefIdeal.nD Cert.MixAbRefIdeal.τ).loc Cert.MixAbRefIdeal.main_arg6)) (m ((c.tc : Thread Cert.MixAbRefIdeal.nD Cert.MixAbRefIdeal.τ).loc Cert.MixAbRefIdeal.main_arg7)) (m ((c.tc : Thread Cert.MixAbRefIdeal.nD Cert.MixAbRefIdeal.τ).loc Cert.MixAbRefIdeal.main_arg8))).2.2.2 = (fun _ => 1#1)

def Pre_MixC (m : (ℓ : Loc Cert.MixC.nD Cert.MixC.τ Cert.MixC.sig) → Buf (Elt Bits) ℓ) : Prop :=
  True

def Pre_MixCIdeal (m : (ℓ : Loc Cert.MixCIdeal.nD Cert.MixCIdeal.τ Cert.MixCIdeal.sig) → Buf (Elt Ideal) ℓ) : Prop :=
  True

def Pre_MixCIdeal_finite_c [hPre_finite_c : Cert.Pre_finite_c.Facts] (m : (ℓ : Loc Cert.MixCIdeal.nD Cert.MixCIdeal.τ Cert.MixCIdeal.sig) → Buf (Elt Ideal) ℓ) : Prop :=
  ∀ c : Dev Cert.MixCIdeal.nD,
    (Cert.Pre_finite_c.fn (F := Ideal) (m ((c.tc : Thread Cert.MixCIdeal.nD Cert.MixCIdeal.τ).loc Cert.MixCIdeal.main_arg0)) (m ((c.tc : Thread Cert.MixCIdeal.nD Cert.MixCIdeal.τ).loc Cert.MixCIdeal.main_arg1)) (m ((c.tc : Thread Cert.MixCIdeal.nD Cert.MixCIdeal.τ).loc Cert.MixCIdeal.main_arg2)) (m ((c.tc : Thread Cert.MixCIdeal.nD Cert.MixCIdeal.τ).loc Cert.MixCIdeal.main_arg3)) (m ((c.tc : Thread Cert.MixCIdeal.nD Cert.MixCIdeal.τ).loc Cert.MixCIdeal.main_arg4)) (m ((c.tc : Thread Cert.MixCIdeal.nD Cert.MixCIdeal.τ).loc Cert.MixCIdeal.main_arg5)) (m ((c.tc : Thread Cert.MixCIdeal.nD Cert.MixCIdeal.τ).loc Cert.MixCIdeal.main_arg6)) (m ((c.tc : Thread Cert.MixCIdeal.nD Cert.MixCIdeal.τ).loc Cert.MixCIdeal.main_arg7))).1 = (fun _ => 1#1)
    ∧ (Cert.Pre_finite_c.fn (F := Ideal) (m ((c.tc : Thread Cert.MixCIdeal.nD Cert.MixCIdeal.τ).loc Cert.MixCIdeal.main_arg0)) (m ((c.tc : Thread Cert.MixCIdeal.nD Cert.MixCIdeal.τ).loc Cert.MixCIdeal.main_arg1)) (m ((c.tc : Thread Cert.MixCIdeal.nD Cert.MixCIdeal.τ).loc Cert.MixCIdeal.main_arg2)) (m ((c.tc : Thread Cert.MixCIdeal.nD Cert.MixCIdeal.τ).loc Cert.MixCIdeal.main_arg3)) (m ((c.tc : Thread Cert.MixCIdeal.nD Cert.MixCIdeal.τ).loc Cert.MixCIdeal.main_arg4)) (m ((c.tc : Thread Cert.MixCIdeal.nD Cert.MixCIdeal.τ).loc Cert.MixCIdeal.main_arg5)) (m ((c.tc : Thread Cert.MixCIdeal.nD Cert.MixCIdeal.τ).loc Cert.MixCIdeal.main_arg6)) (m ((c.tc : Thread Cert.MixCIdeal.nD Cert.MixCIdeal.τ).loc Cert.MixCIdeal.main_arg7))).2.1 = (fun _ => 1#1)
    ∧ (Cert.Pre_finite_c.fn (F := Ideal) (m ((c.tc : Thread Cert.MixCIdeal.nD Cert.MixCIdeal.τ).loc Cert.MixCIdeal.main_arg0)) (m ((c.tc : Thread Cert.MixCIdeal.nD Cert.MixCIdeal.τ).loc Cert.MixCIdeal.main_arg1)) (m ((c.tc : Thread Cert.MixCIdeal.nD Cert.MixCIdeal.τ).loc Cert.MixCIdeal.main_arg2)) (m ((c.tc : Thread Cert.MixCIdeal.nD Cert.MixCIdeal.τ).loc Cert.MixCIdeal.main_arg3)) (m ((c.tc : Thread Cert.MixCIdeal.nD Cert.MixCIdeal.τ).loc Cert.MixCIdeal.main_arg4)) (m ((c.tc : Thread Cert.MixCIdeal.nD Cert.MixCIdeal.τ).loc Cert.MixCIdeal.main_arg5)) (m ((c.tc : Thread Cert.MixCIdeal.nD Cert.MixCIdeal.τ).loc Cert.MixCIdeal.main_arg6)) (m ((c.tc : Thread Cert.MixCIdeal.nD Cert.MixCIdeal.τ).loc Cert.MixCIdeal.main_arg7))).2.2.1 = (fun _ => 1#1)
    ∧ (Cert.Pre_finite_c.fn (F := Ideal) (m ((c.tc : Thread Cert.MixCIdeal.nD Cert.MixCIdeal.τ).loc Cert.MixCIdeal.main_arg0)) (m ((c.tc : Thread Cert.MixCIdeal.nD Cert.MixCIdeal.τ).loc Cert.MixCIdeal.main_arg1)) (m ((c.tc : Thread Cert.MixCIdeal.nD Cert.MixCIdeal.τ).loc Cert.MixCIdeal.main_arg2)) (m ((c.tc : Thread Cert.MixCIdeal.nD Cert.MixCIdeal.τ).loc Cert.MixCIdeal.main_arg3)) (m ((c.tc : Thread Cert.MixCIdeal.nD Cert.MixCIdeal.τ).loc Cert.MixCIdeal.main_arg4)) (m ((c.tc : Thread Cert.MixCIdeal.nD Cert.MixCIdeal.τ).loc Cert.MixCIdeal.main_arg5)) (m ((c.tc : Thread Cert.MixCIdeal.nD Cert.MixCIdeal.τ).loc Cert.MixCIdeal.main_arg6)) (m ((c.tc : Thread Cert.MixCIdeal.nD Cert.MixCIdeal.τ).loc Cert.MixCIdeal.main_arg7))).2.2.2 = (fun _ => 1#1)

def Pre_MixCRefIdeal (m : (ℓ : Loc Cert.MixCRefIdeal.nD Cert.MixCRefIdeal.τ Cert.MixCRefIdeal.sig) → Buf (Elt Ideal) ℓ) : Prop :=
  True

def Pre_MixCRefIdeal_finite_c [hPre_finite_c : Cert.Pre_finite_c.Facts] (m : (ℓ : Loc Cert.MixCRefIdeal.nD Cert.MixCRefIdeal.τ Cert.MixCRefIdeal.sig) → Buf (Elt Ideal) ℓ) : Prop :=
  ∀ c : Dev Cert.MixCRefIdeal.nD,
    (Cert.Pre_finite_c.fn (F := Ideal) (m ((c.tc : Thread Cert.MixCRefIdeal.nD Cert.MixCRefIdeal.τ).loc Cert.MixCRefIdeal.main_arg0)) (m ((c.tc : Thread Cert.MixCRefIdeal.nD Cert.MixCRefIdeal.τ).loc Cert.MixCRefIdeal.main_arg1)) (m ((c.tc : Thread Cert.MixCRefIdeal.nD Cert.MixCRefIdeal.τ).loc Cert.MixCRefIdeal.main_arg2)) (m ((c.tc : Thread Cert.MixCRefIdeal.nD Cert.MixCRefIdeal.τ).loc Cert.MixCRefIdeal.main_arg3)) (m ((c.tc : Thread Cert.MixCRefIdeal.nD Cert.MixCRefIdeal.τ).loc Cert.MixCRefIdeal.main_arg4)) (m ((c.tc : Thread Cert.MixCRefIdeal.nD Cert.MixCRefIdeal.τ).loc Cert.MixCRefIdeal.main_arg5)) (m ((c.tc : Thread Cert.MixCRefIdeal.nD Cert.MixCRefIdeal.τ).loc Cert.MixCRefIdeal.main_arg6)) (m ((c.tc : Thread Cert.MixCRefIdeal.nD Cert.MixCRefIdeal.τ).loc Cert.MixCRefIdeal.main_arg7))).1 = (fun _ => 1#1)
    ∧ (Cert.Pre_finite_c.fn (F := Ideal) (m ((c.tc : Thread Cert.MixCRefIdeal.nD Cert.MixCRefIdeal.τ).loc Cert.MixCRefIdeal.main_arg0)) (m ((c.tc : Thread Cert.MixCRefIdeal.nD Cert.MixCRefIdeal.τ).loc Cert.MixCRefIdeal.main_arg1)) (m ((c.tc : Thread Cert.MixCRefIdeal.nD Cert.MixCRefIdeal.τ).loc Cert.MixCRefIdeal.main_arg2)) (m ((c.tc : Thread Cert.MixCRefIdeal.nD Cert.MixCRefIdeal.τ).loc Cert.MixCRefIdeal.main_arg3)) (m ((c.tc : Thread Cert.MixCRefIdeal.nD Cert.MixCRefIdeal.τ).loc Cert.MixCRefIdeal.main_arg4)) (m ((c.tc : Thread Cert.MixCRefIdeal.nD Cert.MixCRefIdeal.τ).loc Cert.MixCRefIdeal.main_arg5)) (m ((c.tc : Thread Cert.MixCRefIdeal.nD Cert.MixCRefIdeal.τ).loc Cert.MixCRefIdeal.main_arg6)) (m ((c.tc : Thread Cert.MixCRefIdeal.nD Cert.MixCRefIdeal.τ).loc Cert.MixCRefIdeal.main_arg7))).2.1 = (fun _ => 1#1)
    ∧ (Cert.Pre_finite_c.fn (F := Ideal) (m ((c.tc : Thread Cert.MixCRefIdeal.nD Cert.MixCRefIdeal.τ).loc Cert.MixCRefIdeal.main_arg0)) (m ((c.tc : Thread Cert.MixCRefIdeal.nD Cert.MixCRefIdeal.τ).loc Cert.MixCRefIdeal.main_arg1)) (m ((c.tc : Thread Cert.MixCRefIdeal.nD Cert.MixCRefIdeal.τ).loc Cert.MixCRefIdeal.main_arg2)) (m ((c.tc : Thread Cert.MixCRefIdeal.nD Cert.MixCRefIdeal.τ).loc Cert.MixCRefIdeal.main_arg3)) (m ((c.tc : Thread Cert.MixCRefIdeal.nD Cert.MixCRefIdeal.τ).loc Cert.MixCRefIdeal.main_arg4)) (m ((c.tc : Thread Cert.MixCRefIdeal.nD Cert.MixCRefIdeal.τ).loc Cert.MixCRefIdeal.main_arg5)) (m ((c.tc : Thread Cert.MixCRefIdeal.nD Cert.MixCRefIdeal.τ).loc Cert.MixCRefIdeal.main_arg6)) (m ((c.tc : Thread Cert.MixCRefIdeal.nD Cert.MixCRefIdeal.τ).loc Cert.MixCRefIdeal.main_arg7))).2.2.1 = (fun _ => 1#1)
    ∧ (Cert.Pre_finite_c.fn (F := Ideal) (m ((c.tc : Thread Cert.MixCRefIdeal.nD Cert.MixCRefIdeal.τ).loc Cert.MixCRefIdeal.main_arg0)) (m ((c.tc : Thread Cert.MixCRefIdeal.nD Cert.MixCRefIdeal.τ).loc Cert.MixCRefIdeal.main_arg1)) (m ((c.tc : Thread Cert.MixCRefIdeal.nD Cert.MixCRefIdeal.τ).loc Cert.MixCRefIdeal.main_arg2)) (m ((c.tc : Thread Cert.MixCRefIdeal.nD Cert.MixCRefIdeal.τ).loc Cert.MixCRefIdeal.main_arg3)) (m ((c.tc : Thread Cert.MixCRefIdeal.nD Cert.MixCRefIdeal.τ).loc Cert.MixCRefIdeal.main_arg4)) (m ((c.tc : Thread Cert.MixCRefIdeal.nD Cert.MixCRefIdeal.τ).loc Cert.MixCRefIdeal.main_arg5)) (m ((c.tc : Thread Cert.MixCRefIdeal.nD Cert.MixCRefIdeal.τ).loc Cert.MixCRefIdeal.main_arg6)) (m ((c.tc : Thread Cert.MixCRefIdeal.nD Cert.MixCRefIdeal.τ).loc Cert.MixCRefIdeal.main_arg7))).2.2.2 = (fun _ => 1#1)

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_ProjMem (m : (ℓ : Loc Cert.ProjMem.nD Cert.ProjMem.τ Cert.ProjMem.sig) → Buf (Elt Bits) ℓ) : Prop :=
  True

def Pre_ProjMemIdeal (m : (ℓ : Loc Cert.ProjMemIdeal.nD Cert.ProjMemIdeal.τ Cert.ProjMemIdeal.sig) → Buf (Elt Ideal) ℓ) : Prop :=
  True

def Pre_ProjMemRefIdeal (m : (ℓ : Loc Cert.ProjMemRefIdeal.nD Cert.ProjMemRefIdeal.τ Cert.ProjMemRefIdeal.sig) → Buf (Elt Ideal) ℓ) : Prop :=
  True

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1)
      ∧ r.2.mem ((c.tc : Thread Cert.AttnA.nD Cert.AttnA.τ).loc Cert.AttnA.main_arg2) = m ((c.tc : Thread Cert.AttnA.nD Cert.AttnA.τ).loc Cert.AttnA.main_arg2))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ r.2.sem = fun _ => 0)

def quiescent_AttnAIdeal_pre_finite_qk [hAttnAIdeal : Cert.AttnAIdeal.Facts] [hPre_finite_qk : Cert.Pre_finite_qk.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite_qk m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2))
      ∧ r.2.sem = fun _ => 0)

def quiescent_AttnARefIdeal_pre_finite_qk [hAttnARefIdeal : Cert.AttnARefIdeal.Facts] [hPre_finite_qk : Cert.Pre_finite_qk.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite_qk m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2))
      ∧ r.2.sem = fun _ => 0)

def quiescent_AttnM [hAttnM : Cert.AttnM.Facts] : Prop :=
  ∀ (m : (ℓ : Loc Cert.AttnM.nD Cert.AttnM.τ Cert.AttnM.sig) → Buf (Elt Bits) ℓ) (g : Dev Cert.AttnM.nD → PrngReg), Pre_AttnM m →
    θ_run (Cert.AttnM.defs (F := Bits)) (onTc (τ := Cert.AttnM.τ) (Cert.AttnM.main (F := Bits))) ⟨m, fun _ => 0, g⟩ (fun r => (∀ c : Dev Cert.AttnM.nD,
      r.2.mem ((c.tc : Thread Cert.AttnM.nD Cert.AttnM.τ).loc Cert.AttnM.main_arg0) = m ((c.tc : Thread Cert.AttnM.nD Cert.AttnM.τ).loc Cert.AttnM.main_arg0)
      ∧ r.2.mem ((c.tc : Thread Cert.AttnM.nD Cert.AttnM.τ).loc Cert.AttnM.main_arg1) = m ((c.tc : Thread Cert.AttnM.nD Cert.AttnM.τ).loc Cert.AttnM.main_arg1)
      ∧ r.2.mem ((c.tc : Thread Cert.AttnM.nD Cert.AttnM.τ).loc Cert.AttnM.main_arg2) = m ((c.tc : Thread Cert.AttnM.nD Cert.AttnM.τ).loc Cert.AttnM.main_arg2))
      ∧ r.2.sem = fun _ => 0)

def quiescent_AttnMIdeal [hAttnMIdeal : Cert.AttnMIdeal.Facts] : Prop :=
  ∀ (m : (ℓ : Loc Cert.AttnMIdeal.nD Cert.AttnMIdeal.τ Cert.AttnMIdeal.sig) → Buf (Elt Ideal) ℓ) (g : Dev Cert.AttnMIdeal.nD → PrngReg), Pre_AttnMIdeal m →
    θ_run (Cert.AttnMIdeal.defs (F := Ideal)) (onTc (τ := Cert.AttnMIdeal.τ) (Cert.AttnMIdeal.main (F := Ideal))) ⟨m, fun _ => 0, g⟩ (fun r => (∀ c : Dev Cert.AttnMIdeal.nD,
      r.2.mem ((c.tc : Thread Cert.AttnMIdeal.nD Cert.AttnMIdeal.τ).loc Cert.AttnMIdeal.main_arg0) = m ((c.tc : Thread Cert.AttnMIdeal.nD Cert.AttnMIdeal.τ).loc Cert.AttnMIdeal.main_arg0)
      ∧ r.2.mem ((c.tc : Thread Cert.AttnMIdeal.nD Cert.AttnMIdeal.τ).loc Cert.AttnMIdeal.main_arg1) = m ((c.tc : Thread Cert.AttnMIdeal.nD Cert.AttnMIdeal.τ).loc Cert.AttnMIdeal.main_arg1)
      ∧ r.2.mem ((c.tc : Thread Cert.AttnMIdeal.nD Cert.AttnMIdeal.τ).loc Cert.AttnMIdeal.main_arg2) = m ((c.tc : Thread Cert.AttnMIdeal.nD Cert.AttnMIdeal.τ).loc Cert.AttnMIdeal.main_arg2))
      ∧ r.2.sem = fun _ => 0)

def quiescent_AttnMIdeal_pre_finite_qk [hAttnMIdeal : Cert.AttnMIdeal.Facts] [hPre_finite_qk : Cert.Pre_finite_qk.Facts] : Prop :=
  ∀ (m : (ℓ : Loc Cert.AttnMIdeal.nD Cert.AttnMIdeal.τ Cert.AttnMIdeal.sig) → Buf (Elt Ideal) ℓ) (g : Dev Cert.AttnMIdeal.nD → PrngReg), Pre_AttnMIdeal_finite_qk m →
    θ_run (Cert.AttnMIdeal.defs (F := Ideal)) (onTc (τ := Cert.AttnMIdeal.τ) (Cert.AttnMIdeal.main (F := Ideal))) ⟨m, fun _ => 0, g⟩ (fun r => (∀ c : Dev Cert.AttnMIdeal.nD,
      r.2.mem ((c.tc : Thread Cert.AttnMIdeal.nD Cert.AttnMIdeal.τ).loc Cert.AttnMIdeal.main_arg0) = m ((c.tc : Thread Cert.AttnMIdeal.nD Cert.AttnMIdeal.τ).loc Cert.AttnMIdeal.main_arg0)
      ∧ r.2.mem ((c.tc : Thread Cert.AttnMIdeal.nD Cert.AttnMIdeal.τ).loc Cert.AttnMIdeal.main_arg1) = m ((c.tc : Thread Cert.AttnMIdeal.nD Cert.AttnMIdeal.τ).loc Cert.AttnMIdeal.main_arg1)
      ∧ r.2.mem ((c.tc : Thread Cert.AttnMIdeal.nD Cert.AttnMIdeal.τ).loc Cert.AttnMIdeal.main_arg2) = m ((c.tc : Thread Cert.AttnMIdeal.nD Cert.AttnMIdeal.τ).loc Cert.AttnMIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_AbProj [hAbProj : Cert.AbProj.Facts] : Prop :=
  ∀ (m : (ℓ : Loc Cert.AbProj.nD Cert.AbProj.τ Cert.AbProj.sig) → Buf (Elt Bits) ℓ) (g : Dev Cert.AbProj.nD → PrngReg), Pre_AbProj m →
    θ_run (Cert.AbProj.defs (F := Bits)) (onTc (τ := Cert.AbProj.τ) (Cert.AbProj.main (F := Bits))) ⟨m, fun _ => 0, g⟩ (fun r => (∀ c : Dev Cert.AbProj.nD,
      r.2.mem ((c.tc : Thread Cert.AbProj.nD Cert.AbProj.τ).loc Cert.AbProj.main_arg0) = m ((c.tc : Thread Cert.AbProj.nD Cert.AbProj.τ).loc Cert.AbProj.main_arg0)
      ∧ r.2.mem ((c.tc : Thread Cert.AbProj.nD Cert.AbProj.τ).loc Cert.AbProj.main_arg1) = m ((c.tc : Thread Cert.AbProj.nD Cert.AbProj.τ).loc Cert.AbProj.main_arg1)
      ∧ r.2.mem ((c.tc : Thread Cert.AbProj.nD Cert.AbProj.τ).loc Cert.AbProj.main_arg2) = m ((c.tc : Thread Cert.AbProj.nD Cert.AbProj.τ).loc Cert.AbProj.main_arg2)
      ∧ r.2.mem ((c.tc : Thread Cert.AbProj.nD Cert.AbProj.τ).loc Cert.AbProj.main_arg3) = m ((c.tc : Thread Cert.AbProj.nD Cert.AbProj.τ).loc Cert.AbProj.main_arg3))
      ∧ r.2.sem = fun _ => 0)

def quiescent_AbProjIdeal [hAbProjIdeal : Cert.AbProjIdeal.Facts] : Prop :=
  ∀ (m : (ℓ : Loc Cert.AbProjIdeal.nD Cert.AbProjIdeal.τ Cert.AbProjIdeal.sig) → Buf (Elt Ideal) ℓ) (g : Dev Cert.AbProjIdeal.nD → PrngReg), Pre_AbProjIdeal m →
    θ_run (Cert.AbProjIdeal.defs (F := Ideal)) (onTc (τ := Cert.AbProjIdeal.τ) (Cert.AbProjIdeal.main (F := Ideal))) ⟨m, fun _ => 0, g⟩ (fun r => (∀ c : Dev Cert.AbProjIdeal.nD,
      r.2.mem ((c.tc : Thread Cert.AbProjIdeal.nD Cert.AbProjIdeal.τ).loc Cert.AbProjIdeal.main_arg0) = m ((c.tc : Thread Cert.AbProjIdeal.nD Cert.AbProjIdeal.τ).loc Cert.AbProjIdeal.main_arg0)
      ∧ r.2.mem ((c.tc : Thread Cert.AbProjIdeal.nD Cert.AbProjIdeal.τ).loc Cert.AbProjIdeal.main_arg1) = m ((c.tc : Thread Cert.AbProjIdeal.nD Cert.AbProjIdeal.τ).loc Cert.AbProjIdeal.main_arg1)
      ∧ r.2.mem ((c.tc : Thread Cert.AbProjIdeal.nD Cert.AbProjIdeal.τ).loc Cert.AbProjIdeal.main_arg2) = m ((c.tc : Thread Cert.AbProjIdeal.nD Cert.AbProjIdeal.τ).loc Cert.AbProjIdeal.main_arg2)
      ∧ r.2.mem ((c.tc : Thread Cert.AbProjIdeal.nD Cert.AbProjIdeal.τ).loc Cert.AbProjIdeal.main_arg3) = m ((c.tc : Thread Cert.AbProjIdeal.nD Cert.AbProjIdeal.τ).loc Cert.AbProjIdeal.main_arg3))
      ∧ r.2.sem = fun _ => 0)

def quiescent_AbProjIdeal_pre_finite_norm [hAbProjIdeal : Cert.AbProjIdeal.Facts] [hPre_finite_norm : Cert.Pre_finite_norm.Facts] : Prop :=
  ∀ (m : (ℓ : Loc Cert.AbProjIdeal.nD Cert.AbProjIdeal.τ Cert.AbProjIdeal.sig) → Buf (Elt Ideal) ℓ) (g : Dev Cert.AbProjIdeal.nD → PrngReg), Pre_AbProjIdeal_finite_norm m →
    θ_run (Cert.AbProjIdeal.defs (F := Ideal)) (onTc (τ := Cert.AbProjIdeal.τ) (Cert.AbProjIdeal.main (F := Ideal))) ⟨m, fun _ => 0, g⟩ (fun r => (∀ c : Dev Cert.AbProjIdeal.nD,
      r.2.mem ((c.tc : Thread Cert.AbProjIdeal.nD Cert.AbProjIdeal.τ).loc Cert.AbProjIdeal.main_arg0) = m ((c.tc : Thread Cert.AbProjIdeal.nD Cert.AbProjIdeal.τ).loc Cert.AbProjIdeal.main_arg0)
      ∧ r.2.mem ((c.tc : Thread Cert.AbProjIdeal.nD Cert.AbProjIdeal.τ).loc Cert.AbProjIdeal.main_arg1) = m ((c.tc : Thread Cert.AbProjIdeal.nD Cert.AbProjIdeal.τ).loc Cert.AbProjIdeal.main_arg1)
      ∧ r.2.mem ((c.tc : Thread Cert.AbProjIdeal.nD Cert.AbProjIdeal.τ).loc Cert.AbProjIdeal.main_arg2) = m ((c.tc : Thread Cert.AbProjIdeal.nD Cert.AbProjIdeal.τ).loc Cert.AbProjIdeal.main_arg2)
      ∧ r.2.mem ((c.tc : Thread Cert.AbProjIdeal.nD Cert.AbProjIdeal.τ).loc Cert.AbProjIdeal.main_arg3) = m ((c.tc : Thread Cert.AbProjIdeal.nD Cert.AbProjIdeal.τ).loc Cert.AbProjIdeal.main_arg3))
      ∧ r.2.sem = fun _ => 0)

def quiescent_AbProjRefIdeal [hAbProjRefIdeal : Cert.AbProjRefIdeal.Facts] : Prop :=
  ∀ (m : (ℓ : Loc Cert.AbProjRefIdeal.nD Cert.AbProjRefIdeal.τ Cert.AbProjRefIdeal.sig) → Buf (Elt Ideal) ℓ) (g : Dev Cert.AbProjRefIdeal.nD → PrngReg), Pre_AbProjRefIdeal m →
    θ_run (Cert.AbProjRefIdeal.defs (F := Ideal)) (onTc (τ := Cert.AbProjRefIdeal.τ) (Cert.AbProjRefIdeal.main (F := Ideal))) ⟨m, fun _ => 0, g⟩ (fun r => (∀ c : Dev Cert.AbProjRefIdeal.nD,
      r.2.mem ((c.tc : Thread Cert.AbProjRefIdeal.nD Cert.AbProjRefIdeal.τ).loc Cert.AbProjRefIdeal.main_arg0) = m ((c.tc : Thread Cert.AbProjRefIdeal.nD Cert.AbProjRefIdeal.τ).loc Cert.AbProjRefIdeal.main_arg0)
      ∧ r.2.mem ((c.tc : Thread Cert.AbProjRefIdeal.nD Cert.AbProjRefIdeal.τ).loc Cert.AbProjRefIdeal.main_arg1) = m ((c.tc : Thread Cert.AbProjRefIdeal.nD Cert.AbProjRefIdeal.τ).loc Cert.AbProjRefIdeal.main_arg1)
      ∧ r.2.mem ((c.tc : Thread Cert.AbProjRefIdeal.nD Cert.AbProjRefIdeal.τ).loc Cert.AbProjRefIdeal.main_arg2) = m ((c.tc : Thread Cert.AbProjRefIdeal.nD Cert.AbProjRefIdeal.τ).loc Cert.AbProjRefIdeal.main_arg2)
      ∧ r.2.mem ((c.tc : Thread Cert.AbProjRefIdeal.nD Cert.AbProjRefIdeal.τ).loc Cert.AbProjRefIdeal.main_arg3) = m ((c.tc : Thread Cert.AbProjRefIdeal.nD Cert.AbProjRefIdeal.τ).loc Cert.AbProjRefIdeal.main_arg3))
      ∧ r.2.sem = fun _ => 0)

def quiescent_AbProjRefIdeal_pre_finite_norm [hAbProjRefIdeal : Cert.AbProjRefIdeal.Facts] [hPre_finite_norm : Cert.Pre_finite_norm.Facts] : Prop :=
  ∀ (m : (ℓ : Loc Cert.AbProjRefIdeal.nD Cert.AbProjRefIdeal.τ Cert.AbProjRefIdeal.sig) → Buf (Elt Ideal) ℓ) (g : Dev Cert.AbProjRefIdeal.nD → PrngReg), Pre_AbProjRefIdeal_finite_norm m →
    θ_run (Cert.AbProjRefIdeal.defs (F := Ideal)) (onTc (τ := Cert.AbProjRefIdeal.τ) (Cert.AbProjRefIdeal.main (F := Ideal))) ⟨m, fun _ => 0, g⟩ (fun r => (∀ c : Dev Cert.AbProjRefIdeal.nD,
      r.2.mem ((c.tc : Thread Cert.AbProjRefIdeal.nD Cert.AbProjRefIdeal.τ).loc Cert.AbProjRefIdeal.main_arg0) = m ((c.tc : Thread Cert.AbProjRefIdeal.nD Cert.AbProjRefIdeal.τ).loc Cert.AbProjRefIdeal.main_arg0)
      ∧ r.2.mem ((c.tc : Thread Cert.AbProjRefIdeal.nD Cert.AbProjRefIdeal.τ).loc Cert.AbProjRefIdeal.main_arg1) = m ((c.tc : Thread Cert.AbProjRefIdeal.nD Cert.AbProjRefIdeal.τ).loc Cert.AbProjRefIdeal.main_arg1)
      ∧ r.2.mem ((c.tc : Thread Cert.AbProjRefIdeal.nD Cert.AbProjRefIdeal.τ).loc Cert.AbProjRefIdeal.main_arg2) = m ((c.tc : Thread Cert.AbProjRefIdeal.nD Cert.AbProjRefIdeal.τ).loc Cert.AbProjRefIdeal.main_arg2)
      ∧ r.2.mem ((c.tc : Thread Cert.AbProjRefIdeal.nD Cert.AbProjRefIdeal.τ).loc Cert.AbProjRefIdeal.main_arg3) = m ((c.tc : Thread Cert.AbProjRefIdeal.nD Cert.AbProjRefIdeal.τ).loc Cert.AbProjRefIdeal.main_arg3))
      ∧ r.2.sem = fun _ => 0)

def quiescent_MixAb [hMixAb : Cert.MixAb.Facts] : Prop :=
  ∀ (m : (ℓ : Loc Cert.MixAb.nD Cert.MixAb.τ Cert.MixAb.sig) → Buf (Elt Bits) ℓ) (g : Dev Cert.MixAb.nD → PrngReg), Pre_MixAb m →
    θ_run (Cert.MixAb.defs (F := Bits)) (onTc (τ := Cert.MixAb.τ) (Cert.MixAb.main (F := Bits))) ⟨m, fun _ => 0, g⟩ (fun r => (∀ c : Dev Cert.MixAb.nD,
      r.2.mem ((c.tc : Thread Cert.MixAb.nD Cert.MixAb.τ).loc Cert.MixAb.main_arg0) = m ((c.tc : Thread Cert.MixAb.nD Cert.MixAb.τ).loc Cert.MixAb.main_arg0)
      ∧ r.2.mem ((c.tc : Thread Cert.MixAb.nD Cert.MixAb.τ).loc Cert.MixAb.main_arg1) = m ((c.tc : Thread Cert.MixAb.nD Cert.MixAb.τ).loc Cert.MixAb.main_arg1)
      ∧ r.2.mem ((c.tc : Thread Cert.MixAb.nD Cert.MixAb.τ).loc Cert.MixAb.main_arg2) = m ((c.tc : Thread Cert.MixAb.nD Cert.MixAb.τ).loc Cert.MixAb.main_arg2)
      ∧ r.2.mem ((c.tc : Thread Cert.MixAb.nD Cert.MixAb.τ).loc Cert.MixAb.main_arg3) = m ((c.tc : Thread Cert.MixAb.nD Cert.MixAb.τ).loc Cert.MixAb.main_arg3)
      ∧ r.2.mem ((c.tc : Thread Cert.MixAb.nD Cert.MixAb.τ).loc Cert.MixAb.main_arg4) = m ((c.tc : Thread Cert.MixAb.nD Cert.MixAb.τ).loc Cert.MixAb.main_arg4)
      ∧ r.2.mem ((c.tc : Thread Cert.MixAb.nD Cert.MixAb.τ).loc Cert.MixAb.main_arg5) = m ((c.tc : Thread Cert.MixAb.nD Cert.MixAb.τ).loc Cert.MixAb.main_arg5)
      ∧ r.2.mem ((c.tc : Thread Cert.MixAb.nD Cert.MixAb.τ).loc Cert.MixAb.main_arg6) = m ((c.tc : Thread Cert.MixAb.nD Cert.MixAb.τ).loc Cert.MixAb.main_arg6)
      ∧ r.2.mem ((c.tc : Thread Cert.MixAb.nD Cert.MixAb.τ).loc Cert.MixAb.main_arg7) = m ((c.tc : Thread Cert.MixAb.nD Cert.MixAb.τ).loc Cert.MixAb.main_arg7)
      ∧ r.2.mem ((c.tc : Thread Cert.MixAb.nD Cert.MixAb.τ).loc Cert.MixAb.main_arg8) = m ((c.tc : Thread Cert.MixAb.nD Cert.MixAb.τ).loc Cert.MixAb.main_arg8))
      ∧ r.2.sem = fun _ => 0)

def quiescent_MixAbIdeal [hMixAbIdeal : Cert.MixAbIdeal.Facts] : Prop :=
  ∀ (m : (ℓ : Loc Cert.MixAbIdeal.nD Cert.MixAbIdeal.τ Cert.MixAbIdeal.sig) → Buf (Elt Ideal) ℓ) (g : Dev Cert.MixAbIdeal.nD → PrngReg), Pre_MixAbIdeal m →
    θ_run (Cert.MixAbIdeal.defs (F := Ideal)) (onTc (τ := Cert.MixAbIdeal.τ) (Cert.MixAbIdeal.main (F := Ideal))) ⟨m, fun _ => 0, g⟩ (fun r => (∀ c : Dev Cert.MixAbIdeal.nD,
      r.2.mem ((c.tc : Thread Cert.MixAbIdeal.nD Cert.MixAbIdeal.τ).loc Cert.MixAbIdeal.main_arg0) = m ((c.tc : Thread Cert.MixAbIdeal.nD Cert.MixAbIdeal.τ).loc Cert.MixAbIdeal.main_arg0)
      ∧ r.2.mem ((c.tc : Thread Cert.MixAbIdeal.nD Cert.MixAbIdeal.τ).loc Cert.MixAbIdeal.main_arg1) = m ((c.tc : Thread Cert.MixAbIdeal.nD Cert.MixAbIdeal.τ).loc Cert.MixAbIdeal.main_arg1)
      ∧ r.2.mem ((c.tc : Thread Cert.MixAbIdeal.nD Cert.MixAbIdeal.τ).loc Cert.MixAbIdeal.main_arg2) = m ((c.tc : Thread Cert.MixAbIdeal.nD Cert.MixAbIdeal.τ).loc Cert.MixAbIdeal.main_arg2)
      ∧ r.2.mem ((c.tc : Thread Cert.MixAbIdeal.nD Cert.MixAbIdeal.τ).loc Cert.MixAbIdeal.main_arg3) = m ((c.tc : Thread Cert.MixAbIdeal.nD Cert.MixAbIdeal.τ).loc Cert.MixAbIdeal.main_arg3)
      ∧ r.2.mem ((c.tc : Thread Cert.MixAbIdeal.nD Cert.MixAbIdeal.τ).loc Cert.MixAbIdeal.main_arg4) = m ((c.tc : Thread Cert.MixAbIdeal.nD Cert.MixAbIdeal.τ).loc Cert.MixAbIdeal.main_arg4)
      ∧ r.2.mem ((c.tc : Thread Cert.MixAbIdeal.nD Cert.MixAbIdeal.τ).loc Cert.MixAbIdeal.main_arg5) = m ((c.tc : Thread Cert.MixAbIdeal.nD Cert.MixAbIdeal.τ).loc Cert.MixAbIdeal.main_arg5)
      ∧ r.2.mem ((c.tc : Thread Cert.MixAbIdeal.nD Cert.MixAbIdeal.τ).loc Cert.MixAbIdeal.main_arg6) = m ((c.tc : Thread Cert.MixAbIdeal.nD Cert.MixAbIdeal.τ).loc Cert.MixAbIdeal.main_arg6)
      ∧ r.2.mem ((c.tc : Thread Cert.MixAbIdeal.nD Cert.MixAbIdeal.τ).loc Cert.MixAbIdeal.main_arg7) = m ((c.tc : Thread Cert.MixAbIdeal.nD Cert.MixAbIdeal.τ).loc Cert.MixAbIdeal.main_arg7)
      ∧ r.2.mem ((c.tc : Thread Cert.MixAbIdeal.nD Cert.MixAbIdeal.τ).loc Cert.MixAbIdeal.main_arg8) = m ((c.tc : Thread Cert.MixAbIdeal.nD Cert.MixAbIdeal.τ).loc Cert.MixAbIdeal.main_arg8))
      ∧ r.2.sem = fun _ => 0)

def quiescent_MixAbIdeal_pre_finite_ab [hMixAbIdeal : Cert.MixAbIdeal.Facts] [hPre_finite_ab : Cert.Pre_finite_ab.Facts] : Prop :=
  ∀ (m : (ℓ : Loc Cert.MixAbIdeal.nD Cert.MixAbIdeal.τ Cert.MixAbIdeal.sig) → Buf (Elt Ideal) ℓ) (g : Dev Cert.MixAbIdeal.nD → PrngReg), Pre_MixAbIdeal_finite_ab m →
    θ_run (Cert.MixAbIdeal.defs (F := Ideal)) (onTc (τ := Cert.MixAbIdeal.τ) (Cert.MixAbIdeal.main (F := Ideal))) ⟨m, fun _ => 0, g⟩ (fun r => (∀ c : Dev Cert.MixAbIdeal.nD,
      r.2.mem ((c.tc : Thread Cert.MixAbIdeal.nD Cert.MixAbIdeal.τ).loc Cert.MixAbIdeal.main_arg0) = m ((c.tc : Thread Cert.MixAbIdeal.nD Cert.MixAbIdeal.τ).loc Cert.MixAbIdeal.main_arg0)
      ∧ r.2.mem ((c.tc : Thread Cert.MixAbIdeal.nD Cert.MixAbIdeal.τ).loc Cert.MixAbIdeal.main_arg1) = m ((c.tc : Thread Cert.MixAbIdeal.nD Cert.MixAbIdeal.τ).loc Cert.MixAbIdeal.main_arg1)
      ∧ r.2.mem ((c.tc : Thread Cert.MixAbIdeal.nD Cert.MixAbIdeal.τ).loc Cert.MixAbIdeal.main_arg2) = m ((c.tc : Thread Cert.MixAbIdeal.nD Cert.MixAbIdeal.τ).loc Cert.MixAbIdeal.main_arg2)
      ∧ r.2.mem ((c.tc : Thread Cert.MixAbIdeal.nD Cert.MixAbIdeal.τ).loc Cert.MixAbIdeal.main_arg3) = m ((c.tc : Thread Cert.MixAbIdeal.nD Cert.MixAbIdeal.τ).loc Cert.MixAbIdeal.main_arg3)
      ∧ r.2.mem ((c.tc : Thread Cert.MixAbIdeal.nD Cert.MixAbIdeal.τ).loc Cert.MixAbIdeal.main_arg4) = m ((c.tc : Thread Cert.MixAbIdeal.nD Cert.MixAbIdeal.τ).loc Cert.MixAbIdeal.main_arg4)
      ∧ r.2.mem ((c.tc : Thread Cert.MixAbIdeal.nD Cert.MixAbIdeal.τ).loc Cert.MixAbIdeal.main_arg5) = m ((c.tc : Thread Cert.MixAbIdeal.nD Cert.MixAbIdeal.τ).loc Cert.MixAbIdeal.main_arg5)
      ∧ r.2.mem ((c.tc : Thread Cert.MixAbIdeal.nD Cert.MixAbIdeal.τ).loc Cert.MixAbIdeal.main_arg6) = m ((c.tc : Thread Cert.MixAbIdeal.nD Cert.MixAbIdeal.τ).loc Cert.MixAbIdeal.main_arg6)
      ∧ r.2.mem ((c.tc : Thread Cert.MixAbIdeal.nD Cert.MixAbIdeal.τ).loc Cert.MixAbIdeal.main_arg7) = m ((c.tc : Thread Cert.MixAbIdeal.nD Cert.MixAbIdeal.τ).loc Cert.MixAbIdeal.main_arg7)
      ∧ r.2.mem ((c.tc : Thread Cert.MixAbIdeal.nD Cert.MixAbIdeal.τ).loc Cert.MixAbIdeal.main_arg8) = m ((c.tc : Thread Cert.MixAbIdeal.nD Cert.MixAbIdeal.τ).loc Cert.MixAbIdeal.main_arg8))
      ∧ r.2.sem = fun _ => 0)

def quiescent_MixAbRefIdeal [hMixAbRefIdeal : Cert.MixAbRefIdeal.Facts] : Prop :=
  ∀ (m : (ℓ : Loc Cert.MixAbRefIdeal.nD Cert.MixAbRefIdeal.τ Cert.MixAbRefIdeal.sig) → Buf (Elt Ideal) ℓ) (g : Dev Cert.MixAbRefIdeal.nD → PrngReg), Pre_MixAbRefIdeal m →
    θ_run (Cert.MixAbRefIdeal.defs (F := Ideal)) (onTc (τ := Cert.MixAbRefIdeal.τ) (Cert.MixAbRefIdeal.main (F := Ideal))) ⟨m, fun _ => 0, g⟩ (fun r => (∀ c : Dev Cert.MixAbRefIdeal.nD,
      r.2.mem ((c.tc : Thread Cert.MixAbRefIdeal.nD Cert.MixAbRefIdeal.τ).loc Cert.MixAbRefIdeal.main_arg0) = m ((c.tc : Thread Cert.MixAbRefIdeal.nD Cert.MixAbRefIdeal.τ).loc Cert.MixAbRefIdeal.main_arg0)
      ∧ r.2.mem ((c.tc : Thread Cert.MixAbRefIdeal.nD Cert.MixAbRefIdeal.τ).loc Cert.MixAbRefIdeal.main_arg1) = m ((c.tc : Thread Cert.MixAbRefIdeal.nD Cert.MixAbRefIdeal.τ).loc Cert.MixAbRefIdeal.main_arg1)
      ∧ r.2.mem ((c.tc : Thread Cert.MixAbRefIdeal.nD Cert.MixAbRefIdeal.τ).loc Cert.MixAbRefIdeal.main_arg2) = m ((c.tc : Thread Cert.MixAbRefIdeal.nD Cert.MixAbRefIdeal.τ).loc Cert.MixAbRefIdeal.main_arg2)
      ∧ r.2.mem ((c.tc : Thread Cert.MixAbRefIdeal.nD Cert.MixAbRefIdeal.τ).loc Cert.MixAbRefIdeal.main_arg3) = m ((c.tc : Thread Cert.MixAbRefIdeal.nD Cert.MixAbRefIdeal.τ).loc Cert.MixAbRefIdeal.main_arg3)
      ∧ r.2.mem ((c.tc : Thread Cert.MixAbRefIdeal.nD Cert.MixAbRefIdeal.τ).loc Cert.MixAbRefIdeal.main_arg4) = m ((c.tc : Thread Cert.MixAbRefIdeal.nD Cert.MixAbRefIdeal.τ).loc Cert.MixAbRefIdeal.main_arg4)
      ∧ r.2.mem ((c.tc : Thread Cert.MixAbRefIdeal.nD Cert.MixAbRefIdeal.τ).loc Cert.MixAbRefIdeal.main_arg5) = m ((c.tc : Thread Cert.MixAbRefIdeal.nD Cert.MixAbRefIdeal.τ).loc Cert.MixAbRefIdeal.main_arg5)
      ∧ r.2.mem ((c.tc : Thread Cert.MixAbRefIdeal.nD Cert.MixAbRefIdeal.τ).loc Cert.MixAbRefIdeal.main_arg6) = m ((c.tc : Thread Cert.MixAbRefIdeal.nD Cert.MixAbRefIdeal.τ).loc Cert.MixAbRefIdeal.main_arg6)
      ∧ r.2.mem ((c.tc : Thread Cert.MixAbRefIdeal.nD Cert.MixAbRefIdeal.τ).loc Cert.MixAbRefIdeal.main_arg7) = m ((c.tc : Thread Cert.MixAbRefIdeal.nD Cert.MixAbRefIdeal.τ).loc Cert.MixAbRefIdeal.main_arg7)
      ∧ r.2.mem ((c.tc : Thread Cert.MixAbRefIdeal.nD Cert.MixAbRefIdeal.τ).loc Cert.MixAbRefIdeal.main_arg8) = m ((c.tc : Thread Cert.MixAbRefIdeal.nD Cert.MixAbRefIdeal.τ).loc Cert.MixAbRefIdeal.main_arg8))
      ∧ r.2.sem = fun _ => 0)

def quiescent_MixAbRefIdeal_pre_finite_ab [hMixAbRefIdeal : Cert.MixAbRefIdeal.Facts] [hPre_finite_ab : Cert.Pre_finite_ab.Facts] : Prop :=
  ∀ (m : (ℓ : Loc Cert.MixAbRefIdeal.nD Cert.MixAbRefIdeal.τ Cert.MixAbRefIdeal.sig) → Buf (Elt Ideal) ℓ) (g : Dev Cert.MixAbRefIdeal.nD → PrngReg), Pre_MixAbRefIdeal_finite_ab m →
    θ_run (Cert.MixAbRefIdeal.defs (F := Ideal)) (onTc (τ := Cert.MixAbRefIdeal.τ) (Cert.MixAbRefIdeal.main (F := Ideal))) ⟨m, fun _ => 0, g⟩ (fun r => (∀ c : Dev Cert.MixAbRefIdeal.nD,
      r.2.mem ((c.tc : Thread Cert.MixAbRefIdeal.nD Cert.MixAbRefIdeal.τ).loc Cert.MixAbRefIdeal.main_arg0) = m ((c.tc : Thread Cert.MixAbRefIdeal.nD Cert.MixAbRefIdeal.τ).loc Cert.MixAbRefIdeal.main_arg0)
      ∧ r.2.mem ((c.tc : Thread Cert.MixAbRefIdeal.nD Cert.MixAbRefIdeal.τ).loc Cert.MixAbRefIdeal.main_arg1) = m ((c.tc : Thread Cert.MixAbRefIdeal.nD Cert.MixAbRefIdeal.τ).loc Cert.MixAbRefIdeal.main_arg1)
      ∧ r.2.mem ((c.tc : Thread Cert.MixAbRefIdeal.nD Cert.MixAbRefIdeal.τ).loc Cert.MixAbRefIdeal.main_arg2) = m ((c.tc : Thread Cert.MixAbRefIdeal.nD Cert.MixAbRefIdeal.τ).loc Cert.MixAbRefIdeal.main_arg2)
      ∧ r.2.mem ((c.tc : Thread Cert.MixAbRefIdeal.nD Cert.MixAbRefIdeal.τ).loc Cert.MixAbRefIdeal.main_arg3) = m ((c.tc : Thread Cert.MixAbRefIdeal.nD Cert.MixAbRefIdeal.τ).loc Cert.MixAbRefIdeal.main_arg3)
      ∧ r.2.mem ((c.tc : Thread Cert.MixAbRefIdeal.nD Cert.MixAbRefIdeal.τ).loc Cert.MixAbRefIdeal.main_arg4) = m ((c.tc : Thread Cert.MixAbRefIdeal.nD Cert.MixAbRefIdeal.τ).loc Cert.MixAbRefIdeal.main_arg4)
      ∧ r.2.mem ((c.tc : Thread Cert.MixAbRefIdeal.nD Cert.MixAbRefIdeal.τ).loc Cert.MixAbRefIdeal.main_arg5) = m ((c.tc : Thread Cert.MixAbRefIdeal.nD Cert.MixAbRefIdeal.τ).loc Cert.MixAbRefIdeal.main_arg5)
      ∧ r.2.mem ((c.tc : Thread Cert.MixAbRefIdeal.nD Cert.MixAbRefIdeal.τ).loc Cert.MixAbRefIdeal.main_arg6) = m ((c.tc : Thread Cert.MixAbRefIdeal.nD Cert.MixAbRefIdeal.τ).loc Cert.MixAbRefIdeal.main_arg6)
      ∧ r.2.mem ((c.tc : Thread Cert.MixAbRefIdeal.nD Cert.MixAbRefIdeal.τ).loc Cert.MixAbRefIdeal.main_arg7) = m ((c.tc : Thread Cert.MixAbRefIdeal.nD Cert.MixAbRefIdeal.τ).loc Cert.MixAbRefIdeal.main_arg7)
      ∧ r.2.mem ((c.tc : Thread Cert.MixAbRefIdeal.nD Cert.MixAbRefIdeal.τ).loc Cert.MixAbRefIdeal.main_arg8) = m ((c.tc : Thread Cert.MixAbRefIdeal.nD Cert.MixAbRefIdeal.τ).loc Cert.MixAbRefIdeal.main_arg8))
      ∧ r.2.sem = fun _ => 0)

def quiescent_MixC [hMixC : Cert.MixC.Facts] : Prop :=
  ∀ (m : (ℓ : Loc Cert.MixC.nD Cert.MixC.τ Cert.MixC.sig) → Buf (Elt Bits) ℓ) (g : Dev Cert.MixC.nD → PrngReg), Pre_MixC m →
    θ_run (Cert.MixC.defs (F := Bits)) (onTc (τ := Cert.MixC.τ) (Cert.MixC.main (F := Bits))) ⟨m, fun _ => 0, g⟩ (fun r => (∀ c : Dev Cert.MixC.nD,
      r.2.mem ((c.tc : Thread Cert.MixC.nD Cert.MixC.τ).loc Cert.MixC.main_arg0) = m ((c.tc : Thread Cert.MixC.nD Cert.MixC.τ).loc Cert.MixC.main_arg0)
      ∧ r.2.mem ((c.tc : Thread Cert.MixC.nD Cert.MixC.τ).loc Cert.MixC.main_arg1) = m ((c.tc : Thread Cert.MixC.nD Cert.MixC.τ).loc Cert.MixC.main_arg1)
      ∧ r.2.mem ((c.tc : Thread Cert.MixC.nD Cert.MixC.τ).loc Cert.MixC.main_arg2) = m ((c.tc : Thread Cert.MixC.nD Cert.MixC.τ).loc Cert.MixC.main_arg2)
      ∧ r.2.mem ((c.tc : Thread Cert.MixC.nD Cert.MixC.τ).loc Cert.MixC.main_arg3) = m ((c.tc : Thread Cert.MixC.nD Cert.MixC.τ).loc Cert.MixC.main_arg3)
      ∧ r.2.mem ((c.tc : Thread Cert.MixC.nD Cert.MixC.τ).loc Cert.MixC.main_arg4) = m ((c.tc : Thread Cert.MixC.nD Cert.MixC.τ).loc Cert.MixC.main_arg4)
      ∧ r.2.mem ((c.tc : Thread Cert.MixC.nD Cert.MixC.τ).loc Cert.MixC.main_arg5) = m ((c.tc : Thread Cert.MixC.nD Cert.MixC.τ).loc Cert.MixC.main_arg5)
      ∧ r.2.mem ((c.tc : Thread Cert.MixC.nD Cert.MixC.τ).loc Cert.MixC.main_arg6) = m ((c.tc : Thread Cert.MixC.nD Cert.MixC.τ).loc Cert.MixC.main_arg6)
      ∧ r.2.mem ((c.tc : Thread Cert.MixC.nD Cert.MixC.τ).loc Cert.MixC.main_arg7) = m ((c.tc : Thread Cert.MixC.nD Cert.MixC.τ).loc Cert.MixC.main_arg7))
      ∧ r.2.sem = fun _ => 0)

def quiescent_MixCIdeal [hMixCIdeal : Cert.MixCIdeal.Facts] : Prop :=
  ∀ (m : (ℓ : Loc Cert.MixCIdeal.nD Cert.MixCIdeal.τ Cert.MixCIdeal.sig) → Buf (Elt Ideal) ℓ) (g : Dev Cert.MixCIdeal.nD → PrngReg), Pre_MixCIdeal m →
    θ_run (Cert.MixCIdeal.defs (F := Ideal)) (onTc (τ := Cert.MixCIdeal.τ) (Cert.MixCIdeal.main (F := Ideal))) ⟨m, fun _ => 0, g⟩ (fun r => (∀ c : Dev Cert.MixCIdeal.nD,
      r.2.mem ((c.tc : Thread Cert.MixCIdeal.nD Cert.MixCIdeal.τ).loc Cert.MixCIdeal.main_arg0) = m ((c.tc : Thread Cert.MixCIdeal.nD Cert.MixCIdeal.τ).loc Cert.MixCIdeal.main_arg0)
      ∧ r.2.mem ((c.tc : Thread Cert.MixCIdeal.nD Cert.MixCIdeal.τ).loc Cert.MixCIdeal.main_arg1) = m ((c.tc : Thread Cert.MixCIdeal.nD Cert.MixCIdeal.τ).loc Cert.MixCIdeal.main_arg1)
      ∧ r.2.mem ((c.tc : Thread Cert.MixCIdeal.nD Cert.MixCIdeal.τ).loc Cert.MixCIdeal.main_arg2) = m ((c.tc : Thread Cert.MixCIdeal.nD Cert.MixCIdeal.τ).loc Cert.MixCIdeal.main_arg2)
      ∧ r.2.mem ((c.tc : Thread Cert.MixCIdeal.nD Cert.MixCIdeal.τ).loc Cert.MixCIdeal.main_arg3) = m ((c.tc : Thread Cert.MixCIdeal.nD Cert.MixCIdeal.τ).loc Cert.MixCIdeal.main_arg3)
      ∧ r.2.mem ((c.tc : Thread Cert.MixCIdeal.nD Cert.MixCIdeal.τ).loc Cert.MixCIdeal.main_arg4) = m ((c.tc : Thread Cert.MixCIdeal.nD Cert.MixCIdeal.τ).loc Cert.MixCIdeal.main_arg4)
      ∧ r.2.mem ((c.tc : Thread Cert.MixCIdeal.nD Cert.MixCIdeal.τ).loc Cert.MixCIdeal.main_arg5) = m ((c.tc : Thread Cert.MixCIdeal.nD Cert.MixCIdeal.τ).loc Cert.MixCIdeal.main_arg5)
      ∧ r.2.mem ((c.tc : Thread Cert.MixCIdeal.nD Cert.MixCIdeal.τ).loc Cert.MixCIdeal.main_arg6) = m ((c.tc : Thread Cert.MixCIdeal.nD Cert.MixCIdeal.τ).loc Cert.MixCIdeal.main_arg6)
      ∧ r.2.mem ((c.tc : Thread Cert.MixCIdeal.nD Cert.MixCIdeal.τ).loc Cert.MixCIdeal.main_arg7) = m ((c.tc : Thread Cert.MixCIdeal.nD Cert.MixCIdeal.τ).loc Cert.MixCIdeal.main_arg7))
      ∧ r.2.sem = fun _ => 0)

def quiescent_MixCIdeal_pre_finite_c [hMixCIdeal : Cert.MixCIdeal.Facts] [hPre_finite_c : Cert.Pre_finite_c.Facts] : Prop :=
  ∀ (m : (ℓ : Loc Cert.MixCIdeal.nD Cert.MixCIdeal.τ Cert.MixCIdeal.sig) → Buf (Elt Ideal) ℓ) (g : Dev Cert.MixCIdeal.nD → PrngReg), Pre_MixCIdeal_finite_c m →
    θ_run (Cert.MixCIdeal.defs (F := Ideal)) (onTc (τ := Cert.MixCIdeal.τ) (Cert.MixCIdeal.main (F := Ideal))) ⟨m, fun _ => 0, g⟩ (fun r => (∀ c : Dev Cert.MixCIdeal.nD,
      r.2.mem ((c.tc : Thread Cert.MixCIdeal.nD Cert.MixCIdeal.τ).loc Cert.MixCIdeal.main_arg0) = m ((c.tc : Thread Cert.MixCIdeal.nD Cert.MixCIdeal.τ).loc Cert.MixCIdeal.main_arg0)
      ∧ r.2.mem ((c.tc : Thread Cert.MixCIdeal.nD Cert.MixCIdeal.τ).loc Cert.MixCIdeal.main_arg1) = m ((c.tc : Thread Cert.MixCIdeal.nD Cert.MixCIdeal.τ).loc Cert.MixCIdeal.main_arg1)
      ∧ r.2.mem ((c.tc : Thread Cert.MixCIdeal.nD Cert.MixCIdeal.τ).loc Cert.MixCIdeal.main_arg2) = m ((c.tc : Thread Cert.MixCIdeal.nD Cert.MixCIdeal.τ).loc Cert.MixCIdeal.main_arg2)
      ∧ r.2.mem ((c.tc : Thread Cert.MixCIdeal.nD Cert.MixCIdeal.τ).loc Cert.MixCIdeal.main_arg3) = m ((c.tc : Thread Cert.MixCIdeal.nD Cert.MixCIdeal.τ).loc Cert.MixCIdeal.main_arg3)
      ∧ r.2.mem ((c.tc : Thread Cert.MixCIdeal.nD Cert.MixCIdeal.τ).loc Cert.MixCIdeal.main_arg4) = m ((c.tc : Thread Cert.MixCIdeal.nD Cert.MixCIdeal.τ).loc Cert.MixCIdeal.main_arg4)
      ∧ r.2.mem ((c.tc : Thread Cert.MixCIdeal.nD Cert.MixCIdeal.τ).loc Cert.MixCIdeal.main_arg5) = m ((c.tc : Thread Cert.MixCIdeal.nD Cert.MixCIdeal.τ).loc Cert.MixCIdeal.main_arg5)
      ∧ r.2.mem ((c.tc : Thread Cert.MixCIdeal.nD Cert.MixCIdeal.τ).loc Cert.MixCIdeal.main_arg6) = m ((c.tc : Thread Cert.MixCIdeal.nD Cert.MixCIdeal.τ).loc Cert.MixCIdeal.main_arg6)
      ∧ r.2.mem ((c.tc : Thread Cert.MixCIdeal.nD Cert.MixCIdeal.τ).loc Cert.MixCIdeal.main_arg7) = m ((c.tc : Thread Cert.MixCIdeal.nD Cert.MixCIdeal.τ).loc Cert.MixCIdeal.main_arg7))
      ∧ r.2.sem = fun _ => 0)

def quiescent_MixCRefIdeal [hMixCRefIdeal : Cert.MixCRefIdeal.Facts] : Prop :=
  ∀ (m : (ℓ : Loc Cert.MixCRefIdeal.nD Cert.MixCRefIdeal.τ Cert.MixCRefIdeal.sig) → Buf (Elt Ideal) ℓ) (g : Dev Cert.MixCRefIdeal.nD → PrngReg), Pre_MixCRefIdeal m →
    θ_run (Cert.MixCRefIdeal.defs (F := Ideal)) (onTc (τ := Cert.MixCRefIdeal.τ) (Cert.MixCRefIdeal.main (F := Ideal))) ⟨m, fun _ => 0, g⟩ (fun r => (∀ c : Dev Cert.MixCRefIdeal.nD,
      r.2.mem ((c.tc : Thread Cert.MixCRefIdeal.nD Cert.MixCRefIdeal.τ).loc Cert.MixCRefIdeal.main_arg0) = m ((c.tc : Thread Cert.MixCRefIdeal.nD Cert.MixCRefIdeal.τ).loc Cert.MixCRefIdeal.main_arg0)
      ∧ r.2.mem ((c.tc : Thread Cert.MixCRefIdeal.nD Cert.MixCRefIdeal.τ).loc Cert.MixCRefIdeal.main_arg1) = m ((c.tc : Thread Cert.MixCRefIdeal.nD Cert.MixCRefIdeal.τ).loc Cert.MixCRefIdeal.main_arg1)
      ∧ r.2.mem ((c.tc : Thread Cert.MixCRefIdeal.nD Cert.MixCRefIdeal.τ).loc Cert.MixCRefIdeal.main_arg2) = m ((c.tc : Thread Cert.MixCRefIdeal.nD Cert.MixCRefIdeal.τ).loc Cert.MixCRefIdeal.main_arg2)
      ∧ r.2.mem ((c.tc : Thread Cert.MixCRefIdeal.nD Cert.MixCRefIdeal.τ).loc Cert.MixCRefIdeal.main_arg3) = m ((c.tc : Thread Cert.MixCRefIdeal.nD Cert.MixCRefIdeal.τ).loc Cert.MixCRefIdeal.main_arg3)
      ∧ r.2.mem ((c.tc : Thread Cert.MixCRefIdeal.nD Cert.MixCRefIdeal.τ).loc Cert.MixCRefIdeal.main_arg4) = m ((c.tc : Thread Cert.MixCRefIdeal.nD Cert.MixCRefIdeal.τ).loc Cert.MixCRefIdeal.main_arg4)
      ∧ r.2.mem ((c.tc : Thread Cert.MixCRefIdeal.nD Cert.MixCRefIdeal.τ).loc Cert.MixCRefIdeal.main_arg5) = m ((c.tc : Thread Cert.MixCRefIdeal.nD Cert.MixCRefIdeal.τ).loc Cert.MixCRefIdeal.main_arg5)
      ∧ r.2.mem ((c.tc : Thread Cert.MixCRefIdeal.nD Cert.MixCRefIdeal.τ).loc Cert.MixCRefIdeal.main_arg6) = m ((c.tc : Thread Cert.MixCRefIdeal.nD Cert.MixCRefIdeal.τ).loc Cert.MixCRefIdeal.main_arg6)
      ∧ r.2.mem ((c.tc : Thread Cert.MixCRefIdeal.nD Cert.MixCRefIdeal.τ).loc Cert.MixCRefIdeal.main_arg7) = m ((c.tc : Thread Cert.MixCRefIdeal.nD Cert.MixCRefIdeal.τ).loc Cert.MixCRefIdeal.main_arg7))
      ∧ r.2.sem = fun _ => 0)

def quiescent_MixCRefIdeal_pre_finite_c [hMixCRefIdeal : Cert.MixCRefIdeal.Facts] [hPre_finite_c : Cert.Pre_finite_c.Facts] : Prop :=
  ∀ (m : (ℓ : Loc Cert.MixCRefIdeal.nD Cert.MixCRefIdeal.τ Cert.MixCRefIdeal.sig) → Buf (Elt Ideal) ℓ) (g : Dev Cert.MixCRefIdeal.nD → PrngReg), Pre_MixCRefIdeal_finite_c m →
    θ_run (Cert.MixCRefIdeal.defs (F := Ideal)) (onTc (τ := Cert.MixCRefIdeal.τ) (Cert.MixCRefIdeal.main (F := Ideal))) ⟨m, fun _ => 0, g⟩ (fun r => (∀ c : Dev Cert.MixCRefIdeal.nD,
      r.2.mem ((c.tc : Thread Cert.MixCRefIdeal.nD Cert.MixCRefIdeal.τ).loc Cert.MixCRefIdeal.main_arg0) = m ((c.tc : Thread Cert.MixCRefIdeal.nD Cert.MixCRefIdeal.τ).loc Cert.MixCRefIdeal.main_arg0)
      ∧ r.2.mem ((c.tc : Thread Cert.MixCRefIdeal.nD Cert.MixCRefIdeal.τ).loc Cert.MixCRefIdeal.main_arg1) = m ((c.tc : Thread Cert.MixCRefIdeal.nD Cert.MixCRefIdeal.τ).loc Cert.MixCRefIdeal.main_arg1)
      ∧ r.2.mem ((c.tc : Thread Cert.MixCRefIdeal.nD Cert.MixCRefIdeal.τ).loc Cert.MixCRefIdeal.main_arg2) = m ((c.tc : Thread Cert.MixCRefIdeal.nD Cert.MixCRefIdeal.τ).loc Cert.MixCRefIdeal.main_arg2)
      ∧ r.2.mem ((c.tc : Thread Cert.MixCRefIdeal.nD Cert.MixCRefIdeal.τ).loc Cert.MixCRefIdeal.main_arg3) = m ((c.tc : Thread Cert.MixCRefIdeal.nD Cert.MixCRefIdeal.τ).loc Cert.MixCRefIdeal.main_arg3)
      ∧ r.2.mem ((c.tc : Thread Cert.MixCRefIdeal.nD Cert.MixCRefIdeal.τ).loc Cert.MixCRefIdeal.main_arg4) = m ((c.tc : Thread Cert.MixCRefIdeal.nD Cert.MixCRefIdeal.τ).loc Cert.MixCRefIdeal.main_arg4)
      ∧ r.2.mem ((c.tc : Thread Cert.MixCRefIdeal.nD Cert.MixCRefIdeal.τ).loc Cert.MixCRefIdeal.main_arg5) = m ((c.tc : Thread Cert.MixCRefIdeal.nD Cert.MixCRefIdeal.τ).loc Cert.MixCRefIdeal.main_arg5)
      ∧ r.2.mem ((c.tc : Thread Cert.MixCRefIdeal.nD Cert.MixCRefIdeal.τ).loc Cert.MixCRefIdeal.main_arg6) = m ((c.tc : Thread Cert.MixCRefIdeal.nD Cert.MixCRefIdeal.τ).loc Cert.MixCRefIdeal.main_arg6)
      ∧ r.2.mem ((c.tc : Thread Cert.MixCRefIdeal.nD Cert.MixCRefIdeal.τ).loc Cert.MixCRefIdeal.main_arg7) = m ((c.tc : Thread Cert.MixCRefIdeal.nD Cert.MixCRefIdeal.τ).loc Cert.MixCRefIdeal.main_arg7))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1))
      ∧ r.2.sem = fun _ => 0)

def quiescent_ProjMem [hProjMem : Cert.ProjMem.Facts] : Prop :=
  ∀ (m : (ℓ : Loc Cert.ProjMem.nD Cert.ProjMem.τ Cert.ProjMem.sig) → Buf (Elt Bits) ℓ) (g : Dev Cert.ProjMem.nD → PrngReg), Pre_ProjMem m →
    θ_run (Cert.ProjMem.defs (F := Bits)) (onTc (τ := Cert.ProjMem.τ) (Cert.ProjMem.main (F := Bits))) ⟨m, fun _ => 0, g⟩ (fun r => (∀ c : Dev Cert.ProjMem.nD,
      r.2.mem ((c.tc : Thread Cert.ProjMem.nD Cert.ProjMem.τ).loc Cert.ProjMem.main_arg0) = m ((c.tc : Thread Cert.ProjMem.nD Cert.ProjMem.τ).loc Cert.ProjMem.main_arg0)
      ∧ r.2.mem ((c.tc : Thread Cert.ProjMem.nD Cert.ProjMem.τ).loc Cert.ProjMem.main_arg1) = m ((c.tc : Thread Cert.ProjMem.nD Cert.ProjMem.τ).loc Cert.ProjMem.main_arg1))
      ∧ r.2.sem = fun _ => 0)

def quiescent_ProjMemIdeal [hProjMemIdeal : Cert.ProjMemIdeal.Facts] : Prop :=
  ∀ (m : (ℓ : Loc Cert.ProjMemIdeal.nD Cert.ProjMemIdeal.τ Cert.ProjMemIdeal.sig) → Buf (Elt Ideal) ℓ) (g : Dev Cert.ProjMemIdeal.nD → PrngReg), Pre_ProjMemIdeal m →
    θ_run (Cert.ProjMemIdeal.defs (F := Ideal)) (onTc (τ := Cert.ProjMemIdeal.τ) (Cert.ProjMemIdeal.main (F := Ideal))) ⟨m, fun _ => 0, g⟩ (fun r => (∀ c : Dev Cert.ProjMemIdeal.nD,
      r.2.mem ((c.tc : Thread Cert.ProjMemIdeal.nD Cert.ProjMemIdeal.τ).loc Cert.ProjMemIdeal.main_arg0) = m ((c.tc : Thread Cert.ProjMemIdeal.nD Cert.ProjMemIdeal.τ).loc Cert.ProjMemIdeal.main_arg0)
      ∧ r.2.mem ((c.tc : Thread Cert.ProjMemIdeal.nD Cert.ProjMemIdeal.τ).loc Cert.ProjMemIdeal.main_arg1) = m ((c.tc : Thread Cert.ProjMemIdeal.nD Cert.ProjMemIdeal.τ).loc Cert.ProjMemIdeal.main_arg1))
      ∧ r.2.sem = fun _ => 0)

def quiescent_ProjMemRefIdeal [hProjMemRefIdeal : Cert.ProjMemRefIdeal.Facts] : Prop :=
  ∀ (m : (ℓ : Loc Cert.ProjMemRefIdeal.nD Cert.ProjMemRefIdeal.τ Cert.ProjMemRefIdeal.sig) → Buf (Elt Ideal) ℓ) (g : Dev Cert.ProjMemRefIdeal.nD → PrngReg), Pre_ProjMemRefIdeal m →
    θ_run (Cert.ProjMemRefIdeal.defs (F := Ideal)) (onTc (τ := Cert.ProjMemRefIdeal.τ) (Cert.ProjMemRefIdeal.main (F := Ideal))) ⟨m, fun _ => 0, g⟩ (fun r => (∀ c : Dev Cert.ProjMemRefIdeal.nD,
      r.2.mem ((c.tc : Thread Cert.ProjMemRefIdeal.nD Cert.ProjMemRefIdeal.τ).loc Cert.ProjMemRefIdeal.main_arg0) = m ((c.tc : Thread Cert.ProjMemRefIdeal.nD Cert.ProjMemRefIdeal.τ).loc Cert.ProjMemRefIdeal.main_arg0)
      ∧ r.2.mem ((c.tc : Thread Cert.ProjMemRefIdeal.nD Cert.ProjMemRefIdeal.τ).loc Cert.ProjMemRefIdeal.main_arg1) = m ((c.tc : Thread Cert.ProjMemRefIdeal.nD Cert.ProjMemRefIdeal.τ).loc Cert.ProjMemRefIdeal.main_arg1))
      ∧ r.2.sem = fun _ => 0)

def preserves_AttnA_AttnAIdeal : Prop :=
  True

def algebraic_AttnAIdeal_AttnARefIdeal_pre_finite_qk [hAttnAIdeal : Cert.AttnAIdeal.Facts] [hAttnARefIdeal : Cert.AttnARefIdeal.Facts] [hPre_finite_qk : Cert.Pre_finite_qk.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_finite_qk m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)
      ∧ m' ((c.tc : Thread Cert.AttnARefIdeal.nD Cert.AttnARefIdeal.τ).loc Cert.AttnARefIdeal.main_arg2) = m ((c.tc : Thread Cert.AttnAIdeal.nD Cert.AttnAIdeal.τ).loc Cert.AttnAIdeal.main_arg2)) →
    ∃ (v0 : (c : Dev Cert.AttnAIdeal.nD) → Buf (Elt Ideal) ((c.tc : Thread Cert.AttnAIdeal.nD Cert.AttnAIdeal.τ).loc Cert.AttnAIdeal.main_v19)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v19) = v0 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
          ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v21) = v0 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
          ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2))

def preserves_AttnM_AttnMIdeal : Prop :=
  True

def algebraic_AttnMIdeal_AttnARefIdeal_pre_finite_qk [hAttnMIdeal : Cert.AttnMIdeal.Facts] [hAttnARefIdeal : Cert.AttnARefIdeal.Facts] [hPre_finite_qk : Cert.Pre_finite_qk.Facts] : Prop :=
  ∀ (m : (ℓ : Loc Cert.AttnMIdeal.nD Cert.AttnMIdeal.τ Cert.AttnMIdeal.sig) → Buf (Elt Ideal) ℓ) (g : Dev Cert.AttnMIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnMIdeal_finite_qk m →
    (∀ c : Dev Cert.AttnMIdeal.nD,
      m' ((c.tc : Thread Cert.AttnARefIdeal.nD Cert.AttnARefIdeal.τ).loc Cert.AttnARefIdeal.main_arg0) = m ((c.tc : Thread Cert.AttnMIdeal.nD Cert.AttnMIdeal.τ).loc Cert.AttnMIdeal.main_arg0)
      ∧ m' ((c.tc : Thread Cert.AttnARefIdeal.nD Cert.AttnARefIdeal.τ).loc Cert.AttnARefIdeal.main_arg1) = m ((c.tc : Thread Cert.AttnMIdeal.nD Cert.AttnMIdeal.τ).loc Cert.AttnMIdeal.main_arg1)
      ∧ m' ((c.tc : Thread Cert.AttnARefIdeal.nD Cert.AttnARefIdeal.τ).loc Cert.AttnARefIdeal.main_arg2) = m ((c.tc : Thread Cert.AttnMIdeal.nD Cert.AttnMIdeal.τ).loc Cert.AttnMIdeal.main_arg2)) →
    ∃ (v0 : (c : Dev Cert.AttnMIdeal.nD) → Buf (Elt Ideal) ((c.tc : Thread Cert.AttnMIdeal.nD Cert.AttnMIdeal.τ).loc Cert.AttnMIdeal.main_v19)),
      θ_run (Cert.AttnMIdeal.defs (F := Ideal)) (onTc (τ := Cert.AttnMIdeal.τ) (Cert.AttnMIdeal.main (F := Ideal))) ⟨m, fun _ => 0, g⟩ (fun r => ∀ c : Dev Cert.AttnMIdeal.nD,
          r.2.mem ((c.tc : Thread Cert.AttnMIdeal.nD Cert.AttnMIdeal.τ).loc Cert.AttnMIdeal.main_v19) = v0 c
          ∧ r.2.mem ((c.tc : Thread Cert.AttnMIdeal.nD Cert.AttnMIdeal.τ).loc Cert.AttnMIdeal.main_arg0) = m ((c.tc : Thread Cert.AttnMIdeal.nD Cert.AttnMIdeal.τ).loc Cert.AttnMIdeal.main_arg0)
          ∧ r.2.mem ((c.tc : Thread Cert.AttnMIdeal.nD Cert.AttnMIdeal.τ).loc Cert.AttnMIdeal.main_arg1) = m ((c.tc : Thread Cert.AttnMIdeal.nD Cert.AttnMIdeal.τ).loc Cert.AttnMIdeal.main_arg1)
          ∧ r.2.mem ((c.tc : Thread Cert.AttnMIdeal.nD Cert.AttnMIdeal.τ).loc Cert.AttnMIdeal.main_arg2) = m ((c.tc : Thread Cert.AttnMIdeal.nD Cert.AttnMIdeal.τ).loc Cert.AttnMIdeal.main_arg2))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v21) = v0 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
          ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v44) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_AbProj_AbProjIdeal : Prop :=
  IdealRules.named_const.Statement Cert.AbProjIdeal.κ "c" .f32 0x3E38AA3B#32 (((Real.log 256)⁻¹ : ℝ) : EReal)

def algebraic_AbProjIdeal_AbProjRefIdeal_pre_finite_norm [hAbProjIdeal : Cert.AbProjIdeal.Facts] [hAbProjRefIdeal : Cert.AbProjRefIdeal.Facts] [hPre_finite_norm : Cert.Pre_finite_norm.Facts] : Prop :=
  ∀ (m : (ℓ : Loc Cert.AbProjIdeal.nD Cert.AbProjIdeal.τ Cert.AbProjIdeal.sig) → Buf (Elt Ideal) ℓ) (g : Dev Cert.AbProjIdeal.nD → PrngReg)
    (m' : (ℓ : Loc Cert.AbProjRefIdeal.nD Cert.AbProjRefIdeal.τ Cert.AbProjRefIdeal.sig) → Buf (Elt Ideal) ℓ) (g' : Dev Cert.AbProjRefIdeal.nD → PrngReg), Pre_AbProjIdeal_finite_norm m →
    (∀ c : Dev Cert.AbProjIdeal.nD,
      m' ((c.tc : Thread Cert.AbProjRefIdeal.nD Cert.AbProjRefIdeal.τ).loc Cert.AbProjRefIdeal.main_arg0) = m ((c.tc : Thread Cert.AbProjIdeal.nD Cert.AbProjIdeal.τ).loc Cert.AbProjIdeal.main_arg0)
      ∧ m' ((c.tc : Thread Cert.AbProjRefIdeal.nD Cert.AbProjRefIdeal.τ).loc Cert.AbProjRefIdeal.main_arg1) = m ((c.tc : Thread Cert.AbProjIdeal.nD Cert.AbProjIdeal.τ).loc Cert.AbProjIdeal.main_arg1)
      ∧ m' ((c.tc : Thread Cert.AbProjRefIdeal.nD Cert.AbProjRefIdeal.τ).loc Cert.AbProjRefIdeal.main_arg2) = m ((c.tc : Thread Cert.AbProjIdeal.nD Cert.AbProjIdeal.τ).loc Cert.AbProjIdeal.main_arg2)
      ∧ m' ((c.tc : Thread Cert.AbProjRefIdeal.nD Cert.AbProjRefIdeal.τ).loc Cert.AbProjRefIdeal.main_arg3) = m ((c.tc : Thread Cert.AbProjIdeal.nD Cert.AbProjIdeal.τ).loc Cert.AbProjIdeal.main_arg3)) →
    ∃ (v0 : (c : Dev Cert.AbProjIdeal.nD) → Buf (Elt Ideal) ((c.tc : Thread Cert.AbProjIdeal.nD Cert.AbProjIdeal.τ).loc Cert.AbProjIdeal.main_v92)),
      θ_run (Cert.AbProjIdeal.defs (F := Ideal)) (onTc (τ := Cert.AbProjIdeal.τ) (Cert.AbProjIdeal.main (F := Ideal))) ⟨m, fun _ => 0, g⟩ (fun r => ∀ c : Dev Cert.AbProjIdeal.nD,
          r.2.mem ((c.tc : Thread Cert.AbProjIdeal.nD Cert.AbProjIdeal.τ).loc Cert.AbProjIdeal.main_v92) = v0 c
          ∧ r.2.mem ((c.tc : Thread Cert.AbProjIdeal.nD Cert.AbProjIdeal.τ).loc Cert.AbProjIdeal.main_arg0) = m ((c.tc : Thread Cert.AbProjIdeal.nD Cert.AbProjIdeal.τ).loc Cert.AbProjIdeal.main_arg0)
          ∧ r.2.mem ((c.tc : Thread Cert.AbProjIdeal.nD Cert.AbProjIdeal.τ).loc Cert.AbProjIdeal.main_arg1) = m ((c.tc : Thread Cert.AbProjIdeal.nD Cert.AbProjIdeal.τ).loc Cert.AbProjIdeal.main_arg1)
          ∧ r.2.mem ((c.tc : Thread Cert.AbProjIdeal.nD Cert.AbProjIdeal.τ).loc Cert.AbProjIdeal.main_arg2) = m ((c.tc : Thread Cert.AbProjIdeal.nD Cert.AbProjIdeal.τ).loc Cert.AbProjIdeal.main_arg2)
          ∧ r.2.mem ((c.tc : Thread Cert.AbProjIdeal.nD Cert.AbProjIdeal.τ).loc Cert.AbProjIdeal.main_arg3) = m ((c.tc : Thread Cert.AbProjIdeal.nD Cert.AbProjIdeal.τ).loc Cert.AbProjIdeal.main_arg3))
      ∧ θ_run (Cert.AbProjRefIdeal.defs (F := Ideal)) (onTc (τ := Cert.AbProjRefIdeal.τ) (Cert.AbProjRefIdeal.main (F := Ideal))) ⟨m', fun _ => 0, g'⟩ (fun r => ∀ c : Dev Cert.AbProjRefIdeal.nD,
          r.2.mem ((c.tc : Thread Cert.AbProjRefIdeal.nD Cert.AbProjRefIdeal.τ).loc Cert.AbProjRefIdeal.main_v189) = v0 c
          ∧ r.2.mem ((c.tc : Thread Cert.AbProjRefIdeal.nD Cert.AbProjRefIdeal.τ).loc Cert.AbProjRefIdeal.main_arg0) = m' ((c.tc : Thread Cert.AbProjRefIdeal.nD Cert.AbProjRefIdeal.τ).loc Cert.AbProjRefIdeal.main_arg0)
          ∧ r.2.mem ((c.tc : Thread Cert.AbProjRefIdeal.nD Cert.AbProjRefIdeal.τ).loc Cert.AbProjRefIdeal.main_arg1) = m' ((c.tc : Thread Cert.AbProjRefIdeal.nD Cert.AbProjRefIdeal.τ).loc Cert.AbProjRefIdeal.main_arg1)
          ∧ r.2.mem ((c.tc : Thread Cert.AbProjRefIdeal.nD Cert.AbProjRefIdeal.τ).loc Cert.AbProjRefIdeal.main_arg2) = m' ((c.tc : Thread Cert.AbProjRefIdeal.nD Cert.AbProjRefIdeal.τ).loc Cert.AbProjRefIdeal.main_arg2)
          ∧ r.2.mem ((c.tc : Thread Cert.AbProjRefIdeal.nD Cert.AbProjRefIdeal.τ).loc Cert.AbProjRefIdeal.main_arg3) = m' ((c.tc : Thread Cert.AbProjRefIdeal.nD Cert.AbProjRefIdeal.τ).loc Cert.AbProjRefIdeal.main_arg3))

def preserves_MixAb_MixAbIdeal : Prop :=
  IdealRules.named_const.Statement Cert.MixAbIdeal.κ "s" .f32 0x3DB8AA3B#32 (((Real.log 65536)⁻¹ : ℝ) : EReal)

def algebraic_MixAbIdeal_MixAbRefIdeal_pre_finite_ab [hMixAbIdeal : Cert.MixAbIdeal.Facts] [hMixAbRefIdeal : Cert.MixAbRefIdeal.Facts] [hPre_finite_ab : Cert.Pre_finite_ab.Facts] : Prop :=
  ∀ (m : (ℓ : Loc Cert.MixAbIdeal.nD Cert.MixAbIdeal.τ Cert.MixAbIdeal.sig) → Buf (Elt Ideal) ℓ) (g : Dev Cert.MixAbIdeal.nD → PrngReg)
    (m' : (ℓ : Loc Cert.MixAbRefIdeal.nD Cert.MixAbRefIdeal.τ Cert.MixAbRefIdeal.sig) → Buf (Elt Ideal) ℓ) (g' : Dev Cert.MixAbRefIdeal.nD → PrngReg), Pre_MixAbIdeal_finite_ab m →
    (∀ c : Dev Cert.MixAbIdeal.nD,
      m' ((c.tc : Thread Cert.MixAbRefIdeal.nD Cert.MixAbRefIdeal.τ).loc Cert.MixAbRefIdeal.main_arg0) = m ((c.tc : Thread Cert.MixAbIdeal.nD Cert.MixAbIdeal.τ).loc Cert.MixAbIdeal.main_arg0)
      ∧ m' ((c.tc : Thread Cert.MixAbRefIdeal.nD Cert.MixAbRefIdeal.τ).loc Cert.MixAbRefIdeal.main_arg1) = m ((c.tc : Thread Cert.MixAbIdeal.nD Cert.MixAbIdeal.τ).loc Cert.MixAbIdeal.main_arg1)
      ∧ m' ((c.tc : Thread Cert.MixAbRefIdeal.nD Cert.MixAbRefIdeal.τ).loc Cert.MixAbRefIdeal.main_arg2) = m ((c.tc : Thread Cert.MixAbIdeal.nD Cert.MixAbIdeal.τ).loc Cert.MixAbIdeal.main_arg2)
      ∧ m' ((c.tc : Thread Cert.MixAbRefIdeal.nD Cert.MixAbRefIdeal.τ).loc Cert.MixAbRefIdeal.main_arg3) = m ((c.tc : Thread Cert.MixAbIdeal.nD Cert.MixAbIdeal.τ).loc Cert.MixAbIdeal.main_arg3)
      ∧ m' ((c.tc : Thread Cert.MixAbRefIdeal.nD Cert.MixAbRefIdeal.τ).loc Cert.MixAbRefIdeal.main_arg4) = m ((c.tc : Thread Cert.MixAbIdeal.nD Cert.MixAbIdeal.τ).loc Cert.MixAbIdeal.main_arg4)
      ∧ m' ((c.tc : Thread Cert.MixAbRefIdeal.nD Cert.MixAbRefIdeal.τ).loc Cert.MixAbRefIdeal.main_arg5) = m ((c.tc : Thread Cert.MixAbIdeal.nD Cert.MixAbIdeal.τ).loc Cert.MixAbIdeal.main_arg5)
      ∧ m' ((c.tc : Thread Cert.MixAbRefIdeal.nD Cert.MixAbRefIdeal.τ).loc Cert.MixAbRefIdeal.main_arg6) = m ((c.tc : Thread Cert.MixAbIdeal.nD Cert.MixAbIdeal.τ).loc Cert.MixAbIdeal.main_arg6)
      ∧ m' ((c.tc : Thread Cert.MixAbRefIdeal.nD Cert.MixAbRefIdeal.τ).loc Cert.MixAbRefIdeal.main_arg7) = m ((c.tc : Thread Cert.MixAbIdeal.nD Cert.MixAbIdeal.τ).loc Cert.MixAbIdeal.main_arg7)
      ∧ m' ((c.tc : Thread Cert.MixAbRefIdeal.nD Cert.MixAbRefIdeal.τ).loc Cert.MixAbRefIdeal.main_arg8) = m ((c.tc : Thread Cert.MixAbIdeal.nD Cert.MixAbIdeal.τ).loc Cert.MixAbIdeal.main_arg8)) →
    ∃ (v0 : (c : Dev Cert.MixAbIdeal.nD) → Buf (Elt Ideal) ((c.tc : Thread Cert.MixAbIdeal.nD Cert.MixAbIdeal.τ).loc Cert.MixAbIdeal.main_v23)),
      θ_run (Cert.MixAbIdeal.defs (F := Ideal)) (onTc (τ := Cert.MixAbIdeal.τ) (Cert.MixAbIdeal.main (F := Ideal))) ⟨m, fun _ => 0, g⟩ (fun r => ∀ c : Dev Cert.MixAbIdeal.nD,
          r.2.mem ((c.tc : Thread Cert.MixAbIdeal.nD Cert.MixAbIdeal.τ).loc Cert.MixAbIdeal.main_v23) = v0 c
          ∧ r.2.mem ((c.tc : Thread Cert.MixAbIdeal.nD Cert.MixAbIdeal.τ).loc Cert.MixAbIdeal.main_arg0) = m ((c.tc : Thread Cert.MixAbIdeal.nD Cert.MixAbIdeal.τ).loc Cert.MixAbIdeal.main_arg0)
          ∧ r.2.mem ((c.tc : Thread Cert.MixAbIdeal.nD Cert.MixAbIdeal.τ).loc Cert.MixAbIdeal.main_arg1) = m ((c.tc : Thread Cert.MixAbIdeal.nD Cert.MixAbIdeal.τ).loc Cert.MixAbIdeal.main_arg1)
          ∧ r.2.mem ((c.tc : Thread Cert.MixAbIdeal.nD Cert.MixAbIdeal.τ).loc Cert.MixAbIdeal.main_arg2) = m ((c.tc : Thread Cert.MixAbIdeal.nD Cert.MixAbIdeal.τ).loc Cert.MixAbIdeal.main_arg2)
          ∧ r.2.mem ((c.tc : Thread Cert.MixAbIdeal.nD Cert.MixAbIdeal.τ).loc Cert.MixAbIdeal.main_arg3) = m ((c.tc : Thread Cert.MixAbIdeal.nD Cert.MixAbIdeal.τ).loc Cert.MixAbIdeal.main_arg3)
          ∧ r.2.mem ((c.tc : Thread Cert.MixAbIdeal.nD Cert.MixAbIdeal.τ).loc Cert.MixAbIdeal.main_arg4) = m ((c.tc : Thread Cert.MixAbIdeal.nD Cert.MixAbIdeal.τ).loc Cert.MixAbIdeal.main_arg4)
          ∧ r.2.mem ((c.tc : Thread Cert.MixAbIdeal.nD Cert.MixAbIdeal.τ).loc Cert.MixAbIdeal.main_arg5) = m ((c.tc : Thread Cert.MixAbIdeal.nD Cert.MixAbIdeal.τ).loc Cert.MixAbIdeal.main_arg5)
          ∧ r.2.mem ((c.tc : Thread Cert.MixAbIdeal.nD Cert.MixAbIdeal.τ).loc Cert.MixAbIdeal.main_arg6) = m ((c.tc : Thread Cert.MixAbIdeal.nD Cert.MixAbIdeal.τ).loc Cert.MixAbIdeal.main_arg6)
          ∧ r.2.mem ((c.tc : Thread Cert.MixAbIdeal.nD Cert.MixAbIdeal.τ).loc Cert.MixAbIdeal.main_arg7) = m ((c.tc : Thread Cert.MixAbIdeal.nD Cert.MixAbIdeal.τ).loc Cert.MixAbIdeal.main_arg7)
          ∧ r.2.mem ((c.tc : Thread Cert.MixAbIdeal.nD Cert.MixAbIdeal.τ).loc Cert.MixAbIdeal.main_arg8) = m ((c.tc : Thread Cert.MixAbIdeal.nD Cert.MixAbIdeal.τ).loc Cert.MixAbIdeal.main_arg8))
      ∧ θ_run (Cert.MixAbRefIdeal.defs (F := Ideal)) (onTc (τ := Cert.MixAbRefIdeal.τ) (Cert.MixAbRefIdeal.main (F := Ideal))) ⟨m', fun _ => 0, g'⟩ (fun r => ∀ c : Dev Cert.MixAbRefIdeal.nD,
          r.2.mem ((c.tc : Thread Cert.MixAbRefIdeal.nD Cert.MixAbRefIdeal.τ).loc Cert.MixAbRefIdeal.main_v95) = v0 c
          ∧ r.2.mem ((c.tc : Thread Cert.MixAbRefIdeal.nD Cert.MixAbRefIdeal.τ).loc Cert.MixAbRefIdeal.main_arg0) = m' ((c.tc : Thread Cert.MixAbRefIdeal.nD Cert.MixAbRefIdeal.τ).loc Cert.MixAbRefIdeal.main_arg0)
          ∧ r.2.mem ((c.tc : Thread Cert.MixAbRefIdeal.nD Cert.MixAbRefIdeal.τ).loc Cert.MixAbRefIdeal.main_arg1) = m' ((c.tc : Thread Cert.MixAbRefIdeal.nD Cert.MixAbRefIdeal.τ).loc Cert.MixAbRefIdeal.main_arg1)
          ∧ r.2.mem ((c.tc : Thread Cert.MixAbRefIdeal.nD Cert.MixAbRefIdeal.τ).loc Cert.MixAbRefIdeal.main_arg2) = m' ((c.tc : Thread Cert.MixAbRefIdeal.nD Cert.MixAbRefIdeal.τ).loc Cert.MixAbRefIdeal.main_arg2)
          ∧ r.2.mem ((c.tc : Thread Cert.MixAbRefIdeal.nD Cert.MixAbRefIdeal.τ).loc Cert.MixAbRefIdeal.main_arg3) = m' ((c.tc : Thread Cert.MixAbRefIdeal.nD Cert.MixAbRefIdeal.τ).loc Cert.MixAbRefIdeal.main_arg3)
          ∧ r.2.mem ((c.tc : Thread Cert.MixAbRefIdeal.nD Cert.MixAbRefIdeal.τ).loc Cert.MixAbRefIdeal.main_arg4) = m' ((c.tc : Thread Cert.MixAbRefIdeal.nD Cert.MixAbRefIdeal.τ).loc Cert.MixAbRefIdeal.main_arg4)
          ∧ r.2.mem ((c.tc : Thread Cert.MixAbRefIdeal.nD Cert.MixAbRefIdeal.τ).loc Cert.MixAbRefIdeal.main_arg5) = m' ((c.tc : Thread Cert.MixAbRefIdeal.nD Cert.MixAbRefIdeal.τ).loc Cert.MixAbRefIdeal.main_arg5)
          ∧ r.2.mem ((c.tc : Thread Cert.MixAbRefIdeal.nD Cert.MixAbRefIdeal.τ).loc Cert.MixAbRefIdeal.main_arg6) = m' ((c.tc : Thread Cert.MixAbRefIdeal.nD Cert.MixAbRefIdeal.τ).loc Cert.MixAbRefIdeal.main_arg6)
          ∧ r.2.mem ((c.tc : Thread Cert.MixAbRefIdeal.nD Cert.MixAbRefIdeal.τ).loc Cert.MixAbRefIdeal.main_arg7) = m' ((c.tc : Thread Cert.MixAbRefIdeal.nD Cert.MixAbRefIdeal.τ).loc Cert.MixAbRefIdeal.main_arg7)
          ∧ r.2.mem ((c.tc : Thread Cert.MixAbRefIdeal.nD Cert.MixAbRefIdeal.τ).loc Cert.MixAbRefIdeal.main_arg8) = m' ((c.tc : Thread Cert.MixAbRefIdeal.nD Cert.MixAbRefIdeal.τ).loc Cert.MixAbRefIdeal.main_arg8))

def preserves_MixC_MixCIdeal : Prop :=
  IdealRules.named_const.Statement Cert.MixCIdeal.κ "s" .f32 0x3DB8AA3B#32 (((Real.log 65536)⁻¹ : ℝ) : EReal)

def algebraic_MixCIdeal_MixCRefIdeal_pre_finite_c [hMixCIdeal : Cert.MixCIdeal.Facts] [hMixCRefIdeal : Cert.MixCRefIdeal.Facts] [hPre_finite_c : Cert.Pre_finite_c.Facts] : Prop :=
  ∀ (m : (ℓ : Loc Cert.MixCIdeal.nD Cert.MixCIdeal.τ Cert.MixCIdeal.sig) → Buf (Elt Ideal) ℓ) (g : Dev Cert.MixCIdeal.nD → PrngReg)
    (m' : (ℓ : Loc Cert.MixCRefIdeal.nD Cert.MixCRefIdeal.τ Cert.MixCRefIdeal.sig) → Buf (Elt Ideal) ℓ) (g' : Dev Cert.MixCRefIdeal.nD → PrngReg), Pre_MixCIdeal_finite_c m →
    (∀ c : Dev Cert.MixCIdeal.nD,
      m' ((c.tc : Thread Cert.MixCRefIdeal.nD Cert.MixCRefIdeal.τ).loc Cert.MixCRefIdeal.main_arg0) = m ((c.tc : Thread Cert.MixCIdeal.nD Cert.MixCIdeal.τ).loc Cert.MixCIdeal.main_arg0)
      ∧ m' ((c.tc : Thread Cert.MixCRefIdeal.nD Cert.MixCRefIdeal.τ).loc Cert.MixCRefIdeal.main_arg1) = m ((c.tc : Thread Cert.MixCIdeal.nD Cert.MixCIdeal.τ).loc Cert.MixCIdeal.main_arg1)
      ∧ m' ((c.tc : Thread Cert.MixCRefIdeal.nD Cert.MixCRefIdeal.τ).loc Cert.MixCRefIdeal.main_arg2) = m ((c.tc : Thread Cert.MixCIdeal.nD Cert.MixCIdeal.τ).loc Cert.MixCIdeal.main_arg2)
      ∧ m' ((c.tc : Thread Cert.MixCRefIdeal.nD Cert.MixCRefIdeal.τ).loc Cert.MixCRefIdeal.main_arg3) = m ((c.tc : Thread Cert.MixCIdeal.nD Cert.MixCIdeal.τ).loc Cert.MixCIdeal.main_arg3)
      ∧ m' ((c.tc : Thread Cert.MixCRefIdeal.nD Cert.MixCRefIdeal.τ).loc Cert.MixCRefIdeal.main_arg4) = m ((c.tc : Thread Cert.MixCIdeal.nD Cert.MixCIdeal.τ).loc Cert.MixCIdeal.main_arg4)
      ∧ m' ((c.tc : Thread Cert.MixCRefIdeal.nD Cert.MixCRefIdeal.τ).loc Cert.MixCRefIdeal.main_arg5) = m ((c.tc : Thread Cert.MixCIdeal.nD Cert.MixCIdeal.τ).loc Cert.MixCIdeal.main_arg5)
      ∧ m' ((c.tc : Thread Cert.MixCRefIdeal.nD Cert.MixCRefIdeal.τ).loc Cert.MixCRefIdeal.main_arg6) = m ((c.tc : Thread Cert.MixCIdeal.nD Cert.MixCIdeal.τ).loc Cert.MixCIdeal.main_arg6)
      ∧ m' ((c.tc : Thread Cert.MixCRefIdeal.nD Cert.MixCRefIdeal.τ).loc Cert.MixCRefIdeal.main_arg7) = m ((c.tc : Thread Cert.MixCIdeal.nD Cert.MixCIdeal.τ).loc Cert.MixCIdeal.main_arg7)) →
    ∃ (v0 : (c : Dev Cert.MixCIdeal.nD) → Buf (Elt Ideal) ((c.tc : Thread Cert.MixCIdeal.nD Cert.MixCIdeal.τ).loc Cert.MixCIdeal.main_v21)),
      θ_run (Cert.MixCIdeal.defs (F := Ideal)) (onTc (τ := Cert.MixCIdeal.τ) (Cert.MixCIdeal.main (F := Ideal))) ⟨m, fun _ => 0, g⟩ (fun r => ∀ c : Dev Cert.MixCIdeal.nD,
          r.2.mem ((c.tc : Thread Cert.MixCIdeal.nD Cert.MixCIdeal.τ).loc Cert.MixCIdeal.main_v21) = v0 c
          ∧ r.2.mem ((c.tc : Thread Cert.MixCIdeal.nD Cert.MixCIdeal.τ).loc Cert.MixCIdeal.main_arg0) = m ((c.tc : Thread Cert.MixCIdeal.nD Cert.MixCIdeal.τ).loc Cert.MixCIdeal.main_arg0)
          ∧ r.2.mem ((c.tc : Thread Cert.MixCIdeal.nD Cert.MixCIdeal.τ).loc Cert.MixCIdeal.main_arg1) = m ((c.tc : Thread Cert.MixCIdeal.nD Cert.MixCIdeal.τ).loc Cert.MixCIdeal.main_arg1)
          ∧ r.2.mem ((c.tc : Thread Cert.MixCIdeal.nD Cert.MixCIdeal.τ).loc Cert.MixCIdeal.main_arg2) = m ((c.tc : Thread Cert.MixCIdeal.nD Cert.MixCIdeal.τ).loc Cert.MixCIdeal.main_arg2)
          ∧ r.2.mem ((c.tc : Thread Cert.MixCIdeal.nD Cert.MixCIdeal.τ).loc Cert.MixCIdeal.main_arg3) = m ((c.tc : Thread Cert.MixCIdeal.nD Cert.MixCIdeal.τ).loc Cert.MixCIdeal.main_arg3)
          ∧ r.2.mem ((c.tc : Thread Cert.MixCIdeal.nD Cert.MixCIdeal.τ).loc Cert.MixCIdeal.main_arg4) = m ((c.tc : Thread Cert.MixCIdeal.nD Cert.MixCIdeal.τ).loc Cert.MixCIdeal.main_arg4)
          ∧ r.2.mem ((c.tc : Thread Cert.MixCIdeal.nD Cert.MixCIdeal.τ).loc Cert.MixCIdeal.main_arg5) = m ((c.tc : Thread Cert.MixCIdeal.nD Cert.MixCIdeal.τ).loc Cert.MixCIdeal.main_arg5)
          ∧ r.2.mem ((c.tc : Thread Cert.MixCIdeal.nD Cert.MixCIdeal.τ).loc Cert.MixCIdeal.main_arg6) = m ((c.tc : Thread Cert.MixCIdeal.nD Cert.MixCIdeal.τ).loc Cert.MixCIdeal.main_arg6)
          ∧ r.2.mem ((c.tc : Thread Cert.MixCIdeal.nD Cert.MixCIdeal.τ).loc Cert.MixCIdeal.main_arg7) = m ((c.tc : Thread Cert.MixCIdeal.nD Cert.MixCIdeal.τ).loc Cert.MixCIdeal.main_arg7))
      ∧ θ_run (Cert.MixCRefIdeal.defs (F := Ideal)) (onTc (τ := Cert.MixCRefIdeal.τ) (Cert.MixCRefIdeal.main (F := Ideal))) ⟨m', fun _ => 0, g'⟩ (fun r => ∀ c : Dev Cert.MixCRefIdeal.nD,
          r.2.mem ((c.tc : Thread Cert.MixCRefIdeal.nD Cert.MixCRefIdeal.τ).loc Cert.MixCRefIdeal.main_v94) = v0 c
          ∧ r.2.mem ((c.tc : Thread Cert.MixCRefIdeal.nD Cert.MixCRefIdeal.τ).loc Cert.MixCRefIdeal.main_arg0) = m' ((c.tc : Thread Cert.MixCRefIdeal.nD Cert.MixCRefIdeal.τ).loc Cert.MixCRefIdeal.main_arg0)
          ∧ r.2.mem ((c.tc : Thread Cert.MixCRefIdeal.nD Cert.MixCRefIdeal.τ).loc Cert.MixCRefIdeal.main_arg1) = m' ((c.tc : Thread Cert.MixCRefIdeal.nD Cert.MixCRefIdeal.τ).loc Cert.MixCRefIdeal.main_arg1)
          ∧ r.2.mem ((c.tc : Thread Cert.MixCRefIdeal.nD Cert.MixCRefIdeal.τ).loc Cert.MixCRefIdeal.main_arg2) = m' ((c.tc : Thread Cert.MixCRefIdeal.nD Cert.MixCRefIdeal.τ).loc Cert.MixCRefIdeal.main_arg2)
          ∧ r.2.mem ((c.tc : Thread Cert.MixCRefIdeal.nD Cert.MixCRefIdeal.τ).loc Cert.MixCRefIdeal.main_arg3) = m' ((c.tc : Thread Cert.MixCRefIdeal.nD Cert.MixCRefIdeal.τ).loc Cert.MixCRefIdeal.main_arg3)
          ∧ r.2.mem ((c.tc : Thread Cert.MixCRefIdeal.nD Cert.MixCRefIdeal.τ).loc Cert.MixCRefIdeal.main_arg4) = m' ((c.tc : Thread Cert.MixCRefIdeal.nD Cert.MixCRefIdeal.τ).loc Cert.MixCRefIdeal.main_arg4)
          ∧ r.2.mem ((c.tc : Thread Cert.MixCRefIdeal.nD Cert.MixCRefIdeal.τ).loc Cert.MixCRefIdeal.main_arg5) = m' ((c.tc : Thread Cert.MixCRefIdeal.nD Cert.MixCRefIdeal.τ).loc Cert.MixCRefIdeal.main_arg5)
          ∧ r.2.mem ((c.tc : Thread Cert.MixCRefIdeal.nD Cert.MixCRefIdeal.τ).loc Cert.MixCRefIdeal.main_arg6) = m' ((c.tc : Thread Cert.MixCRefIdeal.nD Cert.MixCRefIdeal.τ).loc Cert.MixCRefIdeal.main_arg6)
          ∧ r.2.mem ((c.tc : Thread Cert.MixCRefIdeal.nD Cert.MixCRefIdeal.τ).loc Cert.MixCRefIdeal.main_arg7) = m' ((c.tc : Thread Cert.MixCRefIdeal.nD Cert.MixCRefIdeal.τ).loc Cert.MixCRefIdeal.main_arg7))

def preserves_ProjC_ProjCIdeal : Prop :=
  IdealRules.named_const.Statement Cert.ProjCIdeal.κ "c" .f32 0x3E38AA3B#32 (((Real.log 256)⁻¹ : ℝ) : EReal)

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)) →
    ∃ (v0 : (c : Dev Cert.ProjCIdeal.nD) → Buf (Elt Ideal) ((c.tc : Thread Cert.ProjCIdeal.nD Cert.ProjCIdeal.τ).loc Cert.ProjCIdeal.main_v3)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v3) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v13) = v0 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1))

def preserves_ProjMem_ProjMemIdeal : Prop :=
  True

def algebraic_ProjMemIdeal_ProjMemRefIdeal [hProjMemIdeal : Cert.ProjMemIdeal.Facts] [hProjMemRefIdeal : Cert.ProjMemRefIdeal.Facts] : Prop :=
  ∀ (m : (ℓ : Loc Cert.ProjMemIdeal.nD Cert.ProjMemIdeal.τ Cert.ProjMemIdeal.sig) → Buf (Elt Ideal) ℓ) (g : Dev Cert.ProjMemIdeal.nD → PrngReg)
    (m' : (ℓ : Loc Cert.ProjMemRefIdeal.nD Cert.ProjMemRefIdeal.τ Cert.ProjMemRefIdeal.sig) → Buf (Elt Ideal) ℓ) (g' : Dev Cert.ProjMemRefIdeal.nD → PrngReg), Pre_ProjMemIdeal m →
    (∀ c : Dev Cert.ProjMemIdeal.nD,
      m' ((c.tc : Thread Cert.ProjMemRefIdeal.nD Cert.ProjMemRefIdeal.τ).loc Cert.ProjMemRefIdeal.main_arg0) = m ((c.tc : Thread Cert.ProjMemIdeal.nD Cert.ProjMemIdeal.τ).loc Cert.ProjMemIdeal.main_arg0)
      ∧ m' ((c.tc : Thread Cert.ProjMemRefIdeal.nD Cert.ProjMemRefIdeal.τ).loc Cert.ProjMemRefIdeal.main_arg1) = m ((c.tc : Thread Cert.ProjMemIdeal.nD Cert.ProjMemIdeal.τ).loc Cert.ProjMemIdeal.main_arg1)) →
    ∃ (v0 : (c : Dev Cert.ProjMemIdeal.nD) → Buf (Elt Ideal) ((c.tc : Thread Cert.ProjMemIdeal.nD Cert.ProjMemIdeal.τ).loc Cert.ProjMemIdeal.main_v4)),
      θ_run (Cert.ProjMemIdeal.defs (F := Ideal)) (onTc (τ := Cert.ProjMemIdeal.τ) (Cert.ProjMemIdeal.main (F := Ideal))) ⟨m, fun _ => 0, g⟩ (fun r => ∀ c : Dev Cert.ProjMemIdeal.nD,
          r.2.mem ((c.tc : Thread Cert.ProjMemIdeal.nD Cert.ProjMemIdeal.τ).loc Cert.ProjMemIdeal.main_v4) = v0 c
          ∧ r.2.mem ((c.tc : Thread Cert.ProjMemIdeal.nD Cert.ProjMemIdeal.τ).loc Cert.ProjMemIdeal.main_arg0) = m ((c.tc : Thread Cert.ProjMemIdeal.nD Cert.ProjMemIdeal.τ).loc Cert.ProjMemIdeal.main_arg0)
          ∧ r.2.mem ((c.tc : Thread Cert.ProjMemIdeal.nD Cert.ProjMemIdeal.τ).loc Cert.ProjMemIdeal.main_arg1) = m ((c.tc : Thread Cert.ProjMemIdeal.nD Cert.ProjMemIdeal.τ).loc Cert.ProjMemIdeal.main_arg1))
      ∧ θ_run (Cert.ProjMemRefIdeal.defs (F := Ideal)) (onTc (τ := Cert.ProjMemRefIdeal.τ) (Cert.ProjMemRefIdeal.main (F := Ideal))) ⟨m', fun _ => 0, g'⟩ (fun r => ∀ c : Dev Cert.ProjMemRefIdeal.nD,
          r.2.mem ((c.tc : Thread Cert.ProjMemRefIdeal.nD Cert.ProjMemRefIdeal.τ).loc Cert.ProjMemRefIdeal.main_v4) = v0 c
          ∧ r.2.mem ((c.tc : Thread Cert.ProjMemRefIdeal.nD Cert.ProjMemRefIdeal.τ).loc Cert.ProjMemRefIdeal.main_arg0) = m' ((c.tc : Thread Cert.ProjMemRefIdeal.nD Cert.ProjMemRefIdeal.τ).loc Cert.ProjMemRefIdeal.main_arg0)
          ∧ r.2.mem ((c.tc : Thread Cert.ProjMemRefIdeal.nD Cert.ProjMemRefIdeal.τ).loc Cert.ProjMemRefIdeal.main_arg1) = m' ((c.tc : Thread Cert.ProjMemRefIdeal.nD Cert.ProjMemRefIdeal.τ).loc Cert.ProjMemRefIdeal.main_arg1))

def Claim : Prop :=
  ∃ (hAttnA : Cert.AttnA.Facts) (hAttnAIdeal : Cert.AttnAIdeal.Facts) (hAttnARefIdeal : Cert.AttnARefIdeal.Facts) (hAttnM : Cert.AttnM.Facts) (hAttnMIdeal : Cert.AttnMIdeal.Facts) (hFfn : Cert.Ffn.Facts) (hFfnIdeal : Cert.FfnIdeal.Facts) (hFfnRefIdeal : Cert.FfnRefIdeal.Facts) (hAbProj : Cert.AbProj.Facts) (hAbProjIdeal : Cert.AbProjIdeal.Facts) (hAbProjRefIdeal : Cert.AbProjRefIdeal.Facts) (hMixAb : Cert.MixAb.Facts) (hMixAbIdeal : Cert.MixAbIdeal.Facts) (hMixAbRefIdeal : Cert.MixAbRefIdeal.Facts) (hMixC : Cert.MixC.Facts) (hMixCIdeal : Cert.MixCIdeal.Facts) (hMixCRefIdeal : Cert.MixCRefIdeal.Facts) (hProjC : Cert.ProjC.Facts) (hProjCIdeal : Cert.ProjCIdeal.Facts) (hProjCRefIdeal : Cert.ProjCRefIdeal.Facts) (hProjMem : Cert.ProjMem.Facts) (hProjMemIdeal : Cert.ProjMemIdeal.Facts) (hProjMemRefIdeal : Cert.ProjMemRefIdeal.Facts) (hPre_finite_qk : Cert.Pre_finite_qk.Facts) (hPre_finite_norm : Cert.Pre_finite_norm.Facts) (hPre_finite_ab : Cert.Pre_finite_ab.Facts) (hPre_finite_c : Cert.Pre_finite_c.Facts),
    quiescent_AttnA (hAttnA := hAttnA)
    ∧ quiescent_AttnAIdeal (hAttnAIdeal := hAttnAIdeal)
    ∧ quiescent_AttnAIdeal_pre_finite_qk (hAttnAIdeal := hAttnAIdeal) (hPre_finite_qk := hPre_finite_qk)
    ∧ quiescent_AttnARefIdeal (hAttnARefIdeal := hAttnARefIdeal)
    ∧ quiescent_AttnARefIdeal_pre_finite_qk (hAttnARefIdeal := hAttnARefIdeal) (hPre_finite_qk := hPre_finite_qk)
    ∧ quiescent_AttnM (hAttnM := hAttnM)
    ∧ quiescent_AttnMIdeal (hAttnMIdeal := hAttnMIdeal)
    ∧ quiescent_AttnMIdeal_pre_finite_qk (hAttnMIdeal := hAttnMIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_AbProj (hAbProj := hAbProj)
    ∧ quiescent_AbProjIdeal (hAbProjIdeal := hAbProjIdeal)
    ∧ quiescent_AbProjIdeal_pre_finite_norm (hAbProjIdeal := hAbProjIdeal) (hPre_finite_norm := hPre_finite_norm)
    ∧ quiescent_AbProjRefIdeal (hAbProjRefIdeal := hAbProjRefIdeal)
    ∧ quiescent_AbProjRefIdeal_pre_finite_norm (hAbProjRefIdeal := hAbProjRefIdeal) (hPre_finite_norm := hPre_finite_norm)
    ∧ quiescent_MixAb (hMixAb := hMixAb)
    ∧ quiescent_MixAbIdeal (hMixAbIdeal := hMixAbIdeal)
    ∧ quiescent_MixAbIdeal_pre_finite_ab (hMixAbIdeal := hMixAbIdeal) (hPre_finite_ab := hPre_finite_ab)
    ∧ quiescent_MixAbRefIdeal (hMixAbRefIdeal := hMixAbRefIdeal)
    ∧ quiescent_MixAbRefIdeal_pre_finite_ab (hMixAbRefIdeal := hMixAbRefIdeal) (hPre_finite_ab := hPre_finite_ab)
    ∧ quiescent_MixC (hMixC := hMixC)
    ∧ quiescent_MixCIdeal (hMixCIdeal := hMixCIdeal)
    ∧ quiescent_MixCIdeal_pre_finite_c (hMixCIdeal := hMixCIdeal) (hPre_finite_c := hPre_finite_c)
    ∧ quiescent_MixCRefIdeal (hMixCRefIdeal := hMixCRefIdeal)
    ∧ quiescent_MixCRefIdeal_pre_finite_c (hMixCRefIdeal := hMixCRefIdeal) (hPre_finite_c := hPre_finite_c)
    ∧ quiescent_ProjC (hProjC := hProjC)
    ∧ quiescent_ProjCIdeal (hProjCIdeal := hProjCIdeal)
    ∧ quiescent_ProjCRefIdeal (hProjCRefIdeal := hProjCRefIdeal)
    ∧ quiescent_ProjMem (hProjMem := hProjMem)
    ∧ quiescent_ProjMemIdeal (hProjMemIdeal := hProjMemIdeal)
    ∧ quiescent_ProjMemRefIdeal (hProjMemRefIdeal := hProjMemRefIdeal)
    ∧ preserves_AttnA_AttnAIdeal
    ∧ algebraic_AttnAIdeal_AttnARefIdeal_pre_finite_qk (hAttnAIdeal := hAttnAIdeal) (hAttnARefIdeal := hAttnARefIdeal) (hPre_finite_qk := hPre_finite_qk)
    ∧ preserves_AttnM_AttnMIdeal
    ∧ algebraic_AttnMIdeal_AttnARefIdeal_pre_finite_qk (hAttnMIdeal := hAttnMIdeal) (hAttnARefIdeal := hAttnARefIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_AbProj_AbProjIdeal
    ∧ algebraic_AbProjIdeal_AbProjRefIdeal_pre_finite_norm (hAbProjIdeal := hAbProjIdeal) (hAbProjRefIdeal := hAbProjRefIdeal) (hPre_finite_norm := hPre_finite_norm)
    ∧ preserves_MixAb_MixAbIdeal
    ∧ algebraic_MixAbIdeal_MixAbRefIdeal_pre_finite_ab (hMixAbIdeal := hMixAbIdeal) (hMixAbRefIdeal := hMixAbRefIdeal) (hPre_finite_ab := hPre_finite_ab)
    ∧ preserves_MixC_MixCIdeal
    ∧ algebraic_MixCIdeal_MixCRefIdeal_pre_finite_c (hMixCIdeal := hMixCIdeal) (hMixCRefIdeal := hMixCRefIdeal) (hPre_finite_c := hPre_finite_c)
    ∧ preserves_ProjC_ProjCIdeal
    ∧ algebraic_ProjCIdeal_ProjCRefIdeal (hProjCIdeal := hProjCIdeal) (hProjCRefIdeal := hProjCRefIdeal)
    ∧ preserves_ProjMem_ProjMemIdeal
    ∧ algebraic_ProjMemIdeal_ProjMemRefIdeal (hProjMemIdeal := hProjMemIdeal) (hProjMemRefIdeal := hProjMemRefIdeal)
-- ==== Pre_finite_ab.lean ====
abbrev S32768x512 : Shape := ⟨2, ![32768, 512]⟩
abbrev S2x1024x1024 : Shape := ⟨3, ![2, 1024, 1024]⟩
abbrev S32768x1024 : Shape := ⟨2, ![32768, 1024]⟩
abbrev S4x4x1024 : Shape := ⟨3, ![4, 4, 1024]⟩
abbrev S4x1024x1024 : Shape := ⟨3, ![4, 1024, 1024]⟩
abbrev S2048x2048 : Shape := ⟨2, ![2048, 2048]⟩
abbrev S1x1x1024 : Shape := ⟨3, ![1, 1, 1024]⟩
abbrev S1024 : Shape := ⟨1, ![1024]⟩
abbrev S1x1024x1024 : Shape := ⟨3, ![1, 1024, 1024]⟩
abbrev S1024x1024 : Shape := ⟨2, ![1024, 1024]⟩
abbrev S2048x1024 : Shape := ⟨2, ![2048, 1024]⟩
abbrev S_ : Shape := ⟨0, ![]⟩

class Facts : Prop where
  slices_S4x4x1024_S1x1x1024_0_1_0 : S4x4x1024.Slices ![0, 1, 0] S1x1x1024
  shapeCasts_S1x1x1024_S1024 : S1x1x1024.ShapeCasts S1024
  slices_S4x1024x1024_S1x1024x1024_0_0_0 : S4x1024x1024.Slices ![0, 0, 0] S1x1024x1024
  shapeCasts_S1x1024x1024_S1024x1024 : S1x1024x1024.ShapeCasts S1024x1024
  slices_S2048x2048_S2048x1024_0_0 : S2048x2048.Slices ![0, 0] S2048x1024
  bcast_S_S1024 : S_.BroadcastsInDim S1024 (![] : Fin 0 → Fin S1024.rank)
  bcast_S_S1024x1024 : S_.BroadcastsInDim S1024x1024 (![] : Fin 0 → Fin S1024x1024.rank)
  bcast_S_S2048x1024 : S_.BroadcastsInDim S2048x1024 (![] : Fin 0 → Fin S2048x1024.rank)

variable [Facts]

def fn {F : FTy → Type} [FloatOps F] (main_arg0 : FVec F S32768x512 .bf16) (main_arg1 : FVec F S32768x512 .bf16) (main_arg2 : FVec F S2x1024x1024 .f32) (main_arg3 : FVec F S32768x1024 .f32) (main_arg4 : FVec F S4x4x1024 .f32) (main_arg5 : FVec F S4x4x1024 .f32) (main_arg6 : FVec F S4x1024x1024 .f32) (main_arg7 : FVec F S2048x2048 .bf16) (main_arg8 : FVec F S4x1024x1024 .f32) : IVec S1024 1 × IVec S1024 1 × IVec S1024x1024 1 × IVec S2048x1024 1 :=
  let main_v0 : FVec F S1x1x1024 .f32 := (extractStridedSlice S1x1x1024 ![0, 1, 0] · slices_S4x4x1024_S1x1x1024_0_1_0) main_arg4
  let main_v1 : FVec F S1024 .f32 := shapeCast S1024 main_v0 shapeCasts_S1x1x1024_S1024
  let main_v2 : FVec F S1x1x1024 .f32 := (extractStridedSlice S1x1x1024 ![0, 1, 0] · slices_S4x4x1024_S1x1x1024_0_1_0) main_arg5
  let main_v3 : FVec F S1024 .f32 := shapeCast S1024 main_v2 shapeCasts_S1x1x1024_S1024
  let main_v4 : FVec F S1x1024x1024 .f32 := (extractStridedSlice S1x1024x1024 ![0, 0, 0] · slices_S4x1024x1024_S1x1024x1024_0_0_0) main_arg6
  let main_v5 : FVec F S1024x1024 .f32 := shapeCast S1024x1024 main_v4 shapeCasts_S1x1024x1024_S1024x1024
  let main_v6 : FVec F S2048x1024 .bf16 := (extractStridedSlice S2048x1024 ![0, 0] · slices_S2048x2048_S2048x1024_0_0) main_arg7
  let main_v7 : FVec F S1024 .f32 := Host.absf main_v1
  let main_cst : FVec F S_ .f32 := constant S_ .f32 0x7F800000#32
  let main_v8 : FVec F S1024 .f32 := broadcastInDim S1024 ![] bcast_S_S1024 main_cst
  let main_v9 : IVec S1024 1 := cmpf .olt main_v7 main_v8
  let main_v10 : FVec F S1024 .f32 := Host.absf main_v3
  let main_cst_0 : FVec F S_ .f32 := constant S_ .f32 0x7F800000#32
  let main_v11 : FVec F S1024 .f32 := broadcastInDim S1024 ![] bcast_S_S1024 main_cst_0
  let main_v12 : IVec S1024 1 := cmpf .olt main_v10 main_v11
  let main_v13 : FVec F S1024x1024 .f32 := Host.absf main_v5
  let main_cst_1 : FVec F S_ .f32 := constant S_ .f32 0x7F800000#32
  let main_v14 : FVec F S1024x1024 .f32 := broadcastInDim S1024x1024 ![] bcast_S_S1024x1024 main_cst_1
  let main_v15 : IVec S1024x1024 1 := cmpf .olt main_v13 main_v14
  let main_v16 : FVec F S2048x1024 .bf16 := Host.absf main_v6
  let main_cst_2 : FVec F S_ .bf16 := constant S_ .bf16 0x7F80#16
  let main_v17 : FVec F S2048x1024 .bf16 := broadcastInDim S2048x1024 ![] bcast_S_S2048x1024 main_cst_2
  let main_v18 : IVec S2048x1024 1 := cmpf .olt main_v16 main_v17
  (main_v9, main_v12, main_v15, main_v18)
-- ==== Pre_finite_c.lean ====
abbrev S32768x1024 : Shape := ⟨2, ![32768, 1024]⟩
abbrev S2x1024x1024 : Shape := ⟨3, ![2, 1024, 1024]⟩
abbrev S4x4x1024 : Shape := ⟨3, ![4, 4, 1024]⟩
abbrev S4x1024x1024 : Shape := ⟨3, ![4, 1024, 1024]⟩
abbrev S2048x2048 : Shape := ⟨2, ![2048, 2048]⟩
abbrev S1x1x1024 : Shape := ⟨3, ![1, 1, 1024]⟩
abbrev S1024 : Shape := ⟨1, ![1024]⟩
abbrev S1x1024x1024 : Shape := ⟨3, ![1, 1024, 1024]⟩
abbrev S1024x1024 : Shape := ⟨2, ![1024, 1024]⟩
abbrev S2048x1024 : Shape := ⟨2, ![2048, 1024]⟩
abbrev S_ : Shape := ⟨0, ![]⟩

class Facts : Prop where
  slices_S4x4x1024_S1x1x1024_1_1_0 : S4x4x1024.Slices ![1, 1, 0] S1x1x1024
  shapeCasts_S1x1x1024_S1024 : S1x1x1024.ShapeCasts S1024
  slices_S4x1024x1024_S1x1024x1024_1_0_0 : S4x1024x1024.Slices ![1, 0, 0] S1x1024x1024
  shapeCasts_S1x1024x1024_S1024x1024 : S1x1024x1024.ShapeCasts S1024x1024
  slices_S2048x2048_S2048x1024_0_0 : S2048x2048.Slices ![0, 0] S2048x1024
  bcast_S_S1024 : S_.BroadcastsInDim S1024 (![] : Fin 0 → Fin S1024.rank)
  bcast_S_S1024x1024 : S_.BroadcastsInDim S1024x1024 (![] : Fin 0 → Fin S1024x1024.rank)
  bcast_S_S2048x1024 : S_.BroadcastsInDim S2048x1024 (![] : Fin 0 → Fin S2048x1024.rank)

variable [Facts]

def fn {F : FTy → Type} [FloatOps F] (main_arg0 : FVec F S32768x1024 .bf16) (main_arg1 : FVec F S2x1024x1024 .f32) (main_arg2 : FVec F S32768x1024 .f32) (main_arg3 : FVec F S4x4x1024 .f32) (main_arg4 : FVec F S4x4x1024 .f32) (main_arg5 : FVec F S4x1024x1024 .f32) (main_arg6 : FVec F S2048x2048 .bf16) (main_arg7 : FVec F S4x1024x1024 .f32) : IVec S1024 1 × IVec S1024 1 × IVec S1024x1024 1 × IVec S2048x1024 1 :=
  let main_v0 : FVec F S1x1x1024 .f32 := (extractStridedSlice S1x1x1024 ![1, 1, 0] · slices_S4x4x1024_S1x1x1024_1_1_0) main_arg3
  let main_v1 : FVec F S1024 .f32 := shapeCast S1024 main_v0 shapeCasts_S1x1x1024_S1024
  let main_v2 : FVec F S1x1x1024 .f32 := (extractStridedSlice S1x1x1024 ![1, 1, 0] · slices_S4x4x1024_S1x1x1024_1_1_0) main_arg4
  let main_v3 : FVec F S1024 .f32 := shapeCast S1024 main_v2 shapeCasts_S1x1x1024_S1024
  let main_v4 : FVec F S1x1024x1024 .f32 := (extractStridedSlice S1x1024x1024 ![1, 0, 0] · slices_S4x1024x1024_S1x1024x1024_1_0_0) main_arg5
  let main_v5 : FVec F S1024x1024 .f32 := shapeCast S1024x1024 main_v4 shapeCasts_S1x1024x1024_S1024x1024
  let main_v6 : FVec F S2048x1024 .bf16 := (extractStridedSlice S2048x1024 ![0, 0] · slices_S2048x2048_S2048x1024_0_0) main_arg6
  let main_v7 : FVec F S1024 .f32 := Host.absf main_v1
  let main_cst : FVec F S_ .f32 := constant S_ .f32 0x7F800000#32
  let main_v8 : FVec F S1024 .f32 := broadcastInDim S1024 ![] bcast_S_S1024 main_cst
  let main_v9 : IVec S1024 1 := cmpf .olt main_v7 main_v8
  let main_v10 : FVec F S1024 .f32 := Host.absf main_v3
  let main_cst_0 : FVec F S_ .f32 := constant S_ .f32 0x7F800000#32
  let main_v11 : FVec F S1024 .f32 := broadcastInDim S1024 ![] bcast_S_S1024 main_cst_0
  let main_v12 : IVec S1024 1 := cmpf .olt main_v10 main_v11
  let main_v13 : FVec F S1024x1024 .f32 := Host.absf main_v5
  let main_cst_1 : FVec F S_ .f32 := constant S_ .f32 0x7F800000#32
  let main_v14 : FVec F S1024x1024 .f32 := broadcastInDim S1024x1024 ![] bcast_S_S1024x1024 main_cst_1
  let main_v15 : IVec S1024x1024 1 := cmpf .olt main_v13 main_v14
  let main_v16 : FVec F S2048x1024 .bf16 := Host.absf main_v6
  let main_cst_2 : FVec F S_ .bf16 := constant S_ .bf16 0x7F80#16
  let main_v17 : FVec F S2048x1024 .bf16 := broadcastInDim S2048x1024 ![] bcast_S_S2048x1024 main_cst_2
  let main_v18 : IVec S2048x1024 1 := cmpf .olt main_v16 main_v17
  (main_v9, main_v12, main_v15, main_v18)
-- ==== Pre_finite_norm.lean ====
abbrev S32768x1024 : Shape := ⟨2, ![32768, 1024]⟩
abbrev S2x1024x1536 : Shape := ⟨3, ![2, 1024, 1536]⟩
abbrev S2x64 : Shape := ⟨2, ![2, 64]⟩
abbrev S_ : Shape := ⟨0, ![]⟩
abbrev S1x1024x640 : Shape := ⟨3, ![1, 1024, 640]⟩
abbrev S1024x640 : Shape := ⟨2, ![1024, 640]⟩

class Facts : Prop where
  bcast_S_S32768x1024 : S_.BroadcastsInDim S32768x1024 (![] : Fin 0 → Fin S32768x1024.rank)
  slices_S2x1024x1536_S1x1024x640_0_0_0 : S2x1024x1536.Slices ![0, 0, 0] S1x1024x640
  shapeCasts_S1x1024x640_S1024x640 : S1x1024x640.ShapeCasts S1024x640
  bcast_S_S1024x640 : S_.BroadcastsInDim S1024x640 (![] : Fin 0 → Fin S1024x640.rank)

variable [Facts]

def fn {F : FTy → Type} [FloatOps F] (main_arg0 : FVec F S32768x1024 .f32) (main_arg1 : FVec F S2x1024x1536 .f32) (main_arg2 : FVec F S2x64 .f32) (main_arg3 : FVec F S2x64 .f32) : IVec S32768x1024 1 × IVec S1024x640 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1x1024x640 .f32 := (extractStridedSlice S1x1024x640 ![0, 0, 0] · slices_S2x1024x1536_S1x1024x640_0_0_0) main_arg1
  let main_v4 : FVec F S1024x640 .f32 := shapeCast S1024x640 main_v3 shapeCasts_S1x1024x640_S1024x640
  let main_v5 : FVec F S1024x640 .f32 := Host.absf main_v4
  let main_cst_0 : FVec F S_ .f32 := constant S_ .f32 0x7F800000#32
  let main_v6 : FVec F S1024x640 .f32 := broadcastInDim S1024x640 ![] bcast_S_S1024x640 main_cst_0
  let main_v7 : IVec S1024x640 1 := cmpf .olt main_v5 main_v6
  (main_v2, main_v7)
-- ==== Pre_finite_qk.lean ====
abbrev S32768x512 : Shape := ⟨2, ![32768, 512]⟩
abbrev S32768x128 : Shape := ⟨2, ![32768, 128]⟩
abbrev S_ : Shape := ⟨0, ![]⟩

class Facts : Prop where
  bcast_S_S32768x512 : S_.BroadcastsInDim S32768x512 (![] : Fin 0 → Fin S32768x512.rank)
  bcast_S_S32768x128 : S_.BroadcastsInDim S32768x128 (![] : Fin 0 → Fin S32768x128.rank)

variable [Facts]

def fn {F : FTy → Type} [FloatOps F] (main_arg0 : FVec F S32768x512 .f32) (main_arg1 : FVec F S32768x128 .f32) (main_arg2 : FVec F S32768x128 .f32) : IVec S32768x512 1 × IVec S32768x128 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_v3 : FVec F S32768x128 .f32 := Host.absf main_arg1
  let main_cst_0 : FVec F S_ .f32 := constant S_ .f32 0x7F800000#32
  let main_v4 : FVec F S32768x128 .f32 := broadcastInDim S32768x128 ![] bcast_S_S32768x128 main_cst_0
  let main_v5 : IVec S32768x128 1 := cmpf .olt main_v3 main_v4
  (main_v2, main_v5)
-- ==== AttnA.lean ====
abbrev S32768x512 : Shape := ⟨2, ![32768, 512]⟩
abbrev S32768x128 : Shape := ⟨2, ![32768, 128]⟩
abbrev S_ : Shape := ⟨0, ![]⟩
abbrev S32768x64 : Shape := ⟨2, ![32768, 64]⟩
abbrev S32768x256 : Shape := ⟨2, ![32768, 256]⟩
abbrev S32768x1024 : Shape := ⟨2, ![32768, 1024]⟩
abbrev S32768x2048 : Shape := ⟨2, ![32768, 2048]⟩
abbrev S512x256 : Shape := ⟨2, ![512, 256]⟩
abbrev S4096x128 : Shape := ⟨2, ![4096, 128]⟩
abbrev S256x256 : Shape := ⟨2, ![256, 256]⟩
abbrev S256x128 : Shape := ⟨2, ![256, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 26
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S32768x128, .f32⟩
  | .hbm, ⟨3, _⟩ => ⟨S_, .f32⟩
  | .hbm, ⟨4, _⟩ => ⟨S32768x512, .f32⟩
  | .hbm, ⟨5, _⟩ => ⟨S32768x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32768x512, .f32⟩
  | .hbm, ⟨10, _⟩ => ⟨S32768x512, .f32⟩
  | .hbm, ⟨11, _⟩ => ⟨S32768x64, .f32⟩
  | .hbm, ⟨12, _⟩ => ⟨S32768x64, .f32⟩
  | .hbm, ⟨13, _⟩ => ⟨S32768x64, .f32⟩
  | .hbm, ⟨14, _⟩ => ⟨S32768x64, .f32⟩
  | .hbm, ⟨15, _⟩ => ⟨S32768x256, .f32⟩
  | .hbm, ⟨16, _⟩ => ⟨S32768x64, .f32⟩
  | .hbm, ⟨17, _⟩ => ⟨S32768x64, .f32⟩
  | .hbm, ⟨18, _⟩ => ⟨S32768x64, .f32⟩
  | .hbm, ⟨19, _⟩ => ⟨S32768x64, .f32⟩
  | .hbm, ⟨20, _⟩ => ⟨S32768x256, .f32⟩
  | .hbm, ⟨21, _⟩ => ⟨S_, .f32⟩
  | .hbm, ⟨22, _⟩ => ⟨S32768x1024, .f32⟩
  | .hbm, ⟨23, _⟩ => ⟨S32768x2048, .f32⟩
  | .hbm, ⟨24, _⟩ => ⟨S32768x2048, .bf16⟩
  | .hbm, ⟨25, _⟩ => ⟨S32768x512, .bf16⟩
  | .local _ .vmem, ⟨0, _⟩ => ⟨S512x256, .bf16⟩
  | .local _ .vmem, ⟨1, _⟩ => ⟨S512x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x256, .bf16⟩
  | .local _ .vmem, ⟨7, _⟩ => ⟨S512x256, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnARefIdeal.lean ====
abbrev S32768x512 : Shape := ⟨2, ![32768, 512]⟩
abbrev S32768x128 : Shape := ⟨2, ![32768, 128]⟩
abbrev S8x4096x2x4x64 : Shape := ⟨5, ![8, 4096, 2, 4, 64]⟩
abbrev S8x4096x2x64 : Shape := ⟨4, ![8, 4096, 2, 64]⟩
abbrev S8x2x4096x4096x4 : Shape := ⟨5, ![8, 2, 4096, 4096, 4]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩

abbrev nBuf : Space → Nat
  | .hbm => 29
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S32768x128, .f32⟩
  | .hbm, ⟨3, _⟩ => ⟨S8x4096x2x4x64, .f32⟩
  | .hbm, ⟨4, _⟩ => ⟨S8x4096x2x64, .f32⟩
  | .hbm, ⟨5, _⟩ => ⟨S8x4096x2x64, .f32⟩
  | .hbm, ⟨6, _⟩ => ⟨S8x2x4096x4096x4, .f32⟩
  | .hbm, ⟨7, _⟩ => ⟨S8x2x4x4096x4096, .f32⟩
  | .hbm, ⟨8, _⟩ => ⟨S_, .f32⟩
  | .hbm, ⟨9, _⟩ => ⟨S8x2x4x4096x4096, .f32⟩
  | .hbm, ⟨10, _⟩ => ⟨S8x2x4x4096x4096, .f32⟩
  | .hbm, ⟨11, _⟩ => ⟨S_, .f32⟩
  | .hbm, ⟨12, _⟩ => ⟨S8x2x4x4096, .f32⟩
  | .hbm, ⟨13, _⟩ => ⟨S_, .f32⟩
  | .hbm, ⟨14, _⟩ => ⟨S8x2x4x4096, .f32⟩
  | .hbm, ⟨15, _⟩ => ⟨S8x2x4x4096, .f32⟩
  | .hbm, ⟨16, _⟩ => ⟨S8x2x4x4096x1, .f32⟩
  | .hbm, ⟨17, _⟩ => ⟨S8x2x4x4096x4096, .f32⟩
  | .hbm, ⟨18, _⟩ => ⟨S8x2x4x4096x4096, .f32⟩
  | .hbm, ⟨19, _⟩ => ⟨S8x2x4x4096x4096, .f32⟩
  | .hbm, ⟨20, _⟩ => ⟨S_, .f32⟩
  | .hbm, ⟨21, _⟩ => ⟨S8x2x4x4096, .f32⟩
  | .hbm, ⟨22, _⟩ => ⟨S8x2x4x4096x1, .f32⟩
  | .hbm, ⟨23, _⟩ => ⟨S8x2x4x4096x4096, .f32⟩
  | .hbm, ⟨24, _⟩ => ⟨S8x2x4x4096x4096, .f32⟩
  | .hbm, ⟨25, _⟩ => ⟨S8x2x64x4x4096, .f32⟩
  | .hbm, ⟨26, _⟩ => ⟨S8x4096x2x4x64, .f32⟩
  | .hbm, ⟨27, _⟩ => ⟨S32768x512, .f32⟩
  | .hbm, ⟨28, _⟩ => ⟨S32768x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== AttnM.lean ====
abbrev S32768x512 : Shape := ⟨2, ![32768, 512]⟩
abbrev S32768x128 : Shape := ⟨2, ![32768, 128]⟩
abbrev S_ : Shape := ⟨0, ![]⟩
abbrev S32768x64 : Shape := ⟨2, ![32768, 64]⟩
abbrev S32768x256 : Shape := ⟨2, ![32768, 256]⟩
abbrev S32768x1024 : Shape := ⟨2, ![32768, 1024]⟩
abbrev S32768x2048 : Shape := ⟨2, ![32768, 2048]⟩
abbrev S512x256 : Shape := ⟨2, ![512, 256]⟩
abbrev S4096x128 : Shape := ⟨2, ![4096, 128]⟩
abbrev S512x128 : Shape := ⟨2, ![512, 128]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩

abbrev nBuf : Space → Nat
  | .hbm => 26
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S32768x128, .f32⟩
  | .hbm, ⟨3, _⟩ => ⟨S_, .f32⟩
  | .hbm, ⟨4, _⟩ => ⟨S32768x512, .f32⟩
  | .hbm, ⟨5, _⟩ => ⟨S32768x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32768x512, .f32⟩
  | .hbm, ⟨10, _⟩ => ⟨S32768x512, .f32⟩
  | .hbm, ⟨11, _⟩ => ⟨S32768x64, .f32⟩
  | .hbm, ⟨12, _⟩ => ⟨S32768x64, .f32⟩
  | .hbm, ⟨13, _⟩ => ⟨S32768x64, .f32⟩
  | .hbm, ⟨14, _⟩ => ⟨S32768x64, .f32⟩
  | .hbm, ⟨15, _⟩ => ⟨S32768x256, .f32⟩
  | .hbm, ⟨16, _⟩ => ⟨S32768x64, .f32⟩
  | .hbm, ⟨17, _⟩ => ⟨S32768x64, .f32⟩
  | .hbm, ⟨18, _⟩ => ⟨S32768x64, .f32⟩
  | .hbm, ⟨19, _⟩ => ⟨S32768x64, .f32⟩
  | .hbm, ⟨20, _⟩ => ⟨S32768x256, .f32⟩
  | .hbm, ⟨21, _⟩ => ⟨S_, .f32⟩
  | .hbm, ⟨22, _⟩ => ⟨S32768x1024, .f32⟩
  | .hbm, ⟨23, _⟩ => ⟨S32768x2048, .f32⟩
  | .hbm, ⟨24, _⟩ => ⟨S32768x2048, .bf16⟩
  | .hbm, ⟨25, _⟩ => ⟨S32768x512, .bf16⟩
  | .local _ .vmem, ⟨0, _⟩ => ⟨S512x256, .bf16⟩
  | .local _ .vmem, ⟨1, _⟩ => ⟨S512x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x256, .bf16⟩
  | .local _ .vmem, ⟨7, _⟩ => ⟨S512x256, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Ffn.lean ====
abbrev S8x4096x1024 : Shape := ⟨3, ![8, 4096, 1024]⟩
abbrev S4x2x1024x2816 : Shape := ⟨4, ![4, 2, 1024, 2816]⟩
abbrev S4x2x2816x1024 : Shape := ⟨4, ![4, 2, 2816, 1024]⟩
abbrev S4x4x1024 : Shape := ⟨3, ![4, 4, 1024]⟩
abbrev S32768x1024 : Shape := ⟨2, ![32768, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512x2816 : Shape := ⟨2, ![512, 2816]⟩
abbrev S1x1x1024x256 : Shape := ⟨4, ![1, 1, 1024, 256]⟩
abbrev S1024x256 : Shape := ⟨2, ![1024, 256]⟩
abbrev S512x256 : Shape := ⟨2, ![512, 256]⟩
abbrev S256x2816 : Shape := ⟨2, ![256, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S4x2x1024x2816, .f32⟩
  | .hbm, ⟨2, _⟩ => ⟨S4x2x1024x2816, .f32⟩
  | .hbm, ⟨3, _⟩ => ⟨S4x2x2816x1024, .f32⟩
  | .hbm, ⟨4, _⟩ => ⟨S4x4x1024, .f32⟩
  | .hbm, ⟨5, _⟩ => ⟨S4x4x1024, .f32⟩
  | .hbm, ⟨6, _⟩ => ⟨S32768x1024, .f32⟩
  | .hbm, ⟨7, _⟩ => ⟨S4x2x1024x2816, .bf16⟩
  | .hbm, ⟨8, _⟩ => ⟨S4x2x1024x2816, .bf16⟩
  | .hbm, ⟨9, _⟩ => ⟨S4x2x2816x1024, .bf16⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x2816, .bf16⟩
  | .local _ .vmem, ⟨3, _⟩ => ⟨S1x1x1024x2816, .bf16⟩
  | .local _ .vmem, ⟨4, _⟩ => ⟨S1x1x2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S8x4096x1024 : Shape := ⟨3, ![8, 4096, 1024]⟩
abbrev S4x2x1024x2816 : Shape := ⟨4, ![4, 2, 1024, 2816]⟩
abbrev S4x2x2816x1024 : Shape := ⟨4, ![4, 2, 2816, 1024]⟩
abbrev S4x4x1024 : Shape := ⟨3, ![4, 4, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x4096x2816 : Shape := ⟨3, ![8, 4096, 2816]⟩
abbrev S_ : Shape := ⟨0, ![]⟩
abbrev S1x1x1024 : Shape := ⟨3, ![1, 1, 1024]⟩
abbrev S1024 : Shape := ⟨1, ![1024]⟩
abbrev S8x4096 : Shape := ⟨2, ![8, 4096]⟩
abbrev S8x4096x1 : Shape := ⟨3, ![8, 4096, 1]⟩
abbrev S32768x1024 : Shape := ⟨2, ![32768, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x2x1024x2816, .f32⟩
  | .hbm, ⟨2, _⟩ => ⟨S4x2x1024x2816, .f32⟩
  | .hbm, ⟨3, _⟩ => ⟨S4x2x2816x1024, .f32⟩
  | .hbm, ⟨4, _⟩ => ⟨S4x4x1024, .f32⟩
  | .hbm, ⟨5, _⟩ => ⟨S4x4x1024, .f32⟩
  | .hbm, ⟨6, _⟩ => ⟨S1x1x1024x2816, .f32⟩
  | .hbm, ⟨7, _⟩ => ⟨S1024x2816, .f32⟩
  | .hbm, ⟨8, _⟩ => ⟨S1x1x1024x2816, .f32⟩
  | .hbm, ⟨9, _⟩ => ⟨S1024x2816, .f32⟩
  | .hbm, ⟨10, _⟩ => ⟨S1x1x2816x1024, .f32⟩
  | .hbm, ⟨11, _⟩ => ⟨S2816x1024, .f32⟩
  | .hbm, ⟨12, _⟩ => ⟨S8x4096x2816, .f32⟩
  | .hbm, ⟨13, _⟩ => ⟨S8x4096x2816, .f32⟩
  | .hbm, ⟨14, _⟩ => ⟨S8x4096x2816, .f32⟩
  | .hbm, ⟨15, _⟩ => ⟨S_, .f32⟩
  | .hbm, ⟨16, _⟩ => ⟨S8x4096x2816, .f32⟩
  | .hbm, ⟨17, _⟩ => ⟨S8x4096x2816, .f32⟩
  | .hbm, ⟨18, _⟩ => ⟨S_, .f32⟩
  | .hbm, ⟨19, _⟩ => ⟨S8x4096x2816, .f32⟩
  | .hbm, ⟨20, _⟩ => ⟨S8x4096x2816, .f32⟩
  | .hbm, ⟨21, _⟩ => ⟨S8x4096x2816, .f32⟩
  | .hbm, ⟨22, _⟩ => ⟨S8x4096x2816, .f32⟩
  | .hbm, ⟨23, _⟩ => ⟨S8x4096x2816, .f32⟩
  | .hbm, ⟨24, _⟩ => ⟨S8x4096x1024, .f32⟩
  | .hbm, ⟨25, _⟩ => ⟨S_, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S8x4096x1024, .f32⟩
  | .hbm, ⟨52, _⟩ => ⟨S8x4096x1024, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x1, .f32⟩
  | .hbm, ⟨57, _⟩ => ⟨S8x4096x1024, .f32⟩
  | .hbm, ⟨58, _⟩ => ⟨S8x4096x1024, .f32⟩
  | .hbm, ⟨59, _⟩ => ⟨S1x1x1024, .f32⟩
  | .hbm, ⟨60, _⟩ => ⟨S8x4096x1024, .f32⟩
  | .hbm, ⟨61, _⟩ => ⟨S8x4096x1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== AbProj.lean ====
abbrev S32768x1024 : Shape := ⟨2, ![32768, 1024]⟩
abbrev S2x1024x1536 : Shape := ⟨3, ![2, 1024, 1536]⟩
abbrev S2x64 : Shape := ⟨2, ![2, 64]⟩
abbrev S128x128 : Shape := ⟨2, ![128, 128]⟩
abbrev S2048 : Shape := ⟨1, ![2048]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S32 : Shape := ⟨1, ![32]⟩
abbrev S1x32 : Shape := ⟨2, ![1, 32]⟩
abbrev S4096x64 : Shape := ⟨2, ![4096, 64]⟩
abbrev S4096x128 : Shape := ⟨2, ![4096, 128]⟩
abbrev S1x1024x1536 : Shape := ⟨3, ![1, 1024, 1536]⟩
abbrev S1024x1536 : Shape := ⟨2, ![1024, 1536]⟩
abbrev S2048x1 : Shape := ⟨2, ![2048, 1]⟩
abbrev S1024x2048 : Shape := ⟨2, ![1024, 2048]⟩
abbrev S1x64 : Shape := ⟨2, ![1, 64]⟩
abbrev S64 : Shape := ⟨1, ![64]⟩
abbrev S128 : Shape := ⟨1, ![128]⟩
abbrev S1x128 : Shape := ⟨2, ![1, 128]⟩
abbrev S32768x2048 : Shape := ⟨2, ![32768, 2048]⟩
abbrev S1024x1024 : Shape := ⟨2, ![1024, 1024]⟩
abbrev S1024x128 : Shape := ⟨2, ![1024, 128]⟩
abbrev S512x1024 : Shape := ⟨2, ![512, 1024]⟩
abbrev S1024x256 : Shape := ⟨2, ![1024, 256]⟩
abbrev S512x256 : Shape := ⟨2, ![512, 256]⟩
abbrev S512x128 : Shape := ⟨2, ![512, 128]⟩

abbrev nBuf : Space → Nat
  | .hbm => 153
  | .vmem => 20
  | .smem => 0
  | _ => 0

abbrev hbmTy0_0 (i : Nat) : BufTy := match i % 128 with
  | 0 => ⟨S32768x1024, .f32⟩
  | 1 => ⟨S2x1024x1536, .f32⟩
  | 2 => ⟨S2x64, .f32⟩
  | 3 => ⟨S2x64, .f32⟩
  | 4 => ⟨S128x128, .bf16⟩
  | 5 => ⟨S2048, .i32⟩
  | 6 => ⟨S2048, .i1⟩
  | 7 => ⟨S4096, .i32⟩
  | 8 => ⟨S_, .i32⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S4096, .i32⟩
  | 17 => ⟨S4096, .i32⟩
  | 18 => ⟨S_, .i32⟩
  | 19 => ⟨S4096, .i32⟩
  | 20 => ⟨S4096, .i1⟩
  | 21 => ⟨S4096, .i1⟩
  | 22 => ⟨S_, .i32⟩
  | 23 => ⟨S4096, .i32⟩
  | 24 => ⟨S4096, .i32⟩
  | 25 => ⟨S4096, .i32⟩
  | 26 => ⟨S4096, .f32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i1⟩
  | 38 => ⟨S_, .i32⟩
  | 39 => ⟨S4096, .i32⟩
  | 40 => ⟨S4096, .i1⟩
  | 41 => ⟨S_, .i32⟩
  | 42 => ⟨S_, .i1⟩
  | 43 => ⟨S4096, .i1⟩
  | 44 => ⟨S4096, .i1⟩
  | 45 => ⟨S4096, .i1⟩
  | 46 => ⟨S4096, .i32⟩
  | 47 => ⟨S4096, .i32⟩
  | 48 => ⟨S4096, .i32⟩
  | 49 => ⟨S4096, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S4096x1, .f32⟩
  | 65 => ⟨S1x16, .f32⟩
  | 66 => ⟨S4096x16, .f32⟩
  | 67 => ⟨S4096x16, .f32⟩
  | 68 => ⟨S4096x16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S4096x1, .f32⟩
  | 84 => ⟨S1x16, .f32⟩
  | 85 => ⟨S4096x16, .f32⟩
  | 86 => ⟨S4096x16, .f32⟩
  | 87 => ⟨S4096x16, .f32⟩
  | 88 => ⟨S4096x32, .f32⟩
  | 89 => ⟨S4096, .f32⟩
  | 90 => ⟨S32, .f32⟩
  | 91 => ⟨S_, .f32⟩
  | 92 => ⟨S32, .f32⟩
  | 93 => ⟨S32, .f32⟩
  | 94 => ⟨S_, .f32⟩
  | 95 => ⟨S32, .f32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S4096x1, .f32⟩
  | 105 => ⟨S1x32, .f32⟩
  | 106 => ⟨S4096x32, .f32⟩
  | 107 => ⟨S4096x32, .f32⟩
  | 108 => ⟨S4096x32, .f32⟩
  | 109 => ⟨S4096x32, .f32⟩
  | 110 => ⟨S4096x32, .f32⟩
  | 111 => ⟨S_, .f32⟩
  | 112 => ⟨S4096x32, .f32⟩
  | 113 => ⟨S4096x64, .f32⟩
  | 114 => ⟨S4096x32, .f32⟩
  | 115 => ⟨S4096x64, .f32⟩
  | 116 => ⟨S4096x64, .f32⟩
  | 117 => ⟨S4096x128, .f32⟩
  | 118 => ⟨S4096x128, .f32⟩
  | 119 => ⟨S4096x128, .f32⟩
  | 120 => ⟨S4096x32, .f32⟩
  | 121 => ⟨S4096x32, .f32⟩
  | 122 => ⟨S_, .f32⟩
  | 123 => ⟨S4096x32, .f32⟩
  | 124 => ⟨S4096x64, .f32⟩
  | 125 => ⟨S4096x32, .f32⟩
  | 126 => ⟨S4096x64, .f32⟩
  | 127 => ⟨S4096x64, .f32⟩
  | _ => ⟨S32768x1024, .f32⟩

abbrev hbmTy0_1 (i : Nat) : BufTy := match i % 128 with
  | 0 => ⟨S4096x128, .f32⟩
  | 1 => ⟨S4096x128, .f32⟩
  | 2 => ⟨S4096x128, .f32⟩
  | 3 => ⟨S1x1024x1536, .f32⟩
  | 4 => ⟨S1024x1536, .f32⟩
  | 5 => ⟨S_, .i32⟩
  | 6 => ⟨S2048, .i32⟩
  | 7 => ⟨S2048, .i32⟩
  | 8 => ⟨S2048, .i32⟩
  | 9 => ⟨S2048x1, .i32⟩
  | 10 => ⟨S1024x2048, .f32⟩
  | 11 => ⟨S1024x2048, .bf16⟩
  | 12 => ⟨S1x64, .f32⟩
  | 13 => ⟨S64, .f32⟩
  | 14 => ⟨S1x64, .f32⟩
  | 15 => ⟨S2x64, .f32⟩
  | 16 => ⟨S128, .f32⟩
  | 17 => ⟨S1x128, .f32⟩
  | 18 => ⟨S1x64, .f32⟩
  | 19 => ⟨S64, .f32⟩
  | 20 => ⟨S1x64, .f32⟩
  | 21 => ⟨S2x64, .f32⟩
  | 22 => ⟨S128, .f32⟩
  | 23 => ⟨S1x128, .f32⟩
  | 24 => ⟨S32768x2048, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S128x128, .bf16⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x2048, .bf16⟩
  | .local _ .vmem, ⟨19, _⟩ => ⟨S1024x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_c_2 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_cst_3 : Ref sig .tc := ⟨.hbm, 51, rfl⟩
abbrev main_v6 : Ref sig .tc := ⟨.hbm, 52, rfl⟩
abbrev main_v7 : Ref sig .tc := ⟨.hbm, 53, rfl⟩
abbrev main_cst_4 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst_5 : Ref sig .tc := ⟨.hbm, 58, rfl⟩
abbrev main_v11 : Ref sig .tc := ⟨.hbm, 59, rfl⟩
abbrev main_v12 : Ref sig .tc := ⟨.hbm, 60, rfl⟩
abbrev main_cst_6 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_cst_7 : Ref sig .tc := ⟨.hbm, 70, rfl⟩
abbrev main_v21 : Ref sig .tc := ⟨.hbm, 71, rfl⟩
abbrev main_v22 : Ref sig .tc := ⟨.hbm, 72, rfl⟩
abbrev main_cst_8 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_cst_9 : Ref sig .tc := ⟨.hbm, 77, rfl⟩
abbrev main_v26 : Ref sig .tc := ⟨.hbm, 78, rfl⟩
abbrev main_v27 : Ref sig .tc := ⟨.hbm, 79, rfl⟩
abbrev main_cst_10 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_11 : Ref sig .tc := ⟨.hbm, 91, rfl⟩
abbrev main_v38 : Ref sig .tc := ⟨.hbm, 92, rfl⟩
abbrev main_v39 : Ref sig .tc := ⟨.hbm, 93, rfl⟩
abbrev main_cst_12 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_13 : Ref sig .tc := ⟨.hbm, 98, rfl⟩
abbrev main_v43 : Ref sig .tc := ⟨.hbm, 99, rfl⟩
abbrev main_v44 : Ref sig .tc := ⟨.hbm, 100, rfl⟩
abbrev main_cst_14 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_15 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_16 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_c_17 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AbProjIdeal.lean ====
variable {F : FTy → Type} [FloatOps F] [Named F]
def κ : String → Option EReal := fun
  | "c" => some (((Real.log 256)⁻¹ : ℝ) : EReal)
  | _ => none
-- ==== AbProjRefIdeal.lean ====
abbrev S32768x1024 : Shape := ⟨2, ![32768, 1024]⟩
abbrev S2x1024x1536 : Shape := ⟨3, ![2, 1024, 1536]⟩
abbrev S2x64 : Shape := ⟨2, ![2, 64]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S32 : Shape := ⟨1, ![32]⟩
abbrev S1x32 : Shape := ⟨2, ![1, 32]⟩
abbrev S8x4096x1024 : Shape := ⟨3, ![8, 4096, 1024]⟩
abbrev S1x1024x1536 : Shape := ⟨3, ![1, 1024, 1536]⟩
abbrev S1024x1536 : Shape := ⟨2, ![1024, 1536]⟩
abbrev S8x4096x1536 : Shape := ⟨3, ![8, 4096, 1536]⟩
abbrev S8x4096x512 : Shape := ⟨3, ![8, 4096, 512]⟩
abbrev S8x4096x128 : Shape := ⟨3, ![8, 4096, 128]⟩
abbrev S8x4096x8x64 : Shape := ⟨4, ![8, 4096, 8, 64]⟩
abbrev S1x64 : Shape := ⟨2, ![1, 64]⟩
abbrev S64 : Shape := ⟨1, ![64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S1x4096x1x32 : Shape := ⟨4, ![1, 4096, 1, 32]⟩
abbrev S8x4096x8x32 : Shape := ⟨4, ![8, 4096, 8, 32]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x32 : Shape := ⟨4, ![8, 4096, 2, 32]⟩
abbrev S8x4096x2x128 : Shape := ⟨4, ![8, 4096, 2, 128]⟩
abbrev S32768x512 : Shape := ⟨2, ![32768, 512]⟩
abbrev S32768x256 : Shape := ⟨2, ![32768, 256]⟩
abbrev S32768x2048 : Shape := ⟨2, ![32768, 2048]⟩

abbrev nBuf : Space → Nat
  | .hbm => 254
  | .vmem => 0
  | .smem => 0
  | _ => 0

abbrev hbmTy0_0 (i : Nat) : BufTy := match i % 128 with
  | 0 => ⟨S32768x1024, .f32⟩
  | 1 => ⟨S2x1024x1536, .f32⟩
  | 2 => ⟨S2x64, .f32⟩
  | 3 => ⟨S2x64, .f32⟩
  | 4 => ⟨S4096, .i32⟩
  | 5 => ⟨S_, .i32⟩
  | 6 => ⟨S_, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i1⟩
  | 13 => ⟨S4096, .i32⟩
  | 14 => ⟨S4096, .i32⟩
  | 15 => ⟨S_, .i32⟩
  | 16 => ⟨S4096, .i32⟩
  | 17 => ⟨S4096, .i1⟩
  | 18 => ⟨S4096, .i1⟩
  | 19 => ⟨S_, .i32⟩
  | 20 => ⟨S4096, .i32⟩
  | 21 => ⟨S4096, .i32⟩
  | 22 => ⟨S4096, .i32⟩
  | 23 => ⟨S4096, .f32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S4096, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i1⟩
  | 38 => ⟨S_, .i32⟩
  | 39 => ⟨S_, .i1⟩
  | 40 => ⟨S4096, .i1⟩
  | 41 => ⟨S4096, .i1⟩
  | 42 => ⟨S4096, .i1⟩
  | 43 => ⟨S4096, .i32⟩
  | 44 => ⟨S4096, .i32⟩
  | 45 => ⟨S4096, .i32⟩
  | 46 => ⟨S4096, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S4096x1, .f32⟩
  | 62 => ⟨S1x16, .f32⟩
  | 63 => ⟨S4096x16, .f32⟩
  | 64 => ⟨S4096x16, .f32⟩
  | 65 => ⟨S4096x16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S4096x1, .f32⟩
  | 81 => ⟨S1x16, .f32⟩
  | 82 => ⟨S4096x16, .f32⟩
  | 83 => ⟨S4096x16, .f32⟩
  | 84 => ⟨S4096x16, .f32⟩
  | 85 => ⟨S4096x32, .f32⟩
  | 86 => ⟨S4096, .f32⟩
  | 87 => ⟨S32, .f32⟩
  | 88 => ⟨S_, .f32⟩
  | 89 => ⟨S32, .f32⟩
  | 90 => ⟨S32, .f32⟩
  | 91 => ⟨S_, .f32⟩
  | 92 => ⟨S32, .f32⟩
  | 93 => ⟨S32, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S4096x1, .f32⟩
  | 102 => ⟨S1x32, .f32⟩
  | 103 => ⟨S4096x32, .f32⟩
  | 104 => ⟨S4096x32, .f32⟩
  | 105 => ⟨S4096x32, .f32⟩
  | 106 => ⟨S8x4096x1024, .f32⟩
  | 107 => ⟨S1x1024x1536, .f32⟩
  | 108 => ⟨S1024x1536, .f32⟩
  | 109 => ⟨S8x4096x1536, .f32⟩
  | 110 => ⟨S8x4096x512, .f32⟩
  | 111 => ⟨S8x4096x128, .f32⟩
  | 112 => ⟨S8x4096x128, .f32⟩
  | 113 => ⟨S8x4096x512, .f32⟩
  | 114 => ⟨S8x4096x128, .f32⟩
  | 115 => ⟨S8x4096x128, .f32⟩
  | 116 => ⟨S8x4096x8x64, .f32⟩
  | 117 => ⟨S1x64, .f32⟩
  | 118 => ⟨S64, .f32⟩
  | 119 => ⟨S8x4096x8x64, .f32⟩
  | 120 => ⟨S_, .f32⟩
  | 121 => ⟨S8x4096x8, .f32⟩
  | 122 => ⟨S8x4096x8x1, .f32⟩
  | 123 => ⟨S_, .f32⟩
  | 124 => ⟨S8x4096x8x1, .f32⟩
  | 125 => ⟨S8x4096x8x1, .f32⟩
  | 126 => ⟨S_, .f32⟩
  | 127 => ⟨S8x4096x8x1, .f32⟩
  | _ => ⟨S32768x1024, .f32⟩

abbrev hbmTy0_1 (i : Nat) : BufTy := match i % 128 with
  | 0 => ⟨S8x4096x8x1, .f32⟩
  | 1 => ⟨S8x4096x8x1, .f32⟩
  | 2 => ⟨S8x4096x8x64, .f32⟩
  | 3 => ⟨S8x4096x8x64, .f32⟩
  | 4 => ⟨S1x1x1x64, .f32⟩
  | 5 => ⟨S8x4096x8x64, .f32⟩
  | 6 => ⟨S8x4096x8x64, .f32⟩
  | 7 => ⟨S4096x32, .f32⟩
  | 8 => ⟨S1x4096x1x32, .f32⟩
  | 9 => ⟨S4096x32, .f32⟩
  | 10 => ⟨S1x4096x1x32, .f32⟩
  | 11 => ⟨S8x4096x8x32, .f32⟩
  | 12 => ⟨S8x4096x8x32, .f32⟩
  | 13 => ⟨S8x4096x8x32, .f32⟩
  | 14 => ⟨S8x4096x8x32, .f32⟩
  | 15 => ⟨S8x4096x8x32, .f32⟩
  | 16 => ⟨S8x4096x8x32, .f32⟩
  | 17 => ⟨S8x4096x8x32, .f32⟩
  | 18 => ⟨S8x4096x8x32, .f32⟩
  | 19 => ⟨S8x4096x8x32, .f32⟩
  | 20 => ⟨S8x4096x8x32, .f32⟩
  | 21 => ⟨S8x4096x8x32, .f32⟩
  | 22 => ⟨S8x4096x8x32, .f32⟩
  | 23 => ⟨S8x4096x8x64, .f32⟩
  | 24 => ⟨S8x4096x2x64, .f32⟩
  | 25 => ⟨S1x64, .f32⟩
  | 26 => ⟨S64, .f32⟩
  | 27 => ⟨S8x4096x2x64, .f32⟩
  | 28 => ⟨S_, .f32⟩
  | 29 => ⟨S8x4096x2, .f32⟩
  | 30 => ⟨S8x4096x2x1, .f32⟩
  | 31 => ⟨S_, .f32⟩
  | 32 => ⟨S8x4096x2x1, .f32⟩
  | 33 => ⟨S8x4096x2x1, .f32⟩
  | 34 => ⟨S_, .f32⟩
  | 35 => ⟨S8x4096x2x1, .f32⟩
  | 36 => ⟨S8x4096x2x1, .f32⟩
  | 37 => ⟨S8x4096x2x1, .f32⟩
  | 38 => ⟨S8x4096x2x64, .f32⟩
  | 39 => ⟨S8x4096x2x64, .f32⟩
  | 40 => ⟨S1x1x1x64, .f32⟩
  | 41 => ⟨S8x4096x2x64, .f32⟩
  | 42 => ⟨S8x4096x2x64, .f32⟩
  | 43 => ⟨S4096x32, .f32⟩
  | 44 => ⟨S1x4096x1x32, .f32⟩
  | 45 => ⟨S4096x32, .f32⟩
  | 46 => ⟨S1x4096x1x32, .f32⟩
  | 47 => ⟨S8x4096x2x32, .f32⟩
  | 48 => ⟨S8x4096x2x32, .f32⟩
  | 49 => ⟨S8x4096x2x32, .f32⟩
  | 50 => ⟨S8x4096x2x32, .f32⟩
  | 51 => ⟨S8x4096x2x32, .f32⟩
  | 52 => ⟨S8x4096x2x32, .f32⟩
  | 53 => ⟨S8x4096x2x32, .f32⟩
  | 54 => ⟨S8x4096x2x32, .f32⟩
  | 55 => ⟨S8x4096x2x32, .f32⟩
  | 56 => ⟨S8x4096x2x32, .f32⟩
  | 57 => ⟨S8x4096x2x32, .f32⟩
  | 58 => ⟨S8x4096x2x32, .f32⟩
  | 59 => ⟨S8x4096x2x64, .f32⟩
  | 60 => ⟨S8x4096x2x64, .f32⟩
  | 61 => ⟨S8x4096x8x64, .f32⟩
  | 62 => ⟨S4096x32, .f32⟩
  | 63 => ⟨S1x4096x1x32, .f32⟩
  | 64 => ⟨S4096x32, .f32⟩
  | 65 => ⟨S1x4096x1x32, .f32⟩
  | 66 => ⟨S8x4096x8x32, .f32⟩
  | 67 => ⟨S8x4096x8x32, .f32⟩
  | 68 => ⟨S8x4096x8x32, .f32⟩
  | 69 => ⟨S8x4096x8x32, .f32⟩
  | 70 => ⟨S8x4096x8x32, .f32⟩
  | 71 => ⟨S8x4096x8x32, .f32⟩
  | 72 => ⟨S8x4096x8x32, .f32⟩
  | 73 => ⟨S8x4096x8x32, .f32⟩
  | 74 => ⟨S8x4096x8x32, .f32⟩
  | 75 => ⟨S8x4096x8x32, .f32⟩
  | 76 => ⟨S8x4096x8x32, .f32⟩
  | 77 => ⟨S8x4096x8x32, .f32⟩
  | 78 => ⟨S8x4096x8x64, .f32⟩
  | 79 => ⟨S8x4096x2x64, .f32⟩
  | 80 => ⟨S4096x32, .f32⟩
  | 81 => ⟨S1x4096x1x32, .f32⟩
  | 82 => ⟨S4096x32, .f32⟩
  | 83 => ⟨S1x4096x1x32, .f32⟩
  | 84 => ⟨S8x4096x2x32, .f32⟩
  | 85 => ⟨S8x4096x2x32, .f32⟩
  | 86 => ⟨S8x4096x2x32, .f32⟩
  | 87 => ⟨S8x4096x2x32, .f32⟩
  | 88 => ⟨S8x4096x2x32, .f32⟩
  | 89 => ⟨S8x4096x2x32, .f32⟩
  | 90 => ⟨S8x4096x2x32, .f32⟩
  | 91 => ⟨S8x4096x2x32, .f32⟩
  | 92 => ⟨S8x4096x2x32, .f32⟩
  | 93 => ⟨S8x4096x2x32, .f32⟩
  | 94 => ⟨S8x4096x2x32, .f32⟩
  | 95 => ⟨S8x4096x2x32, .f32⟩
  | 96 => ⟨S8x4096x2x64, .f32⟩
  | 97 => ⟨S8x4096x2x64, .f32⟩
  | 98 => ⟨S_, .f32⟩
  | 99 => ⟨S8x4096x8x64, .f32⟩
  | 100 => ⟨S8x4096x8x64, .f32⟩
  | 101 => ⟨S_, .f32⟩
  | 102 => ⟨S_, .f32⟩
  | 103 => ⟨S_, .f32⟩
  | 104 => ⟨S8x4096x8x64, .f32⟩
  | 105 => ⟨S8x4096x8x64, .f32⟩
  | 106 => ⟨S_, .f32⟩
  | 107 => ⟨S8x4096x8x64, .f32⟩
  | 108 => ⟨S8x4096x8x64, .f32⟩
  | 109 => ⟨S_, .f32⟩
  | 110 => ⟨S_, .f32⟩
  | 111 => ⟨S_, .f32⟩
  | 112 => ⟨S8x4096x8x64, .f32⟩
  | 113 => ⟨S8x4096x8x64, .f32⟩
  | 114 => ⟨S8x4096x2x128, .f32⟩
  | 115 => ⟨S8x4096x2x128, .f32⟩
  | 116 => ⟨S8x4096x2x128, .f32⟩
  | 117 => ⟨S8x4096x2x128, .f32⟩
  | 118 => ⟨S32768x512, .f32⟩
  | 119 => ⟨S32768x256, .f32⟩
  | 120 => ⟨S32768x256, .f32⟩
  | 121 => ⟨S32768x512, .f32⟩
  | 122 => ⟨S32768x256, .f32⟩
  | 123 => ⟨S32768x256, .f32⟩
  | 124 => ⟨S32768x2048, .f32⟩
  | 125 => ⟨S32768x2048, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_v7 : Ref sig .tc := ⟨.hbm, 50, rfl⟩
abbrev main_cst_1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_2 : Ref sig .tc := ⟨.hbm, 55, rfl⟩
abbrev main_v11 : Ref sig .tc := ⟨.hbm, 56, rfl⟩
abbrev main_v12 : Ref sig .tc := ⟨.hbm, 57, rfl⟩
abbrev main_cst_3 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_cst_4 : Ref sig .tc := ⟨.hbm, 67, rfl⟩
abbrev main_v21 : Ref sig .tc := ⟨.hbm, 68, rfl⟩
abbrev main_v22 : Ref sig .tc := ⟨.hbm, 69, rfl⟩
abbrev main_cst_5 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_cst_6 : Ref sig .tc := ⟨.hbm, 74, rfl⟩
abbrev main_v26 : Ref sig .tc := ⟨.hbm, 75, rfl⟩
abbrev main_v27 : Ref sig .tc := ⟨.hbm, 76, rfl⟩
abbrev main_cst_7 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_8 : Ref sig .tc := ⟨.hbm, 88, rfl⟩
abbrev main_v38 : Ref sig .tc := ⟨.hbm, 89, rfl⟩
abbrev main_v39 : Ref sig .tc := ⟨.hbm, 90, rfl⟩
abbrev main_cst_9 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_10 : Ref sig .tc := ⟨.hbm, 95, rfl⟩
abbrev main_v43 : Ref sig .tc := ⟨.hbm, 96, rfl⟩
abbrev main_v44 : Ref sig .tc := ⟨.hbm, 97, rfl⟩
abbrev main_cst_11 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_12 : Ref sig .tc := ⟨.hbm, 120, rfl⟩
abbrev main_v66 : Ref sig .tc := ⟨.hbm, 121, rfl⟩
abbrev main_v67 : Ref sig .tc := ⟨.hbm, 122, rfl⟩
abbrev main_cst_13 : Ref sig .tc := ⟨.hbm, 123, rfl⟩
abbrev main_v68 : Ref sig .tc := ⟨.hbm, 124, rfl⟩
abbrev main_v69 : Ref sig .tc := ⟨.hbm, 125, rfl⟩
abbrev main_cst_14 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_15 : Ref sig .tc := ⟨.hbm, 156, rfl⟩
abbrev main_v99 : Ref sig .tc := ⟨.hbm, 157, rfl⟩
abbrev main_v100 : Ref sig .tc := ⟨.hbm, 158, rfl⟩
abbrev main_cst_16 : Ref sig .tc := ⟨.hbm, 159, rfl⟩
abbrev main_v101 : Ref sig .tc := ⟨.hbm, 160, rfl⟩
abbrev main_v102 : Ref sig .tc := ⟨.hbm, 161, rfl⟩
abbrev main_cst_17 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_cst_18 : Ref sig .tc := ⟨.hbm, 226, rfl⟩
abbrev main_v166 : Ref sig .tc := ⟨.hbm, 227, rfl⟩
abbrev main_v167 : Ref sig .tc := ⟨.hbm, 228, rfl⟩
abbrev main_cst_19 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_20 : Ref sig .tc := ⟨.hbm, 234, rfl⟩
abbrev main_v172 : Ref sig .tc := ⟨.hbm, 235, rfl⟩
abbrev main_v173 : Ref sig .tc := ⟨.hbm, 236, rfl⟩
abbrev main_cst_21 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩

abbrev nD : Nat := 1
abbrev τ : Topo := Topo.v7x

variable {F : FTy → Type} [FloatOps F]
-- ==== MixAb.lean ====
abbrev S32768x512 : Shape := ⟨2, ![32768, 512]⟩
abbrev S2x1024x1024 : Shape := ⟨3, ![2, 1024, 1024]⟩
abbrev S32768x1024 : Shape := ⟨2, ![32768, 1024]⟩
abbrev S4x4x1024 : Shape := ⟨3, ![4, 4, 1024]⟩
abbrev S4x1024x1024 : Shape := ⟨3, ![4, 1024, 1024]⟩
abbrev S2048x2048 : Shape := ⟨2, ![2048, 2048]⟩
abbrev S1x1024x1024 : Shape := ⟨3, ![1, 1024, 1024]⟩
abbrev S1024x1024 : Shape := ⟨2, ![1024, 1024]⟩
abbrev S512x1024 : Shape := ⟨2, ![512, 1024]⟩
abbrev S1x1x1024 : Shape := ⟨3, ![1, 1, 1024]⟩
abbrev S1024 : Shape := ⟨1, ![1024]⟩
abbrev S1x1024 : Shape := ⟨2, ![1, 1024]⟩
abbrev S1024x512 : Shape := ⟨2, ![1024, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x256 : Shape := ⟨2, ![256, 256]⟩

abbrev nBuf : Space → Nat
  | .hbm => 33
  | .vmem => 20
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S2x1024x1024, .f32⟩
  | .hbm, ⟨3, _⟩ => ⟨S32768x1024, .f32⟩
  | .hbm, ⟨4, _⟩ => ⟨S4x4x1024, .f32⟩
  | .hbm, ⟨5, _⟩ => ⟨S4x4x1024, .f32⟩
  | .hbm, ⟨6, _⟩ => ⟨S4x1024x1024, .f32⟩
  | .hbm, ⟨7, _⟩ => ⟨S2048x2048, .bf16⟩
  | .hbm, ⟨8, _⟩ => ⟨S4x1024x1024, .f32⟩
  | .hbm, ⟨9, _⟩ => ⟨S1x1024x1024, .f32⟩
  | .hbm, ⟨10, _⟩ => ⟨S1024x1024, .f32⟩
  | .hbm, ⟨11, _⟩ => ⟨S1024x1024, .bf16⟩
  | .hbm, ⟨12, _⟩ => ⟨S512x1024, .bf16⟩
  | .hbm, ⟨13, _⟩ => ⟨S512x1024, .bf16⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S1x1x1024, .f32⟩
  | .hbm, ⟨18, _⟩ => ⟨S1024, .f32⟩
  | .hbm, ⟨19, _⟩ => ⟨S1x1024, .f32⟩
  | .hbm, ⟨20, _⟩ => ⟨S1x1024x1024, .f32⟩
  | .hbm, ⟨21, _⟩ => ⟨S1024x1024, .f32⟩
  | .hbm, ⟨22, _⟩ => ⟨S1024x1024, .bf16⟩
  | .hbm, ⟨23, _⟩ => ⟨S1x1024x1024, .f32⟩
  | .hbm, ⟨24, _⟩ => ⟨S1024x1024, .f32⟩
  | .hbm, ⟨25, _⟩ => ⟨S1024x1024, .bf16⟩
  | .hbm, ⟨26, _⟩ => ⟨S1x1x1024, .f32⟩
  | .hbm, ⟨27, _⟩ => ⟨S1024, .f32⟩
  | .hbm, ⟨28, _⟩ => ⟨S1x1024, .f32⟩
  | .hbm, ⟨29, _⟩ => ⟨S1x1x1024, .f32⟩
  | .hbm, ⟨30, _⟩ => ⟨S1024, .f32⟩
  | .hbm, ⟨31, _⟩ => ⟨S1x1024, .f32⟩
  | .hbm, ⟨32, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixAbIdeal.lean ====
variable {F : FTy → Type} [FloatOps F] [Named F]
def κ : String → Option EReal := fun
  | "s" => some (((Real.log 65536)⁻¹ : ℝ) : EReal)
  | _ => none
-- ==== MixAbRefIdeal.lean ====
abbrev S32768x512 : Shape := ⟨2, ![32768, 512]⟩
abbrev S2x1024x1024 : Shape := ⟨3, ![2, 1024, 1024]⟩
abbrev S32768x1024 : Shape := ⟨2, ![32768, 1024]⟩
abbrev S4x4x1024 : Shape := ⟨3, ![4, 4, 1024]⟩
abbrev S4x1024x1024 : Shape := ⟨3, ![4, 1024, 1024]⟩
abbrev S2048x2048 : Shape := ⟨2, ![2048, 2048]⟩
abbrev S1x1024x1024 : Shape := ⟨3, ![1, 1024, 1024]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S32768 : Shape := ⟨1, ![32768]⟩
abbrev S32768x1 : Shape := ⟨2, ![32768, 1]⟩
abbrev S1x1024 : Shape := ⟨2, ![1, 1024]⟩
abbrev S8x4096x4x256 : Shape := ⟨4, ![8, 4096, 4, 256]⟩
abbrev S2048x1024 : Shape := ⟨2, ![2048, 1024]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 121
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S2x1024x1024, .f32⟩
  | .hbm, ⟨3, _⟩ => ⟨S32768x1024, .f32⟩
  | .hbm, ⟨4, _⟩ => ⟨S4x4x1024, .f32⟩
  | .hbm, ⟨5, _⟩ => ⟨S4x4x1024, .f32⟩
  | .hbm, ⟨6, _⟩ => ⟨S4x1024x1024, .f32⟩
  | .hbm, ⟨7, _⟩ => ⟨S2048x2048, .bf16⟩
  | .hbm, ⟨8, _⟩ => ⟨S4x1024x1024, .f32⟩
  | .hbm, ⟨9, _⟩ => ⟨S32768x1024, .bf16⟩
  | .hbm, ⟨10, _⟩ => ⟨S32768x1024, .f32⟩
  | .hbm, ⟨11, _⟩ => ⟨S1x1024x1024, .f32⟩
  | .hbm, ⟨12, _⟩ => ⟨S1024x1024, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S1x1x1024, .f32⟩
  | .hbm, ⟨19, _⟩ => ⟨S1024, .f32⟩
  | .hbm, ⟨20, _⟩ => ⟨S1x1x1024, .f32⟩
  | .hbm, ⟨21, _⟩ => ⟨S1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S1x1024x1024, .f32⟩
  | .hbm, ⟨55, _⟩ => ⟨S1024x1024, .f32⟩
  | .hbm, ⟨56, _⟩ => ⟨S1x1024x1024, .f32⟩
  | .hbm, ⟨57, _⟩ => ⟨S1024x1024, .f32⟩
  | .hbm, ⟨58, _⟩ => ⟨S32768x1024, .f32⟩
  | .hbm, ⟨59, _⟩ => ⟨S8x4096x4x256, .f32⟩
  | .hbm, ⟨60, _⟩ => ⟨S2048x2048, .f32⟩
  | .hbm, ⟨61, _⟩ => ⟨S2048x1024, .f32⟩
  | .hbm, ⟨62, _⟩ => ⟨S2048x1024, .f32⟩
  | .hbm, ⟨63, _⟩ => ⟨S8x256x4x256, .f32⟩
  | .hbm, ⟨64, _⟩ => ⟨S8x256x4x256, .f32⟩
  | .hbm, ⟨65, _⟩ => ⟨S8x4x4096x256, .f32⟩
  | .hbm, ⟨66, _⟩ => ⟨S_, .f32⟩
  | .hbm, ⟨67, _⟩ => ⟨S8x4x4096x256, .f32⟩
  | .hbm, ⟨68, _⟩ => ⟨S8x4x4096x256, .f32⟩
  | .hbm, ⟨69, _⟩ => ⟨S_, .f32⟩
  | .hbm, ⟨70, _⟩ => ⟨S8x4x4096, .f32⟩
  | .hbm, ⟨71, _⟩ => ⟨S_, .f32⟩
  | .hbm, ⟨72, _⟩ => ⟨S8x4x4096, .f32⟩
  | .hbm, ⟨73, _⟩ => ⟨S8x4x4096, .f32⟩
  | .hbm, ⟨74, _⟩ => ⟨S8x4x4096x1, .f32⟩
  | .hbm, ⟨75, _⟩ => ⟨S8x4x4096x256, .f32⟩
  | .hbm, ⟨76, _⟩ => ⟨S8x4x4096x256, .f32⟩
  | .hbm, ⟨77, _⟩ => ⟨S8x4x4096x256, .f32⟩
  | .hbm, ⟨78, _⟩ => ⟨S_, .f32⟩
  | .hbm, ⟨79, _⟩ => ⟨S8x4x4096, .f32⟩
  | .hbm, ⟨80, _⟩ => ⟨S8x4x4096x1, .f32⟩
  | .hbm, ⟨81, _⟩ => ⟨S8x4x4096x256, .f32⟩
  | .hbm, ⟨82, _⟩ => ⟨S8x4x4096x256, .f32⟩
  | .hbm, ⟨83, _⟩ => ⟨S8x4x256x4096, .f32⟩
  | .hbm, ⟨84, _⟩ => ⟨S8x4096x4x256, .f32⟩
  | .hbm, ⟨85, _⟩ => ⟨S32768x1024, .f32⟩
  | .hbm, ⟨86, _⟩ => ⟨S32768x1024, .f32⟩
  | .hbm, ⟨87, _⟩ => ⟨S32768x1024, .f32⟩
  | .hbm, ⟨88, _⟩ => ⟨S1x1x1024, .f32⟩
  | .hbm, ⟨89, _⟩ => ⟨S1024, .f32⟩
  | .hbm, ⟨90, _⟩ => ⟨S1x1x1024, .f32⟩
  | .hbm, ⟨91, _⟩ => ⟨S1024, .f32⟩
  | .hbm, ⟨92, _⟩ => ⟨S_, .f32⟩
  | .hbm, ⟨93, _⟩ => ⟨S32768, .f32⟩
  | .hbm, ⟨94, _⟩ => ⟨S32768x1, .f32⟩
  | .hbm, ⟨95, _⟩ => ⟨S_, .f32⟩
  | .hbm, ⟨96, _⟩ => ⟨S32768x1, .f32⟩
  | .hbm, ⟨97, _⟩ => ⟨S32768x1, .f32⟩
  | .hbm, ⟨98, _⟩ => ⟨S32768x1024, .f32⟩
  | .hbm, ⟨99, _⟩ => ⟨S32768x1024, .f32⟩
  | .hbm, ⟨100, _⟩ => ⟨S32768x1024, .f32⟩
  | .hbm, ⟨101, _⟩ => ⟨S_, .f32⟩
  | .hbm, ⟨102, _⟩ => ⟨S32768, .f32⟩
  | .hbm, ⟨103, _⟩ => ⟨S32768x1, .f32⟩
  | .hbm, ⟨104, _⟩ => ⟨S_, .f32⟩
  | .hbm, ⟨105, _⟩ => ⟨S32768x1, .f32⟩
  | .hbm, ⟨106, _⟩ => ⟨S32768x1, .f32⟩
  | .hbm, ⟨107, _⟩ => ⟨S32768x1024, .f32⟩
  | .hbm, ⟨108, _⟩ => ⟨S32768x1024, .f32⟩
  | .hbm, ⟨109, _⟩ => ⟨S_, .f32⟩
  | .hbm, ⟨110, _⟩ => ⟨S32768x1, .f32⟩
  | .hbm, ⟨111, _⟩ => ⟨S32768x1, .f32⟩
  | .hbm, ⟨112, _⟩ => ⟨S32768x1, .f32⟩
  | .hbm, ⟨113, _⟩ => ⟨S32768x1024, .f32⟩
  | .hbm, ⟨114, _⟩ => ⟨S32768x1024, .f32⟩
  | .hbm, ⟨115, _⟩ => ⟨S1x1024, .f32⟩
  | .hbm, ⟨116, _⟩ => ⟨S32768x1024, .f32⟩
  | .hbm, ⟨117, _⟩ => ⟨S32768x1024, .f32⟩
  | .hbm, ⟨118, _⟩ => ⟨S1x1024, .f32⟩
  | .hbm, ⟨119, _⟩ => ⟨S32768x1024, .f32⟩
  | .hbm, ⟨120, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_10 : Ref sig .tc := ⟨.hbm, 92, rfl⟩
abbrev main_v72 : Ref sig .tc := ⟨.hbm, 93, rfl⟩
abbrev main_v73 : Ref sig .tc := ⟨.hbm, 94, rfl⟩
abbrev main_cst_11 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_cst_13 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_14 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩

abbrev nD : Nat := 1
abbrev τ : Topo := Topo.v7x

variable {F : FTy → Type} [FloatOps F]
-- ==== MixC.lean ====
abbrev S32768x1024 : Shape := ⟨2, ![32768, 1024]⟩
abbrev S2x1024x1024 : Shape := ⟨3, ![2, 1024, 1024]⟩
abbrev S4x4x1024 : Shape := ⟨3, ![4, 4, 1024]⟩
abbrev S4x1024x1024 : Shape := ⟨3, ![4, 1024, 1024]⟩
abbrev S2048x2048 : Shape := ⟨2, ![2048, 2048]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 30
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S2x1024x1024, .f32⟩
  | .hbm, ⟨2, _⟩ => ⟨S32768x1024, .f32⟩
  | .hbm, ⟨3, _⟩ => ⟨S4x4x1024, .f32⟩
  | .hbm, ⟨4, _⟩ => ⟨S4x4x1024, .f32⟩
  | .hbm, ⟨5, _⟩ => ⟨S4x1024x1024, .f32⟩
  | .hbm, ⟨6, _⟩ => ⟨S2048x2048, .bf16⟩
  | .hbm, ⟨7, _⟩ => ⟨S4x1024x1024, .f32⟩
  | .hbm, ⟨8, _⟩ => ⟨S1x1024x1024, .f32⟩
  | .hbm, ⟨9, _⟩ => ⟨S1024x1024, .f32⟩
  | .hbm, ⟨10, _⟩ => ⟨S1024x1024, .bf16⟩
  | .hbm, ⟨11, _⟩ => ⟨S1x1x1024, .f32⟩
  | .hbm, ⟨12, _⟩ => ⟨S1024, .f32⟩
  | .hbm, ⟨13, _⟩ => ⟨S1x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S1x1024x1024, .f32⟩
  | .hbm, ⟨18, _⟩ => ⟨S1024x1024, .f32⟩
  | .hbm, ⟨19, _⟩ => ⟨S1024x1024, .bf16⟩
  | .hbm, ⟨20, _⟩ => ⟨S1x1024x1024, .f32⟩
  | .hbm, ⟨21, _⟩ => ⟨S1024x1024, .f32⟩
  | .hbm, ⟨22, _⟩ => ⟨S1024x1024, .bf16⟩
  | .hbm, ⟨23, _⟩ => ⟨S1x1x1024, .f32⟩
  | .hbm, ⟨24, _⟩ => ⟨S1024, .f32⟩
  | .hbm, ⟨25, _⟩ => ⟨S1x1024, .f32⟩
  | .hbm, ⟨26, _⟩ => ⟨S1x1x1024, .f32⟩
  | .hbm, ⟨27, _⟩ => ⟨S1024, .f32⟩
  | .hbm, ⟨28, _⟩ => ⟨S1x1024, .f32⟩
  | .hbm, ⟨29, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixCIdeal.lean ====
variable {F : FTy → Type} [FloatOps F] [Named F]
def κ : String → Option EReal := fun
  | "s" => some (((Real.log 65536)⁻¹ : ℝ) : EReal)
  | _ => none
-- ==== MixCRefIdeal.lean ====
abbrev S32768x1024 : Shape := ⟨2, ![32768, 1024]⟩
abbrev S2x1024x1024 : Shape := ⟨3, ![2, 1024, 1024]⟩
abbrev S4x4x1024 : Shape := ⟨3, ![4, 4, 1024]⟩
abbrev S4x1024x1024 : Shape := ⟨3, ![4, 1024, 1024]⟩
abbrev S2048x2048 : Shape := ⟨2, ![2048, 2048]⟩
abbrev S1x1024x1024 : Shape := ⟨3, ![1, 1024, 1024]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S32768 : Shape := ⟨1, ![32768]⟩
abbrev S32768x1 : Shape := ⟨2, ![32768, 1]⟩
abbrev S1x1024 : Shape := ⟨2, ![1, 1024]⟩
abbrev S8x4096x4x256 : Shape := ⟨4, ![8, 4096, 4, 256]⟩
abbrev S2048x1024 : Shape := ⟨2, ![2048, 1024]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 119
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S2x1024x1024, .f32⟩
  | .hbm, ⟨2, _⟩ => ⟨S32768x1024, .f32⟩
  | .hbm, ⟨3, _⟩ => ⟨S4x4x1024, .f32⟩
  | .hbm, ⟨4, _⟩ => ⟨S4x4x1024, .f32⟩
  | .hbm, ⟨5, _⟩ => ⟨S4x1024x1024, .f32⟩
  | .hbm, ⟨6, _⟩ => ⟨S2048x2048, .bf16⟩
  | .hbm, ⟨7, _⟩ => ⟨S4x1024x1024, .f32⟩
  | .hbm, ⟨8, _⟩ => ⟨S32768x1024, .f32⟩
  | .hbm, ⟨9, _⟩ => ⟨S1x1024x1024, .f32⟩
  | .hbm, ⟨10, _⟩ => ⟨S1024x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S1x1x1024, .f32⟩
  | .hbm, ⟨17, _⟩ => ⟨S1024, .f32⟩
  | .hbm, ⟨18, _⟩ => ⟨S1x1x1024, .f32⟩
  | .hbm, ⟨19, _⟩ => ⟨S1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S1x1024x1024, .f32⟩
  | .hbm, ⟨53, _⟩ => ⟨S1024x1024, .f32⟩
  | .hbm, ⟨54, _⟩ => ⟨S1x1024x1024, .f32⟩
  | .hbm, ⟨55, _⟩ => ⟨S1024x1024, .f32⟩
  | .hbm, ⟨56, _⟩ => ⟨S32768x1024, .f32⟩
  | .hbm, ⟨57, _⟩ => ⟨S8x4096x4x256, .f32⟩
  | .hbm, ⟨58, _⟩ => ⟨S2048x2048, .f32⟩
  | .hbm, ⟨59, _⟩ => ⟨S2048x1024, .f32⟩
  | .hbm, ⟨60, _⟩ => ⟨S2048x1024, .f32⟩
  | .hbm, ⟨61, _⟩ => ⟨S8x256x4x256, .f32⟩
  | .hbm, ⟨62, _⟩ => ⟨S8x256x4x256, .f32⟩
  | .hbm, ⟨63, _⟩ => ⟨S8x4x4096x256, .f32⟩
  | .hbm, ⟨64, _⟩ => ⟨S_, .f32⟩
  | .hbm, ⟨65, _⟩ => ⟨S8x4x4096x256, .f32⟩
  | .hbm, ⟨66, _⟩ => ⟨S8x4x4096x256, .f32⟩
  | .hbm, ⟨67, _⟩ => ⟨S_, .f32⟩
  | .hbm, ⟨68, _⟩ => ⟨S8x4x4096, .f32⟩
  | .hbm, ⟨69, _⟩ => ⟨S_, .f32⟩
  | .hbm, ⟨70, _⟩ => ⟨S8x4x4096, .f32⟩
  | .hbm, ⟨71, _⟩ => ⟨S8x4x4096, .f32⟩
  | .hbm, ⟨72, _⟩ => ⟨S8x4x4096x1, .f32⟩
  | .hbm, ⟨73, _⟩ => ⟨S8x4x4096x256, .f32⟩
  | .hbm, ⟨74, _⟩ => ⟨S8x4x4096x256, .f32⟩
  | .hbm, ⟨75, _⟩ => ⟨S8x4x4096x256, .f32⟩
  | .hbm, ⟨76, _⟩ => ⟨S_, .f32⟩
  | .hbm, ⟨77, _⟩ => ⟨S8x4x4096, .f32⟩
  | .hbm, ⟨78, _⟩ => ⟨S8x4x4096x1, .f32⟩
  | .hbm, ⟨79, _⟩ => ⟨S8x4x4096x256, .f32⟩
  | .hbm, ⟨80, _⟩ => ⟨S8x4x4096x256, .f32⟩
  | .hbm, ⟨81, _⟩ => ⟨S8x4x256x4096, .f32⟩
  | .hbm, ⟨82, _⟩ => ⟨S8x4096x4x256, .f32⟩
  | .hbm, ⟨83, _⟩ => ⟨S32768x1024, .f32⟩
  | .hbm, ⟨84, _⟩ => ⟨S32768x1024, .f32⟩
  | .hbm, ⟨85, _⟩ => ⟨S32768x1024, .f32⟩
  | .hbm, ⟨86, _⟩ => ⟨S1x1x1024, .f32⟩
  | .hbm, ⟨87, _⟩ => ⟨S1024, .f32⟩
  | .hbm, ⟨88, _⟩ => ⟨S1x1x1024, .f32⟩
  | .hbm, ⟨89, _⟩ => ⟨S1024, .f32⟩
  | .hbm, ⟨90, _⟩ => ⟨S_, .f32⟩
  | .hbm, ⟨91, _⟩ => ⟨S32768, .f32⟩
  | .hbm, ⟨92, _⟩ => ⟨S32768x1, .f32⟩
  | .hbm, ⟨93, _⟩ => ⟨S_, .f32⟩
  | .hbm, ⟨94, _⟩ => ⟨S32768x1, .f32⟩
  | .hbm, ⟨95, _⟩ => ⟨S32768x1, .f32⟩
  | .hbm, ⟨96, _⟩ => ⟨S32768x1024, .f32⟩
  | .hbm, ⟨97, _⟩ => ⟨S32768x1024, .f32⟩
  | .hbm, ⟨98, _⟩ => ⟨S32768x1024, .f32⟩
  | .hbm, ⟨99, _⟩ => ⟨S_, .f32⟩
  | .hbm, ⟨100, _⟩ => ⟨S32768, .f32⟩
  | .hbm, ⟨101, _⟩ => ⟨S32768x1, .f32⟩
  | .hbm, ⟨102, _⟩ => ⟨S_, .f32⟩
  | .hbm, ⟨103, _⟩ => ⟨S32768x1, .f32⟩
  | .hbm, ⟨104, _⟩ => ⟨S32768x1, .f32⟩
  | .hbm, ⟨105, _⟩ => ⟨S32768x1024, .f32⟩
  | .hbm, ⟨106, _⟩ => ⟨S32768x1024, .f32⟩
  | .hbm, ⟨107, _⟩ => ⟨S_, .f32⟩
  | .hbm, ⟨108, _⟩ => ⟨S32768x1, .f32⟩
  | .hbm, ⟨109, _⟩ => ⟨S32768x1, .f32⟩
  | .hbm, ⟨110, _⟩ => ⟨S32768x1, .f32⟩
  | .hbm, ⟨111, _⟩ => ⟨S32768x1024, .f32⟩
  | .hbm, ⟨112, _⟩ => ⟨S32768x1024, .f32⟩
  | .hbm, ⟨113, _⟩ => ⟨S1x1024, .f32⟩
  | .hbm, ⟨114, _⟩ => ⟨S32768x1024, .f32⟩
  | .hbm, ⟨115, _⟩ => ⟨S32768x1024, .f32⟩
  | .hbm, ⟨116, _⟩ => ⟨S1x1024, .f32⟩
  | .hbm, ⟨117, _⟩ => ⟨S32768x1024, .f32⟩
  | .hbm, ⟨118, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_12 : Ref sig .tc := ⟨.hbm, 99, rfl⟩
abbrev main_v78 : Ref sig .tc := ⟨.hbm, 100, rfl⟩
abbrev main_v79 : Ref sig .tc := ⟨.hbm, 101, rfl⟩
abbrev main_cst_13 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_14 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩

abbrev nD : Nat := 1
abbrev τ : Topo := Topo.v7x

variable {F : FTy → Type} [FloatOps F]
-- ==== ProjC.lean ====
abbrev S32768x1024 : Shape := ⟨2, ![32768, 1024]⟩
abbrev S2x1024x3072 : Shape := ⟨3, ![2, 1024, 3072]⟩
abbrev S1x1024x3072 : Shape := ⟨3, ![1, 1024, 3072]⟩
abbrev S1024x3072 : Shape := ⟨2, ![1024, 3072]⟩
abbrev S32768x3072 : Shape := ⟨2, ![32768, 3072]⟩
abbrev S1024x1024 : Shape := ⟨2, ![1024, 1024]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S2x1024x3072, .f32⟩
  | .hbm, ⟨2, _⟩ => ⟨S1x1024x3072, .f32⟩
  | .hbm, ⟨3, _⟩ => ⟨S1024x3072, .f32⟩
  | .hbm, ⟨4, _⟩ => ⟨S1024x3072, .bf16⟩
  | .hbm, ⟨5, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjCIdeal.lean ====
variable {F : FTy → Type} [FloatOps F] [Named F]
def κ : String → Option EReal := fun
  | "c" => some (((Real.log 256)⁻¹ : ℝ) : EReal)
  | _ => none
-- ==== ProjCRefIdeal.lean ====
abbrev S32768x1024 : Shape := ⟨2, ![32768, 1024]⟩
abbrev S2x1024x3072 : Shape := ⟨3, ![2, 1024, 3072]⟩
abbrev S1x1024x3072 : Shape := ⟨3, ![1, 1024, 3072]⟩
abbrev S1024x3072 : Shape := ⟨2, ![1024, 3072]⟩
abbrev S32768x3072 : Shape := ⟨2, ![32768, 3072]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024x3072, .f32⟩
  | .hbm, ⟨2, _⟩ => ⟨S1x1024x3072, .f32⟩
  | .hbm, ⟨3, _⟩ => ⟨S1024x3072, .f32⟩
  | .hbm, ⟨4, _⟩ => ⟨S32768x3072, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x3072, .f32⟩
  | .hbm, ⟨17, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== ProjMem.lean ====
abbrev S8x256x1024 : Shape := ⟨3, ![8, 256, 1024]⟩
abbrev S4x1024x2048 : Shape := ⟨3, ![4, 1024, 2048]⟩
abbrev S2048x1024 : Shape := ⟨2, ![2048, 1024]⟩
abbrev S1x1024x2048 : Shape := ⟨3, ![1, 1024, 2048]⟩
abbrev S1024x2048 : Shape := ⟨2, ![1024, 2048]⟩
abbrev S2048x2048 : Shape := ⟨2, ![2048, 2048]⟩
abbrev S512x1024 : Shape := ⟨2, ![512, 1024]⟩
abbrev S512x2048 : Shape := ⟨2, ![512, 2048]⟩
abbrev S1024x512 : Shape := ⟨2, ![1024, 512]⟩
abbrev S512x512 : Shape := ⟨2, ![512, 512]⟩

abbrev nBuf : Space → Nat
  | .hbm => 7
  | .vmem => 5
  | .smem => 0
  | _ => 0

abbrev bufTy : (tb : Table) → Fin (tcTables nBuf tb) → BufTy
  | .hbm, ⟨0, _⟩ => ⟨S8x256x1024, .f32⟩
  | .hbm, ⟨1, _⟩ => ⟨S4x1024x2048, .f32⟩
  | .hbm, ⟨2, _⟩ => ⟨S2048x1024, .f32⟩
  | .hbm, ⟨3, _⟩ => ⟨S1x1024x2048, .f32⟩
  | .hbm, ⟨4, _⟩ => ⟨S1024x2048, .f32⟩
  | .hbm, ⟨5, _⟩ => ⟨S1024x2048, .bf16⟩
  | .hbm, ⟨6, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .bf16⟩
  | .local _ .vmem, ⟨4, _⟩ => ⟨S512x2048, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjMemRefIdeal.lean ====
abbrev S8x256x1024 : Shape := ⟨3, ![8, 256, 1024]⟩
abbrev S4x1024x2048 : Shape := ⟨3, ![4, 1024, 2048]⟩
abbrev S1x1024x2048 : Shape := ⟨3, ![1, 1024, 2048]⟩
abbrev S1024x2048 : Shape := ⟨2, ![1024, 2048]⟩
abbrev S8x256x2048 : Shape := ⟨3, ![8, 256, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S4x1024x2048, .f32⟩
  | .hbm, ⟨2, _⟩ => ⟨S1x1024x2048, .f32⟩
  | .hbm, ⟨3, _⟩ => ⟨S1024x2048, .f32⟩
  | .hbm, ⟨4, _⟩ => ⟨S8x256x2048, .f32⟩
  | .hbm, ⟨5, _⟩ => ⟨S2048x2048, .f32⟩
  | .hbm, ⟨6, _⟩ => ⟨S2048x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.SoftmaxLaw.lean ====
/- Extended-real algebra of a softmax: dividing each weight by the sum of the weights, or dividing the weighted sum once. -/
module

public import Idealize.ShloMosaic.PureOps.Ideal
public import Idealize.ShloMosaic.Lib.Pointwise

@[expose] public section

noncomputable section

namespace Cert.Own

open Idealize.ShloMosaic
open scoped BigOperators

/-- Multiplying a finite sum of extended reals by a nonnegative real multiplies each term. -/
theorem sum_mul_real {ι : Type*} (s : Finset ι) (f : ι → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih, mul_comm, EReal.left_distrib_of_nonneg_of_ne_top
      (by exact_mod_cast hc) (EReal.coe_ne_top c), mul_comm, mul_comm (∑ k ∈ s, f k)]

/-- A finite sum of reals is the same taken in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The softmax of real scores, whatever real shift is taken from them first, applied to arbitrary values: the sum of
    value times normalized weight is the sum of weight times value divided once by the sum of the weights. -/
theorem softmax_once {ι : Type*} [Fintype ι] [Nonempty ι] (s : ι → ℝ) (M : ℝ) (v : ι → EReal) :
    ∑ k, v k * Ideal.div (Ideal.exp ((s k : EReal) - (M : EReal))) (∑ j, Ideal.exp ((s j : EReal) - (M : EReal)))
      = Ideal.div (∑ k, ((Real.exp (s k) : ℝ) : EReal) * v k) ((∑ k, Real.exp (s k) : ℝ) : EReal) := by
  have hpos : 0 < ∑ k, Real.exp (s k) := Finset.sum_pos (fun k _ => Real.exp_pos _) Finset.univ_nonempty
  have hexp : ∀ k, Ideal.exp ((s k : EReal) - (M : EReal)) = ((Real.exp (s k) * Real.exp (-M) : ℝ) : EReal) := fun k => by
    rw [← EReal.coe_sub, Ideal.exp_coe, sub_eq_add_neg, Real.exp_add]
  have hM : 0 < Real.exp (-M) := Real.exp_pos _
  simp only [hexp]
  rw [← coe_sum, ← Finset.sum_mul, Ideal.div_coe (ne_of_gt hpos), sum_mul_real _ _ (by positivity)]
  refine Finset.sum_congr rfl fun k _ => ?_
  rw [Ideal.div_coe (by positivity), ← EReal.coe_mul, mul_comm (_ : EReal) (v k), mul_assoc (v k), ← EReal.coe_mul]
  congr 2
  field_simp

/-- Two to a real power over `log 2` is the exponential. -/
theorem rpow_two_div_log (t : ℝ) : Real.rpow 2 (t / Real.log 2) = Real.exp t := by
  show (2 : ℝ) ^ (t / Real.log 2) = Real.exp t
  have h2 : Real.log 2 ≠ 0 := ne_of_gt (Real.log_pos one_lt_two)
  rw [Real.rpow_def_of_pos two_pos, mul_div_cancel₀ _ h2]

/-- The largest of the reals in a nonempty finite family, starting from minus infinity, is a real. -/
theorem fold_max_real {ι : Type*} [Fintype ι] [Nonempty ι] (s : ι → ℝ) :
    ∃ r : ℝ, (Finset.univ : Finset ι).fold max (⊥ : EReal) (fun k => (s k : EReal)) = (r : EReal) := by
  classical
  have key : ∀ S : Finset ι, S.Nonempty → ∃ r : ℝ, S.fold max (⊥ : EReal) (fun k => (s k : EReal)) = (r : EReal) := by
    intro S hS
    induction hS using Finset.Nonempty.cons_induction with
    | singleton a => exact ⟨s a, by simp⟩
    | cons a S ha hS ih =>
      obtain ⟨r, hr⟩ := ih
      exact ⟨max (s a) r, by rw [Finset.fold_cons, hr]; exact (EReal.coe_strictMono.monotone.map_max).symm⟩
  exact key _ Finset.univ_nonempty

end Cert.Own

end
-- ==== Proof.AttnBlock.lean ====
/- What the attention kernel's body computes for one block of queries, read at an index. -/
module

public import proofs.«01_k».proof.Proof.Gen.AttnAIdeal.Frame
public import proofs.«01_k».proof.Proof.SoftmaxLaw
public import Idealize.ShloMosaic.Lib.Pointwise
public import Idealize.ShloMosaic.Lib.Pipeline.Value
public import Idealize.ShloMosaic.Lib.FinSumWindow

@[expose] public section

set_option maxRecDepth 16384

noncomputable section

namespace Cert.Own.Attn

open Cert.AttnAIdeal Cert.AttnAIdeal.Gen Idealize.ShloMosaic
open scoped BigOperators

variable {F : FTy → Type} [FloatOps F]

/-- Chunk `n` of the keys, or of the values, lies within them. -/
theorem inb_chunk (n : Fin 16) (a : Fin 2) : (![256 * n.val, 0] : Fin 2 → Nat) a + S256x128.size a ≤ S4096x128.size a := by
  match a with
  | ⟨0, _⟩ => show 256 * n.val + 256 ≤ 4096; have := n.isLt; omega
  | ⟨1, _⟩ => exact Nat.le_refl 128

/-- The rows of the keys, or of the values, that chunk `n` takes. -/
abbrev chunkRect (n : Fin 16) : Rect S4096x128 := Rect.unit (s := S4096x128) ![256 * n.val, 0] S256x128.size (inb_chunk n)

/-- Chunk `n` of a block of keys or values. -/
def chunk (x : Vec F S4096x128 .bf16) (n : Fin 16) : Vec F S256x128 .bf16 := View.ld x (chunkRect n)

/-- The weights of the stacked queries `q` over one chunk of keys. -/
def weights (q : FVec F S1024x128 .bf16) (kc : Vec F S256x128 .bf16) : FVec F S1024x256 .f32 :=
  exp2 (matmul dot_S1024x128_S256x128_S1024x256_1_1_0_0_n_n none q
    (shapeCast S256x128 kc shapeCasts_S256x128_S256x128) (constant S1024x256 .f32 0x00000000#32))

/-- One chunk's contribution to the sums of weights: the two halves of its lanes added. -/
def addWeights (q : FVec F S1024x128 .bf16) (kc : Vec F S256x128 .bf16) : FVec F S1024x128 .f32 :=
  addf (extractStridedSlice S1024x128 ![0, 0] (weights q kc) slices_S1024x256_o0_0_S1024x128)
    (extractStridedSlice S1024x128 ![0, 128] (weights q kc) slices_S1024x256_o0_128_S1024x128)

/-- One chunk's contribution to the weighted sums of values. -/
def addValues (q : FVec F S1024x128 .bf16) (kc vc : Vec F S256x128 .bf16) : FVec F S1024x128 .f32 :=
  matmul dot_S1024x256_S256x128_S1024x128_1_0_0_1_n_n none (truncf .bf16 (weights q kc) bitsLt_bf16_f32)
    (shapeCast S256x128 vc shapeCasts_S256x128_S256x128) (constant S1024x128 .f32 0x00000000#32)

/-- The sum of a family of 16 vectors, taken from the first to the last. -/
def sum16 (f : Fin 16 → FVec F S1024x128 .f32) : FVec F S1024x128 .f32 :=
  addf (addf (addf (addf (addf (addf (addf (addf (addf (addf (addf (addf (addf (addf (addf (f 0) (f 1)) (f 2)) (f 3)) (f 4)) (f 5))
    (f 6)) (f 7)) (f 8)) (f 9)) (f 10)) (f 11)) (f 12)) (f 13)) (f 14)) (f 15)

/-- One slab of the output block, from the slab of queries and the blocks of keys and values. -/
def slab (y : Vec F S256x256 .bf16) (x1 x2 : Vec F S4096x128 .bf16) : FVec F S256x256 .bf16 :=
  k0_pay1 (sum16 fun n => addWeights (k0_pay2 y) (chunk x1 n))
    (sum16 fun n => addValues (k0_pay2 y) (chunk x1 n) (chunk x2 n))

/-- The output block is its two slabs. -/
theorem out_eq (x0 : Vec F S512x256 .bf16) (x1 x2 : Vec F S4096x128 .bf16) :
    out0_3 x0 x1 x2 = View.canon [⟨r0_1, slab (View.ld x0 r0_1) x1 x2⟩, ⟨r0_0, slab (View.ld x0 r0_0) x1 x2⟩] := by
  rfl

/-! ## Read at an index, over the extended reals -/

/-- A weight is two to the power of the product of a query row and a key row. -/
theorem weights_apply (q : FVec Ideal S1024x128 .bf16) (kc : Vec Ideal S256x128 .bf16) (r : Fin 1024) (c : Fin 256) :
    weights q kc (ix2 r c) = Ideal.exp2 (∑ e : Fin 128, q (ix2 r e) * kc (ix2 c e)) := by
  unfold weights
  pointwise
  rfl

/-- A chunk's contribution to lane `l`'s sum of weights is the weights of its keys `l` and `128 + l`. -/
theorem addWeights_apply (q : FVec Ideal S1024x128 .bf16) (kc : Vec Ideal S256x128 .bf16) (r : Fin 1024) (l : Fin 128) :
    addWeights q kc (ix2 r l) = weights q kc (ix2 r ⟨l.val, by omega⟩) + weights q kc (ix2 r ⟨128 + l.val, by omega⟩) := by
  unfold addWeights
  generalize weights q kc = w
  pointwise

/-- A chunk's contribution to the weighted sum of the values at lane `l`. -/
theorem addValues_apply (q : FVec Ideal S1024x128 .bf16) (kc vc : Vec Ideal S256x128 .bf16) (r : Fin 1024) (l : Fin 128) :
    addValues q kc vc (ix2 r l) = ∑ c : Fin 256, weights q kc (ix2 r c) * vc (ix2 c l) := by
  unfold addValues
  generalize weights q kc = w
  pointwise

/-- Chunk `n` holds rows `256 n` and on. -/
theorem chunk_apply (x : Vec Ideal S4096x128 .bf16) (n : Fin 16) (c : Fin 256) (l : Fin 128) :
    chunk x n (ix2 c l) = x (ix2 ⟨n.val * 256 + c.val, by omega⟩ l) := by
  unfold chunk
  pointwise
  congr 3
  omega

/-- The sum of 16 vectors at an index. -/
theorem sum16_apply (f : Fin 16 → FVec Ideal S1024x128 .f32) (r : Fin 1024) (l : Fin 128) :
    sum16 f (ix2 r l) = ∑ n : Fin 16, f n (ix2 r l) := by
  unfold sum16
  simp only [Fin.sum_univ_succ, Fin.sum_univ_zero]
  pointwise
  simp only [add_assoc, add_zero]
  rfl

/-- Choosing by whether a lane number below 256 is below 64. -/
theorem select_lane {α : Type} (n : Nat) (hn : n < 256) (a b : α) :
    Scalar.select (IntOp.cmpi CmpIPredicate.slt (BitVec.ofNat 32 n) 64#32) a b = if n < 64 then a else b := by
  have h : ∀ k : Fin 256, IntOp.cmpi CmpIPredicate.slt (BitVec.ofNat 32 k.val) 64#32 = BitVec.ofBool (decide (k.val < 64)) := by
    decide
  rw [h ⟨n, hn⟩]
  by_cases h64 : n < 64 <;> simp [h64, Scalar.select]

/-- The stacked queries: row `256 u + r` is row `r` of head `u`, its 64 lanes in the half of the head's parity, zero in
    the other half. -/
theorem stack_apply (y : Vec Ideal S256x256 .bf16) (u : Fin 4) (r : Fin 256) (e : Fin 128) :
    k0_pay2 y (ix2 ⟨u.val * 256 + r.val, by omega⟩ e)
      = if e.val / 64 = u.val % 2 then y (ix2 r ⟨u.val / 2 * 128 + e.val, by omega⟩) else 0 := by
  unfold k0_pay2
  pointwise
  have hr := r.isLt
  have he := e.isLt
  simp only [select_lane e.val (by omega)]
  have key : ∀ (a : Fin 256) (c c' : Fin 256), a = r → c = c' → y (ix2 a c) = y (ix2 r c') := by
    rintro _ _ _ rfl rfl; rfl
  have hu := u.isLt
  by_cases hp : e.val / 64 = u.val % 2
  · rw [if_pos hp]
    split_ifs <;> first
      | omega
      | exact key _ _ _ (Fin.ext (by first | rfl | (dsimp only; omega))) (Fin.ext (by first | rfl | (dsimp only; omega)))
  · rw [if_neg hp]
    split_ifs <;> first
      | rfl
      | omega

/-- The last step: the weighted sums divided by the sums of weights, laid out head by head. -/
theorem finish_apply (l acc : FVec Ideal S1024x128 .f32) (r : Fin 256) (u : Fin 4) (d : Fin 64) :
    k0_pay1 l acc (ix2 r ⟨u.val * 64 + d.val, by omega⟩)
      = Ideal.div (acc (ix2 ⟨u.val * 256 + r.val, by omega⟩ ⟨u.val % 2 * 64 + d.val, by omega⟩))
          (∑ e : Fin 128, l (ix2 ⟨u.val * 256 + r.val, by omega⟩ e)) := by
  unfold k0_pay1
  pointwise
  have hr := r.isLt
  have hd := d.isLt
  have hu := u.isLt
  have key : ∀ (a a' : Fin 1024) (c c' : Fin 128), a = a' → c = c' →
      Ideal.div (acc (ix2 a c)) (∑ e : Fin 128, l (ix2 a e)) = Ideal.div (acc (ix2 a' c')) (∑ e : Fin 128, l (ix2 a' e)) := by
    rintro _ _ _ _ rfl rfl; rfl
  by_cases h : u.val * 64 + d.val < 128
  · rw [dif_pos h, select_lane _ (by omega)]
    split_ifs <;> exact key _ _ _ _ (Fin.ext (by first | rfl | (dsimp only; omega))) (Fin.ext (by first | rfl | (dsimp only; omega)))
  · rw [dif_neg h, select_lane _ (by omega)]
    split_ifs <;> exact key _ _ _ _ (Fin.ext (by first | rfl | (dsimp only; omega))) (Fin.ext (by first | rfl | (dsimp only; omega)))

/-- The weight of query row `r` of head `u` at key `k`. -/
def weight (y : Vec Ideal S256x256 .bf16) (x1 : Vec Ideal S4096x128 .bf16) (u : Fin 4) (r : Fin 256) (k : Fin 4096) : EReal :=
  Ideal.exp2 (∑ e : Fin 64, y (ix2 r ⟨u.val * 64 + e.val, by omega⟩) * x1 (ix2 k ⟨u.val % 2 * 64 + e.val, by omega⟩))

/-- The stacked weights of a chunk are the head's weights at the chunk's keys. -/
theorem weights_stack (y : Vec Ideal S256x256 .bf16) (x1 : Vec Ideal S4096x128 .bf16) (u : Fin 4) (r : Fin 256) (n : Fin 16)
    (c : Fin 256) :
    weights (k0_pay2 y) (chunk x1 n) (ix2 ⟨u.val * 256 + r.val, by omega⟩ c)
      = weight y x1 u r ⟨n.val * 256 + c.val, by omega⟩ := by
  rw [weights_apply]
  unfold weight
  congr 1
  have hu := u.isLt
  rw [FinSumWindow.sum_window (u.val % 2 * 64) (W := 64) (by omega)]
  · refine Finset.sum_congr rfl fun e _ => ?_
    have he := e.isLt
    rw [stack_apply, chunk_apply, if_pos (by show (u.val % 2 * 64 + e.val) / 64 = u.val % 2; omega)]
    congr 3
    apply Fin.ext
    show u.val / 2 * 128 + (u.val % 2 * 64 + e.val) = u.val * 64 + e.val
    omega
  · intro e he
    have he' := e.isLt
    rw [stack_apply, if_neg (by omega), zero_mul]

/-- **One slab of the output**: head `u`'s row `r` is the sum of weight times value over all 4096 keys, divided by the sum
    of the weights. -/
theorem slab_apply (y : Vec Ideal S256x256 .bf16) (x1 x2 : Vec Ideal S4096x128 .bf16) (u : Fin 4) (r : Fin 256) (d : Fin 64) :
    slab y x1 x2 (ix2 r ⟨u.val * 64 + d.val, by omega⟩)
      = Ideal.div (∑ k : Fin 4096, weight y x1 u r k * x2 (ix2 k ⟨u.val % 2 * 64 + d.val, by omega⟩))
          (∑ k : Fin 4096, weight y x1 u r k) := by
  unfold slab
  rw [finish_apply]
  congr 1
  · rw [sum16_apply, Fin.sum_univ_tiles 16 256 rfl]
    refine Finset.sum_congr rfl fun n _ => ?_
    rw [addValues_apply]
    refine Finset.sum_congr rfl fun c _ => ?_
    rw [weights_stack, chunk_apply]
  · simp only [sum16_apply]
    rw [Finset.sum_comm, Fin.sum_univ_tiles 16 256 rfl]
    refine Finset.sum_congr rfl fun n _ => ?_
    rw [Fin.sum_univ_two_halves 128 128 rfl, ← Finset.sum_add_distrib]
    refine Finset.sum_congr rfl fun l _ => ?_
    rw [addWeights_apply, weights_stack, weights_stack]

end Cert.Own.Attn

end
-- ==== Proof.AttnArray.lean ====
/- The attention kernel's result array, element by element, from the array of queries, keys and values it is launched on. -/
module

public import proofs.«01_k».proof.Proof.Gen.AttnAIdeal.Value
public import proofs.«01_k».proof.Proof.AttnBlock
public import Idealize.ShloMosaic.Lib.Pipeline.ValueKit.Geometry

@[expose] public section

set_option maxRecDepth 16384

noncomputable section

namespace Cert.Own.Attn

open Cert.AttnAIdeal Cert.AttnAIdeal.Gen Idealize.ShloMosaic Idealize.ShloMosaic.TcCoe Idealize.SL.Sem
open scoped BigOperators

/-- Two to the power of the product of two rows of 64. -/
def power (q k : Fin 64 → EReal) : EReal := Ideal.exp2 (∑ e, q e * k e)

/-- The values of all keys averaged with weights `power`. -/
def average (q : Fin 64 → EReal) (k : Fin 4096 → Fin 64 → EReal) (v : Fin 4096 → EReal) : EReal :=
  Ideal.div (∑ n, power q (k n) * v n) (∑ n, power q (k n))

/-- An element of the output block, from the blocks of queries, keys and values. -/
def element (x0 : Vec Ideal S512x256 .bf16) (x1 x2 : Vec Ideal S4096x128 .bf16) (r : Fin 512) (c : Fin 256) : EReal :=
  average (fun e => x0 (ix2 r ⟨c.val / 64 * 64 + e.val, by omega⟩))
    (fun n e => x1 (ix2 n ⟨c.val / 64 % 2 * 64 + e.val, by omega⟩))
    (fun n => x2 (ix2 n ⟨c.val / 64 % 2 * 64 + c.val % 64, by omega⟩))

/-- A slab of the output whose rows begin at `o` is `element` at those rows. -/
theorem slab_element (x0 : Vec Ideal S512x256 .bf16) (x1 x2 : Vec Ideal S4096x128 .bf16) (y : Vec Ideal S256x256 .bf16)
    (o : Nat) (ho : o + 256 ≤ 512) (hy : ∀ (r : Fin 256) (c : Fin 256), y (ix2 r c) = x0 (ix2 ⟨o + r.val, by omega⟩ c))
    (r c : Fin 256) : slab y x1 x2 (ix2 r c) = element x0 x1 x2 ⟨o + r.val, by omega⟩ c := by
  have hc := c.isLt
  have h := slab_apply y x1 x2 ⟨c.val / 64, by omega⟩ r ⟨c.val % 64, by omega⟩
  have e : (⟨c.val / 64 * 64 + c.val % 64, by omega⟩ : Fin 256) = c := Fin.ext (by dsimp only; omega)
  dsimp only at h
  rw [e] at h
  rw [h]
  unfold element average power weight
  simp only [hy]

/-- Every element of the output block. -/
theorem out_element (x0 : Vec Ideal S512x256 .bf16) (x1 x2 : Vec Ideal S4096x128 .bf16) (r : Fin 512) (c : Fin 256) :
    out0_3 x0 x1 x2 (ix2 r c) = element x0 x1 x2 r c := by
  rw [out_eq]
  refine View.canon_apply_of_pieces (Val := Elt Ideal) (e := .bf16) (fun y : S512x256.Idx => element x0 x1 x2 (y 0) (y 1)) _ ?_ (ix2 r c) ?_
  · intro p hp x
    simp only [List.mem_cons, List.not_mem_nil, or_false] at hp
    rcases hp with rfl | rfl
    · obtain ⟨r', c', rfl⟩ : ∃ (r' : Fin 256) (c' : Fin 256), x = ix2 r' c' := ⟨x 0, x 1, by funext a; match a with | ⟨0, _⟩ => rfl | ⟨1, _⟩ => rfl⟩
      refine (slab_element x0 x1 x2 _ 256 (by omega) (fun r c => ?_) r' c').trans ?_
      · pointwise
      · congr 1
        · exact Fin.ext (by show 256 + r'.val = 256 + 1 * r'.val; omega)
        · exact Fin.ext (by show c'.val = 0 + 1 * c'.val; omega)
    · obtain ⟨r', c', rfl⟩ : ∃ (r' : Fin 256) (c' : Fin 256), x = ix2 r' c' := ⟨x 0, x 1, by funext a; match a with | ⟨0, _⟩ => rfl | ⟨1, _⟩ => rfl⟩
      refine (slab_element x0 x1 x2 _ 0 (by omega) (fun r c => ?_) r' c').trans ?_
      · pointwise
      · congr 1
        · exact Fin.ext (by show 0 + r'.val = 0 + 1 * r'.val; omega)
        · exact Fin.ext (by show c'.val = 0 + 1 * c'.val; omega)
  · exact cover0_3 _ _ _

/-- An element of the result, from the array of queries, keys and values: row `R`, column `C`. -/
def result (X : S32768x2048.Idx → EReal) (R : Fin 32768) (C : Fin 512) : EReal :=
  average (fun e => X (ix2 R ⟨C.val / 64 * 64 + e.val, by omega⟩))
    (fun n e => X (ix2 ⟨R.val / 4096 * 4096 + n.val, by omega⟩ ⟨512 + C.val / 256 * 128 + C.val / 64 % 2 * 64 + e.val, by omega⟩))
    (fun n => X (ix2 ⟨R.val / 4096 * 4096 + n.val, by omega⟩ ⟨768 + C.val / 256 * 128 + C.val / 64 % 2 * 64 + C.val % 64, by omega⟩))

/-- The block of queries at a grid point. -/
theorem index0 : ∀ t : Fin cfg0.N, win0_0.index t = ![(grid0.coords t 0).val * 8 + (grid0.coords t 2).val, (grid0.coords t 1).val] :=
  (by decide +kernel : ∀ t : Fin grid0.N, _)
/-- The block of keys at a grid point. -/
theorem index1 : ∀ t : Fin cfg0.N, win0_1.index t = ![(grid0.coords t 0).val, 4 + (grid0.coords t 1).val] :=
  (by decide +kernel : ∀ t : Fin grid0.N, _)
/-- The block of values at a grid point. -/
theorem index2 : ∀ t : Fin cfg0.N, win0_2.index t = ![(grid0.coords t 0).val, 6 + (grid0.coords t 1).val] :=
  (by decide +kernel : ∀ t : Fin grid0.N, _)
/-- The block of the output at a grid point. -/
theorem index3 : ∀ t : Fin cfg0.N, win0_3.index t = ![(grid0.coords t 0).val * 8 + (grid0.coords t 2).val, (grid0.coords t 1).val] :=
  (by decide +kernel : ∀ t : Fin grid0.N, _)

variable (m : (ℓ : Loc nD τ sig) → Buf (Elt Ideal) ℓ)

/-- The result array after the run. -/
theorem array_eq (c : Dev nD) :
    (dats m 0 c).arrAt 3 cfg0.N = fun i => result (V m c main_v18) (i 0) (i 1) := by
  refine (dats m 0 c).arrAt_eq_of_covers 3 _ (by decide +kernel) fun t hf y => ?_
  blk_simp
  rw [after0_3]
  obtain ⟨r, d, rfl⟩ : ∃ (r : Fin 512) (d : Fin 256), y = ix2 r d := ⟨y 0, y 1, by funext a; match a with | ⟨0, _⟩ => rfl | ⟨1, _⟩ => rfl⟩
  rw [out_element]
  unfold element result
  have h0 : (grid0.coords t 0).val < 8 := (grid0.coords t 0).isLt
  have h1 : (grid0.coords t 1).val < 2 := (grid0.coords t 1).isLt
  have h2 : (grid0.coords t 2).val < 8 := (grid0.coords t 2).isLt
  have hd := d.isLt
  have hr := r.isLt
  blk_simp [iblk, index0, index1, index2, index3]
  have eq : ∀ f g h f' g' h', f = f' → g = g' → h = h' → average f g h = average f' g' h' := by
    rintro _ _ _ _ _ _ rfl rfl rfl; rfl
  refine eq _ _ _ _ _ _ (funext fun e => ?_) (funext fun n => funext fun e => ?_) (funext fun n => ?_)
  · have he := e.isLt
    refine congrArg (V m c main_v18) ?_
    blk_ext [index0, index3]
  · have he := e.isLt
    have hn := n.isLt
    refine congrArg (V m c main_v18) ?_
    blk_ext [index1, index3]
  · have hn := n.isLt
    refine congrArg (V m c main_v18) ?_
    blk_ext [index2, index3]

end Cert.Own.Attn

end
-- ==== Proof.AttnHost.lean ====
/- What the attention kernel is launched on: the array of queries, keys and values, from the three argument arrays. -/
module

public import proofs.«01_k».proof.Proof.Gen.AttnAIdeal.Frame
public import Idealize.ShloMosaic.Lib.Pointwise
public import Idealize.ShloMosaic.Lib.StableHlo.Run
public import Idealize.ShloMosaic.Lib.StableHlo.RunRead

@[expose] public section

set_option maxRecDepth 16384

noncomputable section

namespace Cert.Own.Attn

open Cert.AttnAIdeal Cert.AttnAIdeal.Gen Idealize.ShloMosaic Idealize.ShloMosaic.TcCoe Idealize.SL.Sem
open scoped BigOperators

variable {F : FTy → Type} [FloatOps F]

/-- Two heads of 64 columns laid side by side, each twice. -/
def twice (k : FVec F S32768x128 .f32) : FVec F S32768x256 .f32 :=
  concatenate S32768x256 1
    [⟨S32768x64, extractStridedSlice S32768x64 ![0, 0] k slices_S32768x128_S32768x64_0_0⟩,
     ⟨S32768x64, extractStridedSlice S32768x64 ![0, 0] k slices_S32768x128_S32768x64_0_0⟩,
     ⟨S32768x64, extractStridedSlice S32768x64 ![0, 64] k slices_S32768x128_S32768x64_0_64⟩,
     ⟨S32768x64, extractStridedSlice S32768x64 ![0, 64] k slices_S32768x128_S32768x64_0_64⟩]
    concatenates_S32768x64_S32768x64_S32768x64_S32768x64_S32768x256_d1

/-- The queries, scaled. -/
def scaled (q : FVec F S32768x512 .f32) : FVec F S32768x512 .f32 :=
  Host.divf (mulf q (broadcastInDim S32768x512 ![] bcast_S_S32768x512 (constant S_ .f32 0x3E000000#32)))
    (broadcastInDim S32768x512 ![] bcast_S_S32768x512 (Host.log (constant S_ .f32 0x40000000#32)))

/-- Queries, keys and values side by side. -/
def side (q : FVec F S32768x512 .f32) (k v : FVec F S32768x128 .f32) : FVec F S32768x2048 .bf16 :=
  truncf .bf16 (concatenate S32768x2048 1
    [⟨S32768x512, scaled q⟩, ⟨S32768x256, twice k⟩, ⟨S32768x256, twice v⟩,
     ⟨S32768x1024, broadcastInDim S32768x1024 ![] bcast_S_S32768x1024 (constant S_ .f32 0x00000000#32)⟩]
    concatenates_S32768x512_S32768x256_S32768x256_S32768x1024_S32768x2048_d1) bitsLt_bf16_f32

/-- What the host operations leave in the array the kernel reads. -/
theorem V_v18 (m : (ℓ : Loc nD τ sig) → Buf (Elt F) ℓ) (c : Dev nD) :
    V m c main_v18 = side (m ((c : Thread nD τ).loc main_arg0)) (m ((c : Thread nD τ).loc main_arg1)) (m ((c : Thread nD τ).loc main_arg2)) := by
  show StableHlo.after hostOps0 _ (Proc.devRef .tc main_v18) = _
  unfold side scaled twice
  after_reads_simp
  rfl

/-- A column of the queries. -/
theorem side_q (q : FVec Ideal S32768x512 .f32) (k v : FVec Ideal S32768x128 .f32) (R : Fin 32768) (c : Fin 2048) (h : c.val < 512) :
    side q k v (ix2 R c)
      = Ideal.div (q (ix2 R ⟨c.val, h⟩) * Ideal.ofBits .f32 0x3E000000#32) (Ideal.log (Ideal.ofBits .f32 0x40000000#32)) := by
  unfold side scaled twice
  pointwise
  rw [dif_pos h]

/-- A column of the keys: copy `p` of head `j`. -/
theorem side_k (q : FVec Ideal S32768x512 .f32) (k v : FVec Ideal S32768x128 .f32) (R : Fin 32768) (j p : Fin 2) (e : Fin 64) :
    side q k v (ix2 R ⟨512 + j.val * 128 + p.val * 64 + e.val, by omega⟩) = k (ix2 R ⟨j.val * 64 + e.val, by omega⟩) := by
  unfold side scaled twice
  pointwise
  have hj := j.isLt
  have hp := p.isLt
  have he := e.isLt
  split_ifs <;> first | omega | exact congrArg (fun x => k (ix2 R x)) (Fin.ext (by dsimp only; omega))

/-- A column of the values. -/
theorem side_v (q : FVec Ideal S32768x512 .f32) (k v : FVec Ideal S32768x128 .f32) (R : Fin 32768) (j p : Fin 2) (e : Fin 64) :
    side q k v (ix2 R ⟨768 + j.val * 128 + p.val * 64 + e.val, by omega⟩) = v (ix2 R ⟨j.val * 64 + e.val, by omega⟩) := by
  unfold side scaled twice
  pointwise
  have hj := j.isLt
  have hp := p.isLt
  have he := e.isLt
  split_ifs <;> first | omega | exact congrArg (fun x => v (ix2 R x)) (Fin.ext (by dsimp only; omega))

end Cert.Own.Attn

end
-- ==== Proof.Consts.lean ====
/- The literals of the programs as extended reals. -/
module

public import Idealize.ShloMosaic.PureOps.Ideal
public import Mathlib.Analysis.SpecialFunctions.Log.Basic

@[expose] public section

noncomputable section

namespace Cert.Own

open Idealize.ShloMosaic

/-- One eighth. -/
theorem lit_eighth : Ideal.ofBits .f32 0x3E000000#32 = ((1 / 8 : ℝ) : EReal) := by
  simp [Ideal.ofBits, Ideal.ieee, -EReal.coe_mul]; norm_num

/-- One sixteenth. -/
theorem lit_sixteenth : Ideal.ofBits .f32 0x3D800000#32 = ((1 / 16 : ℝ) : EReal) := by
  simp [Ideal.ofBits, Ideal.ieee, -EReal.coe_mul]; norm_num

/-- The number of columns. -/
theorem lit_columns : Ideal.ofBits .f32 0x44800000#32 = ((1024 : ℝ) : EReal) := by
  simp [Ideal.ofBits, Ideal.ieee, -EReal.coe_mul]; norm_num

/-- The number added to a variance. -/
theorem lit_eps : Ideal.ofBits .f32 0x3727C5AC#32 = ((10995116 / 1099511627776 : ℝ) : EReal) := by
  simp [Ideal.ofBits, Ideal.ieee, -EReal.coe_mul]; norm_num

/-- The factor of the residual. -/
theorem lit_alpha : Ideal.ofBits .f32 0x3FD744FD#32 = ((14107901 / 8388608 : ℝ) : EReal) := by
  simp [Ideal.ofBits, Ideal.ieee, -EReal.coe_mul]; norm_num

/-- Infinity, in the shorter type. -/
theorem lit_top_bf16 : Ideal.ofBits .bf16 0x7F80#16 = ⊤ := by
  simp [Ideal.ofBits, Ideal.ieee, -EReal.coe_mul]

/-- Two. -/
theorem lit_two : Ideal.ofBits .f32 0x40000000#32 = ((2 : ℝ) : EReal) := by
  simp [Ideal.ofBits, Ideal.ieee, -EReal.coe_mul]; norm_num

/-- Negative infinity. -/
theorem lit_bot : Ideal.ofBits .f32 0xFF800000#32 = ⊥ := by
  simp [Ideal.ofBits, Ideal.ieee, -EReal.coe_mul]

/-- Infinity. -/
theorem lit_top : Ideal.ofBits .f32 0x7F800000#32 = ⊤ := by
  simp [Ideal.ofBits, Ideal.ieee, -EReal.coe_mul]

/-- One. -/
theorem lit_one : Ideal.ofBits .f32 0x3F800000#32 = 1 := by
  have h : Ideal.ofBits .f32 0x3F800000#32 = ((1 : ℝ) : EReal) := by
    simp [Ideal.ofBits, Ideal.ieee, -EReal.coe_mul, -EReal.coe_one]; norm_num
  rw [h, EReal.coe_one]

/-- Zero. -/
theorem lit_zero : Ideal.ofBits .f32 0x00000000#32 = 0 := by
  simp [Ideal.ofBits, Ideal.ieee, -EReal.coe_mul]

end Cert.Own

end
-- ==== Proof.AttnRef.lean ====
/- The reference attention, element by element, from its three argument arrays. -/
module

public import proofs.«01_k».proof.Proof.Gen.AttnARefIdeal.Read
public import proofs.«01_k».proof.Proof.Consts
public import Idealize.ShloMosaic.Lib.Pointwise
public import Idealize.ShloMosaic.PureOps.Ideal.Laws

@[expose] public section

set_option maxRecDepth 16384

noncomputable section

namespace Cert.Own.AttnRef

open Cert.AttnARefIdeal Cert.AttnARefIdeal.Read Idealize.ShloMosaic
open scoped BigOperators

variable (q : FVec Ideal S32768x512 .f32) (k v : FVec Ideal S32768x128 .f32)

/-- The scaled score of a query row (row `R`, head `h`) at key `n` of the same sequence. -/
def score (R : Fin 32768) (h : Fin 8) (n : Fin 4096) : EReal :=
  (∑ e : Fin 64, k (ix2 ⟨R.val / 4096 * 4096 + n.val, by omega⟩ ⟨h.val / 4 * 64 + e.val, by omega⟩)
      * q (ix2 R ⟨h.val * 64 + e.val, by omega⟩)) * Ideal.ofBits .f32 0x3E000000#32

/-- The scaled scores. -/
theorem v6_eq (i : S8x2x4x4096x4096.Idx) :
    val_main_v6 (F := Ideal) q k i
      = score q k ⟨(i 0).val * 4096 + (i 3).val, by have h0 : (i 0).val < 8 := (i 0).isLt; have h3 : (i 3).val < 4096 := (i 3).isLt; omega⟩
          ⟨(i 1).val * 4 + (i 2).val, by have h1 : (i 1).val < 2 := (i 1).isLt; have h2 : (i 2).val < 4 := (i 2).isLt; omega⟩ (i 4) := by
  have h0 : (i 0).val < 8 := (i 0).isLt
  have h1 : (i 1).val < 2 := (i 1).isLt
  have h2 : (i 2).val < 4 := (i 2).isLt
  have h3 : (i 3).val < 4096 := (i 3).isLt
  have h4 : (i 4).val < 4096 := (i 4).isLt
  rw [val_main_v6_apply, val_main_v5_apply, val_main_cst_apply, val_main_v4_apply, val_main_v3_apply]
  unfold score
  refine congrArg (fun x : EReal => x * _) (Finset.sum_congr rfl fun e _ => ?_)
  have he := e.isLt
  rw [val_main_v1_apply, val_main_v0_apply]
  refine congrArg₂ (fun a b : EReal => a * b) (congrArg k ?_) (congrArg q ?_)
  · funext a
    match a with
    | ⟨0, _⟩ => apply Fin.ext; dsimp only [lidx_main_v3, idx_main_v4, ix2, Matrix.cons_val]; omega
    | ⟨1, _⟩ => apply Fin.ext; dsimp only [lidx_main_v3, idx_main_v4, ix2]; omega
  · funext a
    match a with
    | ⟨0, _⟩ => apply Fin.ext; dsimp only [ridx_main_v3, idx_main_v4, ix2]; omega
    | ⟨1, _⟩ => apply Fin.ext; dsimp only [ridx_main_v3, idx_main_v4, ix2]; omega

/-- The largest score of a row, as a fold over the keys. -/
theorem v7_eq (i : S8x2x4x4096.Idx) :
    val_main_v7 (F := Ideal) q k i = Finset.univ.fold max ⊥ fun n : Fin 4096 => val_main_v6 (F := Ideal) q k (idx_main_v14 i n) := by
  unfold val_main_v7
  generalize val_main_v6 (F := Ideal) q k = y
  pointwise [val_main_cst_0]
  rw [lit_bot]
  refine congrArg (fun f => Finset.fold max ⊥ f Finset.univ) (funext fun n => congrArg y ?_)
  funext a
  match a with
  | ⟨0, _⟩ => rfl
  | ⟨1, _⟩ => rfl
  | ⟨2, _⟩ => rfl
  | ⟨3, _⟩ => rfl
  | ⟨4, _⟩ => rfl

/-- The largest score of a query row. -/
def largest (R : Fin 32768) (h : Fin 8) : EReal := max ⊥ (Finset.univ.fold max ⊥ fun n => score q k R h n)

/-- An element of the reference's result. -/
def refResult (R : Fin 32768) (C : Fin 512) : EReal :=
  ∑ n : Fin 4096, v (ix2 ⟨R.val / 4096 * 4096 + n.val, by omega⟩ ⟨C.val / 256 * 64 + C.val % 64, by omega⟩)
    * Ideal.div (Ideal.exp (score q k R ⟨C.val / 64, by omega⟩ n - largest q k R ⟨C.val / 64, by omega⟩))
        (∑ n' : Fin 4096, Ideal.exp (score q k R ⟨C.val / 64, by omega⟩ n' - largest q k R ⟨C.val / 64, by omega⟩))

/-- The row of the queries that an index of the scores stands for. -/
abbrev rowOf (i : S8x2x4x4096x4096.Idx) : Fin 32768 :=
  ⟨(i 0).val * 4096 + (i 3).val, by have h0 : (i 0).val < 8 := (i 0).isLt; have h3 : (i 3).val < 4096 := (i 3).isLt; omega⟩
/-- The head that an index of the scores stands for. -/
abbrev headOf (i : S8x2x4x4096x4096.Idx) : Fin 8 :=
  ⟨(i 1).val * 4 + (i 2).val, by have h1 : (i 1).val < 2 := (i 1).isLt; have h2 : (i 2).val < 4 := (i 2).isLt; omega⟩

/-- The exponentials of the scores, the largest taken off. -/
theorem v13_eq (i : S8x2x4x4096x4096.Idx) :
    val_main_v13 (F := Ideal) q k i
      = Ideal.exp (score q k (rowOf i) (headOf i) (i 4) - largest q k (rowOf i) (headOf i)) := by
  rw [val_main_v13_apply, val_main_v12_apply, v6_eq, val_main_v11_apply, val_main_v10_apply, val_main_v9_apply, v7_eq,
    val_main_v8_apply, val_main_cst_1_apply]
  simp only [v6_eq]
  show Ideal.exp (_ - max (Ideal.ofBits .f32 0xFF800000#32) _) = _
  rw [lit_bot]
  rfl

/-- The softmax weights. -/
theorem v17_eq (i : S8x2x4x4096x4096.Idx) :
    val_main_v17 (F := Ideal) q k i
      = Ideal.div (Ideal.exp (score q k (rowOf i) (headOf i) (i 4) - largest q k (rowOf i) (headOf i)))
          (∑ n : Fin 4096, Ideal.exp (score q k (rowOf i) (headOf i) n - largest q k (rowOf i) (headOf i))) := by
  rw [val_main_v17_apply, v13_eq, val_main_v16_apply, val_main_v15_apply, val_main_v14_apply, val_main_cst_2_apply]
  simp only [v13_eq]
  show Ideal.div _ (Ideal.ofBits .f32 0x00000000#32 + _) = _
  rw [lit_zero, zero_add]
  rfl

/-- The reference's result at an index. -/
theorem v21_eq (R : Fin 32768) (C : Fin 512) : val_main_v21 (F := Ideal) q k v (ix2 R C) = refResult q k v R C := by
  rw [val_main_v21_apply, val_main_v20_apply, val_main_v19_apply, val_main_v18_apply]
  have hR := R.isLt
  have hC := C.isLt
  show ∑ n : Fin 4096, _ = _
  unfold refResult
  refine Finset.sum_congr rfl fun n _ => ?_
  have hn := n.isLt
  have a1 : (R.val * 512 + C.val) / 2097152 = R.val / 4096 := by omega
  have a2 : (R.val * 512 + C.val) / 256 % 2 = C.val / 256 := by omega
  have a3 : (R.val * 512 + C.val) % 64 = C.val % 64 := by omega
  rw [v17_eq, val_main_v2_apply]
  refine congrArg₂ (fun a b : EReal => a * b) (congrArg v ?_) ?_
  · funext a
    match a with
    | ⟨0, _⟩ => apply Fin.ext; dsimp only [lidx_main_v18, idx_main_v19, idx_main_v20, ix2]; rw [a1, a2, a3]; omega
    | ⟨1, _⟩ => apply Fin.ext; dsimp only [lidx_main_v18, idx_main_v19, idx_main_v20, ix2]; rw [a1, a2, a3]; omega
  · have e1 : rowOf (ridx_main_v18 (idx_main_v19 (idx_main_v20 (ix2 R C))) n) = R := by
      apply Fin.ext; dsimp only [ridx_main_v18, idx_main_v19, idx_main_v20, ix2]; omega
    have e2 : headOf (ridx_main_v18 (idx_main_v19 (idx_main_v20 (ix2 R C))) n) = ⟨C.val / 64, by omega⟩ := by
      apply Fin.ext; dsimp only [ridx_main_v18, idx_main_v19, idx_main_v20, ix2]; omega
    rw [e1, e2]
    rfl

end Cert.Own.AttnRef

end
-- ==== Proof.AttnEq.lean ====
/- The attention kernel and the reference agree on finite queries and keys. -/
module

public import proofs.«01_k».proof.Proof.AttnArray
public import proofs.«01_k».proof.Proof.AttnHost
public import proofs.«01_k».proof.Proof.AttnRef

@[expose] public section

set_option maxRecDepth 16384

noncomputable section

namespace Cert.Own.Attn

open Idealize.ShloMosaic Cert.AttnAIdeal
open scoped BigOperators

/-- A power of two of a scaled product is the exponential of the product's eighth. -/
theorem power_scaled (q k : Fin 64 → ℝ) :
    power (fun e => Ideal.div (((q e : ℝ) : EReal) * Ideal.ofBits .f32 0x3E000000#32) (Ideal.log (Ideal.ofBits .f32 0x40000000#32)))
        (fun e => ((k e : ℝ) : EReal))
      = ((Real.exp ((∑ e, k e * q e) * (1 / 8)) : ℝ) : EReal) := by
  have hl : Real.log 2 ≠ 0 := (Real.log_pos (by norm_num)).ne'
  unfold power
  rw [lit_eighth, lit_two, Ideal.log_coe, if_neg (by norm_num)]
  have : ∀ e, Ideal.div (((q e : ℝ) : EReal) * ((1 / 8 : ℝ) : EReal)) ((Real.log 2 : ℝ) : EReal) * ((k e : ℝ) : EReal)
      = ((k e * q e * (1 / 8) / Real.log 2 : ℝ) : EReal) := by
    intro e
    rw [Ideal.div_coe hl, ← EReal.coe_mul, ← EReal.coe_mul, ← EReal.coe_mul]
    congr 1
    field_simp
  simp only [this]
  rw [← coe_sum, Ideal.exp2_coe, ← Finset.sum_div, ← Finset.sum_mul, rpow_two_div_log]

/-- With real scores, the average with weights `power` is the softmax's average. -/
theorem average_eq (q : Fin 64 → ℝ) (k : Fin 4096 → Fin 64 → ℝ) (v : Fin 4096 → EReal) (M : ℝ) :
    average (fun e => Ideal.div (((q e : ℝ) : EReal) * Ideal.ofBits .f32 0x3E000000#32) (Ideal.log (Ideal.ofBits .f32 0x40000000#32)))
        (fun n e => ((k n e : ℝ) : EReal)) v
      = ∑ n, v n * Ideal.div (Ideal.exp (((∑ e, k n e * q e) * (1 / 8) : ℝ) - (M : EReal)))
          (∑ n', Ideal.exp (((∑ e, k n' e * q e) * (1 / 8) : ℝ) - (M : EReal))) := by
  unfold average
  simp only [power_scaled]
  rw [softmax_once (fun n => (∑ e, k n e * q e) * (1 / 8)) M v, coe_sum]

/-- Element by element, the kernel's result is the reference's. -/
theorem result_eq (q : FVec Ideal S32768x512 .f32) (k v : FVec Ideal S32768x128 .f32)
    (hq : ∀ i, ∃ r : ℝ, q i = r) (hk : ∀ i, ∃ r : ℝ, k i = r) (R : Fin 32768) (C : Fin 512) :
    result (side q k v) R C = AttnRef.refResult q k v R C := by
  have hR := R.isLt
  have hC := C.isLt
  choose q' hq' using hq
  choose k' hk' using hk
  let row : Fin 4096 → Fin 32768 := fun n => ⟨R.val / 4096 * 4096 + n.val, by omega⟩
  let Q : Fin 64 → ℝ := fun e => q' (ix2 R ⟨C.val / 64 * 64 + e.val, by omega⟩)
  let K : Fin 4096 → Fin 64 → ℝ := fun n e => k' (ix2 (row n) ⟨C.val / 256 * 64 + e.val, by omega⟩)
  have hs : ∀ n, AttnRef.score q k R ⟨C.val / 64, by omega⟩ n = (((∑ e, K n e * Q e) * (1 / 8) : ℝ) : EReal) := by
    intro n
    unfold AttnRef.score
    rw [lit_eighth, EReal.coe_mul, coe_sum]
    refine congrArg (fun x : EReal => x * _) (Finset.sum_congr rfl fun e _ => ?_)
    rw [hq', hk', EReal.coe_mul]
    refine congrArg (fun x : Fin 128 => ((k' (ix2 (row n) x) : ℝ) : EReal) * _) (Fin.ext ?_)
    dsimp only
    omega
  obtain ⟨M, hM⟩ := fold_max_real (fun n : Fin 4096 => (∑ e, K n e * Q e) * (1 / 8))
  have hl : AttnRef.largest q k R ⟨C.val / 64, by omega⟩ = (M : EReal) := by
    unfold AttnRef.largest
    simp only [hs]
    rw [hM]
    exact max_eq_right bot_le
  unfold AttnRef.refResult
  simp only [hs, hl]
  refine Eq.trans ?_ (average_eq Q K (fun n => v (ix2 (row n) ⟨C.val / 256 * 64 + C.val % 64, by omega⟩)) M)
  unfold result
  have eq : ∀ f g h f' g' h', f = f' → g = g' → h = h' → average f g h = average f' g' h' := by
    rintro _ _ _ _ _ _ rfl rfl rfl; rfl
  refine eq _ _ _ _ _ _ (funext fun e => ?_) (funext fun n => funext fun e => ?_) (funext fun n => ?_)
  · have he := e.isLt
    rw [side_q _ _ _ _ _ (by dsimp only; omega), hq']
  · rw [side_k q k v (row n) ⟨C.val / 256, by omega⟩ ⟨C.val / 64 % 2, by omega⟩ e, hk']
  · exact side_v q k v (row n) ⟨C.val / 256, by omega⟩ ⟨C.val / 64 % 2, by omega⟩ ⟨C.val % 64, by omega⟩

end Cert.Own.Attn

end
-- ==== Proof.Finite.lean ====
/- A finite entry is a real number. -/
module

public import proofs.«01_k».proof.Proof.Consts
public import Idealize.ShloMosaic.Lib.Pointwise

@[expose] public section

noncomputable section

namespace Cert.Own

open Idealize.ShloMosaic

/-- An extended real whose absolute value is below infinity is a real number. -/
theorem real_of_abs_lt {x : EReal}
    (h : FloatOps.cmpf (F := Ideal) (φ := .f32) .olt (FloatOps.hostAbsf (F := Ideal) (φ := .f32) x) (FloatOps.ofBits (F := Ideal) .f32 0x7F800000#32) = 1#1) :
    ∃ r : ℝ, x = r := by
  have h' : Ideal.cmp .olt (max x (-x)) (Ideal.ofBits .f32 0x7F800000#32) = 1#1 := h
  rw [lit_top] at h'
  induction x with
  | coe r => exact ⟨r, rfl⟩
  | bot => simp [Ideal.cmp] at h'
  | top => simp [Ideal.cmp] at h'

/-- The same in the shorter type. -/
theorem real_of_abs_lt_bf16 {x : EReal}
    (h : FloatOps.cmpf (F := Ideal) (φ := .bf16) .olt (FloatOps.hostAbsf (F := Ideal) (φ := .bf16) x) (FloatOps.ofBits (F := Ideal) .bf16 0x7F80#16) = 1#1) :
    ∃ r : ℝ, x = r := by
  have h' : Ideal.cmp .olt (max x (-x)) (Ideal.ofBits .bf16 0x7F80#16) = 1#1 := h
  rw [lit_top_bf16] at h'
  induction x with
  | coe r => exact ⟨r, rfl⟩
  | bot => simp [Ideal.cmp] at h'
  | top => simp [Ideal.cmp] at h'

end Cert.Own

end
-- ==== Proof.AttnClaim.lean ====
/- The attention's claims: what it computes, on finite queries and keys, is the reference's softmax attention. -/
module

public import proofs.«01_k».proof.Defs
public import proofs.«01_k».proof.Proof.AttnEq
public import proofs.«01_k».proof.Proof.Finite
public import proofs.«01_k».proof.Proof.Gen.AttnA.Frame
public import proofs.«01_k».proof.Proof.Gen.AttnARefIdeal.Run
public import proofs.«01_k».proof.Proof.Gen.Pre_finite_qk

@[expose] public section

set_option maxRecDepth 16384

noncomputable section

namespace Cert.Own.Attn

open Idealize.ShloMosaic Idealize.ShloMosaic.TcCoe Idealize.SL.Sem

/-- The precondition says that every query and every key is a real number. -/
theorem real_of_pre (q : FVec Ideal AttnAIdeal.S32768x512 .f32) (k v : FVec Ideal AttnAIdeal.S32768x128 .f32)
    (h : (Cert.Pre_finite_qk.fn (F := Ideal) q k v).1 = (fun _ => 1#1)
      ∧ (Cert.Pre_finite_qk.fn (F := Ideal) q k v).2 = (fun _ => 1#1)) :
    (∀ i, ∃ r : ℝ, q i = r) ∧ (∀ i, ∃ r : ℝ, k i = r) :=
  ⟨fun i => real_of_abs_lt (congrFun h.1 i), fun i => real_of_abs_lt (congrFun h.2 i)⟩

/-- The kernel's result array is the reference's. -/
theorem arrays_eq (m : (ℓ : Loc AttnAIdeal.nD AttnAIdeal.τ AttnAIdeal.sig) → Buf (Elt Ideal) ℓ) (c : Dev AttnAIdeal.nD)
    (hq : ∀ i, ∃ r : ℝ, m ((c.tc : Thread AttnAIdeal.nD AttnAIdeal.τ).loc AttnAIdeal.main_arg0) i = (r : EReal))
    (hk : ∀ i, ∃ r : ℝ, m ((c.tc : Thread AttnAIdeal.nD AttnAIdeal.τ).loc AttnAIdeal.main_arg1) i = (r : EReal)) :
    AttnARefIdeal.Read.val_main_v21 (F := Ideal) (m ((c.tc : Thread AttnAIdeal.nD AttnAIdeal.τ).loc AttnAIdeal.main_arg0))
        (m ((c.tc : Thread AttnAIdeal.nD AttnAIdeal.τ).loc AttnAIdeal.main_arg1))
        (m ((c.tc : Thread AttnAIdeal.nD AttnAIdeal.τ).loc AttnAIdeal.main_arg2))
      = (AttnAIdeal.Gen.dats m 0 c).arrAt 3 AttnAIdeal.cfg0.N := by
  rw [array_eq, V_v18]
  funext i
  obtain ⟨R, C, rfl⟩ : ∃ (R : Fin 32768) (C : Fin 512), i = ix2 R C :=
    ⟨i 0, i 1, by funext a; match a with | ⟨0, _⟩ => rfl | ⟨1, _⟩ => rfl⟩
  rw [AttnRef.v21_eq]
  exact (result_eq _ _ _ hq hk R C).symm

/-- The value claim. -/
theorem algebraic : Cert.algebraic_AttnAIdeal_AttnARefIdeal_pre_finite_qk (hAttnAIdeal := Cert.AttnAIdeal.Gen.facts)
    (hAttnARefIdeal := Cert.AttnARefIdeal.Gen.facts) (hPre_finite_qk := Cert.Pre_finite_qk.Gen.facts) := by
  intro m ρ m' ρ' hpre hagree
  refine ⟨fun c => (AttnAIdeal.Gen.dats m 0 c).arrAt 3 AttnAIdeal.cfg0.N, AttnAIdeal.Value.run_blocks m ρ, ?_⟩
  refine (θ_run _ _ _).mono (fun r h c => ⟨?_, (h c).2⟩) (AttnARefIdeal.Value.run (F := Ideal) m' ρ')
  rw [(h c).1, AttnARefIdeal.Read.val_main_v21_eq, (hagree c).1, (hagree c).2.1, (hagree c).2.2]
  exact arrays_eq m c (real_of_pre _ _ _ (hpre c)).1 (real_of_pre _ _ _ (hpre c)).2

/-- The reference's frame. -/
theorem ref_frame (m : (ℓ : Loc AttnARefIdeal.nD AttnARefIdeal.τ AttnARefIdeal.sig) → Buf (Elt Ideal) ℓ) (ρ : Dev AttnARefIdeal.nD → PrngReg) :
    θ_run AttnARefIdeal.defs (onTc (τ := AttnARefIdeal.τ) (AttnARefIdeal.main (F := Ideal))) ⟨m, fun _ => 0, ρ⟩ fun r =>
      (∀ c : Dev AttnARefIdeal.nD,
        r.2.mem ((c.tc : Thread AttnARefIdeal.nD AttnARefIdeal.τ).loc AttnARefIdeal.main_arg0) = m ((c.tc : Thread AttnARefIdeal.nD AttnARefIdeal.τ).loc AttnARefIdeal.main_arg0)
        ∧ r.2.mem ((c.tc : Thread AttnARefIdeal.nD AttnARefIdeal.τ).loc AttnARefIdeal.main_arg1) = m ((c.tc : Thread AttnARefIdeal.nD AttnARefIdeal.τ).loc AttnARefIdeal.main_arg1)
        ∧ r.2.mem ((c.tc : Thread AttnARefIdeal.nD AttnARefIdeal.τ).loc AttnARefIdeal.main_arg2) = m ((c.tc : Thread AttnARefIdeal.nD AttnARefIdeal.τ).loc AttnARefIdeal.main_arg2))
      ∧ r.2.sem = fun _ => 0 :=
  (θ_run _ _ _).mono (fun r h => ⟨fun c => (h c).2, Idealize.ShloMosaic.sem_eq_zero_of_no_sems (by decide) r.2⟩)
    (AttnARefIdeal.Value.run (F := Ideal) m ρ)

end Cert.Own.Attn

end
-- ==== Proof.RunningLaw.lean ====
/- A weighted sum taken chunk by chunk, the weights lowered again whenever a larger score appears. -/
module

public import proofs.«01_k».proof.Proof.SoftmaxLaw
public import Idealize.ShloMosaic.Lib.FinSumWindow

@[expose] public section

noncomputable section

namespace Cert.Own.Running

open Idealize.ShloMosaic
open scoped BigOperators

/-- Two to a real power. -/
def two (t : ℝ) : ℝ := Real.rpow 2 t

/-- It is positive. -/
theorem two_pos' (t : ℝ) : 0 < two t := Real.rpow_pos_of_pos two_pos t

/-- It turns sums into products. -/
theorem two_add (a b : ℝ) : two (a + b) = two a * two b := Real.rpow_add two_pos a b

/-- Going from one shift to another. -/
theorem two_shift (t M M' : ℝ) : two (t - M) * two (M - M') = two (t - M') := by
  rw [← two_add]
  congr 1
  ring

/-- The weights of the first `n` chunks of 512 keys, summed: `t` gives each key's score, `M` is the shift. -/
def weightSum (t : ℕ → ℝ) (M : ℝ) (n : ℕ) : EReal := ∑ i : Fin n, ∑ c : Fin 512, ((two (t (i.val * 512 + c.val) - M) : ℝ) : EReal)

/-- The weighted sum of the values `v` over the first `n` chunks. -/
def valueSum (t : ℕ → ℝ) (v : ℕ → EReal) (M : ℝ) (n : ℕ) : EReal :=
  ∑ i : Fin n, ∑ c : Fin 512, ((two (t (i.val * 512 + c.val) - M) : ℝ) : EReal) * v (i.val * 512 + c.val)

/-- A weighted sum moved from one shift to another. -/
theorem valueSum_shift (t : ℕ → ℝ) (v : ℕ → EReal) (M M' : ℝ) (n : ℕ) :
    valueSum t v M n * ((two (M - M') : ℝ) : EReal) = valueSum t v M' n := by
  unfold valueSum
  rw [sum_mul_real _ _ (two_pos' _).le]
  refine Finset.sum_congr rfl fun i _ => ?_
  rw [sum_mul_real _ _ (two_pos' _).le]
  refine Finset.sum_congr rfl fun c _ => ?_
  rw [mul_right_comm, ← EReal.coe_mul, two_shift]

/-- A sum of weights is a weighted sum of ones. -/
theorem weightSum_eq (t : ℕ → ℝ) (M : ℝ) (n : ℕ) : weightSum t M n = valueSum t (fun _ => 1) M n := by
  unfold weightSum valueSum
  simp only [mul_one]

/-- A sum of weights moved from one shift to another. -/
theorem weightSum_shift (t : ℕ → ℝ) (M M' : ℝ) (n : ℕ) :
    weightSum t M n * ((two (M - M') : ℝ) : EReal) = weightSum t M' n := by
  rw [weightSum_eq, weightSum_eq, valueSum_shift]

/-- One chunk more. -/
theorem valueSum_succ (t : ℕ → ℝ) (v : ℕ → EReal) (M : ℝ) (n : ℕ) :
    valueSum t v M (n + 1) = valueSum t v M n + ∑ c : Fin 512, ((two (t (n * 512 + c.val) - M) : ℝ) : EReal) * v (n * 512 + c.val) := by
  unfold valueSum
  rw [Fin.sum_univ_castSucc]
  rfl

/-- One chunk more. -/
theorem weightSum_succ (t : ℕ → ℝ) (M : ℝ) (n : ℕ) :
    weightSum t M (n + 1) = weightSum t M n + ∑ c : Fin 512, ((two (t (n * 512 + c.val) - M) : ℝ) : EReal) := by
  unfold weightSum
  rw [Fin.sum_univ_castSucc]
  rfl

/-- No chunk. -/
theorem valueSum_zero (t : ℕ → ℝ) (v : ℕ → EReal) (M : ℝ) : valueSum t v M 0 = 0 := rfl

/-- No chunk. -/
theorem weightSum_zero (t : ℕ → ℝ) (M : ℝ) : weightSum t M 0 = 0 := rfl

/-- A sum of weights, over at least one chunk, is a positive real. -/
theorem weightSum_real (t : ℕ → ℝ) (M : ℝ) (n : ℕ) : ∃ w : ℝ, 0 < w ∧ weightSum t M (n + 1) = (w : EReal) := by
  refine ⟨∑ i : Fin (n + 1), ∑ c : Fin 512, two (t (i.val * 512 + c.val) - M), ?_, ?_⟩
  · exact Finset.sum_pos (fun i _ => Finset.sum_pos (fun c _ => two_pos' _) Finset.univ_nonempty) Finset.univ_nonempty
  · unfold weightSum
    rw [coe_sum]
    exact Finset.sum_congr rfl fun i _ => (coe_sum _ _).symm

/-- A quotient of a weighted sum by the sum of its weights is the same whatever the shift. -/
theorem quotient_shift (t : ℕ → ℝ) (v : ℕ → EReal) (M M' : ℝ) (n : ℕ) :
    Ideal.div (valueSum t v M (n + 1)) (weightSum t M (n + 1)) = Ideal.div (valueSum t v M' (n + 1)) (weightSum t M' (n + 1)) := by
  rw [← valueSum_shift t v M M', ← weightSum_shift t M M']
  obtain ⟨w, hw, e⟩ := weightSum_real t M n
  have h2 := two_pos' (M - M')
  rw [e, ← EReal.coe_mul, Ideal.div_coe hw.ne', Ideal.div_coe (mul_pos hw h2).ne', mul_assoc, ← EReal.coe_mul]
  congr 2
  field_simp

/-- Without a shift, over 8 chunks: the quotient over the 4096 keys. -/
theorem quotient_keys (t : ℕ → ℝ) (v : ℕ → EReal) (M : ℝ) :
    Ideal.div (valueSum t v M 8) (weightSum t M 8)
      = Ideal.div (∑ k : Fin 4096, Ideal.exp2 ((t k.val : ℝ) : EReal) * v k.val) (∑ k : Fin 4096, Ideal.exp2 ((t k.val : ℝ) : EReal)) := by
  rw [quotient_shift t v M 0 7]
  unfold valueSum weightSum
  rw [Fin.sum_univ_tiles 8 512 rfl, Fin.sum_univ_tiles 8 512 rfl]
  simp only [sub_zero]
  rfl

end Cert.Own.Running

end
-- ==== Proof.RunningBlock.lean ====
/- What the body of the attention kernel's running-maximum form computes for one block of queries, read at an index. -/
module

public import proofs.«01_k».proof.Proof.Gen.AttnMIdeal.Frame
public import proofs.«01_k».proof.Proof.RunningLaw
public import proofs.«01_k».proof.Proof.AttnArray
public import proofs.«01_k».proof.Proof.Consts

@[expose] public section

set_option maxRecDepth 16384

noncomputable section

namespace Cert.Own.Running

open Cert.AttnMIdeal Cert.AttnMIdeal.Gen Idealize.ShloMosaic
open scoped BigOperators

variable {F : FTy → Type} [FloatOps F]

/-- Chunk `n` of the keys, or of the values, lies within them. -/
theorem inb_chunk (n : Fin 8) (a : Fin 2) : (![512 * n.val, 0] : Fin 2 → Nat) a + S512x128.size a ≤ S4096x128.size a := by
  match a with
  | ⟨0, _⟩ => show 512 * n.val + 512 ≤ 4096; have := n.isLt; omega
  | ⟨1, _⟩ => exact Nat.le_refl 128

/-- The rows of the keys, or of the values, that chunk `n` takes. -/
abbrev chunkRect (n : Fin 8) : Rect S4096x128 := Rect.unit (s := S4096x128) ![512 * n.val, 0] S512x128.size (inb_chunk n)

/-- Chunk `n` of a block of keys or values. -/
def chunk (x : Vec F S4096x128 .bf16) (n : Fin 8) : Vec F S512x128 .bf16 := View.ld x (chunkRect n)

/-- The scores of the stacked queries `q` over one chunk of keys. -/
def scores (q : FVec F S2048x128 .bf16) (kc : Vec F S512x128 .bf16) : FVec F S2048x512 .f32 :=
  matmul dot_S2048x128_S512x128_S2048x512_1_1_0_0_n_n none q (shapeCast S512x128 kc shapeCasts_S512x128_S512x128)
    (constant S2048x512 .f32 0x00000000#32)

/-- The largest score of each row over one chunk. -/
def largest (q : FVec F S2048x128 .bf16) (kc : Vec F S512x128 .bf16) : FVec F S2048x1 .f32 :=
  shapeCast S2048x1 (multiReduction .maximumf [1] S2048 (scores q kc) 0xFF800000#32 reduces_S2048x512_S2048 (.inl rfl) rfl)
    shapeCasts_S2048_S2048x1

/-- The weights over one chunk, the row's `top` taken off the scores. -/
def weights (q : FVec F S2048x128 .bf16) (kc : Vec F S512x128 .bf16) (top : FVec F S2048x1 .f32) : FVec F S2048x512 .f32 :=
  exp2 (subf (scores q kc) (broadcastTo S2048x512 top broadcasts_S2048x1_S2048x512))

/-- The four quarters of a chunk's weights, added. -/
def laneSums (w : FVec F S2048x512 .f32) : FVec F S2048x128 .f32 :=
  addf (addf (addf (extractStridedSlice S2048x128 ![0, 0] w slices_S2048x512_o0_0_S2048x128)
    (extractStridedSlice S2048x128 ![0, 128] w slices_S2048x512_o0_128_S2048x128))
    (extractStridedSlice S2048x128 ![0, 256] w slices_S2048x512_o0_256_S2048x128))
    (extractStridedSlice S2048x128 ![0, 384] w slices_S2048x512_o0_384_S2048x128)

/-- A chunk's weighted sums of values. -/
def weighted (w : FVec F S2048x512 .f32) (vc : Vec F S512x128 .bf16) : FVec F S2048x128 .f32 :=
  matmul dot_S2048x512_S512x128_S2048x128_1_0_0_1_n_n none (truncf .bf16 w bitsLt_bf16_f32)
    (shapeCast S512x128 vc shapeCasts_S512x128_S512x128) (constant S2048x128 .f32 0x00000000#32)

/-- The factor from one largest score to a larger one, over the lanes. -/
def factor (old new : FVec F S2048x1 .f32) : FVec F S2048x128 .f32 :=
  broadcastTo S2048x128 (exp2 (subf old new)) broadcasts_S2048x1_S2048x128

variable (F) in
/-- What is carried from chunk to chunk: the largest scores, the sums of weights by lane, the weighted sums of values. -/
structure State where
  /-- The largest score of each row so far. -/
  top : FVec F S2048x1 .f32
  /-- The sums of the weights so far. -/
  sums : FVec F S2048x128 .f32
  /-- The weighted sums of the values so far. -/
  acc : FVec F S2048x128 .f32

/-- After the first chunk. -/
def start (q : FVec F S2048x128 .bf16) (kc vc : Vec F S512x128 .bf16) : State F where
  top := largest q kc
  sums := laneSums (weights q kc (largest q kc))
  acc := weighted (weights q kc (largest q kc)) vc

/-- After one more chunk. -/
def step (q : FVec F S2048x128 .bf16) (S : State F) (kc vc : Vec F S512x128 .bf16) : State F where
  top := maximumf S.top (largest q kc)
  sums := addf (mulf S.sums (factor S.top (maximumf S.top (largest q kc)))) (laneSums (weights q kc (maximumf S.top (largest q kc))))
  acc := addf (mulf S.acc (factor S.top (maximumf S.top (largest q kc)))) (weighted (weights q kc (maximumf S.top (largest q kc))) vc)

/-- After all 8 chunks. -/
def final (q : FVec F S2048x128 .bf16) (x1 x2 : Vec F S4096x128 .bf16) : State F :=
  step q (step q (step q (step q (step q (step q (step q (start q (chunk x1 0) (chunk x2 0)) (chunk x1 1) (chunk x2 1))
    (chunk x1 2) (chunk x2 2)) (chunk x1 3) (chunk x2 3)) (chunk x1 4) (chunk x2 4)) (chunk x1 5) (chunk x2 5))
    (chunk x1 6) (chunk x2 6)) (chunk x1 7) (chunk x2 7)

/-- The last step: the weighted sums divided by the sums of weights, laid out head by head. -/
def finish (l acc : FVec F S2048x128 .f32) : FVec F S512x256 .bf16 :=
  k0_pay1 (divf acc (broadcastTo S2048x128 (shapeCast S2048x1
    (multiReduction .add [1] S2048 l 0x00000000#32 reduces_S2048x128_S2048 (.inl rfl) rfl) shapeCasts_S2048_S2048x1)
    broadcasts_S2048x1_S2048x128)) k0_pay44

/-- The state after all chunks, from the chunks. -/
def finalOf (q : FVec F S2048x128 .bf16) (k0 k1 k2 k3 k4 k5 k6 k7 v0 v1 v2 v3 v4 v5 v6 v7 : Vec F S512x128 .bf16) : State F :=
  step q (step q (step q (step q (step q (step q (step q (start q k0 v0) k1 v1) k2 v2) k3 v3) k4 v4) k5 v5) k6 v6) k7 v7

/-- The output block. -/
theorem out_eq (x0 : Vec F S512x256 .bf16) (x1 x2 : Vec F S4096x128 .bf16) :
    out0_3 x0 x1 x2 = View.canon [⟨r0_0, finish (final (k0_pay2 (View.ld x0 r0_0)) x1 x2).sums (final (k0_pay2 (View.ld x0 r0_0)) x1 x2).acc⟩] := by
  have e : final (k0_pay2 (View.ld x0 r0_0)) x1 x2 = finalOf (k0_pay2 (View.ld x0 r0_0)) (View.ld x1 r0_1) (View.ld x1 r0_2) (View.ld x1 r0_3)
      (View.ld x1 r0_4) (View.ld x1 r0_5) (View.ld x1 r0_6) (View.ld x1 r0_7) (View.ld x1 r0_8) (View.ld x2 r0_1) (View.ld x2 r0_2)
      (View.ld x2 r0_3) (View.ld x2 r0_4) (View.ld x2 r0_5) (View.ld x2 r0_6) (View.ld x2 r0_7) (View.ld x2 r0_8) := rfl
  rw [e]
  unfold_out out0_3
  generalize View.ld x1 r0_1 = k0, View.ld x1 r0_2 = k1, View.ld x1 r0_3 = k2, View.ld x1 r0_4 = k3, View.ld x1 r0_5 = k4,
    View.ld x1 r0_6 = k5, View.ld x1 r0_7 = k6, View.ld x1 r0_8 = k7, View.ld x2 r0_1 = v0, View.ld x2 r0_2 = v1, View.ld x2 r0_3 = v2,
    View.ld x2 r0_4 = v3, View.ld x2 r0_5 = v4, View.ld x2 r0_6 = v5, View.ld x2 r0_7 = v6, View.ld x2 r0_8 = v7, View.ld x0 r0_0 = y
  unfold finalOf finish
  dsimp only [step, start, factor, weighted, laneSums, weights, largest, scores]
  unfold k0_pay43 k0_pay42 k0_pay41 k0_pay40 k0_pay39 k0_pay38 k0_pay37 k0_pay36 k0_pay35 k0_pay34 k0_pay33 k0_pay32 k0_pay31 k0_pay30 k0_pay29 k0_pay28 k0_pay27 k0_pay26 k0_pay25 k0_pay24 k0_pay23 k0_pay22 k0_pay21 k0_pay20 k0_pay19 k0_pay18 k0_pay17 k0_pay16 k0_pay15 k0_pay14 k0_pay13 k0_pay12 k0_pay11 k0_pay10 k0_pay9 k0_pay8 k0_pay7 k0_pay6 k0_pay5 k0_pay4 k0_pay3
  dsimp only

/-! ## Read at an index, over the extended reals -/

/-- A score is the product of a query row and a key row. -/
theorem scores_apply (q : FVec Ideal S2048x128 .bf16) (kc : Vec Ideal S512x128 .bf16) (r : Fin 2048) (c : Fin 512) :
    scores q kc (ix2 r c) = ∑ e : Fin 128, q (ix2 r e) * kc (ix2 c e) := by
  unfold scores
  pointwise

/-- The largest score of a row over one chunk. -/
theorem largest_apply (q : FVec Ideal S2048x128 .bf16) (kc : Vec Ideal S512x128 .bf16) (r : Fin 2048) :
    largest q kc (ix2 r 0) = Finset.univ.fold max ⊥ fun c : Fin 512 => scores q kc (ix2 r c) := by
  unfold largest
  generalize scores q kc = y
  pointwise
  rw [lit_bot]

/-- A weight. -/
theorem weights_apply (q : FVec Ideal S2048x128 .bf16) (kc : Vec Ideal S512x128 .bf16) (top : FVec Ideal S2048x1 .f32) (r : Fin 2048)
    (c : Fin 512) : weights q kc top (ix2 r c) = Ideal.exp2 (scores q kc (ix2 r c) - top (ix2 r 0)) := by
  unfold weights
  generalize scores q kc = y
  pointwise
  rfl

/-- A lane's sum of the weights. -/
theorem laneSums_apply (w : FVec Ideal S2048x512 .f32) (r : Fin 2048) (l : Fin 128) :
    laneSums w (ix2 r l) = w (ix2 r ⟨l.val, by omega⟩) + w (ix2 r ⟨128 + l.val, by omega⟩) + w (ix2 r ⟨256 + l.val, by omega⟩)
      + w (ix2 r ⟨384 + l.val, by omega⟩) := by
  unfold laneSums
  pointwise

/-- All lanes' sums are the sum of the chunk's weights. -/
theorem laneSums_sum (w : FVec Ideal S2048x512 .f32) (r : Fin 2048) :
    ∑ l : Fin 128, laneSums w (ix2 r l) = ∑ c : Fin 512, w (ix2 r c) := by
  rw [Fin.sum_univ_tiles 4 128 rfl]
  simp only [laneSums_apply, Finset.sum_add_distrib, Fin.sum_univ_four]
  refine congrArg₂ (· + ·) (congrArg₂ (· + ·) (congrArg₂ (· + ·) ?_ ?_) ?_) ?_ <;>
    exact Finset.sum_congr rfl fun l _ => congrArg (fun c => w (ix2 r c)) (Fin.ext (by simp))

/-- A chunk's weighted sum of the values at a lane. -/
theorem weighted_apply (w : FVec Ideal S2048x512 .f32) (vc : Vec Ideal S512x128 .bf16) (r : Fin 2048) (l : Fin 128) :
    weighted w vc (ix2 r l) = ∑ c : Fin 512, w (ix2 r c) * vc (ix2 c l) := by
  unfold weighted
  pointwise

/-- The factor at a lane. -/
theorem factor_apply (old new : FVec Ideal S2048x1 .f32) (r : Fin 2048) (l : Fin 128) :
    factor old new (ix2 r l) = Ideal.exp2 (old (ix2 r 0) - new (ix2 r 0)) := by
  unfold factor
  pointwise
  rfl

/-- Chunk `n` holds rows `512 n` and on. -/
theorem chunk_apply (x : Vec Ideal S4096x128 .bf16) (n : Fin 8) (c : Fin 512) (l : Fin 128) :
    chunk x n (ix2 c l) = x (ix2 ⟨n.val * 512 + c.val, by omega⟩ l) := by
  unfold chunk
  pointwise
  congr 3
  omega

/-! ## What is carried, row by row -/

/-- After `n` chunks: the row's scores are `t`, the values `v`, and what is carried are their sums, under some real shift. -/
def Carries (S : State Ideal) (t : ℕ → ℝ) (v : ℕ → Fin 128 → EReal) (n : ℕ) (r : Fin 2048) : Prop :=
  ∃ M : ℝ, S.top (ix2 r 0) = (M : EReal) ∧ (∑ e : Fin 128, S.sums (ix2 r e)) = weightSum t M n
    ∧ ∀ l, S.acc (ix2 r l) = valueSum t (fun k => v k l) M n

section
variable {q : FVec Ideal S2048x128 .bf16} {kc vc : Vec Ideal S512x128 .bf16} {t : ℕ → ℝ} {v : ℕ → Fin 128 → EReal} {n : ℕ} {r : Fin 2048}

/-- The largest of a chunk's real scores is real. -/
theorem largest_real (hs : ∀ c : Fin 512, scores q kc (ix2 r c) = ((t (n * 512 + c.val) : ℝ) : EReal)) :
    ∃ M : ℝ, largest q kc (ix2 r 0) = (M : EReal) := by
  rw [largest_apply]
  simp only [hs]
  exact fold_max_real _

/-- A chunk's weights, under a real shift. -/
theorem weights_real (hs : ∀ c : Fin 512, scores q kc (ix2 r c) = ((t (n * 512 + c.val) : ℝ) : EReal)) (top : FVec Ideal S2048x1 .f32) (M : ℝ)
    (hM : top (ix2 r 0) = (M : EReal)) (c : Fin 512) :
    weights q kc top (ix2 r c) = ((two (t (n * 512 + c.val) - M) : ℝ) : EReal) := by
  rw [weights_apply, hs, hM, ← EReal.coe_sub, Ideal.exp2_coe]
  rfl

/-- The first chunk. -/
theorem start_carries (hs : ∀ c : Fin 512, scores q kc (ix2 r c) = ((t (0 * 512 + c.val) : ℝ) : EReal))
    (hv : ∀ (c : Fin 512) l, vc (ix2 c l) = v (0 * 512 + c.val) l) : Carries (start q kc vc) t v 1 r := by
  obtain ⟨M, hM⟩ := largest_real (n := 0) hs
  have e : (start q kc vc).top (ix2 r 0) = largest q kc (ix2 r 0) := by
    dsimp only [start]
  refine ⟨M, e.trans hM, ?_, fun l => ?_⟩
  · rw [weightSum_succ, weightSum_zero, zero_add]
    show ∑ e : Fin 128, laneSums (weights q kc (largest q kc)) (ix2 r e) = _
    rw [laneSums_sum]
    exact Finset.sum_congr rfl fun c _ => weights_real hs _ M hM c
  · rw [valueSum_succ, valueSum_zero, zero_add]
    show weighted (weights q kc (largest q kc)) vc (ix2 r l) = _
    rw [weighted_apply]
    refine Finset.sum_congr rfl fun c _ => ?_
    rw [weights_real hs _ M hM c, hv]

/-- One more chunk. -/
theorem step_carries {S : State Ideal} (hS : Carries S t v n r)
    (hs : ∀ c : Fin 512, scores q kc (ix2 r c) = ((t (n * 512 + c.val) : ℝ) : EReal))
    (hv : ∀ (c : Fin 512) l, vc (ix2 c l) = v (n * 512 + c.val) l) : Carries (step q S kc vc) t v (n + 1) r := by
  obtain ⟨M, hM, hL, hA⟩ := hS
  obtain ⟨m, hm⟩ := largest_real hs
  have htop : maximumf S.top (largest q kc) (ix2 r 0) = ((max M m : ℝ) : EReal) := by
    show max (S.top (ix2 r 0)) (largest q kc (ix2 r 0)) = _
    rw [hM, hm]
    exact (EReal.coe_strictMono.monotone.map_max).symm
  have hf : ∀ l, factor S.top (maximumf S.top (largest q kc)) (ix2 r l) = ((two (M - max M m) : ℝ) : EReal) := fun l => by
    rw [factor_apply, hM, htop, ← EReal.coe_sub, Ideal.exp2_coe]
    rfl
  refine ⟨max M m, htop, ?_, fun l => ?_⟩
  · rw [weightSum_succ, ← weightSum_shift t M (max M m), ← hL, sum_mul_real _ _ (two_pos' _).le]
    show ∑ e : Fin 128, (S.sums (ix2 r e) * factor S.top (maximumf S.top (largest q kc)) (ix2 r e) + laneSums _ (ix2 r e)) = _
    rw [Finset.sum_add_distrib, laneSums_sum]
    refine congrArg₂ (· + ·) (Finset.sum_congr rfl fun e _ => ?_) (Finset.sum_congr rfl fun c _ => weights_real hs _ _ htop c)
    rw [hf]
  · rw [valueSum_succ, ← valueSum_shift t _ M (max M m), ← hA]
    show S.acc (ix2 r l) * factor S.top (maximumf S.top (largest q kc)) (ix2 r l) + weighted _ vc (ix2 r l) = _
    rw [hf, weighted_apply]
    refine congrArg (_ + ·) (Finset.sum_congr rfl fun c _ => ?_)
    rw [weights_real hs _ _ htop c, hv]

end

/-- All chunks. -/
theorem final_carries (q : FVec Ideal S2048x128 .bf16) (x1 x2 : Vec Ideal S4096x128 .bf16) (r : Fin 2048) (t : ℕ → ℝ) (v : ℕ → Fin 128 → EReal)
    (hs : ∀ k : Fin 4096, ∑ e : Fin 128, q (ix2 r e) * x1 (ix2 k e) = ((t k.val : ℝ) : EReal))
    (hv : ∀ (k : Fin 4096) l, x2 (ix2 k l) = v k.val l) : Carries (final q x1 x2) t v 8 r := by
  have hs' : ∀ (n : Fin 8) (c : Fin 512), scores q (chunk x1 n) (ix2 r c) = ((t (n.val * 512 + c.val) : ℝ) : EReal) := fun n c => by
    rw [scores_apply, ← hs ⟨n.val * 512 + c.val, by omega⟩]
    exact Finset.sum_congr rfl fun e _ => by rw [chunk_apply]
  have hv' : ∀ (n : Fin 8) (c : Fin 512) l, chunk x2 n (ix2 c l) = v (n.val * 512 + c.val) l := fun n c l => by
    rw [chunk_apply, hv]
  exact step_carries (step_carries (step_carries (step_carries (step_carries (step_carries (step_carries (start_carries (hs' 0) (hv' 0))
    (hs' 1) (hv' 1)) (hs' 2) (hv' 2)) (hs' 3) (hv' 3)) (hs' 4) (hv' 4)) (hs' 5) (hv' 5)) (hs' 6) (hv' 6)) (hs' 7) (hv' 7)

/-! ## The stacked heads -/

/-- The stacked queries: row `512 u + r` is row `r` of head `u`, its 64 lanes in the half of the head's parity, zero in
    the other half. -/
theorem stack_apply (y : Vec Ideal S512x256 .bf16) (u : Fin 4) (r : Fin 512) (e : Fin 128) :
    k0_pay2 y (ix2 ⟨u.val * 512 + r.val, by omega⟩ e)
      = if e.val / 64 = u.val % 2 then y (ix2 r ⟨u.val / 2 * 128 + e.val, by omega⟩) else 0 := by
  unfold k0_pay2
  pointwise
  have hr := r.isLt
  have he := e.isLt
  simp only [Attn.select_lane e.val (by omega)]
  have key : ∀ (a : Fin 512) (c c' : Fin 256), a = r → c = c' → y (ix2 a c) = y (ix2 r c') := by
    rintro _ _ _ rfl rfl; rfl
  have hu := u.isLt
  by_cases hp : e.val / 64 = u.val % 2
  · rw [if_pos hp]
    split_ifs <;> first
      | omega
      | exact key _ _ _ (Fin.ext (by first | rfl | (dsimp only; omega))) (Fin.ext (by first | rfl | (dsimp only; omega)))
  · rw [if_neg hp]
    split_ifs <;> first
      | rfl
      | omega

/-- The last step at an index. -/
theorem finish_apply (l acc : FVec Ideal S2048x128 .f32) (r : Fin 512) (u : Fin 4) (d : Fin 64) :
    finish l acc (ix2 r ⟨u.val * 64 + d.val, by omega⟩)
      = Ideal.div (acc (ix2 ⟨u.val * 512 + r.val, by omega⟩ ⟨u.val % 2 * 64 + d.val, by omega⟩))
          (∑ e : Fin 128, l (ix2 ⟨u.val * 512 + r.val, by omega⟩ e)) := by
  unfold finish k0_pay1 k0_pay44
  pointwise
  have hr := r.isLt
  have hd := d.isLt
  have hu := u.isLt
  have key : ∀ (a a' : Fin 2048) (c c' : Fin 128), a = a' → c = c' →
      Ideal.div (acc (ix2 a c)) (∑ e : Fin 128, l (ix2 a e)) = Ideal.div (acc (ix2 a' c')) (∑ e : Fin 128, l (ix2 a' e)) := by
    rintro _ _ _ _ rfl rfl; rfl
  by_cases h : u.val * 64 + d.val < 128
  · rw [dif_pos h, Attn.select_lane _ (by omega)]
    split_ifs <;> exact key _ _ _ _ (Fin.ext (by first | rfl | (dsimp only; omega))) (Fin.ext (by first | rfl | (dsimp only; omega)))
  · rw [dif_neg h, Attn.select_lane _ (by omega)]
    split_ifs <;> exact key _ _ _ _ (Fin.ext (by first | rfl | (dsimp only; omega))) (Fin.ext (by first | rfl | (dsimp only; omega)))

/-- A stacked row's product with a key row is the head's. -/
theorem stack_score (y : Vec Ideal S512x256 .bf16) (x1 : Vec Ideal S4096x128 .bf16) (u : Fin 4) (r : Fin 512) (k : Fin 4096) :
    ∑ e : Fin 128, k0_pay2 y (ix2 ⟨u.val * 512 + r.val, by omega⟩ e) * x1 (ix2 k e)
      = ∑ e : Fin 64, y (ix2 r ⟨u.val * 64 + e.val, by omega⟩) * x1 (ix2 k ⟨u.val % 2 * 64 + e.val, by omega⟩) := by
  have hu := u.isLt
  rw [FinSumWindow.sum_window (u.val % 2 * 64) (W := 64) (by omega)]
  · refine Finset.sum_congr rfl fun e _ => ?_
    have he := e.isLt
    rw [stack_apply, if_pos (by show (u.val % 2 * 64 + e.val) / 64 = u.val % 2; omega)]
    congr 3
    apply Fin.ext
    show u.val / 2 * 128 + (u.val % 2 * 64 + e.val) = u.val * 64 + e.val
    omega
  · intro e he
    have he' := e.isLt
    rw [stack_apply, if_neg (by omega), zero_mul]

end Cert.Own.Running

end
-- ==== Proof.LayerNorm.lean ====
/- The layer norm of one row of 1024 numbers. -/
module

public import Idealize.ShloMosaic.PureOps.Ideal

@[expose] public section

noncomputable section

namespace Cert.Own

open Idealize.ShloMosaic
open scoped BigOperators

/-- The mean of a row. -/
def mean (z : Fin 1024 → EReal) : EReal := Ideal.div (∑ k, z k) (Ideal.ofBits .f32 0x44800000#32)

/-- The layer norm of a row `z` with gain `g` and bias `b`, at column `c`. -/
def layerNorm (z g b : Fin 1024 → EReal) (c : Fin 1024) : EReal :=
  (z c - mean z) * Ideal.rsqrt (mean (fun k => (z k - mean z) * (z k - mean z)) + Ideal.ofBits .f32 0x3727C5AC#32) * g c + b c

end Cert.Own

end
-- ==== Proof.MixRow.lean ====
/- One row of the memory attention's step: residual and layer norm, attention over 256 memory tokens in 4 heads, residual and layer
   norm again, as the kernel computes it and as the reference does. -/
module

public import proofs.«01_k».proof.Proof.LayerNorm

@[expose] public section

noncomputable section

namespace Cert.Own.Mix

open Idealize.ShloMosaic
open scoped BigOperators

/-- Column `e` of head `h`. -/
abbrev col (h : Fin 4) (e : Fin 256) : Fin 1024 := ⟨h.val * 256 + e.val, by omega⟩

/-- The head of a column. -/
abbrev headOf (c : Fin 1024) : Fin 4 := ⟨c.val / 256, by omega⟩

/-- A head's score of a row of queries at a memory token. -/
def score (q : Fin 1024 → EReal) (K : Fin 256 → Fin 1024 → EReal) (h : Fin 4) (t : Fin 256) : EReal :=
  ∑ e : Fin 256, q (col h e) * K t (col h e)

/-- The kernel's weight of a memory token: two to the power of its score less the largest. -/
def weight (q : Fin 1024 → EReal) (K : Fin 256 → Fin 1024 → EReal) (h : Fin 4) (t : Fin 256) : EReal :=
  Ideal.exp2 (score q K h t - Finset.univ.fold max ⊥ (score q K h))

/-- The kernel's attention of a row of queries, at a column: the weighted sum divided by the sum of the weights. -/
def attend (q : Fin 1024 → EReal) (K V : Fin 256 → Fin 1024 → EReal) (c : Fin 1024) : EReal :=
  Ideal.div (∑ t, weight q K (headOf c) t * V t c) (∑ t, weight q K (headOf c) t)

/-- The kernel's row: `x` the residual row, `y` what is added to it, `s` the factor of the queries. -/
def row (s : EReal) (y x g1 b1 : Fin 1024 → EReal) (wq : Fin 1024 → Fin 1024 → EReal) (K V : Fin 256 → Fin 1024 → EReal)
    (wo : Fin 1024 → Fin 1024 → EReal) (g2 b2 : Fin 1024 → EReal) (c : Fin 1024) : EReal :=
  layerNorm (fun k => Ideal.ofBits .f32 0x3FD744FD#32 * layerNorm (fun k => Ideal.ofBits .f32 0x3FD744FD#32 * x k + y k) g1 b1 k
      + ∑ d, attend (fun d => (∑ k, layerNorm (fun k => Ideal.ofBits .f32 0x3FD744FD#32 * x k + y k) g1 b1 k * wq k d) * s) K V d * wo d k)
    g2 b2 c

end Cert.Own.Mix

end
-- ==== Proof.MixLaw.lean ====
/- The memory attention's row as the reference computes it, and that with real gains, biases, weights of the queries and keys
   the kernel's row is the same. -/
module

public import proofs.«01_k».proof.Proof.MixRow
public import proofs.«01_k».proof.Proof.SoftmaxLaw
public import proofs.«01_k».proof.Proof.Consts

@[expose] public section

noncomputable section

namespace Cert.Own.Mix

open Idealize.ShloMosaic
open scoped BigOperators

/-! ## The reference's row -/

/-- The reference's scaled score. -/
def refScore (q : Fin 1024 → EReal) (K : Fin 256 → Fin 1024 → EReal) (h : Fin 4) (t : Fin 256) : EReal :=
  score q K h t * Ideal.ofBits .f32 0x3D800000#32

/-- The reference's largest score. -/
def refLargest (q : Fin 1024 → EReal) (K : Fin 256 → Fin 1024 → EReal) (h : Fin 4) : EReal :=
  max ⊥ (Finset.univ.fold max ⊥ (refScore q K h))

/-- The reference's weight of a memory token. -/
def refWeight (q : Fin 1024 → EReal) (K : Fin 256 → Fin 1024 → EReal) (h : Fin 4) (t : Fin 256) : EReal :=
  Ideal.div (Ideal.exp (refScore q K h t - refLargest q K h)) (∑ t', Ideal.exp (refScore q K h t' - refLargest q K h))

/-- The reference's attention of a row of queries, at a column. -/
def refAttend (q : Fin 1024 → EReal) (K V : Fin 256 → Fin 1024 → EReal) (c : Fin 1024) : EReal :=
  ∑ t, V t c * refWeight q K (headOf c) t

/-- The reference's row. -/
def refRow (y x g1 b1 : Fin 1024 → EReal) (wq : Fin 1024 → Fin 1024 → EReal) (K V : Fin 256 → Fin 1024 → EReal)
    (wo : Fin 1024 → Fin 1024 → EReal) (g2 b2 : Fin 1024 → EReal) (c : Fin 1024) : EReal :=
  layerNorm (fun k => Ideal.ofBits .f32 0x3FD744FD#32 * layerNorm (fun k => Ideal.ofBits .f32 0x3FD744FD#32 * x k + y k) g1 b1 k
      + ∑ d, refAttend (fun d => ∑ k, layerNorm (fun k => Ideal.ofBits .f32 0x3FD744FD#32 * x k + y k) g1 b1 k * wq k d) K V d * wo d k)
    g2 b2 c

/-! ## Real rows -/

/-- An extended real that is a real. -/
def IsReal (x : EReal) : Prop := ∃ r : ℝ, x = (r : EReal)

/-- The sum of two reals. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The difference of two reals. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two reals. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals. -/
theorem IsReal.sum {ι : Type*} [Fintype ι] {f : ι → EReal} (h : ∀ i, IsReal (f i)) : IsReal (∑ i, f i) := by
  choose r hr using h
  exact ⟨∑ i, r i, by rw [coe_sum]; exact Finset.sum_congr rfl fun i _ => hr i⟩

/-- The mean of a real row. -/
theorem mean_coe (z : Fin 1024 → ℝ) : mean (fun k => (z k : EReal)) = (((∑ k, z k) * (1 / 1024) : ℝ) : EReal) := by
  unfold mean
  rw [lit_columns, Ideal.div_coe (by norm_num), ← coe_sum, ← EReal.coe_mul]

/-- Where a sum of two extended reals is real, both are. -/
theorem IsReal.of_add {x y : EReal} (h : IsReal (x + y)) : IsReal x := by
  obtain ⟨r, hr⟩ := h
  induction x with
  | coe a => exact ⟨a, rfl⟩
  | bot => simp at hr
  | top => induction y <;> simp at hr

/-- An extended real that is not a real is one of the infinities. -/
theorem infinite_of_not_real {x : EReal} (h : ¬ IsReal x) : x = ⊤ ∨ x = ⊥ := by
  induction x with
  | coe a => exact absurd ⟨a, rfl⟩ h
  | bot => exact Or.inr rfl
  | top => exact Or.inl rfl

/-- The mean of a row that is not real throughout is infinite. -/
theorem mean_infinite {z : Fin 1024 → EReal} (h : ¬ ∀ k, IsReal (z k)) : mean z = ⊤ ∨ mean z = ⊥ := by
  have hs : ¬ IsReal (∑ k, z k) := fun hr => h fun k => by
    rw [← Finset.add_sum_erase _ _ (Finset.mem_univ k)] at hr
    exact hr.of_add
  unfold mean
  rw [lit_columns, Ideal.div_coe (by norm_num)]
  rcases infinite_of_not_real hs with e | e <;> rw [e]
  · exact Or.inl (EReal.top_mul_coe_of_pos (by norm_num))
  · exact Or.inr (EReal.bot_mul_coe_of_pos (by norm_num))

/-- The square of what is left of an extended real once an infinity is taken off is infinite. -/
theorem square_off_infinite (x : EReal) {y : EReal} (h : y = ⊤ ∨ y = ⊥) : (x - y) * (x - y) = ⊤ := by
  rcases h with rfl | rfl <;> induction x <;> simp [sub_eq_add_neg]

/-- The variance of such a row is infinite. -/
theorem variance_infinite {z : Fin 1024 → EReal} (h : ¬ ∀ k, IsReal (z k)) :
    mean (fun k => (z k - mean z) * (z k - mean z)) = ⊤ := by
  have e : (fun k => (z k - mean z) * (z k - mean z)) = fun _ => ⊤ := funext fun k => square_off_infinite (z k) (mean_infinite h)
  rw [e]
  unfold mean
  rw [lit_columns, Ideal.div_coe (by norm_num)]
  have hs : ∑ _k : Fin 1024, (⊤ : EReal) = ⊤ := by
    rw [← Finset.add_sum_erase _ _ (Finset.mem_univ 0)]
    refine EReal.top_add_of_ne_bot (ne_of_gt (lt_of_lt_of_le EReal.bot_lt_zero ?_))
    exact Finset.sum_nonneg fun _ _ => le_top
  rw [hs]
  exact EReal.top_mul_coe_of_pos (by norm_num)

/-- The layer norm with real gain and bias is real, of any row. Of a real row the variance is not negative, so what the square
    root is taken of is positive; of any other row the variance is infinite, so the bias is what remains. -/
theorem layerNorm_real (z g b : Fin 1024 → EReal) (hg : ∀ k, IsReal (g k)) (hb : ∀ k, IsReal (b k))
    (c : Fin 1024) : IsReal (layerNorm z g b c) := by
  by_cases hz : ∀ k, IsReal (z k)
  swap
  · unfold layerNorm
    rw [variance_infinite hz, lit_eps, EReal.top_add_coe]
    have h0 : Ideal.rsqrt ⊤ = 0 := rfl
    rw [h0, mul_zero, zero_mul, zero_add]
    exact hb c
  choose r hr using hz
  obtain rfl : z = fun k => (r k : EReal) := funext hr
  unfold layerNorm
  refine IsReal.add (IsReal.mul (IsReal.mul ?_ ?_) (hg c)) (hb c)
  · rw [mean_coe]
    exact IsReal.sub ⟨_, rfl⟩ ⟨_, rfl⟩
  · rw [mean_coe]
    simp only [← EReal.coe_sub, ← EReal.coe_mul]
    rw [mean_coe, lit_eps, ← EReal.coe_add]
    have hpos : 0 < (∑ k, (r k - (∑ k, r k) * (1 / 1024)) * (r k - (∑ k, r k) * (1 / 1024))) * (1 / 1024) + 10995116 / 1099511627776 := by
      have : 0 ≤ ∑ k, (r k - (∑ k, r k) * (1 / 1024)) * (r k - (∑ k, r k) * (1 / 1024)) :=
        Finset.sum_nonneg fun k _ => mul_self_nonneg _
      positivity
    rw [Ideal.rsqrt_coe, if_neg (not_lt.mpr hpos.le), if_neg hpos.ne']
    exact ⟨_, rfl⟩

/-! ## The two attentions agree on real queries and keys -/

/-- Powers of two of real scores over `log 2`, whatever real is taken off first, weigh as the exponentials of the scores do. -/
theorem average_two {ι : Type*} [Fintype ι] [Nonempty ι] (s : ι → ℝ) (M : ℝ) (v : ι → EReal) :
    Ideal.div (∑ t, Ideal.exp2 (((s t / Real.log 2 : ℝ) : EReal) - (M : EReal)) * v t)
        (∑ t, Ideal.exp2 (((s t / Real.log 2 : ℝ) : EReal) - (M : EReal)))
      = Ideal.div (∑ t, ((Real.exp (s t) : ℝ) : EReal) * v t) ((∑ t, Real.exp (s t) : ℝ) : EReal) := by
  have hl : Real.log 2 ≠ 0 := (Real.log_pos one_lt_two).ne'
  have hw : ∀ t, Ideal.exp2 (((s t / Real.log 2 : ℝ) : EReal) - (M : EReal))
      = ((Real.exp (s t) * Real.exp (-(M * Real.log 2)) : ℝ) : EReal) := by
    intro t
    rw [← EReal.coe_sub, Ideal.exp2_coe, ← Real.exp_add]
    have e : s t / Real.log 2 - M = (s t + -(M * Real.log 2)) / Real.log 2 := by field_simp; ring
    rw [e, rpow_two_div_log]
  have hM : 0 < Real.exp (-(M * Real.log 2)) := Real.exp_pos _
  have hpos : 0 < ∑ t, Real.exp (s t) := Finset.sum_pos (fun t _ => Real.exp_pos _) Finset.univ_nonempty
  simp only [hw]
  rw [← coe_sum, ← Finset.sum_mul, Ideal.div_coe (by positivity), Ideal.div_coe hpos.ne', sum_mul_real _ _ (by positivity),
    sum_mul_real _ _ (by positivity)]
  refine Finset.sum_congr rfl fun t _ => ?_
  rw [mul_right_comm, mul_right_comm (((Real.exp (s t) : ℝ) : EReal)), ← EReal.coe_mul, ← EReal.coe_mul]
  congr 2
  field_simp

/-- On real queries and keys, the kernel's attention of the queries over `log 65536` is the reference's of the queries. -/
theorem attend_eq (q : Fin 1024 → EReal) (K V : Fin 256 → Fin 1024 → EReal) (hq : ∀ d, IsReal (q d)) (hK : ∀ t d, IsReal (K t d))
    (c : Fin 1024) :
    attend (fun d => q d * (((Real.log 65536)⁻¹ : ℝ) : EReal)) K V c = refAttend q K V c := by
  choose q' hq' using hq
  choose K' hK' using hK
  obtain rfl : q = fun d => (q' d : EReal) := funext hq'
  obtain rfl : K = fun t d => (K' t d : EReal) := funext fun t => funext fun d => hK' t d
  let s : Fin 256 → ℝ := fun t => (∑ e : Fin 256, q' (col (headOf c) e) * K' t (col (headOf c) e)) * (1 / 16)
  have hl : Real.log 2 ≠ 0 := (Real.log_pos one_lt_two).ne'
  have h16 : Real.log 65536 = 16 * Real.log 2 := by
    rw [show (65536 : ℝ) = 2 ^ 16 by norm_num, Real.log_pow]; norm_num
  have hs : ∀ t, score (fun d => (q' d : EReal) * (((Real.log 65536)⁻¹ : ℝ) : EReal)) (fun t d => (K' t d : EReal)) (headOf c) t
      = ((s t / Real.log 2 : ℝ) : EReal) := by
    intro t
    have e : s t / Real.log 2 = ∑ e : Fin 256, q' (col (headOf c) e) * (Real.log 65536)⁻¹ * K' t (col (headOf c) e) := by
      show (∑ e : Fin 256, q' (col (headOf c) e) * K' t (col (headOf c) e)) * (1 / 16) / Real.log 2 = _
      rw [mul_div_assoc, Finset.sum_mul]
      refine Finset.sum_congr rfl fun e _ => ?_
      rw [h16]
      field_simp
    rw [e, coe_sum]
    exact Finset.sum_congr rfl fun e _ => by rw [EReal.coe_mul, EReal.coe_mul]
  have hr : ∀ t, refScore (fun d => (q' d : EReal)) (fun t d => (K' t d : EReal)) (headOf c) t = (s t : EReal) := by
    intro t
    unfold refScore score
    rw [lit_sixteenth]
    simp only [← EReal.coe_mul]
    rw [← coe_sum, ← EReal.coe_mul]
  obtain ⟨M, hM⟩ := fold_max_real (fun t => s t / Real.log 2)
  obtain ⟨N, hN⟩ := fold_max_real s
  have hL : refLargest (fun d => (q' d : EReal)) (fun t d => (K' t d : EReal)) (headOf c) = (N : EReal) := by
    unfold refLargest
    rw [funext hr, hN]
    exact max_eq_right bot_le
  unfold attend refAttend weight refWeight
  rw [funext hs, hM]
  simp only [hr, hL]
  rw [average_two s M, softmax_once s N]

/-- On real gains, biases, weights of the queries and keys, the kernel's row is the reference's. -/
theorem row_eq (y x g1 b1 : Fin 1024 → EReal) (wq : Fin 1024 → Fin 1024 → EReal) (K V : Fin 256 → Fin 1024 → EReal)
    (wo : Fin 1024 → Fin 1024 → EReal) (g2 b2 : Fin 1024 → EReal)
    (hg : ∀ k, IsReal (g1 k)) (hb : ∀ k, IsReal (b1 k)) (hq : ∀ k d, IsReal (wq k d)) (hK : ∀ t d, IsReal (K t d)) (c : Fin 1024) :
    row (((Real.log 65536)⁻¹ : ℝ) : EReal) y x g1 b1 wq K V wo g2 b2 c = refRow y x g1 b1 wq K V wo g2 b2 c := by
  have hh : ∀ k, IsReal (layerNorm (fun k => Ideal.ofBits .f32 0x3FD744FD#32 * x k + y k) g1 b1 k) :=
    layerNorm_real _ _ _ hg hb
  unfold row refRow
  have ha := attend_eq (fun d => ∑ k, layerNorm (fun k => Ideal.ofBits .f32 0x3FD744FD#32 * x k + y k) g1 b1 k * wq k d) K V
    (fun d => IsReal.sum fun k => (hh k).mul (hq k d)) hK
  simp only [ha]

end Cert.Own.Mix

end
-- ==== Proof.RunningArray.lean ====
/- The running-maximum form's result array, element by element: with real queries and keys it is the bounded form's. -/
module

public import proofs.«01_k».proof.Proof.Gen.AttnMIdeal.Value
public import proofs.«01_k».proof.Proof.RunningBlock
public import proofs.«01_k».proof.Proof.MixLaw
public import Idealize.ShloMosaic.Lib.Pipeline.ValueKit.Geometry

@[expose] public section

set_option maxRecDepth 16384

noncomputable section

namespace Cert.Own.Running

open Cert.AttnMIdeal Cert.AttnMIdeal.Gen Idealize.ShloMosaic Idealize.ShloMosaic.TcCoe Idealize.SL.Sem
open scoped BigOperators

/-- Every element of a block, from real queries `y` and keys `x1` and any values `x2`. -/
theorem finish_element (y : Vec Ideal S512x256 .bf16) (x1 x2 : Vec Ideal S4096x128 .bf16) (hy : ∀ r c, Mix.IsReal (y (ix2 r c)))
    (hk : ∀ k l, Mix.IsReal (x1 (ix2 k l))) (r : Fin 512) (c : Fin 256) :
    finish (final (k0_pay2 y) x1 x2).sums (final (k0_pay2 y) x1 x2).acc (ix2 r c) = Attn.element y x1 x2 r c := by
  have hc := c.isLt
  have h := finish_apply (final (k0_pay2 y) x1 x2).sums (final (k0_pay2 y) x1 x2).acc r ⟨c.val / 64, by omega⟩ ⟨c.val % 64, by omega⟩
  have e : (⟨c.val / 64 * 64 + c.val % 64, by omega⟩ : Fin 256) = c := Fin.ext (by dsimp only; omega)
  dsimp only at h
  rw [e] at h
  have hs : ∀ k : Fin 4096, ∃ a : ℝ, (∑ e : Fin 64, y (ix2 r ⟨c.val / 64 * 64 + e.val, by omega⟩)
      * x1 (ix2 k ⟨c.val / 64 % 2 * 64 + e.val, by omega⟩)) = (a : EReal) := fun k => Mix.IsReal.sum fun e => (hy _ _).mul (hk _ _)
  choose s hs using hs
  let t : ℕ → ℝ := fun k => if h : k < 4096 then s ⟨k, h⟩ else 0
  let v : ℕ → Fin 128 → EReal := fun k l => if h : k < 4096 then x2 (ix2 ⟨k, h⟩ l) else 0
  have ht : ∀ k : Fin 4096, t k.val = s k := fun k => dif_pos k.isLt
  have hv : ∀ (k : Fin 4096) l, v k.val l = x2 (ix2 k l) := fun k l => dif_pos k.isLt
  obtain ⟨M, _, hL, hA⟩ := final_carries (k0_pay2 y) x1 x2 ⟨c.val / 64 * 512 + r.val, by omega⟩ t v
    (fun k => by rw [ht, ← hs]; exact stack_score y x1 ⟨c.val / 64, by omega⟩ r k) (fun k l => (hv k l).symm)
  rw [h, hL, hA, quotient_keys]
  unfold Attn.element Attn.average Attn.power
  simp only [ht, hv, hs]

/-- Every element of the output block. -/
theorem out_element (x0 : Vec Ideal S512x256 .bf16) (x1 x2 : Vec Ideal S4096x128 .bf16) (hq : ∀ r c, Mix.IsReal (x0 (ix2 r c)))
    (hk : ∀ k l, Mix.IsReal (x1 (ix2 k l))) (r : Fin 512) (c : Fin 256) :
    out0_3 x0 x1 x2 (ix2 r c) = Attn.element x0 x1 x2 r c := by
  have ey : (View.ld x0 r0_0 : Vec Ideal S512x256 .bf16) = x0 := by
    funext i
    obtain ⟨r, c, rfl⟩ : ∃ (r : Fin 512) (c : Fin 256), i = ix2 r c := ⟨i 0, i 1, by funext a; match a with | ⟨0, _⟩ => rfl | ⟨1, _⟩ => rfl⟩
    pointwise
  rw [out_eq]
  refine View.canon_apply_of_pieces (Val := Elt Ideal) (e := .bf16) (fun y : S512x256.Idx => Attn.element x0 x1 x2 (y 0) (y 1)) _ ?_ (ix2 r c) ?_
  · intro p hp x
    simp only [List.mem_cons, List.not_mem_nil, or_false] at hp
    subst hp
    obtain ⟨r', c', rfl⟩ : ∃ (r' : Fin 512) (c' : Fin 256), x = ix2 r' c' := ⟨x 0, x 1, by funext a; match a with | ⟨0, _⟩ => rfl | ⟨1, _⟩ => rfl⟩
    refine (finish_element (View.ld x0 r0_0) x1 x2 (by rw [ey]; exact hq) hk r' c').trans ?_
    rw [ey]
    congr 1
    · exact Fin.ext (by show r'.val = 0 + 1 * r'.val; omega)
    · exact Fin.ext (by show c'.val = 0 + 1 * c'.val; omega)
  · exact cover0_3 _ _

/-- The block of queries at a grid point. -/
theorem index0 : ∀ t : Fin cfg0.N, win0_0.index t = ![(grid0.coords t 0).val * 8 + (grid0.coords t 2).val, (grid0.coords t 1).val] :=
  (by decide +kernel : ∀ t : Fin grid0.N, _)
/-- The block of keys at a grid point. -/
theorem index1 : ∀ t : Fin cfg0.N, win0_1.index t = ![(grid0.coords t 0).val, 4 + (grid0.coords t 1).val] :=
  (by decide +kernel : ∀ t : Fin grid0.N, _)
/-- The block of values at a grid point. -/
theorem index2 : ∀ t : Fin cfg0.N, win0_2.index t = ![(grid0.coords t 0).val, 6 + (grid0.coords t 1).val] :=
  (by decide +kernel : ∀ t : Fin grid0.N, _)
/-- The block of the output at a grid point. -/
theorem index3 : ∀ t : Fin cfg0.N, win0_3.index t = ![(grid0.coords t 0).val * 8 + (grid0.coords t 2).val, (grid0.coords t 1).val] :=
  (by decide +kernel : ∀ t : Fin grid0.N, _)

variable (m : (ℓ : Loc nD τ sig) → Buf (Elt Ideal) ℓ)

/-- The result array after the run, where the columns of the queries and keys are real. -/
theorem array_eq (c : Dev nD) (hX : ∀ i : S32768x2048.Idx, (i 1).val < 768 → Mix.IsReal (V m c main_v18 i)) :
    (dats m 0 c).arrAt 3 cfg0.N = fun i => Attn.result (V m c main_v18) (i 0) (i 1) := by
  refine (dats m 0 c).arrAt_eq_of_covers 3 _ (by decide +kernel) fun t hf y => ?_
  blk_simp
  rw [after0_3]
  obtain ⟨r, d, rfl⟩ : ∃ (r : Fin 512) (d : Fin 256), y = ix2 r d := ⟨y 0, y 1, by funext a; match a with | ⟨0, _⟩ => rfl | ⟨1, _⟩ => rfl⟩
  have h0 : (grid0.coords t 0).val < 8 := (grid0.coords t 0).isLt
  have h1 : (grid0.coords t 1).val < 2 := (grid0.coords t 1).isLt
  have h2 : (grid0.coords t 2).val < 8 := (grid0.coords t 2).isLt
  have hq : ∀ (r : Fin 512) (d : Fin 256), Mix.IsReal (iblk m c 0 t (ix2 r d)) := fun r d => by
    have hd := d.isLt
    blk_simp [iblk, index0]
    refine hX _ ?_
    blk_simp [index0]
    omega
  have hk : ∀ (k : Fin 4096) (l : Fin 128), Mix.IsReal (iblk m c 1 t (ix2 k l)) := fun k l => by
    have hl := l.isLt
    blk_simp [iblk, index1]
    refine hX _ ?_
    blk_simp [index1]
    omega
  rw [out_element _ _ _ hq hk]
  unfold Attn.element Attn.result
  have hd := d.isLt
  have hr := r.isLt
  blk_simp [iblk, index0, index1, index2, index3]
  have eq : ∀ f g h f' g' h', f = f' → g = g' → h = h' → Attn.average f g h = Attn.average f' g' h' := by
    rintro _ _ _ _ _ _ rfl rfl rfl; rfl
  refine eq _ _ _ _ _ _ (funext fun e => ?_) (funext fun n => funext fun e => ?_) (funext fun n => ?_)
  · have he := e.isLt
    refine congrArg (V m c main_v18) ?_
    blk_ext [index0, index3]
  · have he := e.isLt
    have hn := n.isLt
    refine congrArg (V m c main_v18) ?_
    blk_ext [index1, index3]
  · have hn := n.isLt
    refine congrArg (V m c main_v18) ?_
    blk_ext [index2, index3]

end Cert.Own.Running

end
-- ==== Proof.RunningClaim.lean ====
/- The running-maximum form's claims: what it computes, on finite queries and keys, is the reference's softmax attention. -/
module

public import proofs.«01_k».proof.Proof.AttnClaim
public import proofs.«01_k».proof.Proof.RunningArray
public import proofs.«01_k».proof.Proof.Gen.AttnM.Frame

@[expose] public section

set_option maxRecDepth 16384

noncomputable section

namespace Cert.Own.Running

open Idealize.ShloMosaic Idealize.ShloMosaic.TcCoe Idealize.SL.Sem

section Host

open Cert.AttnMIdeal Cert.AttnMIdeal.Gen

/-- What the host operations leave in the array the kernel reads: the array the bounded form reads. -/
theorem V_v18 {F : FTy → Type} [FloatOps F] (m : (ℓ : Loc nD τ sig) → Buf (Elt F) ℓ) (c : Dev nD) :
    V m c main_v18
      = Attn.side (m ((c : Thread nD τ).loc main_arg0)) (m ((c : Thread nD τ).loc main_arg1)) (m ((c : Thread nD τ).loc main_arg2)) := by
  show StableHlo.after hostOps0 _ (Proc.devRef .tc main_v18) = _
  unfold Attn.side Attn.scaled Attn.twice
  after_reads_simp
  rfl

end Host

/-- On real queries and keys, the columns of the queries and keys are real. -/
theorem side_real (q : FVec Ideal AttnAIdeal.S32768x512 .f32) (k v : FVec Ideal AttnAIdeal.S32768x128 .f32)
    (hq : ∀ i, ∃ r : ℝ, q i = r) (hk : ∀ i, ∃ r : ℝ, k i = r) (R : Fin 32768) (C : Fin 2048) (hC : C.val < 768) :
    Mix.IsReal (Attn.side q k v (ix2 R C)) := by
  by_cases h : C.val < 512
  · rw [Attn.side_q q k v R C h]
    obtain ⟨a, ha⟩ := hq (ix2 R ⟨C.val, h⟩)
    have hl : Real.log 2 ≠ 0 := (Real.log_pos (by norm_num)).ne'
    rw [ha, lit_eighth, lit_two, Ideal.log_coe, if_neg (by norm_num), Ideal.div_coe hl, ← EReal.coe_mul, ← EReal.coe_mul]
    exact ⟨_, rfl⟩
  · have e : C = ⟨512 + (C.val - 512) / 128 * 128 + (C.val - 512) / 64 % 2 * 64 + (C.val - 512) % 64, by omega⟩ :=
      Fin.ext (by dsimp only; omega)
    rw [e]
    have h := Attn.side_k q k v R ⟨(C.val - 512) / 128, by omega⟩ ⟨(C.val - 512) / 64 % 2, by omega⟩ ⟨(C.val - 512) % 64, by omega⟩
    dsimp only at h
    rw [h]
    exact hk _

/-- The kernel's result array is the reference's. -/
theorem arrays_eq (m : (ℓ : Loc AttnMIdeal.nD AttnMIdeal.τ AttnMIdeal.sig) → Buf (Elt Ideal) ℓ) (c : Dev AttnMIdeal.nD)
    (hq : ∀ i, ∃ r : ℝ, m ((c.tc : Thread AttnMIdeal.nD AttnMIdeal.τ).loc AttnMIdeal.main_arg0) i = (r : EReal))
    (hk : ∀ i, ∃ r : ℝ, m ((c.tc : Thread AttnMIdeal.nD AttnMIdeal.τ).loc AttnMIdeal.main_arg1) i = (r : EReal)) :
    AttnARefIdeal.Read.val_main_v21 (F := Ideal) (m ((c.tc : Thread AttnMIdeal.nD AttnMIdeal.τ).loc AttnMIdeal.main_arg0))
        (m ((c.tc : Thread AttnMIdeal.nD AttnMIdeal.τ).loc AttnMIdeal.main_arg1))
        (m ((c.tc : Thread AttnMIdeal.nD AttnMIdeal.τ).loc AttnMIdeal.main_arg2))
      = (AttnMIdeal.Gen.dats m 0 c).arrAt 3 AttnMIdeal.cfg0.N := by
  rw [array_eq m c (fun i hi => ?_), V_v18]
  · funext i
    obtain ⟨R, C, rfl⟩ : ∃ (R : Fin 32768) (C : Fin 512), i = ix2 R C :=
      ⟨i 0, i 1, by funext a; match a with | ⟨0, _⟩ => rfl | ⟨1, _⟩ => rfl⟩
    rw [AttnRef.v21_eq]
    exact (Attn.result_eq _ _ _ hq hk R C).symm
  · obtain ⟨R, C, rfl⟩ : ∃ (R : Fin 32768) (C : Fin 2048), i = ix2 R C :=
      ⟨i 0, i 1, by funext a; match a with | ⟨0, _⟩ => rfl | ⟨1, _⟩ => rfl⟩
    rw [V_v18]
    exact side_real _ _ _ hq hk R C hi

/-- The value claim. -/
theorem algebraic : Cert.algebraic_AttnMIdeal_AttnARefIdeal_pre_finite_qk (hAttnMIdeal := Cert.AttnMIdeal.Gen.facts)
    (hAttnARefIdeal := Cert.AttnARefIdeal.Gen.facts) (hPre_finite_qk := Cert.Pre_finite_qk.Gen.facts) := by
  intro m ρ m' ρ' hpre hagree
  refine ⟨fun c => (AttnMIdeal.Gen.dats m 0 c).arrAt 3 AttnMIdeal.cfg0.N, AttnMIdeal.Value.run_blocks m ρ, ?_⟩
  refine (θ_run _ _ _).mono (fun r h c => ⟨?_, (h c).2⟩) (AttnARefIdeal.Value.run (F := Ideal) m' ρ')
  rw [(h c).1, AttnARefIdeal.Read.val_main_v21_eq, (hagree c).1, (hagree c).2.1, (hagree c).2.2]
  exact arrays_eq m c (Attn.real_of_pre _ _ _ (hpre c)).1 (Attn.real_of_pre _ _ _ (hpre c)).2

end Cert.Own.Running

end
-- ==== Proof.FfnBlock.lean ====
/- What the feed-forward kernel's body computes for one block of rows, read at an index. -/
module

public import proofs.«01_k».proof.Proof.Gen.FfnIdeal.Frame
public import proofs.«01_k».proof.Proof.LayerNorm
public import Idealize.ShloMosaic.Lib.Pointwise
public import Idealize.ShloMosaic.Lib.Pipeline.Value
public import Idealize.ShloMosaic.Lib.Tactic

@[expose] public section

set_option maxRecDepth 16384

noncomputable section

namespace Cert.Own.Ffn

open Cert.FfnIdeal Cert.FfnIdeal.Gen Idealize.ShloMosaic
open scoped BigOperators

variable {F : FTy → Type} [FloatOps F]

/-- Chunk `n` of the hidden layer's columns lies within them. -/
theorem inb_hidden (n : Fin 11) (a : Fin 2) : (![0, 256 * n.val] : Fin 2 → Nat) a + S512x256.size a ≤ S512x2816.size a := by
  match a with
  | ⟨0, _⟩ => exact Nat.le_refl 512
  | ⟨1, _⟩ => show 256 * n.val + 256 ≤ 2816; have := n.isLt; omega

/-- Chunk `n` of a weight's columns lies within them. -/
theorem inb_weight (n : Fin 11) (a : Fin 4) :
    (![0, 0, 0, 256 * n.val] : Fin 4 → Nat) a + S1x1x1024x256.size a ≤ S1x1x1024x2816.size a := by
  match a with
  | ⟨0, _⟩ => exact Nat.le_refl 1
  | ⟨1, _⟩ => exact Nat.le_refl 1
  | ⟨2, _⟩ => exact Nat.le_refl 1024
  | ⟨3, _⟩ => show 256 * n.val + 256 ≤ 2816; have := n.isLt; omega

/-- Columns `256 n` and on of a weight. -/
def columns (w : Vec F S1x1x1024x2816 .bf16) (n : Fin 11) : Vec F S1x1x1024x256 .bf16 :=
  View.ld w (Rect.unit (s := S1x1x1024x2816) ![0, 0, 0, 256 * n.val] S1x1x1024x256.size (inb_weight n))

/-- One chunk of the hidden layer. -/
def hiddenChunk (x : Vec F S512x1024 .f32) (wg wu : Vec F S1x1x1024x2816 .bf16) (n : Fin 11) : FVec F S512x256 .bf16 :=
  k0_pay5 (k0_pay2 (View.ld x (Rect.unit ![0, 0] ![512, 1024] inb_S512x1024_S512x1024_0_0))) (columns wg n) (columns wu n)

/-- One chunk of the hidden layer with the place where it is stored. -/
def piece (x : Vec F S512x1024 .f32) (wg wu : Vec F S1x1x1024x2816 .bf16) (n : Fin 11) : View.Piece (Elt F) S512x2816 .bf16 :=
  ⟨Rect.unit (s := S512x2816) ![0, 256 * n.val] S512x256.size (inb_hidden n), hiddenChunk x wg wu n⟩

/-- The stores of the hidden layer, the last one first. -/
def pieces (x : Vec F S512x1024 .f32) (wg wu : Vec F S1x1x1024x2816 .bf16) : List (View.Piece (Elt F) S512x2816 .bf16) :=
  [piece x wg wu 10, piece x wg wu 9, piece x wg wu 8, piece x wg wu 7, piece x wg wu 6, piece x wg wu 5, piece x wg wu 4,
    piece x wg wu 3, piece x wg wu 2, piece x wg wu 1, piece x wg wu 0]

/-- The hidden layer. -/
def hidden (x : Vec F S512x1024 .f32) (wg wu : Vec F S1x1x1024x2816 .bf16) : Vec F S512x2816 .bf16 :=
  View.canon (pieces x wg wu)

/-- One slab of the output block, from the slab's rows of the hidden layer and of the input. -/
def slab (h : Vec F S256x2816 .bf16) (wd : Vec F S1x1x2816x1024 .bf16) (x : Vec F S256x1024 .f32) (g b : Vec F S1x1024 .f32) :
    FVec F S256x1024 .f32 :=
  k0_pay17 h (View.ld wd (Rect.unit ![0, 0, 0, 0] ![1, 1, 2816, 1024] inb_S1x1x2816x1024_S1x1x2816x1024_0_0_0_0)) x
    (View.ld g (Rect.unit ![0, 0] ![1, 1024] inb_S1x1024_S1x1024_0_0))
    (View.ld b (Rect.unit ![0, 0] ![1, 1024] inb_S1x1024_S1x1024_0_0))

/-- The output block is its two slabs. -/
theorem out_eq (c : Dev nD) (i : grid0.Coords) (arg1 : Memref sig .tc .vmem S512x1024 .f32) (harg1 : arg1.IsWhole)
    (arg2 : Memref sig .tc .vmem S1x1x1024x2816 .bf16) (harg2 : arg2.IsWhole)
    (arg3 : Memref sig .tc .vmem S1x1x1024x2816 .bf16) (harg3 : arg3.IsWhole)
    (arg4 : Memref sig .tc .vmem S1x1x2816x1024 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S512x1024 .f32) (harg7 : arg7.IsWhole) (arg8 : Memref sig .tc .vmem S512x2816 .bf16) (harg8 : arg8.IsWhole)
    (x0 : Vec F S512x1024 .f32) (x1 : Vec F S1x1x1024x2816 .bf16) (x2 : Vec F S1x1x1024x2816 .bf16) (x3 : Vec F S1x1x2816x1024 .bf16)
    (x4 : Vec F S1x1024 .f32) (x5 : Vec F S1x1024 .f32) :
    out0_A_6 c i arg1 harg1 arg2 harg2 arg3 harg3 arg4 harg4 arg5 harg5 arg6 harg6 arg7 harg7 arg8 harg8 x0 x1 x2 x3 x4 x5
      = View.canon [
          ⟨Rect.unit ![256, 0] ![256, 1024] inb_S512x1024_S256x1024_256_0,
            slab (View.ld (hidden x0 x1 x2) (Rect.unit ![256, 0] ![256, 2816] inb_S512x2816_S256x2816_256_0)) x3
              (View.ld x0 (Rect.unit ![256, 0] ![256, 1024] inb_S512x1024_S256x1024_256_0)) x4 x5⟩,
          ⟨Rect.unit ![0, 0] ![256, 1024] inb_S512x1024_S256x1024_0_0,
            slab (View.ld (hidden x0 x1 x2) (Rect.unit ![0, 0] ![256, 2816] inb_S512x2816_S256x2816_0_0)) x3
              (View.ld x0 (Rect.unit ![0, 0] ![256, 1024] inb_S512x1024_S256x1024_0_0)) x4 x5⟩] := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  simp only [View.readAt_eq_ld, harg1.read_unread, harg2.read_unread, harg3.read_unread, harg4.read_unread, harg5.read_unread,
    harg6.read_unread, View.readCov_eq_canon']
  rfl

/-! ## Read at an index, over the extended reals -/

/-- One number of the hidden layer: the gate times its logistic times the other product. -/
def hiddenAt (x wg wu : Fin 1024 → EReal) : EReal :=
  (∑ k, x k * wg k) * Ideal.logistic (∑ k, x k * wg k) * ∑ k, x k * wu k

/-- A chunk of the hidden layer at an index. -/
theorem hiddenChunk_apply (x : Vec Ideal S512x1024 .f32) (wg wu : Vec Ideal S1x1x1024x2816 .bf16) (n : Fin 11) (r : Fin 512) (c : Fin 256) :
    hiddenChunk x wg wu n (ix2 r c)
      = hiddenAt (fun k => x (ix2 r k)) (fun k => wg (ix4 0 0 k ⟨256 * n.val + c.val, by omega⟩))
          (fun k => wu (ix4 0 0 k ⟨256 * n.val + c.val, by omega⟩)) := by
  unfold hiddenChunk columns k0_pay5 k0_pay2 hiddenAt
  pointwise

/-- A slab of the output at an index. -/
theorem slab_apply (h : Vec Ideal S256x2816 .bf16) (wd : Vec Ideal S1x1x2816x1024 .bf16) (x : Vec Ideal S256x1024 .f32)
    (g b : Vec Ideal S1x1024 .f32) (r : Fin 256) (c : Fin 1024) :
    slab h wd x g b (ix2 r c)
      = layerNorm (fun k => Ideal.ofBits .f32 0x3FD744FD#32 * x (ix2 r k)
            + Ideal.ofBits .f32 0x3F000000#32 * ∑ f : Fin 2816, h (ix2 r f) * wd (ix4 0 0 f k))
          (fun k => g (ix2 0 k)) (fun k => b (ix2 0 k)) c := by
  unfold slab k0_pay17 layerNorm mean
  pointwise

/-- Chunk `n` is stored at columns `256 n` and on. -/
theorem piece_emb (x : Vec Ideal S512x1024 .f32) (wg wu : Vec Ideal S1x1x1024x2816 .bf16) (n : Fin 11) (r : Fin 512) (c : Fin 256) :
    (piece x wg wu n).1.emb (ix2 r c) = ix2 r ⟨256 * n.val + c.val, by omega⟩ := by
  funext a
  match a with
  | ⟨0, _⟩ => exact Fin.ext (by show 0 + 1 * r.val = r.val; omega)
  | ⟨1, _⟩ => exact Fin.ext (by show 256 * n.val + 1 * c.val = 256 * n.val + c.val; omega)

/-- The hidden layer at an index. -/
theorem hidden_apply (x : Vec Ideal S512x1024 .f32) (wg wu : Vec Ideal S1x1x1024x2816 .bf16) (r : Fin 512) (f : Fin 2816) :
    hidden x wg wu (ix2 r f)
      = hiddenAt (fun k => x (ix2 r k)) (fun k => wg (ix4 0 0 k f)) (fun k => wu (ix4 0 0 k f)) := by
  unfold hidden
  refine View.canon_apply_of_pieces (Val := Elt Ideal) (e := .bf16)
    (fun y : S512x2816.Idx => hiddenAt (fun k => x (ix2 (y 0) k)) (fun k => wg (ix4 0 0 k (y 1))) (fun k => wu (ix4 0 0 k (y 1)))) _ ?_
    (ix2 r f) ?_
  · intro p hp y
    have : ∃ n, p = piece x wg wu n := by
      unfold pieces at hp
      simp only [List.mem_cons, List.not_mem_nil, or_false] at hp
      rcases hp with h | h | h | h | h | h | h | h | h | h | h <;> exact ⟨_, h⟩
    obtain ⟨n, rfl⟩ := this
    obtain ⟨r', c', rfl⟩ : ∃ (r' : Fin 512) (c' : Fin 256), y = ix2 r' c' := ⟨y 0, y 1, by funext a; match a with | ⟨0, _⟩ => rfl | ⟨1, _⟩ => rfl⟩
    rw [piece_emb]
    exact hiddenChunk_apply x wg wu n r' c'
  · have hf := f.isLt
    refine ⟨piece x wg wu ⟨f.val / 256, by omega⟩, ?_, ?_⟩
    · have hm : ∀ n : Fin 11, piece x wg wu n ∈ pieces x wg wu := by
        intro n
        unfold pieces
        fin_cases n <;> simp
      exact hm _
    · have e := piece_emb x wg wu ⟨f.val / 256, by omega⟩ r ⟨f.val % 256, by omega⟩
      have ef : (⟨256 * (f.val / 256) + f.val % 256, by omega⟩ : Fin 2816) = f := Fin.ext (by dsimp only; omega)
      dsimp only at e
      rw [ef] at e
      rw [← e, ← Rect.map_emb_univ]
      exact Finset.mem_map_of_mem _ (Finset.mem_univ _)

/-- An element of the output block: the row's layer norm. -/
def element (x0 : Vec Ideal S512x1024 .f32) (x1 x2 : Vec Ideal S1x1x1024x2816 .bf16) (x3 : Vec Ideal S1x1x2816x1024 .bf16)
    (x4 x5 : Vec Ideal S1x1024 .f32) (r : Fin 512) (c : Fin 1024) : EReal :=
  layerNorm (fun k => Ideal.ofBits .f32 0x3FD744FD#32 * x0 (ix2 r k)
      + Ideal.ofBits .f32 0x3F000000#32 * ∑ f : Fin 2816,
        hiddenAt (fun k => x0 (ix2 r k)) (fun k => x1 (ix4 0 0 k f)) (fun k => x2 (ix4 0 0 k f)) * x3 (ix4 0 0 f k))
    (fun k => x4 (ix2 0 k)) (fun k => x5 (ix2 0 k)) c

/-- A slab of the output whose rows begin at `o` is `element` at those rows. -/
theorem slab_element (x0 : Vec Ideal S512x1024 .f32) (x1 x2 : Vec Ideal S1x1x1024x2816 .bf16) (x3 : Vec Ideal S1x1x2816x1024 .bf16)
    (x4 x5 : Vec Ideal S1x1024 .f32) (h : Vec Ideal S256x2816 .bf16) (y : Vec Ideal S256x1024 .f32)
    (o : Nat) (ho : o + 256 ≤ 512) (hh : ∀ (r : Fin 256) (f : Fin 2816), h (ix2 r f) = hidden x0 x1 x2 (ix2 ⟨o + r.val, by omega⟩ f))
    (hy : ∀ (r : Fin 256) (k : Fin 1024), y (ix2 r k) = x0 (ix2 ⟨o + r.val, by omega⟩ k)) (r : Fin 256) (c : Fin 1024) :
    slab h x3 y x4 x5 (ix2 r c) = element x0 x1 x2 x3 x4 x5 ⟨o + r.val, by omega⟩ c := by
  rw [slab_apply]
  unfold element
  simp only [hh, hy, hidden_apply]

end Cert.Own.Ffn

end
-- ==== Proof.FfnArray.lean ====
/- The feed-forward kernel's result array, element by element, from the arrays it is launched on. -/
module

public import proofs.«01_k».proof.Proof.Gen.FfnIdeal.Value
public import proofs.«01_k».proof.Proof.FfnBlock
public import Idealize.ShloMosaic.Lib.Pipeline.ValueKit.Geometry

@[expose] public section

set_option maxRecDepth 16384

noncomputable section

namespace Cert.Own.Ffn

open Cert.FfnIdeal Cert.FfnIdeal.Gen Idealize.ShloMosaic Idealize.ShloMosaic.TcCoe Idealize.SL.Sem
open scoped BigOperators

variable (m : (ℓ : Loc nD τ sig) → Buf (Elt Ideal) ℓ)

/-- Every element of the output block at a grid point. -/
theorem out_element (c : Dev nD) (t : Fin cfg0.N) (r : Fin 512) (d : Fin 1024) :
    outsAt0 m c t (ix2 r d) = element (iblk m c 0 t) (iblk m c 1 t) (iblk m c 2 t) (iblk m c 3 t) (iblk m c 4 t) (iblk m c 5 t) r d := by
  have hcov := cover0_A_6 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) scM0_0 (Memref.isWhole_whole _) (iblk m c 0 t) (iblk m c 1 t) (iblk m c 2 t)
    (iblk m c 3 t) (iblk m c 4 t) (iblk m c 5 t) (ix2 r d)
  unfold outsAt0
  rw [out_eq]
  generalize iblk m c 0 t = x0, iblk m c 1 t = x1, iblk m c 2 t = x2, iblk m c 3 t = x3, iblk m c 4 t = x4, iblk m c 5 t = x5
  refine View.canon_apply_of_pieces (Val := Elt Ideal) (e := .f32) (fun y : S512x1024.Idx => element x0 x1 x2 x3 x4 x5 (y 0) (y 1)) _ ?_ (ix2 r d) ?_
  · intro p hp x
    simp only [List.mem_cons, List.not_mem_nil, or_false] at hp
    rcases hp with rfl | rfl
    · obtain ⟨r', c', rfl⟩ : ∃ (r' : Fin 256) (c' : Fin 1024), x = ix2 r' c' := ⟨x 0, x 1, by funext a; match a with | ⟨0, _⟩ => rfl | ⟨1, _⟩ => rfl⟩
      refine (slab_element x0 x1 x2 x3 x4 x5 _ _ 256 (by omega) (fun r c => ?_) (fun r c => ?_) r' c').trans ?_
      · pointwise
      · pointwise
      · congr 1
        · exact Fin.ext (by show 256 + r'.val = 256 + 1 * r'.val; omega)
        · exact Fin.ext (by show c'.val = 0 + 1 * c'.val; omega)
    · obtain ⟨r', c', rfl⟩ : ∃ (r' : Fin 256) (c' : Fin 1024), x = ix2 r' c' := ⟨x 0, x 1, by funext a; match a with | ⟨0, _⟩ => rfl | ⟨1, _⟩ => rfl⟩
      refine (slab_element x0 x1 x2 x3 x4 x5 _ _ 0 (by omega) (fun r c => ?_) (fun r c => ?_) r' c').trans ?_
      · pointwise
      · pointwise
      · congr 1
        · exact Fin.ext (by show 0 + r'.val = 0 + 1 * r'.val; omega)
        · exact Fin.ext (by show c'.val = 0 + 1 * c'.val; omega)
  · by_cases hr : r.val < 256
    · refine ⟨_, List.mem_cons_of_mem _ (List.mem_cons_self ..), ?_⟩
      rw [Rect.mem_set_unit]
      intro a
      match a with
      | ⟨0, _⟩ => show 0 ≤ r.val ∧ r.val < 0 + 256; omega
      | ⟨1, _⟩ => show 0 ≤ d.val ∧ d.val < 0 + 1024; have := d.isLt; omega
    · refine ⟨_, List.mem_cons_self .., ?_⟩
      rw [Rect.mem_set_unit]
      intro a
      match a with
      | ⟨0, _⟩ => show 256 ≤ r.val ∧ r.val < 256 + 256; have := r.isLt; omega
      | ⟨1, _⟩ => show 0 ≤ d.val ∧ d.val < 0 + 1024; have := d.isLt; omega

/-- Input rows: block `t`. -/
theorem index0 : ∀ t : Fin cfg0.N, win0_0.index t = ![(grid0.coords t 0).val, 0] := (by decide +kernel : ∀ t : Fin grid0.N, _)
/-- The gate's weights: layer 0, first half. -/
theorem index1 : ∀ t : Fin cfg0.N, win0_1.index t = ![0, 0, 0, 0] := (by decide +kernel : ∀ t : Fin grid0.N, _)
/-- The other weights: layer 0, first half. -/
theorem index2 : ∀ t : Fin cfg0.N, win0_2.index t = ![0, 0, 0, 0] := (by decide +kernel : ∀ t : Fin grid0.N, _)
/-- The weights of the way back: layer 0, first half. -/
theorem index3 : ∀ t : Fin cfg0.N, win0_3.index t = ![0, 0, 0, 0] := (by decide +kernel : ∀ t : Fin grid0.N, _)
/-- The gain: all of it. -/
theorem index4 : ∀ t : Fin cfg0.N, win0_4.index t = ![0, 0] := (by decide +kernel : ∀ t : Fin grid0.N, _)
/-- The bias: all of it. -/
theorem index5 : ∀ t : Fin cfg0.N, win0_5.index t = ![0, 0] := (by decide +kernel : ∀ t : Fin grid0.N, _)
/-- Output rows: block `t`. -/
theorem index6 : ∀ t : Fin cfg0.N, win0_6.index t = ![(grid0.coords t 0).val, 0] := (by decide +kernel : ∀ t : Fin grid0.N, _)

/-- An element of the result, row `R`, column `C`, from the arrays the kernel is launched on. -/
def result (X : S32768x1024.Idx → EReal) (Wg Wu : S4x2x1024x2816.Idx → EReal) (Wd : S4x2x2816x1024.Idx → EReal)
    (g b : S1x1024.Idx → EReal) (R : Fin 32768) (C : Fin 1024) : EReal :=
  layerNorm (fun k => Ideal.ofBits .f32 0x3FD744FD#32 * X (ix2 R k)
      + Ideal.ofBits .f32 0x3F000000#32 * ∑ f : Fin 2816,
        hiddenAt (fun k => X (ix2 R k)) (fun k => Wg (ix4 0 0 k f)) (fun k => Wu (ix4 0 0 k f)) * Wd (ix4 0 0 f k))
    (fun k => g (ix2 0 k)) (fun k => b (ix2 0 k)) C

/-- The result array after the run. -/
theorem array_eq (c : Dev nD) :
    (dats m 0 c).arrAt 6 cfg0.N
      = fun i => result (V m c main_v0) (V m c main_v1) (V m c main_v2) (V m c main_v3) (V m c main_v6) (V m c main_v9) (i 0) (i 1) := by
  refine (dats m 0 c).arrAt_eq_of_covers 6 _ (by decide +kernel) fun t hf y => ?_
  blk_simp
  rw [after0_6]
  obtain ⟨r, d, rfl⟩ : ∃ (r : Fin 512) (d : Fin 1024), y = ix2 r d := ⟨y 0, y 1, by funext a; match a with | ⟨0, _⟩ => rfl | ⟨1, _⟩ => rfl⟩
  rw [out_element]
  have h0 : (grid0.coords t 0).val < 64 := (grid0.coords t 0).isLt
  have hd := d.isLt
  have hr := r.isLt
  have e0 : ∀ k : Fin 1024, iblk m c 0 t (ix2 r k) = V m c main_v0 (ix2 ⟨(grid0.coords t 0).val * 512 + r.val, by omega⟩ k) := by
    intro k
    have hk := k.isLt
    blk_simp [iblk, index0]
    refine congrArg (V m c main_v0) ?_
    blk_ext [index0]
  have e1 : ∀ (k : Fin 1024) (f : Fin 2816), iblk m c 1 t (ix4 0 0 k f) = V m c main_v1 (ix4 0 0 k f) := by
    intro k f
    have hk := k.isLt
    have hf := f.isLt
    blk_simp [iblk, index1]
    refine congrArg (V m c main_v1) ?_
    blk_ext [index1]
  have e2 : ∀ (k : Fin 1024) (f : Fin 2816), iblk m c 2 t (ix4 0 0 k f) = V m c main_v2 (ix4 0 0 k f) := by
    intro k f
    have hk := k.isLt
    have hf := f.isLt
    blk_simp [iblk, index2]
    refine congrArg (V m c main_v2) ?_
    blk_ext [index2]
  have e3 : ∀ (f : Fin 2816) (k : Fin 1024), iblk m c 3 t (ix4 0 0 f k) = V m c main_v3 (ix4 0 0 f k) := by
    intro f k
    have hk := k.isLt
    have hf := f.isLt
    blk_simp [iblk, index3]
    refine congrArg (V m c main_v3) ?_
    blk_ext [index3]
  have e4 : ∀ k : Fin 1024, iblk m c 4 t (ix2 0 k) = V m c main_v6 (ix2 0 k) := by
    intro k
    have hk := k.isLt
    blk_simp [iblk, index4]
    refine congrArg (V m c main_v6) ?_
    blk_ext [index4]
  have e5 : ∀ k : Fin 1024, iblk m c 5 t (ix2 0 k) = V m c main_v9 (ix2 0 k) := by
    intro k
    have hk := k.isLt
    blk_simp [iblk, index5]
    refine congrArg (V m c main_v9) ?_
    blk_ext [index5]
  unfold element
  simp only [e0, e1, e2, e3, e4, e5]
  have key : ∀ (R' : Fin 32768) (C' : Fin 1024), R' = ⟨(grid0.coords t 0).val * 512 + r.val, by omega⟩ → C' = d →
      result (V m c main_v0) (V m c main_v1) (V m c main_v2) (V m c main_v3) (V m c main_v6) (V m c main_v9)
        ⟨(grid0.coords t 0).val * 512 + r.val, by omega⟩ d
      = result (V m c main_v0) (V m c main_v1) (V m c main_v2) (V m c main_v3) (V m c main_v6) (V m c main_v9) R' C' := by
    rintro _ _ rfl rfl; rfl
  refine key _ _ (Fin.ext ?_) (Fin.ext ?_)
  · blk_simp [index6]
  · blk_simp [index6]

end Cert.Own.Ffn

end
-- ==== Proof.FfnHost.lean ====
/- What the feed-forward kernel is launched on, from the argument arrays. -/
module

public import proofs.«01_k».proof.Proof.Gen.FfnIdeal.Frame
public import Idealize.ShloMosaic.Lib.Pointwise
public import Idealize.ShloMosaic.Lib.StableHlo.Run
public import Idealize.ShloMosaic.Lib.StableHlo.RunRead

@[expose] public section

set_option maxRecDepth 16384

noncomputable section

namespace Cert.Own.Ffn

open Cert.FfnIdeal Cert.FfnIdeal.Gen Idealize.ShloMosaic Idealize.ShloMosaic.TcCoe Idealize.SL.Sem
open scoped BigOperators

variable (m : (ℓ : Loc nD τ sig) → Buf (Elt Ideal) ℓ) (c : Dev nD)

/-- An array of 8 sequences of 4096 rows, read as one sequence of rows. -/
theorem rows_apply (y : FVec Ideal S8x4096x1024 .f32) (R : Fin 32768) (k : Fin 1024) :
    shapeCast S32768x1024 y shapeCasts_S8x4096x1024_S32768x1024 (ix2 R k)
      = y (ix3 ⟨R.val / 4096, by omega⟩ ⟨R.val % 4096, by omega⟩ k) := by
  refine shapeCast_apply y shapeCasts_S8x4096x1024_S32768x1024 _ _ ?_
  rewrite [Shape.rowMajor_val_three, Shape.rowMajor_val_two]
  have hk := k.isLt
  show (R.val / 4096 * 4096 + R.val % 4096) * 1024 + k.val = R.val * 1024 + k.val
  omega

/-- The rows of the input, all sequences one after the other. -/
theorem V_rows (R : Fin 32768) (k : Fin 1024) :
    V m c main_v0 (ix2 R k) = m ((c : Thread nD τ).loc main_arg0) (ix3 ⟨R.val / 4096, by omega⟩ ⟨R.val % 4096, by omega⟩ k) := by
  have h : V m c main_v0 = shapeCast S32768x1024 (m ((c : Thread nD τ).loc main_arg0)) shapeCasts_S8x4096x1024_S32768x1024 := by
    show StableHlo.after hostOps0 _ (Proc.devRef .tc main_v0) = _
    after_reads_simp
    rfl
  rw [h]
  exact rows_apply _ R k

/-- The gate's weights are as given. -/
theorem V_gate : V m c main_v1 = m ((c : Thread nD τ).loc main_arg1) := by
  show StableHlo.after hostOps0 _ (Proc.devRef .tc main_v1) = _
  after_reads_simp
  rfl

/-- The other weights are as given. -/
theorem V_up : V m c main_v2 = m ((c : Thread nD τ).loc main_arg2) := by
  show StableHlo.after hostOps0 _ (Proc.devRef .tc main_v2) = _
  after_reads_simp
  rfl

/-- The weights of the way back are as given. -/
theorem V_down : V m c main_v3 = m ((c : Thread nD τ).loc main_arg3) := by
  show StableHlo.after hostOps0 _ (Proc.devRef .tc main_v3) = _
  after_reads_simp
  rfl

/-- The first row of the first plane of a stack of gains or biases, as one row. -/
def firstRow (y : FVec Ideal S4x4x1024 .f32) : FVec Ideal S1x1024 .f32 :=
  shapeCast S1x1024 (shapeCast S1024 (extractStridedSlice S1x1x1024 ![0, 0, 0] y slices_S4x4x1024_S1x1x1024_0_0_0)
    shapeCasts_S1x1x1024_S1024) shapeCasts_S1024_S1x1024

/-- The first row read at a column. -/
theorem firstRow_apply (y : FVec Ideal S4x4x1024 .f32) (k : Fin 1024) : firstRow y (ix2 0 k) = y (ix3 0 0 k) := by
  unfold firstRow
  pointwise

/-- The gain. -/
theorem V_gain (k : Fin 1024) : V m c main_v6 (ix2 0 k) = m ((c : Thread nD τ).loc main_arg4) (ix3 0 0 k) := by
  have h : V m c main_v6 = firstRow (m ((c : Thread nD τ).loc main_arg4)) := by
    show StableHlo.after hostOps0 _ (Proc.devRef .tc main_v6) = _
    after_reads_simp
    rfl
  rw [h]
  exact firstRow_apply _ k

/-- The bias. -/
theorem V_bias (k : Fin 1024) : V m c main_v9 (ix2 0 k) = m ((c : Thread nD τ).loc main_arg5) (ix3 0 0 k) := by
  have h : V m c main_v9 = firstRow (m ((c : Thread nD τ).loc main_arg5)) := by
    show StableHlo.after hostOps0 _ (Proc.devRef .tc main_v9) = _
    after_reads_simp
    rfl
  rw [h]
  exact firstRow_apply _ k

end Cert.Own.Ffn

end
-- ==== Proof.FfnRef.lean ====
/- The reference feed-forward, element by element, from its argument arrays. -/
module

public import proofs.«01_k».proof.Proof.Gen.FfnRefIdeal.Read
public import proofs.«01_k».proof.Proof.Consts
public import proofs.«01_k».proof.Proof.LayerNorm
public import proofs.«01_k».proof.Proof.FfnBlock

@[expose] public section

set_option maxRecDepth 16384

noncomputable section

namespace Cert.Own.FfnRef

open Cert.FfnRefIdeal Cert.FfnRefIdeal.Read Idealize.ShloMosaic
open scoped BigOperators

variable (x0 : FVec Ideal S8x4096x1024 .f32) (x1 x2 : FVec Ideal S4x2x1024x2816 .f32) (x3 : FVec Ideal S4x2x2816x1024 .f32)
  (x4 x5 : FVec Ideal S4x4x1024 .f32)

/-- The gate's weights. -/
theorem v1_eq (i : S1024x2816.Idx) : val_main_v1 (F := Ideal) x1 i = x1 (ix4 0 0 (i 0) (i 1)) := by
  have h0 : (i 0).val < 1024 := (i 0).isLt
  have h1 : (i 1).val < 2816 := (i 1).isLt
  rw [val_main_v1_apply, val_main_v0_apply]
  refine congrArg x1 ?_
  funext a
  match a with
  | ⟨0, _⟩ => rfl
  | ⟨1, _⟩ => rfl
  | ⟨2, _⟩ => apply Fin.ext; dsimp only [idx_main_v0, idx_main_v1, ix4]; omega
  | ⟨3, _⟩ => apply Fin.ext; dsimp only [idx_main_v0, idx_main_v1, ix4]; omega

/-- The other weights. -/
theorem v3_eq (i : S1024x2816.Idx) : val_main_v3 (F := Ideal) x2 i = x2 (ix4 0 0 (i 0) (i 1)) := by
  have h0 : (i 0).val < 1024 := (i 0).isLt
  have h1 : (i 1).val < 2816 := (i 1).isLt
  rw [val_main_v3_apply, val_main_v2_apply]
  refine congrArg x2 ?_
  funext a
  match a with
  | ⟨0, _⟩ => rfl
  | ⟨1, _⟩ => rfl
  | ⟨2, _⟩ => apply Fin.ext; dsimp only [idx_main_v2, idx_main_v3, ix4]; omega
  | ⟨3, _⟩ => apply Fin.ext; dsimp only [idx_main_v2, idx_main_v3, ix4]; omega

/-- The weights of the way back. -/
theorem v5_eq (i : S2816x1024.Idx) : val_main_v5 (F := Ideal) x3 i = x3 (ix4 0 0 (i 0) (i 1)) := by
  have h0 : (i 0).val < 2816 := (i 0).isLt
  have h1 : (i 1).val < 1024 := (i 1).isLt
  rw [val_main_v5_apply, val_main_v4_apply]
  refine congrArg x3 ?_
  funext a
  match a with
  | ⟨0, _⟩ => rfl
  | ⟨1, _⟩ => rfl
  | ⟨2, _⟩ => apply Fin.ext; dsimp only [idx_main_v4, idx_main_v5, ix4]; omega
  | ⟨3, _⟩ => apply Fin.ext; dsimp only [idx_main_v4, idx_main_v5, ix4]; omega

/-- The hidden layer. -/
theorem v9_eq (i : S8x4096x2816.Idx) :
    val_main_v9 (F := Ideal) x0 x1 x2 i
      = Ffn.hiddenAt (fun k => x0 (ix3 (i 0) (i 1) k)) (fun k => x1 (ix4 0 0 k (i 2))) (fun k => x2 (ix4 0 0 k (i 2))) := by
  have e6 : val_main_v6 (F := Ideal) x0 x1 i = ∑ k, x0 (ix3 (i 0) (i 1) k) * x1 (ix4 0 0 k (i 2)) := by
    rw [val_main_v6_apply]
    refine Finset.sum_congr rfl fun k _ => ?_
    rw [v1_eq]
    refine congrArg (fun a : EReal => a * _) (congrArg x0 ?_)
    funext a
    match a with
    | ⟨0, _⟩ => rfl
    | ⟨1, _⟩ => rfl
    | ⟨2, _⟩ => rfl
  have e8 : val_main_v8 (F := Ideal) x0 x2 i = ∑ k, x0 (ix3 (i 0) (i 1) k) * x2 (ix4 0 0 k (i 2)) := by
    rw [val_main_v8_apply]
    refine Finset.sum_congr rfl fun k _ => ?_
    rw [v3_eq]
    refine congrArg (fun a : EReal => a * _) (congrArg x0 ?_)
    funext a
    match a with
    | ⟨0, _⟩ => rfl
    | ⟨1, _⟩ => rfl
    | ⟨2, _⟩ => rfl
  rw [val_main_v9_apply, val_main_v7_apply, e8, val_main_call0_v5_apply, val_main_call0_v4_apply, val_main_call0_cst_0_apply,
    val_main_call0_v3_apply, val_main_call0_v2_apply, val_main_call0_cst_apply, val_main_call0_v1_apply, val_main_call0_v0_apply, e6]
  show _ * Ideal.div (Ideal.ofBits .f32 0x3F800000#32) (Ideal.ofBits .f32 0x3F800000#32 + Ideal.exp (-_)) * _ = _
  rw [lit_one]
  rfl

/-- The row before its layer norm: the scaled input plus half the feed-forward's result. -/
def pre (B : Fin 8) (S : Fin 4096) (k : Fin 1024) : EReal :=
  Ideal.ofBits .f32 0x3FD744FD#32 * x0 (ix3 B S k)
    + Ideal.ofBits .f32 0x3F000000#32 * ∑ f : Fin 2816,
      Ffn.hiddenAt (fun k => x0 (ix3 B S k)) (fun k => x1 (ix4 0 0 k f)) (fun k => x2 (ix4 0 0 k f)) * x3 (ix4 0 0 f k)

/-- The row before its layer norm, as the reference has it. -/
theorem v15_eq (i : S8x4096x1024.Idx) : val_main_v15 (F := Ideal) x0 x1 x2 x3 i = pre x0 x1 x2 x3 (i 0) (i 1) (i 2) := by
  rw [val_main_v15_apply, val_main_v12_apply, val_main_v11_apply, val_main_cst_apply, val_main_v14_apply, val_main_v13_apply,
    val_main_cst_0_apply, val_main_v10_apply]
  simp only [v9_eq, v5_eq]
  have e : x0 i = x0 (ix3 (i 0) (i 1) (i 2)) := congrArg x0 (by
    funext a
    match a with
    | ⟨0, _⟩ => rfl
    | ⟨1, _⟩ => rfl
    | ⟨2, _⟩ => rfl)
  rw [e]
  rfl

/-- The row's mean. -/
theorem v23_eq (i : S8x4096x1.Idx) : val_main_v23 (F := Ideal) x0 x1 x2 x3 i = mean (pre x0 x1 x2 x3 (i 0) (i 1)) := by
  rw [val_main_v23_apply, val_main_v21_apply, val_main_v22_apply, val_main_cst_2_apply, val_main_v20_apply, val_main_cst_1_apply]
  simp only [v15_eq]
  show Ideal.div (Ideal.ofBits .f32 0x00000000#32 + _) _ = _
  rw [lit_zero, zero_add]
  rfl

/-- The row's variance. -/
theorem v30_eq (i : S8x4096x1.Idx) :
    val_main_v30 (F := Ideal) x0 x1 x2 x3 i
      = mean (fun k => (pre x0 x1 x2 x3 (i 0) (i 1) k - mean (pre x0 x1 x2 x3 (i 0) (i 1)))
          * (pre x0 x1 x2 x3 (i 0) (i 1) k - mean (pre x0 x1 x2 x3 (i 0) (i 1)))) := by
  rw [val_main_v30_apply, val_main_v28_apply, val_main_v29_apply, val_main_cst_4_apply, val_main_v27_apply, val_main_cst_3_apply]
  simp only [val_main_v26_apply, val_main_v25_apply, val_main_v24_apply, v15_eq, v23_eq]
  show Ideal.div (Ideal.ofBits .f32 0x00000000#32 + _) _ = _
  rw [lit_zero, zero_add]
  rfl

/-- The gain. -/
theorem v17_eq (i : S1024.Idx) : val_main_v17 (F := Ideal) x4 i = x4 (ix3 0 0 (i 0)) := by
  have h0 : (i 0).val < 1024 := (i 0).isLt
  rw [val_main_v17_apply, val_main_v16_apply]
  refine congrArg x4 ?_
  funext a
  match a with
  | ⟨0, _⟩ => rfl
  | ⟨1, _⟩ => rfl
  | ⟨2, _⟩ => apply Fin.ext; dsimp only [idx_main_v16, idx_main_v17, ix3]; omega

/-- The bias. -/
theorem v19_eq (i : S1024.Idx) : val_main_v19 (F := Ideal) x5 i = x5 (ix3 0 0 (i 0)) := by
  have h0 : (i 0).val < 1024 := (i 0).isLt
  rw [val_main_v19_apply, val_main_v18_apply]
  refine congrArg x5 ?_
  funext a
  match a with
  | ⟨0, _⟩ => rfl
  | ⟨1, _⟩ => rfl
  | ⟨2, _⟩ => apply Fin.ext; dsimp only [idx_main_v18, idx_main_v19, ix3]; omega

/-- The reference's result: every row's layer norm. -/
theorem v44_eq (R : Fin 32768) (C : Fin 1024) :
    val_main_v44 (F := Ideal) x0 x1 x2 x3 x4 x5 (ix2 R C)
      = layerNorm (pre x0 x1 x2 x3 ⟨R.val / 4096, by omega⟩ ⟨R.val % 4096, by omega⟩) (fun k => x4 (ix3 0 0 k)) (fun k => x5 (ix3 0 0 k)) C := by
  have hR := R.isLt
  have hC := C.isLt
  rw [val_main_v44_apply]
  have e : idx_main_v44 (ix2 R C) = ix3 ⟨R.val / 4096, by omega⟩ ⟨R.val % 4096, by omega⟩ C := by
    funext a
    match a with
    | ⟨0, _⟩ => apply Fin.ext; dsimp only [idx_main_v44, ix2, ix3]; omega
    | ⟨1, _⟩ => apply Fin.ext; dsimp only [idx_main_v44, ix2, ix3]; omega
    | ⟨2, _⟩ => apply Fin.ext; dsimp only [idx_main_v44, ix2, ix3]; omega
  rw [e, val_main_v43_apply, val_main_v42_apply, val_main_v41_apply, v19_eq, val_main_v40_apply, val_main_v39_apply, val_main_v38_apply, v17_eq,
    val_main_v37_apply, val_main_v32_apply, val_main_v31_apply, v15_eq, v23_eq, val_main_v36_apply, val_main_v35_apply,
    val_main_v34_apply, val_main_v33_apply, val_main_cst_5_apply, v30_eq]
  rfl

end Cert.Own.FfnRef

end
-- ==== Proof.FfnClaim.lean ====
/- The feed-forward's claims: what its kernel computes is the reference's feed-forward, whatever the arguments. -/
module

public import proofs.«01_k».proof.Defs
public import proofs.«01_k».proof.Proof.FfnArray
public import proofs.«01_k».proof.Proof.FfnHost
public import proofs.«01_k».proof.Proof.FfnRef
public import proofs.«01_k».proof.Proof.Gen.Ffn.Frame
public import proofs.«01_k».proof.Proof.Gen.FfnRefIdeal.Run

@[expose] public section

set_option maxRecDepth 16384

noncomputable section

namespace Cert.Own.Ffn

open Idealize.ShloMosaic Idealize.ShloMosaic.TcCoe Idealize.SL.Sem

/-- The kernel's result where it is launched on the rows of `x` and the first rows of `g` and `b`. -/
theorem result_of (x : FVec Ideal FfnRefIdeal.S8x4096x1024 .f32) (g b : FVec Ideal FfnRefIdeal.S4x4x1024 .f32)
    (X : FfnIdeal.S32768x1024.Idx → EReal) (Wg Wu : FfnIdeal.S4x2x1024x2816.Idx → EReal) (Wd : FfnIdeal.S4x2x2816x1024.Idx → EReal)
    (G B : FfnIdeal.S1x1024.Idx → EReal)
    (hX : ∀ (R : Fin 32768) (k : Fin 1024), X (ix2 R k) = x (ix3 ⟨R.val / 4096, by omega⟩ ⟨R.val % 4096, by omega⟩ k))
    (hG : ∀ k : Fin 1024, G (ix2 0 k) = g (ix3 0 0 k)) (hB : ∀ k : Fin 1024, B (ix2 0 k) = b (ix3 0 0 k))
    (R : Fin 32768) (C : Fin 1024) :
    result X Wg Wu Wd G B R C
      = layerNorm (FfnRef.pre x Wg Wu Wd ⟨R.val / 4096, by omega⟩ ⟨R.val % 4096, by omega⟩) (fun k => g (ix3 0 0 k)) (fun k => b (ix3 0 0 k)) C := by
  unfold result FfnRef.pre
  simp only [hX, hG, hB]

/-- The kernel's result array is the reference's. -/
theorem arrays_eq (m : (ℓ : Loc FfnIdeal.nD FfnIdeal.τ FfnIdeal.sig) → Buf (Elt Ideal) ℓ) (c : Dev FfnIdeal.nD) :
    FfnRefIdeal.Read.val_main_v44 (F := Ideal) (m ((c.tc : Thread FfnIdeal.nD FfnIdeal.τ).loc FfnIdeal.main_arg0))
        (m ((c.tc : Thread FfnIdeal.nD FfnIdeal.τ).loc FfnIdeal.main_arg1))
        (m ((c.tc : Thread FfnIdeal.nD FfnIdeal.τ).loc FfnIdeal.main_arg2))
        (m ((c.tc : Thread FfnIdeal.nD FfnIdeal.τ).loc FfnIdeal.main_arg3))
        (m ((c.tc : Thread FfnIdeal.nD FfnIdeal.τ).loc FfnIdeal.main_arg4))
        (m ((c.tc : Thread FfnIdeal.nD FfnIdeal.τ).loc FfnIdeal.main_arg5))
      = (FfnIdeal.Gen.dats m 0 c).arrAt 6 FfnIdeal.cfg0.N := by
  rw [array_eq]
  funext i
  obtain ⟨R, C, rfl⟩ : ∃ (R : Fin 32768) (C : Fin 1024), i = ix2 R C :=
    ⟨i 0, i 1, by funext a; match a with | ⟨0, _⟩ => rfl | ⟨1, _⟩ => rfl⟩
  rw [FfnRef.v44_eq]
  refine Eq.trans ?_ (result_of _ _ _ _ _ _ _ _ _ (V_rows m c) (V_gain m c) (V_bias m c) R C).symm
  rw [V_gate, V_up, V_down]

/-- The value claim. -/
theorem algebraic : Cert.algebraic_FfnIdeal_FfnRefIdeal (hFfnIdeal := Cert.FfnIdeal.Gen.facts)
    (hFfnRefIdeal := Cert.FfnRefIdeal.Gen.facts) := by
  intro m ρ m' ρ' _ hagree
  refine ⟨fun c => (FfnIdeal.Gen.dats m 0 c).arrAt 6 FfnIdeal.cfg0.N, FfnIdeal.Value.run_blocks m ρ, ?_⟩
  refine (θ_run _ _ _).mono (fun r h c => ⟨?_, (h c).2⟩) (FfnRefIdeal.Value.run (F := Ideal) m' ρ')
  rw [(h c).1, FfnRefIdeal.Read.val_main_v44_eq, (hagree c).1, (hagree c).2.1, (hagree c).2.2.1, (hagree c).2.2.2.1,
    (hagree c).2.2.2.2.1, (hagree c).2.2.2.2.2]
  exact arrays_eq m c

/-- The reference leaves its arguments as they were and every semaphore at zero. -/
theorem ref_frame (m : (ℓ : Loc FfnRefIdeal.nD FfnRefIdeal.τ FfnRefIdeal.sig) → Buf (Elt Ideal) ℓ) (ρ : Dev FfnRefIdeal.nD → PrngReg) :
    θ_run FfnRefIdeal.defs (onTc (τ := FfnRefIdeal.τ) (FfnRefIdeal.main (F := Ideal))) ⟨m, fun _ => 0, ρ⟩ fun r =>
      (∀ c : Dev FfnRefIdeal.nD,
        r.2.mem ((c.tc : Thread FfnRefIdeal.nD FfnRefIdeal.τ).loc FfnRefIdeal.main_arg0) = m ((c.tc : Thread FfnRefIdeal.nD FfnRefIdeal.τ).loc FfnRefIdeal.main_arg0)
        ∧ r.2.mem ((c.tc : Thread FfnRefIdeal.nD FfnRefIdeal.τ).loc FfnRefIdeal.main_arg1) = m ((c.tc : Thread FfnRefIdeal.nD FfnRefIdeal.τ).loc FfnRefIdeal.main_arg1)
        ∧ r.2.mem ((c.tc : Thread FfnRefIdeal.nD FfnRefIdeal.τ).loc FfnRefIdeal.main_arg2) = m ((c.tc : Thread FfnRefIdeal.nD FfnRefIdeal.τ).loc FfnRefIdeal.main_arg2)
        ∧ r.2.mem ((c.tc : Thread FfnRefIdeal.nD FfnRefIdeal.τ).loc FfnRefIdeal.main_arg3) = m ((c.tc : Thread FfnRefIdeal.nD FfnRefIdeal.τ).loc FfnRefIdeal.main_arg3)
        ∧ r.2.mem ((c.tc : Thread FfnRefIdeal.nD FfnRefIdeal.τ).loc FfnRefIdeal.main_arg4) = m ((c.tc : Thread FfnRefIdeal.nD FfnRefIdeal.τ).loc FfnRefIdeal.main_arg4)
        ∧ r.2.mem ((c.tc : Thread FfnRefIdeal.nD FfnRefIdeal.τ).loc FfnRefIdeal.main_arg5) = m ((c.tc : Thread FfnRefIdeal.nD FfnRefIdeal.τ).loc FfnRefIdeal.main_arg5))
      ∧ r.2.sem = fun _ => 0 :=
  (θ_run _ _ _).mono (fun r h => ⟨fun c => (h c).2, Idealize.ShloMosaic.sem_eq_zero_of_no_sems (by decide) r.2⟩)
    (FfnRefIdeal.Value.run (F := Ideal) m ρ)

end Cert.Own.Ffn

end
-- ==== Proof.AbLiterals.lean ====
/- The projection to the first attentions' queries, keys and values: the two literal arrays. -/
module

public import proofs.«01_k».proof.AbProjIdeal

@[expose] public section

set_option maxRecDepth 16384

noncomputable section

namespace Cert.Own.AbProj

open Cert.AbProjIdeal Idealize.ShloMosaic

/-- The first of the 64 weight columns of the head that column `C` of the result belongs to. -/
def base (C : Nat) : Nat :=
  if C < 512 then 64 * (C / 64)
  else if C < 768 then 512 + 64 * ((C - 512) / 128)
  else if C < 1024 then 640 + 64 * ((C - 768) / 128)
  else if C < 1536 then 768 + 64 * ((C - 1024) / 64)
  else if C < 1792 then 1280 + 64 * ((C - 1536) / 128)
  else 1408 + 64 * ((C - 1792) / 128)

/-- A head's columns are among the weights'. -/
theorem base_le (C : Fin 2048) : base C.val + 64 ≤ 1536 := by
  have h := C.isLt
  unfold base
  split_ifs <;> omega

/-- The literal columns are the heads' columns in turn, keys' and values' heads each twice. -/
theorem columns_eq : ∀ i : Fin 2048, lit1 i = BitVec.ofNat 32 (base i.val + i.val % 64) := by
  decide +kernel

/-- The literal averaging matrix: a sixty-fourth between lanes of one head, zero elsewhere. -/
theorem matrix_lit : ∀ i : Fin 16384, lit0 i = if i.val / 128 / 64 = i.val % 128 / 64 then 0x3C80#16 else 0x0000#16 := by
  decide +kernel

end Cert.Own.AbProj

end
-- ==== Proof.AbTables.lean ====
/- The projection to the first attentions' queries, keys and values: the arrays its kernel is launched on. -/
module

public import proofs.«01_k».proof.Proof.AbLiterals
public import proofs.«01_k».proof.Proof.Gen.AbProjIdeal.Frame
public import proofs.«01_k».proof.Proof.Gen.AbProjRefIdeal.Read
public import Idealize.ShloMosaic.Lib.Pointwise
public import Idealize.ShloMosaic.Lib.StableHlo.Run
public import Idealize.ShloMosaic.Lib.StableHlo.RunRead

@[expose] public section

set_option maxRecDepth 16384

noncomputable section

namespace Cert.Own.AbProj

open Cert.AbProjIdeal Cert.AbProjIdeal.Gen Idealize.ShloMosaic Idealize.ShloMosaic.TcCoe Idealize.SL.Sem

/-- The gather read at row `k`, column `C`: the operand's row `k`, at the column the index array gives, kept within the operand. -/
theorem gather_apply (x : S1024x1536.Idx → EReal) (idx : IVec S2048x1 32) (k : Fin 1024) (C : Fin 2048) :
    Host.gather gather_S1024x1536_S2048x1_S1024x2048_0_1_n_n_1_1_10241 x idx (ix2 k C)
      = x (ix2 k ⟨min (idx (ix2 C 0)).toInt.toNat 1535, by omega⟩) := by
  unfold Host.gather
  congr 1
  funext a
  refine Fin.ext ?_
  show (gather_S1024x1536_S2048x1_S1024x2048_0_1_n_n_1_1_10241).start (ix2 k C) idx a
    + (gather_S1024x1536_S2048x1_S1024x2048_0_1_n_n_1_1_10241).batchCoord (ix2 k C) a
    + (gather_S1024x1536_S2048x1_S1024x2048_0_1_n_n_1_1_10241).offCoord (ix2 k C) a = _
  have h01 : a = 0 ∨ a = 1 := by
    match a with
    | ⟨0, _⟩ => exact Or.inl rfl
    | ⟨1, _⟩ => exact Or.inr rfl
  rw [GatherDims.batchCoord_eq_zero _ _ _ List.not_mem_nil, Nat.add_zero]
  unfold GatherDims.start GatherDims.offCoord
  rcases h01 with rfl | rfl
  · rw [dif_neg (by decide), dif_pos (by decide), Nat.zero_add]
    rfl
  · rw [dif_pos (by decide), dif_neg (by decide), Nat.add_zero]
    have hsi : gather_S1024x1536_S2048x1_S1024x2048_0_1_n_n_1_1_10241.siIdx (ix2 k C)
        ⟨List.idxOf (1 : Fin 2) gather_S1024x1536_S2048x1_S1024x2048_0_1_n_n_1_1_10241.startIndexMap,
          List.idxOf_lt_length_iff.2 (List.mem_singleton.mpr rfl)⟩ = ix2 C 0 := by
      funext b
      refine Fin.ext ?_
      match b with
      | ⟨0, _⟩ => rfl
      | ⟨1, _⟩ => rfl
    rw [hsi]
    rfl

section

variable {F : FTy → Type} [FloatOps F] [Named F]

/-- The column each result column takes. -/
def columns : IVec S2048x1 32 :=
  broadcastInDim S2048x1 ![0] bcast_S2048_S2048x1_0
    (select (constantI S2048 1 0#1)
      (addi (fun i => lit1 (S2048.rowMajor i)) (broadcastInDim S2048 ![] bcast_S_S2048 (constantI S_ 32 1536#32)))
      (fun i => lit1 (S2048.rowMajor i)))

/-- The first weights out of the stack, their columns gathered. -/
def gathered (y : FVec F S2x1024x1536 .f32) : FVec F S1024x2048 .bf16 :=
  truncf .bf16 (Host.gather gather_S1024x1536_S2048x1_S1024x2048_0_1_n_n_1_1_10241
    (shapeCast S1024x1536 (extractStridedSlice S1x1024x1536 ![0, 0, 0] y slices_S2x1024x1536_S1x1024x1536_0_0_0)
      shapeCasts_S1x1024x1536_S1024x1536) columns) bitsLt_bf16_f32

/-- A gain, twice. -/
def gain (g : FVec F S2x64 .f32) : FVec F S1x128 .f32 :=
  shapeCast S1x128 (shapeCast S128 (broadcastInDim S2x64 ![0, 1] bcast_S1x64_S2x64_0_1
    (shapeCast S1x64 (shapeCast S64 (extractStridedSlice S1x64 ![0, 0] g slices_S2x64_S1x64_0_0) shapeCasts_S1x64_S64) shapeCasts_S64_S1x64))
    shapeCasts_S2x64_S128) shapeCasts_S128_S1x128

/-- A table twice over. -/
def doubled (a b : FVec F S4096x32 .f32) : FVec F S4096x128 .f32 :=
  concatenate S4096x128 1 [⟨S4096x64, concatenate S4096x64 1 [⟨S4096x32, a⟩, ⟨S4096x32, b⟩] concatenates_S4096x32_S4096x32_S4096x64_d1⟩,
    ⟨S4096x64, concatenate S4096x64 1 [⟨S4096x32, a⟩, ⟨S4096x32, b⟩] concatenates_S4096x32_S4096x32_S4096x64_d1⟩]
    concatenates_S4096x64_S4096x64_S4096x128_d1

/-- No angle. -/
def zeros : FVec F S4096x32 .f32 := broadcastInDim S4096x32 ![] bcast_S_S4096x32 (constant S_ .f32 0x00000000#32)

variable (m : (ℓ : Loc nD τ sig) → Buf (Elt F) ℓ) (c : Dev nD)

/-- The averaging matrix the kernel reads. -/
theorem V_matrix : V m c main_cst = fun i => FloatOps.ofBits .bf16 (lit0 (S128x128.rowMajor i)) := by
  show StableHlo.after (List.flatten [hostOps0, hostOps0_1, hostOps0_2, hostOps0_3, hostOps0_4]) (fun b => m (c, b)) (Proc.devRef .tc main_cst) = _
  after_reads_simp
  rfl

/-- The weights the kernel reads. -/
theorem V_weights : V m c main_v79 = gathered (m ((c : Thread nD τ).loc main_arg1)) := by
  show StableHlo.after (hostOps0 (F := F)) _ (Proc.devRef .tc main_v79) = _
  after_reads_simp
  rfl

/-- The queries' gain the kernel reads. -/
theorem V_queryGain : V m c main_v85 = gain (m ((c : Thread nD τ).loc main_arg2)) := by
  show StableHlo.after (hostOps0 (F := F)) _ (Proc.devRef .tc main_v85) = _
  after_reads_simp
  rfl

/-- The keys' gain the kernel reads. -/
theorem V_keyGain : V m c main_v91 = gain (m ((c : Thread nD τ).loc main_arg3)) := by
  show StableHlo.after (hostOps0 (F := F)) _ (Proc.devRef .tc main_v91) = _
  after_reads_simp
  rfl

/-- The first angles, of both programs. -/
def angles2 : FVec F S4096x32 .f32 := Cert.AbProjRefIdeal.Read.val_main_v35 (F := F)

/-- The second angles, of both programs. -/
def angles1 : FVec F S4096x32 .f32 := Cert.AbProjRefIdeal.Read.val_main_v51 (F := F)

/-- The host's operations after both angles. -/
def later : List (HloOp τ sig (Elt F)) := (hostOps0_4 (F := F)).drop 60

/-- What the host holds once it has both angles. -/
def midway : Valuation τ sig (Elt F) :=
  StableHlo.after ((hostOps0_4 (F := F)).take 60)
    (StableHlo.after (List.flatten [hostOps0, hostOps0_1, hostOps0_2, hostOps0_3]) (fun b => m (c, b)))

/-- The host's operations, in two parts. -/
theorem V_split (r : Ref sig .tc) : V m c r = StableHlo.after (later (F := F)) (midway m c) (Proc.devRef .tc r) := by
  show StableHlo.after (List.flatten [hostOps0, hostOps0_1, hostOps0_2, hostOps0_3, hostOps0_4]) (fun b => m (c, b)) (Proc.devRef .tc r) = _
  unfold later midway
  rw [← StableHlo.after_append, List.take_append_drop, ← StableHlo.after_append]
  simp only [List.flatten_cons, List.flatten_nil, List.append_nil, List.append_assoc]

section
variable (W : Valuation τ sig (Elt F))

/-- The later operations leave the first angles as they are. -/
theorem later_angles2 : StableHlo.after (later (F := F)) W (Proc.devRef .tc main_v35) = W (Proc.devRef .tc main_v35) := by
  show StableHlo.after ((hostOps0_4 (F := F)).drop 60) _ (Proc.devRef .tc main_v35) = _
  after_reads_simp

/-- The first cosines, of the first angles. -/
theorem later_cos2 : StableHlo.after (later (F := F)) W (Proc.devRef .tc main_v59)
    = doubled (Host.cos (W (Proc.devRef .tc main_v35))) (Host.cos (W (Proc.devRef .tc main_v35))) := by
  show StableHlo.after ((hostOps0_4 (F := F)).drop 60) _ (Proc.devRef .tc main_v59) = _
  after_reads_simp
  rfl

/-- The first lower sines, of the first angles. -/
theorem later_low2 : StableHlo.after (later (F := F)) W (Proc.devRef .tc main_v60)
    = doubled (Host.negf (Host.sin (W (Proc.devRef .tc main_v35)))) zeros := by
  show StableHlo.after ((hostOps0_4 (F := F)).drop 60) _ (Proc.devRef .tc main_v60) = _
  after_reads_simp
  rfl

/-- The first upper sines, of the first angles. -/
theorem later_high2 : StableHlo.after (later (F := F)) W (Proc.devRef .tc main_v61)
    = doubled zeros (Host.sin (W (Proc.devRef .tc main_v35))) := by
  show StableHlo.after ((hostOps0_4 (F := F)).drop 60) _ (Proc.devRef .tc main_v61) = _
  after_reads_simp
  rfl

/-- The later operations leave the second angles as they are. -/
theorem later_angles1 : StableHlo.after (later (F := F)) W (Proc.devRef .tc main_v51) = W (Proc.devRef .tc main_v51) := by
  show StableHlo.after ((hostOps0_4 (F := F)).drop 60) _ (Proc.devRef .tc main_v51) = _
  after_reads_simp

/-- The second cosines, of the second angles. -/
theorem later_cos1 : StableHlo.after (later (F := F)) W (Proc.devRef .tc main_v69)
    = doubled (Host.cos (W (Proc.devRef .tc main_v51))) (Host.cos (W (Proc.devRef .tc main_v51))) := by
  show StableHlo.after ((hostOps0_4 (F := F)).drop 60) _ (Proc.devRef .tc main_v69) = _
  after_reads_simp
  rfl

/-- The second lower sines, of the second angles. -/
theorem later_low1 : StableHlo.after (later (F := F)) W (Proc.devRef .tc main_v70)
    = doubled (Host.negf (Host.sin (W (Proc.devRef .tc main_v51)))) zeros := by
  show StableHlo.after ((hostOps0_4 (F := F)).drop 60) _ (Proc.devRef .tc main_v70) = _
  after_reads_simp
  rfl

/-- The second upper sines, of the second angles. -/
theorem later_high1 : StableHlo.after (later (F := F)) W (Proc.devRef .tc main_v71)
    = doubled zeros (Host.sin (W (Proc.devRef .tc main_v51))) := by
  show StableHlo.after ((hostOps0_4 (F := F)).drop 60) _ (Proc.devRef .tc main_v71) = _
  after_reads_simp
  rfl

end

set_option maxHeartbeats 8000000 in
/-- The host's first angles are the reference's. -/
theorem midway_angles2 : midway m c (Proc.devRef .tc main_v35) = angles2 := by
  rw [← later_angles2 (midway m c), ← V_split]
  show StableHlo.after (hostOps0 (F := F)) _ (Proc.devRef .tc main_v35) = _
  after_reads_simp
  rfl

/-- The first cosines the kernel reads. -/
theorem V_cos2 : V m c main_v59 = doubled (Host.cos angles2) (Host.cos angles2) := by
  rw [V_split, later_cos2, midway_angles2]

/-- The first lower sines the kernel reads. -/
theorem V_low2 : V m c main_v60 = doubled (Host.negf (Host.sin angles2)) zeros := by
  rw [V_split, later_low2, midway_angles2]

/-- The first upper sines the kernel reads. -/
theorem V_high2 : V m c main_v61 = doubled zeros (Host.sin angles2) := by
  rw [V_split, later_high2, midway_angles2]

set_option maxHeartbeats 8000000 in
/-- The host's second angles are the reference's. -/
theorem midway_angles1 : midway m c (Proc.devRef .tc main_v51) = angles1 := by
  rw [← later_angles1 (midway m c), ← V_split]
  show StableHlo.after (hostOps0 (F := F)) _ (Proc.devRef .tc main_v51) = _
  after_reads_simp
  rfl

/-- The second cosines the kernel reads. -/
theorem V_cos1 : V m c main_v69 = doubled (Host.cos angles1) (Host.cos angles1) := by
  rw [V_split, later_cos1, midway_angles1]

/-- The second lower sines the kernel reads. -/
theorem V_low1 : V m c main_v70 = doubled (Host.negf (Host.sin angles1)) zeros := by
  rw [V_split, later_low1, midway_angles1]

/-- The second upper sines the kernel reads. -/
theorem V_high1 : V m c main_v71 = doubled zeros (Host.sin angles1) := by
  rw [V_split, later_high1, midway_angles1]

end

end Cert.Own.AbProj

end
-- ==== Proof.AbHost.lean ====
/- The projection to the first attentions' queries, keys and values: the arrays its kernel is launched on, read at an index. -/
module

public import proofs.«01_k».proof.Proof.AbTables
public import proofs.«01_k».proof.Proof.Consts

@[expose] public section

set_option maxRecDepth 16384

noncomputable section

namespace Cert.Own.AbProj

open Cert.AbProjIdeal Cert.AbProjIdeal.Gen Idealize.ShloMosaic Idealize.ShloMosaic.TcCoe Idealize.SL.Sem

/-- A head's columns of the weights. -/
theorem gathered_apply (y : FVec Ideal S2x1024x1536 .f32) (k : Fin 1024) (C : Fin 2048) :
    gathered y (ix2 k C) = y (ix3 0 k ⟨base C + C.val % 64, by have := base_le C; omega⟩) := by
  have hb := base_le C
  have hC := C.isLt
  have hcol : (columns (ix2 C 0)) = BitVec.ofNat 32 (base C + C.val % 64) := by
    have e : columns (ix2 C 0) = lit1 (S2048.rowMajor (ix1 C)) := by
      unfold columns
      pointwise
    have er : S2048.rowMajor (ix1 C) = C := Fin.ext (Shape.rowMajor_val_one _)
    rw [e, er]
    exact columns_eq C
  have hv : (columns (ix2 C 0)).toInt.toNat = base C + C.val % 64 := by
    have ht : (BitVec.ofNat 32 (base C + C.val % 64)).toNat = base C + C.val % 64 := by
      rw [BitVec.toNat_ofNat]
      exact Nat.mod_eq_of_lt (by omega)
    rw [hcol, BitVec.toInt_eq_toNat_of_lt (by rw [ht]; omega), ht]
    rfl
  unfold gathered
  have et : ∀ z : FVec Ideal S1024x2048 .f32, truncf .bf16 z bitsLt_bf16_f32 (ix2 k C) = z (ix2 k C) := fun z => by pointwise
  rw [et, gather_apply]
  have e : shapeCast S1024x1536 (extractStridedSlice S1x1024x1536 ![0, 0, 0] y slices_S2x1024x1536_S1x1024x1536_0_0_0)
      shapeCasts_S1x1024x1536_S1024x1536 (ix2 k ⟨min (columns (ix2 C 0)).toInt.toNat 1535, by omega⟩)
      = y (ix3 0 k ⟨min (columns (ix2 C 0)).toInt.toNat 1535, by omega⟩) := by pointwise
  rw [e]
  refine congrArg (fun d => y (ix3 0 k d)) (Fin.ext ?_)
  show min (columns (ix2 C 0)).toInt.toNat 1535 = _
  rw [hv]
  exact min_eq_left (by omega)

/-- A gain is the head's gain, in both heads. -/
theorem gain_at (g : FVec Ideal S2x64 .f32) (l : Fin 128) : gain g (ix2 0 l) = g (ix2 0 ⟨l.val % 64, Nat.mod_lt _ (by decide)⟩) := by
  unfold gain
  pointwise

/-- The averaging matrix: a sixty-fourth between the lanes of one head, zero elsewhere. -/
theorem matrix_apply (k l : Fin 128) :
    (FloatOps.ofBits (F := Ideal) .bf16 (lit0 (S128x128.rowMajor (ix2 k l))) : EReal)
      = if k.val / 64 = l.val / 64 then Ideal.ofBits .bf16 0x3C80#16 else Ideal.ofBits .bf16 0x0000#16 := by
  have hk := k.isLt
  have hl := l.isLt
  have er : (S128x128.rowMajor (ix2 k l)).val = k.val * 128 + l.val := Shape.rowMajor_val_two _
  have e := matrix_lit (S128x128.rowMajor (ix2 k l))
  rw [e, er, show (k.val * 128 + l.val) / 128 = k.val by omega, show (k.val * 128 + l.val) % 128 = l.val by omega]
  by_cases h : k.val / 64 = l.val / 64
  · rw [if_pos h, if_pos h]; rfl
  · rw [if_neg h, if_neg h]; rfl

/-- A table twice over, at a lane. -/
theorem doubled_apply (a b : FVec Ideal S4096x32 .f32) (p : Fin 4096) (l : Fin 128) :
    doubled a b (ix2 p l) = if l.val % 64 < 32 then a (ix2 p ⟨l.val % 32, Nat.mod_lt _ (by decide)⟩) else b (ix2 p ⟨l.val % 32, Nat.mod_lt _ (by decide)⟩) := by
  have hl := l.isLt
  have e1 : ∀ q : Fin 64, concatenate S4096x64 1 [⟨S4096x32, a⟩, ⟨S4096x32, b⟩] concatenates_S4096x32_S4096x32_S4096x64_d1 (ix2 p q)
      = if q.val < 32 then a (ix2 p ⟨q.val % 32, Nat.mod_lt _ (by decide)⟩) else b (ix2 p ⟨q.val % 32, Nat.mod_lt _ (by decide)⟩) := by
    intro q
    have hq := q.isLt
    by_cases h : q.val < 32
    · rw [if_pos h]
      pointwise
      rw [dif_pos h]
      exact congrArg (fun d => a (ix2 p d)) (Fin.ext (by show q.val = q.val % 32; omega))
    · rw [if_neg h]
      pointwise
      rw [dif_neg h]
      exact congrArg (fun d => b (ix2 p d)) (Fin.ext (by show q.val - 32 = q.val % 32; omega))
  unfold doubled
  generalize concatenate S4096x64 1 [⟨S4096x32, a⟩, ⟨S4096x32, b⟩] concatenates_S4096x32_S4096x32_S4096x64_d1 = y at e1 ⊢
  have e2 : concatenate S4096x128 1 [⟨S4096x64, y⟩, ⟨S4096x64, y⟩] concatenates_S4096x64_S4096x64_S4096x128_d1 (ix2 p l)
      = y (ix2 p ⟨l.val % 64, Nat.mod_lt _ (by decide)⟩) := by
    by_cases h : l.val < 64
    · pointwise
      rw [dif_pos h]
      exact congrArg (fun d => y (ix2 p d)) (Fin.ext (by show l.val = l.val % 64; omega))
    · pointwise
      rw [dif_neg h]
      exact congrArg (fun d => y (ix2 p d)) (Fin.ext (by show l.val - 64 = l.val % 64; omega))
  rw [e2, e1]
  have e3 : l.val % 64 % 32 = l.val % 32 := by omega
  simp only [e3]

/-- The table of no angle. -/
theorem zeros_apply (p : Fin 4096) (l : Fin 32) : (zeros (F := Ideal) (ix2 p l) : EReal) = 0 := by
  unfold zeros
  pointwise

end Cert.Own.AbProj

end
-- ==== Proof.AbBlock.lean ====
/- The projection to the first attentions' queries, keys and values: the kernel's output block, element by element. -/
module

public import proofs.«01_k».proof.Proof.Gen.AbProjIdeal.Frame
public import Idealize.ShloMosaic.PureOps.IdealRules
public import Idealize.ShloMosaic.Lib.Pointwise
public import Idealize.ShloMosaic.Lib.KernelVsHost

@[expose] public section

set_option maxRecDepth 16384

noncomputable section

namespace Cert.Own.AbProj

open Cert.AbProjIdeal Cert.AbProjIdeal.Gen Idealize.ShloMosaic
open scoped BigOperators

section

variable {F : FTy → Type} [FloatOps F] [Named F]

/-- The first 128 columns of a slab of rows times a chunk of the weights. -/
def low (x : Vec F S512x1024 .f32) (w : Vec F S1024x256 .bf16) : FVec F S512x128 .f32 :=
  extractStridedSlice S512x128 ![0, 0] (k0_pay3 x w) slices_S512x256_o0_0_S512x128

/-- The last 128 columns of it. -/
def high (x : Vec F S512x1024 .f32) (w : Vec F S1024x256 .bf16) : FVec F S512x128 .f32 :=
  extractStridedSlice S512x128 ![0, 128] (k0_pay3 x w) slices_S512x256_o0_128_S512x128

/-- Two heads turned by the tables. -/
def rotated (c l h : Vec F S512x128 .f32) (y : FVec F S512x128 .f32) : FVec F S512x128 .f32 :=
  addf (addf (mulf y (shapeCast S512x128 c shapeCasts_S512x128_S512x128))
    (mulf (dynamicRotate 1 96#32 none y rotates_S512x128_d1) (shapeCast S512x128 l shapeCasts_S512x128_S512x128)))
    (mulf (dynamicRotate 1 32#32 none y rotates_S512x128_d1) (shapeCast S512x128 h shapeCasts_S512x128_S512x128))

/-- Two heads scaled by the queries' factor. -/
def scaled (y : FVec F S512x128 .f32) : FVec F S512x128 .f32 := mulf y (broadcast S512x128 (Named.named κ "c" 0x3E38AA3B#32))

/-- Two heads at the result's type. -/
def narrow (y : FVec F S512x128 .f32) : FVec F S512x128 .bf16 := truncf .bf16 y bitsLt_bf16_f32

/-- The mean square of each head, by a product with the matrix that averages over heads, in two parts. -/
def meanSquare (bd : Vec F S128x128 .bf16) (y : FVec F S512x128 .f32) : FVec F S512x128 .f32 :=
  addf (matmul dot_S512x128_S128x128_S512x128_1_0_0_1_n_n none (truncf .bf16 (mulf y y) bitsLt_bf16_f32) bd
      (constant S512x128 .f32 0x00000000#32))
    (matmul dot_S512x128_S128x128_S512x128_1_0_0_1_n_n none
      (truncf .bf16 (subf (mulf y y) (extf .f32 (truncf .bf16 (mulf y y) bitsLt_bf16_f32) bitsLt_bf16_f32)) bitsLt_bf16_f32) bd
      (constant S512x128 .f32 0x00000000#32))

/-- Two heads normed. -/
def normed (bd : Vec F S128x128 .bf16) (g : Vec F S1x128 .f32) (y : FVec F S512x128 .f32) : FVec F S512x128 .f32 :=
  mulf (mulf y (rsqrt (addf (meanSquare bd y) (broadcast S512x128 (Scalar.ofBits .f32 0x358637BD#32)))))
    (broadcastTo S512x128 (shapeCast S1x128 g shapeCasts_S1x128_S1x128) broadcasts_S1x128_S512x128)

variable (x0 : Vec F S1024x1024 .f32) (x1 : Vec F S1024x2048 .bf16) (x2 : Vec F S128x128 .bf16) (x3 x4 : Vec F S1x128 .f32)
  (x5 x6 x7 x8 x9 x10 : Vec F S1024x128 .f32)

/-- The output block is its 32 pieces: two slabs of 512 rows, sixteen groups of 128 columns. -/
theorem out_eq : out0_11 x0 x1 x2 x3 x4 x5 x6 x7 x8 x9 x10 = View.canon [
    ⟨r0_45, narrow (rotated (View.ld x5 r0_15) (View.ld x6 r0_15) (View.ld x7 r0_15) (normed (View.ld x2 r0_0) (View.ld x4 r0_33) (high (View.ld x0 r0_2) (View.ld x1 r0_5))))⟩,
    ⟨r0_44, narrow (rotated (View.ld x5 r0_15) (View.ld x6 r0_15) (View.ld x7 r0_15) (normed (View.ld x2 r0_0) (View.ld x4 r0_33) (low (View.ld x0 r0_2) (View.ld x1 r0_5))))⟩,
    ⟨r0_43, narrow (rotated (View.ld x5 r0_12) (View.ld x6 r0_12) (View.ld x7 r0_12) (normed (View.ld x2 r0_0) (View.ld x4 r0_33) (high (View.ld x0 r0_1) (View.ld x1 r0_5))))⟩,
    ⟨r0_42, narrow (rotated (View.ld x5 r0_12) (View.ld x6 r0_12) (View.ld x7 r0_12) (normed (View.ld x2 r0_0) (View.ld x4 r0_33) (low (View.ld x0 r0_1) (View.ld x1 r0_5))))⟩,
    ⟨r0_41, narrow (scaled (rotated (View.ld x5 r0_15) (View.ld x6 r0_15) (View.ld x7 r0_15) (normed (View.ld x2 r0_0) (View.ld x3 r0_33) (high (View.ld x0 r0_2) (View.ld x1 r0_4)))))⟩,
    ⟨r0_40, narrow (scaled (rotated (View.ld x5 r0_15) (View.ld x6 r0_15) (View.ld x7 r0_15) (normed (View.ld x2 r0_0) (View.ld x3 r0_33) (low (View.ld x0 r0_2) (View.ld x1 r0_4)))))⟩,
    ⟨r0_39, narrow (scaled (rotated (View.ld x5 r0_12) (View.ld x6 r0_12) (View.ld x7 r0_12) (normed (View.ld x2 r0_0) (View.ld x3 r0_33) (high (View.ld x0 r0_1) (View.ld x1 r0_4)))))⟩,
    ⟨r0_38, narrow (scaled (rotated (View.ld x5 r0_12) (View.ld x6 r0_12) (View.ld x7 r0_12) (normed (View.ld x2 r0_0) (View.ld x3 r0_33) (low (View.ld x0 r0_1) (View.ld x1 r0_4)))))⟩,
    ⟨r0_37, narrow (scaled (rotated (View.ld x5 r0_15) (View.ld x6 r0_15) (View.ld x7 r0_15) (normed (View.ld x2 r0_0) (View.ld x3 r0_33) (high (View.ld x0 r0_2) (View.ld x1 r0_3)))))⟩,
    ⟨r0_36, narrow (scaled (rotated (View.ld x5 r0_15) (View.ld x6 r0_15) (View.ld x7 r0_15) (normed (View.ld x2 r0_0) (View.ld x3 r0_33) (low (View.ld x0 r0_2) (View.ld x1 r0_3)))))⟩,
    ⟨r0_35, narrow (scaled (rotated (View.ld x5 r0_12) (View.ld x6 r0_12) (View.ld x7 r0_12) (normed (View.ld x2 r0_0) (View.ld x3 r0_33) (high (View.ld x0 r0_1) (View.ld x1 r0_3)))))⟩,
    ⟨r0_34, narrow (scaled (rotated (View.ld x5 r0_12) (View.ld x6 r0_12) (View.ld x7 r0_12) (normed (View.ld x2 r0_0) (View.ld x3 r0_33) (low (View.ld x0 r0_1) (View.ld x1 r0_3)))))⟩,
    ⟨r0_32, narrow (high (View.ld x0 r0_2) (View.ld x1 r0_28))⟩,
    ⟨r0_31, narrow (low (View.ld x0 r0_2) (View.ld x1 r0_28))⟩,
    ⟨r0_30, narrow (high (View.ld x0 r0_1) (View.ld x1 r0_28))⟩,
    ⟨r0_29, narrow (low (View.ld x0 r0_1) (View.ld x1 r0_28))⟩,
    ⟨r0_27, narrow (rotated (View.ld x8 r0_15) (View.ld x9 r0_15) (View.ld x10 r0_15) (high (View.ld x0 r0_2) (View.ld x1 r0_23)))⟩,
    ⟨r0_26, narrow (rotated (View.ld x8 r0_15) (View.ld x9 r0_15) (View.ld x10 r0_15) (low (View.ld x0 r0_2) (View.ld x1 r0_23)))⟩,
    ⟨r0_25, narrow (rotated (View.ld x8 r0_12) (View.ld x9 r0_12) (View.ld x10 r0_12) (high (View.ld x0 r0_1) (View.ld x1 r0_23)))⟩,
    ⟨r0_24, narrow (rotated (View.ld x8 r0_12) (View.ld x9 r0_12) (View.ld x10 r0_12) (low (View.ld x0 r0_1) (View.ld x1 r0_23)))⟩,
    ⟨r0_22, narrow (scaled (rotated (View.ld x8 r0_15) (View.ld x9 r0_15) (View.ld x10 r0_15) (high (View.ld x0 r0_2) (View.ld x1 r0_18))))⟩,
    ⟨r0_21, narrow (scaled (rotated (View.ld x8 r0_15) (View.ld x9 r0_15) (View.ld x10 r0_15) (low (View.ld x0 r0_2) (View.ld x1 r0_18))))⟩,
    ⟨r0_20, narrow (scaled (rotated (View.ld x8 r0_12) (View.ld x9 r0_12) (View.ld x10 r0_12) (high (View.ld x0 r0_1) (View.ld x1 r0_18))))⟩,
    ⟨r0_19, narrow (scaled (rotated (View.ld x8 r0_12) (View.ld x9 r0_12) (View.ld x10 r0_12) (low (View.ld x0 r0_1) (View.ld x1 r0_18))))⟩,
    ⟨r0_17, narrow (scaled (rotated (View.ld x8 r0_15) (View.ld x9 r0_15) (View.ld x10 r0_15) (high (View.ld x0 r0_2) (View.ld x1 r0_11))))⟩,
    ⟨r0_16, narrow (scaled (rotated (View.ld x8 r0_15) (View.ld x9 r0_15) (View.ld x10 r0_15) (low (View.ld x0 r0_2) (View.ld x1 r0_11))))⟩,
    ⟨r0_14, narrow (scaled (rotated (View.ld x8 r0_12) (View.ld x9 r0_12) (View.ld x10 r0_12) (high (View.ld x0 r0_1) (View.ld x1 r0_11))))⟩,
    ⟨r0_13, narrow (scaled (rotated (View.ld x8 r0_12) (View.ld x9 r0_12) (View.ld x10 r0_12) (low (View.ld x0 r0_1) (View.ld x1 r0_11))))⟩,
    ⟨r0_10, narrow (high (View.ld x0 r0_2) (View.ld x1 r0_6))⟩,
    ⟨r0_9, narrow (low (View.ld x0 r0_2) (View.ld x1 r0_6))⟩,
    ⟨r0_8, narrow (high (View.ld x0 r0_1) (View.ld x1 r0_6))⟩,
    ⟨r0_7, narrow (low (View.ld x0 r0_1) (View.ld x1 r0_6))⟩] := by
  rfl

end

/-- A lane `n` further on, around the end. -/
def shift (n : Nat) (j : Fin 128) : Fin 128 := ⟨(j.val + n) % 128, Nat.mod_lt _ (by decide)⟩

/-- 128 lanes turned by their tables. -/
def turned (c l h y : Fin 128 → EReal) (j : Fin 128) : EReal := y j * c j + y (shift 32 j) * l j + y (shift 96 j) * h j

/-- 128 lanes normed head by head. -/
def unit (bd : Fin 128 → Fin 128 → EReal) (g y : Fin 128 → EReal) (j : Fin 128) : EReal :=
  y j * Ideal.rsqrt ((∑ k : Fin 128, y k * y k * bd k j) + (∑ k : Fin 128, (y k * y k - y k * y k) * bd k j)
    + Ideal.ofBits .f32 0x358637BD#32) * g j

/-- What becomes of the columns of group `G`: the first six groups are normed, turned by the first tables, the first four also
    scaled; groups eight to thirteen are turned by the second tables, four of them also scaled; the others stay. -/
def ending (G : Fin 16) (bd : Fin 128 → Fin 128 → EReal) (qg kg c2 l2 h2 c1 l1 h1 y : Fin 128 → EReal) (j : Fin 128) : EReal :=
  if G.val < 4 then turned c2 l2 h2 (unit bd qg y) j * (((Real.log 256)⁻¹ : ℝ) : EReal)
  else if G.val < 6 then turned c2 l2 h2 (unit bd kg y) j
  else if G.val < 8 then y j
  else if G.val < 12 then turned c1 l1 h1 y j * (((Real.log 256)⁻¹ : ℝ) : EReal)
  else if G.val < 14 then turned c1 l1 h1 y j
  else y j

/-- Two heads turned, at an index. -/
theorem rotated_apply (c l h : Vec Ideal S512x128 .f32) (y : FVec Ideal S512x128 .f32) (r : Fin 512) (j : Fin 128) :
    rotated c l h y (ix2 r j)
      = turned (fun k => c (ix2 r k)) (fun k => l (ix2 r k)) (fun k => h (ix2 r k)) (fun k => y (ix2 r k)) j := by
  have e1 : dynamicRotate 1 96#32 none y rotates_S512x128_d1 (ix2 r j) = y (ix2 r (shift 32 j)) := by
    refine dynamicRotate_apply 1 96#32 y rotates_S512x128_d1 _ _ fun b => ?_
    match b with
    | ⟨0, _⟩ => rfl
    | ⟨1, _⟩ => show (j.val + 32) % 128 = (j.val + 128 - 96 % 128) % 128; omega
  have e2 : dynamicRotate 1 32#32 none y rotates_S512x128_d1 (ix2 r j) = y (ix2 r (shift 96 j)) := by
    refine dynamicRotate_apply 1 32#32 y rotates_S512x128_d1 _ _ fun b => ?_
    match b with
    | ⟨0, _⟩ => rfl
    | ⟨1, _⟩ => show (j.val + 96) % 128 = (j.val + 128 - 32 % 128) % 128; omega
  unfold turned
  show _ = y (ix2 r j) * c (ix2 r j) + y (ix2 r (shift 32 j)) * l (ix2 r j) + y (ix2 r (shift 96 j)) * h (ix2 r j)
  rw [← e1, ← e2]
  unfold rotated
  generalize dynamicRotate 1 96#32 none y rotates_S512x128_d1 = u
  generalize dynamicRotate 1 32#32 none y rotates_S512x128_d1 = v
  pointwise

/-- Two heads scaled, at an index. -/
theorem scaled_apply (y : FVec Ideal S512x128 .f32) (r : Fin 512) (j : Fin 128) :
    scaled y (ix2 r j) = y (ix2 r j) * (((Real.log 256)⁻¹ : ℝ) : EReal) := by
  unfold scaled
  pointwise
  rw [IdealRules.named_const.ideal_named_scalar κ "c" (φ := .f32) 0x3E38AA3B#32 _ rfl]

/-- Two heads at the result's type, at an index. -/
theorem narrow_apply (y : FVec Ideal S512x128 .f32) (r : Fin 512) (j : Fin 128) : narrow y (ix2 r j) = y (ix2 r j) := by
  unfold narrow
  pointwise

/-- Two heads normed, at an index. -/
theorem normed_apply (bd : Vec Ideal S128x128 .bf16) (g : Vec Ideal S1x128 .f32) (y : FVec Ideal S512x128 .f32) (r : Fin 512) (j : Fin 128) :
    normed bd g y (ix2 r j) = unit (fun k l => bd (ix2 k l)) (fun k => g (ix2 0 k)) (fun k => y (ix2 r k)) j := by
  unfold normed meanSquare unit
  pointwise

/-- A row times the columns of group `G`. -/
def lanes (x0 : Vec Ideal S1024x1024 .f32) (x1 : Vec Ideal S1024x2048 .bf16) (R : Fin 1024) (G : Fin 16) (l : Fin 128) : EReal :=
  ∑ k : Fin 1024, x0 (ix2 R k) * x1 (ix2 k ⟨128 * G.val + l.val, by omega⟩)

/-- The first 128 columns of a chunk are a group of the block's. -/
theorem low_apply (x0 : Vec Ideal S1024x1024 .f32) (x1 : Vec Ideal S1024x2048 .bf16) (a : Nat) (ha : a + 512 ≤ 1024) (G : Fin 16) (o : Nat)
    (hx : ∀ b : Fin 2, (![a, 0] : Fin 2 → Nat) b + S512x1024.size b ≤ S1024x1024.size b)
    (hw : ∀ b : Fin 2, (![0, o] : Fin 2 → Nat) b + S1024x256.size b ≤ S1024x2048.size b) (ho : o = 128 * G.val) (r : Fin 512) (l : Fin 128) :
    low (View.ld x0 (Rect.unit (s := S1024x1024) ![a, 0] S512x1024.size hx)) (View.ld x1 (Rect.unit (s := S1024x2048) ![0, o] S1024x256.size hw)) (ix2 r l)
      = lanes x0 x1 ⟨a + r.val, by omega⟩ G l := by
  subst ho
  unfold low k0_pay3 k0_pay1 lanes
  pointwise

/-- The last 128 columns of a chunk are a group of the block's. -/
theorem high_apply (x0 : Vec Ideal S1024x1024 .f32) (x1 : Vec Ideal S1024x2048 .bf16) (a : Nat) (ha : a + 512 ≤ 1024) (G : Fin 16) (o : Nat)
    (hx : ∀ b : Fin 2, (![a, 0] : Fin 2 → Nat) b + S512x1024.size b ≤ S1024x1024.size b)
    (hw : ∀ b : Fin 2, (![0, o] : Fin 2 → Nat) b + S1024x256.size b ≤ S1024x2048.size b) (ho : o + 128 = 128 * G.val) (r : Fin 512) (l : Fin 128) :
    high (View.ld x0 (Rect.unit (s := S1024x1024) ![a, 0] S512x1024.size hx)) (View.ld x1 (Rect.unit (s := S1024x2048) ![0, o] S1024x256.size hw)) (ix2 r l)
      = lanes x0 x1 ⟨a + r.val, by omega⟩ G l := by
  have e : ∀ k : Fin 1024, View.ld x1 (Rect.unit (s := S1024x2048) ![0, o] S1024x256.size hw) (ix2 k (⟨128 + l.val, by omega⟩ : Fin 256))
      = x1 (ix2 k ⟨128 * G.val + l.val, by omega⟩) := by
    intro k
    have h1 : o + (128 + l.val) < 2048 := by omega
    have e' : (⟨128 * G.val + l.val, by omega⟩ : Fin 2048) = ⟨o + (128 + l.val), h1⟩ := Fin.ext (by show 128 * G.val + l.val = o + (128 + l.val); omega)
    rw [e']
    pointwise
  unfold lanes
  simp only [← e]
  generalize View.ld x1 (Rect.unit (s := S1024x2048) ![0, o] S1024x256.size hw) = w
  unfold high k0_pay3 k0_pay1
  pointwise

/-- A slab of a table, at an index. -/
theorem table_apply (x : Vec Ideal S1024x128 .f32) (a : Nat) (ha : a + 512 ≤ 1024)
    (h : ∀ b : Fin 2, (![a, 0] : Fin 2 → Nat) b + S512x128.size b ≤ S1024x128.size b) (r : Fin 512) (j : Fin 128) :
    View.ld x (Rect.unit (s := S1024x128) ![a, 0] S512x128.size h) (ix2 r j) = x (ix2 ⟨a + r.val, by omega⟩ j) := by
  pointwise

/-- A row of a slab of a table. -/
theorem table_row (x : Vec Ideal S1024x128 .f32) (a : Nat) (ha : a + 512 ≤ 1024)
    (h : ∀ b : Fin 2, (![a, 0] : Fin 2 → Nat) b + S512x128.size b ≤ S1024x128.size b) (r : Fin 512) :
    (fun j : Fin 128 => View.ld x (Rect.unit (s := S1024x128) ![a, 0] S512x128.size h) (ix2 r j)) = fun j => x (ix2 ⟨a + r.val, by omega⟩ j) :=
  funext fun j => table_apply x a ha h r j

/-- The whole of the averaging matrix. -/
theorem bd_apply (x : Vec Ideal S128x128 .bf16) (k l : Fin 128) : View.ld x r0_0 (ix2 k l) = x (ix2 k l) := by
  pointwise

/-- The whole of a gain. -/
theorem gain_apply (x : Vec Ideal S1x128 .f32) (l : Fin 128) : View.ld x r0_33 (ix2 0 l) = x (ix2 0 l) := by
  pointwise

variable (x0 : Vec Ideal S1024x1024 .f32) (x1 : Vec Ideal S1024x2048 .bf16) (x2 : Vec Ideal S128x128 .bf16) (x3 x4 : Vec Ideal S1x128 .f32)
  (x5 x6 x7 x8 x9 x10 : Vec Ideal S1024x128 .f32)

/-- An element of the output block: row `R`, lane `j` of group `G`. -/
def element (R : Fin 1024) (G : Fin 16) (j : Fin 128) : EReal :=
  ending G (fun k l => x2 (ix2 k l)) (fun k => x3 (ix2 0 k)) (fun k => x4 (ix2 0 k)) (fun k => x5 (ix2 R k)) (fun k => x6 (ix2 R k))
    (fun k => x7 (ix2 R k)) (fun k => x8 (ix2 R k)) (fun k => x9 (ix2 R k)) (fun k => x10 (ix2 R k)) (lanes x0 x1 R G) j

/-- The group of a column. -/
def groupOf (C : Fin 2048) : Fin 16 := ⟨C.val / 128, by omega⟩

/-- The lane of a column in its group. -/
def laneOf (C : Fin 2048) : Fin 128 := ⟨C.val % 128, Nat.mod_lt _ (by decide)⟩

/-- A piece that holds `element` at every index of its own holds the block's elements where it lies. -/
theorem piece_eq (a : Nat) (ha : a + 512 ≤ 1024) (G : Fin 16) (p : FVec Ideal S512x128 .bf16)
    (hp : ∀ (r : Fin 512) (j : Fin 128), p (ix2 r j) = element x0 x1 x2 x3 x4 x5 x6 x7 x8 x9 x10 ⟨a + r.val, by omega⟩ G j)
    (y : S512x128.Idx) (i : S1024x2048.Idx) (e0 : (i 0).val = a + (y 0).val) (e1 : (i 1).val = 128 * G.val + (y 1).val) :
    p y = element x0 x1 x2 x3 x4 x5 x6 x7 x8 x9 x10 (i 0) (groupOf (i 1)) (laneOf (i 1)) := by
  obtain ⟨r, j, rfl⟩ : ∃ (r : Fin 512) (j : Fin 128), y = ix2 r j := ⟨y 0, y 1, by funext a; match a with | ⟨0, _⟩ => rfl | ⟨1, _⟩ => rfl⟩
  have e1' : (i 1).val = 128 * G.val + j.val := e1
  have hr : i 0 = (⟨a + r.val, by omega⟩ : Fin 1024) := Fin.ext e0
  have hG : groupOf (i 1) = G := Fin.ext (by show (i 1).val / 128 = G.val; omega)
  have hj : laneOf (i 1) = j := Fin.ext (by show (i 1).val % 128 = j.val; omega)
  rw [hr, hG, hj]
  exact hp r j

section

variable (a : Nat) (ha : a + 512 ≤ 1024) (h : ∀ b : Fin 2, (![a, 0] : Fin 2 → Nat) b + S512x128.size b ≤ S1024x128.size b)
  (G : Fin 16) (y : FVec Ideal S512x128 .f32)

include ha

/-- The first attention's queries. -/
theorem queries_normed_eq (hG : G.val < 4) (hy : ∀ (r : Fin 512) (l : Fin 128), y (ix2 r l) = lanes x0 x1 ⟨a + r.val, by omega⟩ G l)
    (r : Fin 512) (j : Fin 128) :
    narrow (scaled (rotated (View.ld x5 (Rect.unit (s := S1024x128) ![a, 0] S512x128.size h))
        (View.ld x6 (Rect.unit (s := S1024x128) ![a, 0] S512x128.size h))
        (View.ld x7 (Rect.unit (s := S1024x128) ![a, 0] S512x128.size h)) (normed (View.ld x2 r0_0) (View.ld x3 r0_33) y))) (ix2 r j)
      = element x0 x1 x2 x3 x4 x5 x6 x7 x8 x9 x10 ⟨a + r.val, by omega⟩ G j := by
  unfold element ending
  rw [if_pos hG, narrow_apply, scaled_apply, rotated_apply, table_row x5 a ha h, table_row x6 a ha h, table_row x7 a ha h]
  have e : (fun k => normed (View.ld x2 r0_0) (View.ld x3 r0_33) y (ix2 r k))
      = unit (fun k l => x2 (ix2 k l)) (fun k => x3 (ix2 0 k)) (lanes x0 x1 ⟨a + r.val, by omega⟩ G) := by
    funext k
    rw [normed_apply, funext (hy r), funext fun l => gain_apply x3 l, funext fun k => funext fun l => bd_apply x2 k l]
  rw [e]

/-- The first attention's keys. -/
theorem keys_normed_eq (hG : ¬ G.val < 4 ∧ G.val < 6) (hy : ∀ (r : Fin 512) (l : Fin 128), y (ix2 r l) = lanes x0 x1 ⟨a + r.val, by omega⟩ G l)
    (r : Fin 512) (j : Fin 128) :
    narrow (rotated (View.ld x5 (Rect.unit (s := S1024x128) ![a, 0] S512x128.size h))
        (View.ld x6 (Rect.unit (s := S1024x128) ![a, 0] S512x128.size h))
        (View.ld x7 (Rect.unit (s := S1024x128) ![a, 0] S512x128.size h)) (normed (View.ld x2 r0_0) (View.ld x4 r0_33) y)) (ix2 r j)
      = element x0 x1 x2 x3 x4 x5 x6 x7 x8 x9 x10 ⟨a + r.val, by omega⟩ G j := by
  unfold element ending
  rw [if_neg hG.1, if_pos hG.2, narrow_apply, rotated_apply, table_row x5 a ha h, table_row x6 a ha h, table_row x7 a ha h]
  have e : (fun k => normed (View.ld x2 r0_0) (View.ld x4 r0_33) y (ix2 r k))
      = unit (fun k l => x2 (ix2 k l)) (fun k => x4 (ix2 0 k)) (lanes x0 x1 ⟨a + r.val, by omega⟩ G) := by
    funext k
    rw [normed_apply, funext (hy r), funext fun l => gain_apply x4 l, funext fun k => funext fun l => bd_apply x2 k l]
  rw [e]

/-- The second attention's queries. -/
theorem queries_eq (hG : ¬ G.val < 8 ∧ G.val < 12) (hy : ∀ (r : Fin 512) (l : Fin 128), y (ix2 r l) = lanes x0 x1 ⟨a + r.val, by omega⟩ G l)
    (r : Fin 512) (j : Fin 128) :
    narrow (scaled (rotated (View.ld x8 (Rect.unit (s := S1024x128) ![a, 0] S512x128.size h))
        (View.ld x9 (Rect.unit (s := S1024x128) ![a, 0] S512x128.size h))
        (View.ld x10 (Rect.unit (s := S1024x128) ![a, 0] S512x128.size h)) y)) (ix2 r j)
      = element x0 x1 x2 x3 x4 x5 x6 x7 x8 x9 x10 ⟨a + r.val, by omega⟩ G j := by
  unfold element ending
  rw [if_neg (show ¬ G.val < 4 by omega), if_neg (show ¬ G.val < 6 by omega), if_neg hG.1, if_pos hG.2, narrow_apply, scaled_apply,
    rotated_apply, table_row x8 a ha h, table_row x9 a ha h, table_row x10 a ha h, funext (hy r)]

/-- The second attention's keys. -/
theorem keys_eq (hG : ¬ G.val < 12 ∧ G.val < 14) (hy : ∀ (r : Fin 512) (l : Fin 128), y (ix2 r l) = lanes x0 x1 ⟨a + r.val, by omega⟩ G l)
    (r : Fin 512) (j : Fin 128) :
    narrow (rotated (View.ld x8 (Rect.unit (s := S1024x128) ![a, 0] S512x128.size h))
        (View.ld x9 (Rect.unit (s := S1024x128) ![a, 0] S512x128.size h))
        (View.ld x10 (Rect.unit (s := S1024x128) ![a, 0] S512x128.size h)) y) (ix2 r j)
      = element x0 x1 x2 x3 x4 x5 x6 x7 x8 x9 x10 ⟨a + r.val, by omega⟩ G j := by
  unfold element ending
  rw [if_neg (show ¬ G.val < 4 by omega), if_neg (show ¬ G.val < 6 by omega), if_neg (show ¬ G.val < 8 by omega), if_neg hG.1, if_pos hG.2,
    narrow_apply, rotated_apply, table_row x8 a ha h, table_row x9 a ha h, table_row x10 a ha h, funext (hy r)]

/-- The values of both. -/
theorem plain_eq (hG : (¬ G.val < 6 ∧ G.val < 8) ∨ ¬ G.val < 14) (hy : ∀ (r : Fin 512) (l : Fin 128), y (ix2 r l) = lanes x0 x1 ⟨a + r.val, by omega⟩ G l)
    (r : Fin 512) (j : Fin 128) :
    narrow y (ix2 r j) = element x0 x1 x2 x3 x4 x5 x6 x7 x8 x9 x10 ⟨a + r.val, by omega⟩ G j := by
  unfold element ending
  rw [narrow_apply, hy, if_neg (show ¬ G.val < 4 by omega), if_neg (show ¬ G.val < 6 by omega)]
  by_cases h8 : G.val < 8
  · rw [if_pos h8]
  · rw [if_neg h8, if_neg (show ¬ G.val < 12 by omega), if_neg (show ¬ G.val < 14 by omega)]

end

/-- Every element of the output block. -/
theorem out_element (R : Fin 1024) (C : Fin 2048) :
    out0_11 x0 x1 x2 x3 x4 x5 x6 x7 x8 x9 x10 (ix2 R C) = element x0 x1 x2 x3 x4 x5 x6 x7 x8 x9 x10 R (groupOf C) (laneOf C) := by
  have w : ∀ o n : Nat, o + 1 * n = o + n := fun o n => by omega
  rw [out_eq]
  refine View.canon_apply_of_pieces (Val := Elt Ideal) (e := .bf16)
    (fun y : S1024x2048.Idx => element x0 x1 x2 x3 x4 x5 x6 x7 x8 x9 x10 (y 0) (groupOf (y 1)) (laneOf (y 1))) _ ?_ (ix2 R C)
    (cover0_11 _ _ _ _ _ _ _ _ _ _ _ _ _ _ _ _ _ _ _ _ _ _ _ _ _ _ _ _ _ _ _ _ (ix2 R C))
  intro p hp y
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_eq x0 x1 x2 x3 x4 x5 x6 x7 x8 x9 x10 512 (by omega) 5 _ (keys_normed_eq x0 x1 x2 x3 x4 x5 x6 x7 x8 x9 x10 512 (by omega) _ 5 _ (by decide) (high_apply x0 x1 512 (by omega) 5 512 _ _ rfl)) y _ (w _ _) (w _ _)
  · exact piece_eq x0 x1 x2 x3 x4 x5 x6 x7 x8 x9 x10 512 (by omega) 4 _ (keys_normed_eq x0 x1 x2 x3 x4 x5 x6 x7 x8 x9 x10 512 (by omega) _ 4 _ (by decide) (low_apply x0 x1 512 (by omega) 4 512 _ _ rfl)) y _ (w _ _) (w _ _)
  · exact piece_eq x0 x1 x2 x3 x4 x5 x6 x7 x8 x9 x10 0 (by omega) 5 _ (keys_normed_eq x0 x1 x2 x3 x4 x5 x6 x7 x8 x9 x10 0 (by omega) _ 5 _ (by decide) (high_apply x0 x1 0 (by omega) 5 512 _ _ rfl)) y _ (w _ _) (w _ _)
  · exact piece_eq x0 x1 x2 x3 x4 x5 x6 x7 x8 x9 x10 0 (by omega) 4 _ (keys_normed_eq x0 x1 x2 x3 x4 x5 x6 x7 x8 x9 x10 0 (by omega) _ 4 _ (by decide) (low_apply x0 x1 0 (by omega) 4 512 _ _ rfl)) y _ (w _ _) (w _ _)
  · exact piece_eq x0 x1 x2 x3 x4 x5 x6 x7 x8 x9 x10 512 (by omega) 3 _ (queries_normed_eq x0 x1 x2 x3 x4 x5 x6 x7 x8 x9 x10 512 (by omega) _ 3 _ (by decide) (high_apply x0 x1 512 (by omega) 3 256 _ _ rfl)) y _ (w _ _) (w _ _)
  · exact piece_eq x0 x1 x2 x3 x4 x5 x6 x7 x8 x9 x10 512 (by omega) 2 _ (queries_normed_eq x0 x1 x2 x3 x4 x5 x6 x7 x8 x9 x10 512 (by omega) _ 2 _ (by decide) (low_apply x0 x1 512 (by omega) 2 256 _ _ rfl)) y _ (w _ _) (w _ _)
  · exact piece_eq x0 x1 x2 x3 x4 x5 x6 x7 x8 x9 x10 0 (by omega) 3 _ (queries_normed_eq x0 x1 x2 x3 x4 x5 x6 x7 x8 x9 x10 0 (by omega) _ 3 _ (by decide) (high_apply x0 x1 0 (by omega) 3 256 _ _ rfl)) y _ (w _ _) (w _ _)
  · exact piece_eq x0 x1 x2 x3 x4 x5 x6 x7 x8 x9 x10 0 (by omega) 2 _ (queries_normed_eq x0 x1 x2 x3 x4 x5 x6 x7 x8 x9 x10 0 (by omega) _ 2 _ (by decide) (low_apply x0 x1 0 (by omega) 2 256 _ _ rfl)) y _ (w _ _) (w _ _)
  · exact piece_eq x0 x1 x2 x3 x4 x5 x6 x7 x8 x9 x10 512 (by omega) 1 _ (queries_normed_eq x0 x1 x2 x3 x4 x5 x6 x7 x8 x9 x10 512 (by omega) _ 1 _ (by decide) (high_apply x0 x1 512 (by omega) 1 0 _ _ rfl)) y _ (w _ _) (w _ _)
  · exact piece_eq x0 x1 x2 x3 x4 x5 x6 x7 x8 x9 x10 512 (by omega) 0 _ (queries_normed_eq x0 x1 x2 x3 x4 x5 x6 x7 x8 x9 x10 512 (by omega) _ 0 _ (by decide) (low_apply x0 x1 512 (by omega) 0 0 _ _ rfl)) y _ (w _ _) (w _ _)
  · exact piece_eq x0 x1 x2 x3 x4 x5 x6 x7 x8 x9 x10 0 (by omega) 1 _ (queries_normed_eq x0 x1 x2 x3 x4 x5 x6 x7 x8 x9 x10 0 (by omega) _ 1 _ (by decide) (high_apply x0 x1 0 (by omega) 1 0 _ _ rfl)) y _ (w _ _) (w _ _)
  · exact piece_eq x0 x1 x2 x3 x4 x5 x6 x7 x8 x9 x10 0 (by omega) 0 _ (queries_normed_eq x0 x1 x2 x3 x4 x5 x6 x7 x8 x9 x10 0 (by omega) _ 0 _ (by decide) (low_apply x0 x1 0 (by omega) 0 0 _ _ rfl)) y _ (w _ _) (w _ _)
  · exact piece_eq x0 x1 x2 x3 x4 x5 x6 x7 x8 x9 x10 512 (by omega) 15 _ (plain_eq x0 x1 x2 x3 x4 x5 x6 x7 x8 x9 x10 512 (by omega) 15 _ (by decide) (high_apply x0 x1 512 (by omega) 15 1792 _ _ rfl)) y _ (w _ _) (w _ _)
  · exact piece_eq x0 x1 x2 x3 x4 x5 x6 x7 x8 x9 x10 512 (by omega) 14 _ (plain_eq x0 x1 x2 x3 x4 x5 x6 x7 x8 x9 x10 512 (by omega) 14 _ (by decide) (low_apply x0 x1 512 (by omega) 14 1792 _ _ rfl)) y _ (w _ _) (w _ _)
  · exact piece_eq x0 x1 x2 x3 x4 x5 x6 x7 x8 x9 x10 0 (by omega) 15 _ (plain_eq x0 x1 x2 x3 x4 x5 x6 x7 x8 x9 x10 0 (by omega) 15 _ (by decide) (high_apply x0 x1 0 (by omega) 15 1792 _ _ rfl)) y _ (w _ _) (w _ _)
  · exact piece_eq x0 x1 x2 x3 x4 x5 x6 x7 x8 x9 x10 0 (by omega) 14 _ (plain_eq x0 x1 x2 x3 x4 x5 x6 x7 x8 x9 x10 0 (by omega) 14 _ (by decide) (low_apply x0 x1 0 (by omega) 14 1792 _ _ rfl)) y _ (w _ _) (w _ _)
  · exact piece_eq x0 x1 x2 x3 x4 x5 x6 x7 x8 x9 x10 512 (by omega) 13 _ (keys_eq x0 x1 x2 x3 x4 x5 x6 x7 x8 x9 x10 512 (by omega) _ 13 _ (by decide) (high_apply x0 x1 512 (by omega) 13 1536 _ _ rfl)) y _ (w _ _) (w _ _)
  · exact piece_eq x0 x1 x2 x3 x4 x5 x6 x7 x8 x9 x10 512 (by omega) 12 _ (keys_eq x0 x1 x2 x3 x4 x5 x6 x7 x8 x9 x10 512 (by omega) _ 12 _ (by decide) (low_apply x0 x1 512 (by omega) 12 1536 _ _ rfl)) y _ (w _ _) (w _ _)
  · exact piece_eq x0 x1 x2 x3 x4 x5 x6 x7 x8 x9 x10 0 (by omega) 13 _ (keys_eq x0 x1 x2 x3 x4 x5 x6 x7 x8 x9 x10 0 (by omega) _ 13 _ (by decide) (high_apply x0 x1 0 (by omega) 13 1536 _ _ rfl)) y _ (w _ _) (w _ _)
  · exact piece_eq x0 x1 x2 x3 x4 x5 x6 x7 x8 x9 x10 0 (by omega) 12 _ (keys_eq x0 x1 x2 x3 x4 x5 x6 x7 x8 x9 x10 0 (by omega) _ 12 _ (by decide) (low_apply x0 x1 0 (by omega) 12 1536 _ _ rfl)) y _ (w _ _) (w _ _)
  · exact piece_eq x0 x1 x2 x3 x4 x5 x6 x7 x8 x9 x10 512 (by omega) 11 _ (queries_eq x0 x1 x2 x3 x4 x5 x6 x7 x8 x9 x10 512 (by omega) _ 11 _ (by decide) (high_apply x0 x1 512 (by omega) 11 1280 _ _ rfl)) y _ (w _ _) (w _ _)
  · exact piece_eq x0 x1 x2 x3 x4 x5 x6 x7 x8 x9 x10 512 (by omega) 10 _ (queries_eq x0 x1 x2 x3 x4 x5 x6 x7 x8 x9 x10 512 (by omega) _ 10 _ (by decide) (low_apply x0 x1 512 (by omega) 10 1280 _ _ rfl)) y _ (w _ _) (w _ _)
  · exact piece_eq x0 x1 x2 x3 x4 x5 x6 x7 x8 x9 x10 0 (by omega) 11 _ (queries_eq x0 x1 x2 x3 x4 x5 x6 x7 x8 x9 x10 0 (by omega) _ 11 _ (by decide) (high_apply x0 x1 0 (by omega) 11 1280 _ _ rfl)) y _ (w _ _) (w _ _)
  · exact piece_eq x0 x1 x2 x3 x4 x5 x6 x7 x8 x9 x10 0 (by omega) 10 _ (queries_eq x0 x1 x2 x3 x4 x5 x6 x7 x8 x9 x10 0 (by omega) _ 10 _ (by decide) (low_apply x0 x1 0 (by omega) 10 1280 _ _ rfl)) y _ (w _ _) (w _ _)
  · exact piece_eq x0 x1 x2 x3 x4 x5 x6 x7 x8 x9 x10 512 (by omega) 9 _ (queries_eq x0 x1 x2 x3 x4 x5 x6 x7 x8 x9 x10 512 (by omega) _ 9 _ (by decide) (high_apply x0 x1 512 (by omega) 9 1024 _ _ rfl)) y _ (w _ _) (w _ _)
  · exact piece_eq x0 x1 x2 x3 x4 x5 x6 x7 x8 x9 x10 512 (by omega) 8 _ (queries_eq x0 x1 x2 x3 x4 x5 x6 x7 x8 x9 x10 512 (by omega) _ 8 _ (by decide) (low_apply x0 x1 512 (by omega) 8 1024 _ _ rfl)) y _ (w _ _) (w _ _)
  · exact piece_eq x0 x1 x2 x3 x4 x5 x6 x7 x8 x9 x10 0 (by omega) 9 _ (queries_eq x0 x1 x2 x3 x4 x5 x6 x7 x8 x9 x10 0 (by omega) _ 9 _ (by decide) (high_apply x0 x1 0 (by omega) 9 1024 _ _ rfl)) y _ (w _ _) (w _ _)
  · exact piece_eq x0 x1 x2 x3 x4 x5 x6 x7 x8 x9 x10 0 (by omega) 8 _ (queries_eq x0 x1 x2 x3 x4 x5 x6 x7 x8 x9 x10 0 (by omega) _ 8 _ (by decide) (low_apply x0 x1 0 (by omega) 8 1024 _ _ rfl)) y _ (w _ _) (w _ _)
  · exact piece_eq x0 x1 x2 x3 x4 x5 x6 x7 x8 x9 x10 512 (by omega) 7 _ (plain_eq x0 x1 x2 x3 x4 x5 x6 x7 x8 x9 x10 512 (by omega) 7 _ (by decide) (high_apply x0 x1 512 (by omega) 7 768 _ _ rfl)) y _ (w _ _) (w _ _)
  · exact piece_eq x0 x1 x2 x3 x4 x5 x6 x7 x8 x9 x10 512 (by omega) 6 _ (plain_eq x0 x1 x2 x3 x4 x5 x6 x7 x8 x9 x10 512 (by omega) 6 _ (by decide) (low_apply x0 x1 512 (by omega) 6 768 _ _ rfl)) y _ (w _ _) (w _ _)
  · exact piece_eq x0 x1 x2 x3 x4 x5 x6 x7 x8 x9 x10 0 (by omega) 7 _ (plain_eq x0 x1 x2 x3 x4 x5 x6 x7 x8 x9 x10 0 (by omega) 7 _ (by decide) (high_apply x0 x1 0 (by omega) 7 768 _ _ rfl)) y _ (w _ _) (w _ _)
  · exact piece_eq x0 x1 x2 x3 x4 x5 x6 x7 x8 x9 x10 0 (by omega) 6 _ (plain_eq x0 x1 x2 x3 x4 x5 x6 x7 x8 x9 x10 0 (by omega) 6 _ (by decide) (low_apply x0 x1 0 (by omega) 6 768 _ _ rfl)) y _ (w _ _) (w _ _)

end Cert.Own.AbProj

end
-- ==== Proof.AbLaw.lean ====
/- The projection to the first attentions' queries, keys and values, head by head: what becomes of the 64 columns of one head in the
   reference, and that the kernel, which works on two heads at a time, does the same to each. -/
module

public import proofs.«01_k».proof.Proof.AbBlock
public import proofs.«01_k».proof.Proof.AbLiterals
public import proofs.«01_k».proof.Proof.Consts
public import proofs.«01_k».proof.Proof.MixLaw

@[expose] public section

set_option maxRecDepth 16384

noncomputable section

namespace Cert.Own.AbProj

open Idealize.ShloMosaic
open scoped BigOperators

/-! ## One head -/

/-- A head turned: its lower half against its upper half, by the angles' cosines `c` and sines `s`. -/
def turnHead (c s : Fin 32 → EReal) (H : Fin 64 → EReal) (j : Fin 64) : EReal :=
  if h : j.val < 32 then H j * c ⟨j.val, h⟩ - H ⟨j.val + 32, by omega⟩ * s ⟨j.val, h⟩
  else H j * c ⟨j.val - 32, by omega⟩ + H ⟨j.val - 32, by omega⟩ * s ⟨j.val - 32, by omega⟩

/-- A head over the root of its mean square, by its gain. -/
def normHead (g H : Fin 64 → EReal) (j : Fin 64) : EReal :=
  H j * Ideal.rsqrt (Ideal.div (∑ k, H k * H k) (Ideal.ofBits .f32 0x42800000#32) + Ideal.ofBits .f32 0x358637BD#32) * g j

/-- The head a result column belongs to, out of a row `P` of the product. -/
def headAt (P : Fin 1536 → EReal) (C : Fin 2048) (k : Fin 64) : EReal := P ⟨base C + k.val, by have := base_le C; omega⟩

/-- A result element, from a row `P` of the product. -/
def entry (P : Fin 1536 → EReal) (qg kg : Fin 64 → EReal) (c2 s2 c1 s1 : Fin 32 → EReal) (C : Fin 2048) : EReal :=
  if C.val < 512 then turnHead c2 s2 (normHead qg (headAt P C)) ⟨C.val % 64, Nat.mod_lt _ (by decide)⟩ * (((Real.log 256)⁻¹ : ℝ) : EReal)
  else if C.val < 768 then turnHead c2 s2 (normHead kg (headAt P C)) ⟨C.val % 64, Nat.mod_lt _ (by decide)⟩
  else if C.val < 1024 then headAt P C ⟨C.val % 64, Nat.mod_lt _ (by decide)⟩
  else if C.val < 1536 then turnHead c1 s1 (headAt P C) ⟨C.val % 64, Nat.mod_lt _ (by decide)⟩ * (((Real.log 256)⁻¹ : ℝ) : EReal)
  else if C.val < 1792 then turnHead c1 s1 (headAt P C) ⟨C.val % 64, Nat.mod_lt _ (by decide)⟩
  else headAt P C ⟨C.val % 64, Nat.mod_lt _ (by decide)⟩

/-! ## Two heads of 128 lanes -/

/-- The head lane `j` belongs to, out of 128 lanes. -/
def laneHead (y : Fin 128 → EReal) (j : Fin 128) (k : Fin 64) : EReal := y ⟨64 * (j.val / 64) + k.val, by omega⟩

/-- The place of a lane in its head. -/
def inHead (j : Fin 128) : Fin 64 := ⟨j.val % 64, Nat.mod_lt _ (by decide)⟩

/-- The place of a lane in its half of its head. -/
def inHalf (j : Fin 128) : Fin 32 := ⟨j.val % 32, Nat.mod_lt _ (by decide)⟩

/-- With the tables of the cosines and the sines laid out over both heads, turning 128 lanes turns each head. -/
theorem turned_head (c s : Fin 32 → EReal) (ct lt ht y : Fin 128 → EReal) (hc : ∀ j, ct j = c (inHalf j))
    (hl : ∀ j, lt j = if j.val % 64 < 32 then - s (inHalf j) else 0) (hh : ∀ j, ht j = if j.val % 64 < 32 then 0 else s (inHalf j))
    (j : Fin 128) : turned ct lt ht y j = turnHead c s (laneHead y j) (inHead j) := by
  have hj := j.isLt
  have e0 : laneHead y j (inHead j) = y j := congrArg y (Fin.ext (by show 64 * (j.val / 64) + j.val % 64 = j.val; omega))
  unfold turned turnHead
  rw [hc, hl, hh, e0]
  by_cases h : j.val % 64 < 32
  · have h' : (inHead j).val < 32 := h
    rw [if_pos h, if_pos h, dif_pos h', mul_zero, add_zero, mul_neg, sub_eq_add_neg]
    have e1 : inHalf j = ⟨(inHead j).val, h'⟩ := Fin.ext (by show j.val % 32 = j.val % 64; omega)
    have e2 : laneHead y j ⟨(inHead j).val + 32, by omega⟩ = y (shift 32 j) :=
      congrArg y (Fin.ext (by show 64 * (j.val / 64) + (j.val % 64 + 32) = (j.val + 32) % 128; omega))
    rw [e1, e2]
  · have h' : ¬ (inHead j).val < 32 := h
    rw [if_neg h, if_neg h, dif_neg h', mul_zero, add_zero]
    have e1 : inHalf j = ⟨(inHead j).val - 32, by omega⟩ := Fin.ext (by show j.val % 32 = j.val % 64 - 32; omega)
    have e2 : laneHead y j ⟨(inHead j).val - 32, by omega⟩ = y (shift 96 j) :=
      congrArg y (Fin.ext (by show 64 * (j.val / 64) + (j.val % 64 - 32) = (j.val + 96) % 128; omega))
    rw [e1, e2]

/-- Sixty-four. -/
theorem lit_width : Ideal.ofBits .f32 0x42800000#32 = ((64 : ℝ) : EReal) := by
  simp [Ideal.ofBits, Ideal.ieee, -EReal.coe_mul]; norm_num

/-- One over sixty-four, in the shorter type. -/
theorem lit_widthth : Ideal.ofBits .bf16 0x3C80#16 = ((1 / 64 : ℝ) : EReal) := by
  simp [Ideal.ofBits, Ideal.ieee, -EReal.coe_mul]; norm_num

/-- Zero, in the shorter type. -/
theorem lit_zero_bf16 : Ideal.ofBits .bf16 0x0000#16 = 0 := by
  simp [Ideal.ofBits, Ideal.ieee, -EReal.coe_mul]

/-- A sum over 128 lanes, of which only those of lane `j`'s head count, is a sum over that head. -/
theorem sum_head (f : Fin 128 → ℝ) (j : Fin 128) :
    (∑ k : Fin 128, if k.val / 64 = j.val / 64 then f k else 0) = ∑ k : Fin 64, f ⟨64 * (j.val / 64) + k.val, by omega⟩ := by
  have split := Fin.sum_univ_add (a := 64) (b := 64) (fun k : Fin 128 => if k.val / 64 = j.val / 64 then f k else 0)
  refine split.trans ?_
  have hj := j.isLt
  rcases (by omega : j.val / 64 = 0 ∨ j.val / 64 = 1) with h | h
  · have ea : ∀ k : Fin 64, (if (Fin.castAdd 64 k).val / 64 = j.val / 64 then f (Fin.castAdd 64 k) else 0) = f ⟨64 * (j.val / 64) + k.val, by omega⟩ := by
      intro k
      refine (if_pos (show k.val / 64 = j.val / 64 by omega)).trans ?_
      exact congrArg f (Fin.ext (by show k.val = 64 * (j.val / 64) + k.val; omega))
    have eb : ∀ k : Fin 64, (if (Fin.natAdd 64 k).val / 64 = j.val / 64 then f (Fin.natAdd 64 k) else 0) = 0 := by
      intro k
      exact if_neg (show ¬ (64 + k.val) / 64 = j.val / 64 by omega)
    rw [Finset.sum_congr rfl fun k _ => ea k, Finset.sum_congr rfl fun k _ => eb k, Finset.sum_const_zero, add_zero]
  · have ea : ∀ k : Fin 64, (if (Fin.natAdd 64 k).val / 64 = j.val / 64 then f (Fin.natAdd 64 k) else 0) = f ⟨64 * (j.val / 64) + k.val, by omega⟩ := by
      intro k
      refine (if_pos (show (64 + k.val) / 64 = j.val / 64 by omega)).trans ?_
      exact congrArg f (Fin.ext (by show 64 + k.val = 64 * (j.val / 64) + k.val; omega))
    have eb : ∀ k : Fin 64, (if (Fin.castAdd 64 k).val / 64 = j.val / 64 then f (Fin.castAdd 64 k) else 0) = 0 := by
      intro k
      exact if_neg (show ¬ k.val / 64 = j.val / 64 by omega)
    rw [Finset.sum_congr rfl fun k _ => ea k, Finset.sum_congr rfl fun k _ => eb k, Finset.sum_const_zero, zero_add]

/-- With finite lanes, the mean of the squares in two parts is the mean over the lane's head: the second part is nothing. -/
theorem unit_head (bd : Fin 128 → Fin 128 → EReal) (hbd : ∀ k j, bd k j = if k.val / 64 = j.val / 64 then ((1 / 64 : ℝ) : EReal) else 0)
    (g y : Fin 128 → EReal) (g' : Fin 64 → EReal) (hg : ∀ j, g j = g' (inHead j)) (hy : ∀ j, Mix.IsReal (y j)) (j : Fin 128) :
    unit bd g y j = normHead g' (laneHead y j) (inHead j) := by
  choose r hr using hy
  obtain rfl : y = fun k => (r k : EReal) := funext hr
  have hj := j.isLt
  have first : (∑ k : Fin 128, (r k : EReal) * (r k : EReal) * bd k j)
      = (((∑ k : Fin 64, r ⟨64 * (j.val / 64) + k.val, by omega⟩ * r ⟨64 * (j.val / 64) + k.val, by omega⟩) * (1 / 64) : ℝ) : EReal) := by
    rw [Finset.sum_mul, ← sum_head (fun k => r k * r k * (1 / 64)) j, coe_sum]
    refine Finset.sum_congr rfl fun k _ => ?_
    rw [hbd]
    by_cases h : k.val / 64 = j.val / 64
    · rw [if_pos h, if_pos h, EReal.coe_mul, EReal.coe_mul]
    · rw [if_neg h, if_neg h, mul_zero, EReal.coe_zero]
  have second : (∑ k : Fin 128, ((r k : EReal) * (r k : EReal) - (r k : EReal) * (r k : EReal)) * bd k j) = 0 := by
    refine Finset.sum_eq_zero fun k _ => ?_
    rw [← EReal.coe_mul, ← EReal.coe_sub, sub_self, EReal.coe_zero, zero_mul]
  have third : Ideal.div (∑ k : Fin 64, laneHead (fun k => (r k : EReal)) j k * laneHead (fun k => (r k : EReal)) j k) (Ideal.ofBits .f32 0x42800000#32)
      = (((∑ k : Fin 64, r ⟨64 * (j.val / 64) + k.val, by omega⟩ * r ⟨64 * (j.val / 64) + k.val, by omega⟩) * (1 / 64) : ℝ) : EReal) := by
    rw [lit_width, Ideal.div_coe (by norm_num), EReal.coe_mul, coe_sum]
    congr 1
  have e0 : laneHead (fun k => (r k : EReal)) j (inHead j) = (r j : EReal) :=
    congrArg (fun k => (r k : EReal)) (Fin.ext (by show 64 * (j.val / 64) + j.val % 64 = j.val; omega))
  unfold unit normHead
  rw [first, second, add_zero, third, e0, hg]

/-- A head of normed lanes is the head of the lanes, normed. -/
theorem laneHead_unit (bd : Fin 128 → Fin 128 → EReal) (hbd : ∀ k j, bd k j = if k.val / 64 = j.val / 64 then ((1 / 64 : ℝ) : EReal) else 0)
    (g y : Fin 128 → EReal) (g' : Fin 64 → EReal) (hg : ∀ j, g j = g' (inHead j)) (hy : ∀ j, Mix.IsReal (y j)) (j : Fin 128) :
    laneHead (unit bd g y) j = normHead g' (laneHead y j) := by
  have hj := j.isLt
  funext k
  have hk := k.isLt
  show unit bd g y ⟨64 * (j.val / 64) + k.val, by omega⟩ = _
  rw [unit_head bd hbd g y g' hg hy]
  have e1 : laneHead y ⟨64 * (j.val / 64) + k.val, by omega⟩ = laneHead y j :=
    funext fun l => congrArg y (Fin.ext (by show 64 * ((64 * (j.val / 64) + k.val) / 64) + l.val = 64 * (j.val / 64) + l.val; omega))
  have e2 : inHead ⟨64 * (j.val / 64) + k.val, by omega⟩ = k := Fin.ext (by show (64 * (j.val / 64) + k.val) % 64 = k.val; omega)
  rw [e1, e2]

/-- The columns of a head begin where the head does. -/
theorem base_head (C k : Nat) (hk : k < 64) : base (128 * (C / 128) + (64 * (C % 128 / 64) + k)) = base C := by
  unfold base
  repeat' split
  all_goals omega

/-- What becomes of a column of two heads is what becomes of it in its head. -/
theorem ending_eq (P : Fin 1536 → EReal) (qg' kg' : Fin 64 → EReal) (c2 s2 c1 s1 : Fin 32 → EReal)
    (bd : Fin 128 → Fin 128 → EReal) (hbd : ∀ k j, bd k j = if k.val / 64 = j.val / 64 then ((1 / 64 : ℝ) : EReal) else 0)
    (qg kg : Fin 128 → EReal) (hqg : ∀ j, qg j = qg' (inHead j)) (hkg : ∀ j, kg j = kg' (inHead j))
    (ct2 lt2 ht2 ct1 lt1 ht1 : Fin 128 → EReal) (hc2 : ∀ j, ct2 j = c2 (inHalf j))
    (hl2 : ∀ j, lt2 j = if j.val % 64 < 32 then - s2 (inHalf j) else 0) (hh2 : ∀ j, ht2 j = if j.val % 64 < 32 then 0 else s2 (inHalf j))
    (hc1 : ∀ j, ct1 j = c1 (inHalf j))
    (hl1 : ∀ j, lt1 j = if j.val % 64 < 32 then - s1 (inHalf j) else 0) (hh1 : ∀ j, ht1 j = if j.val % 64 < 32 then 0 else s1 (inHalf j))
    (C : Fin 2048) (y : Fin 128 → EReal)
    (hy : ∀ l : Fin 128, y l = headAt P ⟨128 * (groupOf C).val + l.val, by omega⟩ (inHead l))
    (hP : ∀ d : Fin 640, Mix.IsReal (P ⟨d.val, by omega⟩)) :
    ending (groupOf C) bd qg kg ct2 lt2 ht2 ct1 lt1 ht1 y (laneOf C) = entry P qg' kg' c2 s2 c1 s1 C := by
  have hC := C.isLt
  have eh : laneHead y (laneOf C) = headAt P C := by
    funext k
    have hk := k.isLt
    show y ⟨64 * (C.val % 128 / 64) + k.val, by omega⟩ = _
    rw [hy]
    refine congrArg P (Fin.ext ?_)
    show base (128 * (C.val / 128) + (64 * (C.val % 128 / 64) + k.val)) + (64 * (C.val % 128 / 64) + k.val) % 64 = base C.val + k.val
    rw [base_head _ _ hk]
    omega
  have ei : inHead (laneOf C) = ⟨C.val % 64, Nat.mod_lt _ (by decide)⟩ := Fin.ext (by show C.val % 128 % 64 = C.val % 64; omega)
  have ey : y (laneOf C) = headAt P C ⟨C.val % 64, Nat.mod_lt _ (by decide)⟩ := by
    rw [← eh, ← ei]
    exact congrArg y (Fin.ext (by show C.val % 128 = 64 * (C.val % 128 / 64) + C.val % 128 % 64; omega))
  have hreal : C.val < 768 → ∀ l, Mix.IsReal (y l) := by
    intro h l
    have hl := l.isLt
    have hb : base (128 * (C.val / 128) + l.val) + 64 ≤ 640 := by
      unfold base
      repeat' split
      all_goals omega
    rw [hy]
    exact hP ⟨base (128 * (C.val / 128) + l.val) + l.val % 64, by omega⟩
  have hG : (groupOf C).val = C.val / 128 := rfl
  unfold ending entry
  rw [turned_head c2 s2 ct2 lt2 ht2 _ hc2 hl2 hh2, turned_head c2 s2 ct2 lt2 ht2 _ hc2 hl2 hh2,
    turned_head c1 s1 ct1 lt1 ht1 _ hc1 hl1 hh1, eh, ei, ey]
  by_cases h1 : C.val < 512
  · rw [if_pos (by omega), if_pos h1, laneHead_unit bd hbd qg y qg' hqg (hreal (by omega)), eh]
  rw [if_neg (by omega), if_neg h1]
  by_cases h2 : C.val < 768
  · rw [if_pos (by omega), if_pos h2, laneHead_unit bd hbd kg y kg' hkg (hreal h2), eh]
  rw [if_neg (by omega), if_neg h2]
  by_cases h3 : C.val < 1024
  · rw [if_pos (by omega), if_pos h3]
  rw [if_neg (by omega), if_neg h3]
  by_cases h4 : C.val < 1536
  · rw [if_pos (by omega), if_pos h4]
  rw [if_neg (by omega), if_neg h4]
  by_cases h5 : C.val < 1792
  · rw [if_pos (by omega), if_pos h5]
  rw [if_neg (by omega), if_neg h5]

end Cert.Own.AbProj

end
-- ==== Proof.AbRefHeads.lean ====
/- The projection to the first attentions' queries, keys and values in the reference: its norm and its turning, of arrays of eight and
   of two heads, read at an index. -/
module

public import proofs.«01_k».proof.Proof.AbLaw
public import proofs.«01_k».proof.Proof.Gen.AbProjRefIdeal.Read
public import Idealize.ShloMosaic.Lib.Pointwise

@[expose] public section

set_option maxRecDepth 16384

noncomputable section

namespace Cert.Own.AbProjRef

open Cert.AbProjRefIdeal Cert.AbProjRefIdeal.Facts₀ Idealize.ShloMosaic Cert.Own.AbProj
open scoped BigOperators

/-- Eight heads turned by their angles. -/
def turned8 (a : FVec Ideal S4096x32 .f32) (y : FVec Ideal S8x4096x8x64 .f32) : FVec Ideal S8x4096x8x64 .f32 :=
  concatenate S8x4096x8x64 3 [⟨S8x4096x8x32, subf
      (mulf (extractStridedSlice S8x4096x8x32 ![0, 0, 0, 0] y slices_S8x4096x8x64_S8x4096x8x32_0_0_0_0)
        (broadcastInDim S8x4096x8x32 ![0, 1, 2, 3] bcast_S1x4096x1x32_S8x4096x8x32_0_1_2_3
          (broadcastInDim S1x4096x1x32 ![1, 3] bcast_S4096x32_S1x4096x1x32_1_3 (Host.cos a))))
      (mulf (extractStridedSlice S8x4096x8x32 ![0, 0, 0, 32] y slices_S8x4096x8x64_S8x4096x8x32_0_0_0_32)
        (broadcastInDim S8x4096x8x32 ![0, 1, 2, 3] bcast_S1x4096x1x32_S8x4096x8x32_0_1_2_3
          (broadcastInDim S1x4096x1x32 ![1, 3] bcast_S4096x32_S1x4096x1x32_1_3 (Host.sin a))))⟩,
    ⟨S8x4096x8x32, addf
      (mulf (extractStridedSlice S8x4096x8x32 ![0, 0, 0, 32] y slices_S8x4096x8x64_S8x4096x8x32_0_0_0_32)
        (broadcastInDim S8x4096x8x32 ![0, 1, 2, 3] bcast_S1x4096x1x32_S8x4096x8x32_0_1_2_3
          (broadcastInDim S1x4096x1x32 ![1, 3] bcast_S4096x32_S1x4096x1x32_1_3 (Host.cos a))))
      (mulf (extractStridedSlice S8x4096x8x32 ![0, 0, 0, 0] y slices_S8x4096x8x64_S8x4096x8x32_0_0_0_0)
        (broadcastInDim S8x4096x8x32 ![0, 1, 2, 3] bcast_S1x4096x1x32_S8x4096x8x32_0_1_2_3
          (broadcastInDim S1x4096x1x32 ![1, 3] bcast_S4096x32_S1x4096x1x32_1_3 (Host.sin a))))⟩]
    concatenates_S8x4096x8x32_S8x4096x8x32_S8x4096x8x64_d3

/-- Eight heads turned, at an index. -/
theorem turned8_apply (a : FVec Ideal S4096x32 .f32) (y : FVec Ideal S8x4096x8x64 .f32) (b : Fin 8) (s : Fin 4096) (h : Fin 8) (j : Fin 64) :
    turned8 a y (ix4 b s h j)
      = turnHead (fun k => Host.cos a (ix2 s k)) (fun k => Host.sin a (ix2 s k)) (fun k => y (ix4 b s h k)) j := by
  have hj := j.isLt
  unfold turned8 turnHead
  pointwise
  by_cases h' : j.val < 32
  · rw [dif_pos h', dif_pos h', show (⟨32 + j.val, by omega⟩ : Fin 64) = ⟨j.val + 32, by omega⟩ from Fin.ext (Nat.add_comm _ _)]
  · rw [dif_neg h', dif_neg h', show (⟨32 + (j.val - 32), by omega⟩ : Fin 64) = j from Fin.ext (by show 32 + (j.val - 32) = j.val; omega)]

/-- Two heads turned by their angles. -/
def turned2 (a : FVec Ideal S4096x32 .f32) (y : FVec Ideal S8x4096x2x64 .f32) : FVec Ideal S8x4096x2x64 .f32 :=
  concatenate S8x4096x2x64 3 [⟨S8x4096x2x32, subf
      (mulf (extractStridedSlice S8x4096x2x32 ![0, 0, 0, 0] y slices_S8x4096x2x64_S8x4096x2x32_0_0_0_0)
        (broadcastInDim S8x4096x2x32 ![0, 1, 2, 3] bcast_S1x4096x1x32_S8x4096x2x32_0_1_2_3
          (broadcastInDim S1x4096x1x32 ![1, 3] bcast_S4096x32_S1x4096x1x32_1_3 (Host.cos a))))
      (mulf (extractStridedSlice S8x4096x2x32 ![0, 0, 0, 32] y slices_S8x4096x2x64_S8x4096x2x32_0_0_0_32)
        (broadcastInDim S8x4096x2x32 ![0, 1, 2, 3] bcast_S1x4096x1x32_S8x4096x2x32_0_1_2_3
          (broadcastInDim S1x4096x1x32 ![1, 3] bcast_S4096x32_S1x4096x1x32_1_3 (Host.sin a))))⟩,
    ⟨S8x4096x2x32, addf
      (mulf (extractStridedSlice S8x4096x2x32 ![0, 0, 0, 32] y slices_S8x4096x2x64_S8x4096x2x32_0_0_0_32)
        (broadcastInDim S8x4096x2x32 ![0, 1, 2, 3] bcast_S1x4096x1x32_S8x4096x2x32_0_1_2_3
          (broadcastInDim S1x4096x1x32 ![1, 3] bcast_S4096x32_S1x4096x1x32_1_3 (Host.cos a))))
      (mulf (extractStridedSlice S8x4096x2x32 ![0, 0, 0, 0] y slices_S8x4096x2x64_S8x4096x2x32_0_0_0_0)
        (broadcastInDim S8x4096x2x32 ![0, 1, 2, 3] bcast_S1x4096x1x32_S8x4096x2x32_0_1_2_3
          (broadcastInDim S1x4096x1x32 ![1, 3] bcast_S4096x32_S1x4096x1x32_1_3 (Host.sin a))))⟩]
    concatenates_S8x4096x2x32_S8x4096x2x32_S8x4096x2x64_d3

/-- Two heads turned, at an index. -/
theorem turned2_apply (a : FVec Ideal S4096x32 .f32) (y : FVec Ideal S8x4096x2x64 .f32) (b : Fin 8) (s : Fin 4096) (h : Fin 2) (j : Fin 64) :
    turned2 a y (ix4 b s h j)
      = turnHead (fun k => Host.cos a (ix2 s k)) (fun k => Host.sin a (ix2 s k)) (fun k => y (ix4 b s h k)) j := by
  have hj := j.isLt
  unfold turned2 turnHead
  pointwise
  by_cases h' : j.val < 32
  · rw [dif_pos h', dif_pos h', show (⟨32 + j.val, by omega⟩ : Fin 64) = ⟨j.val + 32, by omega⟩ from Fin.ext (Nat.add_comm _ _)]
  · rw [dif_neg h', dif_neg h', show (⟨32 + (j.val - 32), by omega⟩ : Fin 64) = j from Fin.ext (by show 32 + (j.val - 32) = j.val; omega)]

/-- Eight heads normed by a gain. -/
def normed8 (g : FVec Ideal S2x64 .f32) (y : FVec Ideal S8x4096x8x64 .f32) : FVec Ideal S8x4096x8x64 .f32 :=
  mulf (mulf y (broadcastInDim S8x4096x8x64 ![0, 1, 2, 3] bcast_S8x4096x8x1_S8x4096x8x64_0_1_2_3 (Host.rsqrt (addf
      (Host.divf (broadcastInDim S8x4096x8x1 ![0, 1, 2] bcast_S8x4096x8_S8x4096x8x1_0_1_2
          (Host.reduceAdd (mulf y y) (constant S_ .f32 0x00000000#32) reducesTo_S8x4096x8x64_S8x4096x8_d3 h_S_))
        (broadcastInDim S8x4096x8x1 ![] bcast_S_S8x4096x8x1 (constant S_ .f32 0x42800000#32)))
      (broadcastInDim S8x4096x8x1 ![] bcast_S_S8x4096x8x1 (constant S_ .f32 0x358637BD#32))))))
    (broadcastInDim S8x4096x8x64 ![0, 1, 2, 3] bcast_S1x1x1x64_S8x4096x8x64_0_1_2_3
      (broadcastInDim S1x1x1x64 ![3] bcast_S64_S1x1x1x64_3
        (shapeCast S64 (extractStridedSlice S1x64 ![0, 0] g slices_S2x64_S1x64_0_0) shapeCasts_S1x64_S64)))

/-- Eight heads normed, at an index. -/
theorem normed8_apply (g : FVec Ideal S2x64 .f32) (y : FVec Ideal S8x4096x8x64 .f32) (b : Fin 8) (s : Fin 4096) (h : Fin 8) (j : Fin 64) :
    normed8 g y (ix4 b s h j) = normHead (fun k => g (ix2 0 k)) (fun k => y (ix4 b s h k)) j := by
  unfold normed8 normHead
  pointwise

/-- Two heads normed by a gain. -/
def normed2 (g : FVec Ideal S2x64 .f32) (y : FVec Ideal S8x4096x2x64 .f32) : FVec Ideal S8x4096x2x64 .f32 :=
  mulf (mulf y (broadcastInDim S8x4096x2x64 ![0, 1, 2, 3] bcast_S8x4096x2x1_S8x4096x2x64_0_1_2_3 (Host.rsqrt (addf
      (Host.divf (broadcastInDim S8x4096x2x1 ![0, 1, 2] bcast_S8x4096x2_S8x4096x2x1_0_1_2
          (Host.reduceAdd (mulf y y) (constant S_ .f32 0x00000000#32) reducesTo_S8x4096x2x64_S8x4096x2_d3 h_S_))
        (broadcastInDim S8x4096x2x1 ![] bcast_S_S8x4096x2x1 (constant S_ .f32 0x42800000#32)))
      (broadcastInDim S8x4096x2x1 ![] bcast_S_S8x4096x2x1 (constant S_ .f32 0x358637BD#32))))))
    (broadcastInDim S8x4096x2x64 ![0, 1, 2, 3] bcast_S1x1x1x64_S8x4096x2x64_0_1_2_3
      (broadcastInDim S1x1x1x64 ![3] bcast_S64_S1x1x1x64_3
        (shapeCast S64 (extractStridedSlice S1x64 ![0, 0] g slices_S2x64_S1x64_0_0) shapeCasts_S1x64_S64)))

/-- Two heads normed, at an index. -/
theorem normed2_apply (g : FVec Ideal S2x64 .f32) (y : FVec Ideal S8x4096x2x64 .f32) (b : Fin 8) (s : Fin 4096) (h : Fin 2) (j : Fin 64) :
    normed2 g y (ix4 b s h j) = normHead (fun k => g (ix2 0 k)) (fun k => y (ix4 b s h k)) j := by
  unfold normed2 normHead
  pointwise

/-- 512 columns as eight heads. -/
theorem heads8_apply (y : FVec Ideal S8x4096x512 .f32) (b : Fin 8) (s : Fin 4096) (h : Fin 8) (j : Fin 64) :
    shapeCast S8x4096x8x64 y shapeCasts_S8x4096x512_S8x4096x8x64 (ix4 b s h j) = y (ix3 b s ⟨h.val * 64 + j.val, by omega⟩) := by
  pointwise

/-- 128 columns as two heads. -/
theorem heads2_apply (y : FVec Ideal S8x4096x128 .f32) (b : Fin 8) (s : Fin 4096) (h : Fin 2) (j : Fin 64) :
    shapeCast S8x4096x2x64 y shapeCasts_S8x4096x128_S8x4096x2x64 (ix4 b s h j) = y (ix3 b s ⟨h.val * 64 + j.val, by omega⟩) := by
  pointwise

/-- Eight heads as 512 columns of the rows. -/
theorem flat8_apply (y : FVec Ideal S8x4096x8x64 .f32) (R : Fin 32768) (c : Fin 512) :
    shapeCast S32768x512 y shapeCasts_S8x4096x8x64_S32768x512 (ix2 R c)
      = y (ix4 ⟨R.val / 4096, by omega⟩ ⟨R.val % 4096, by omega⟩ ⟨c.val / 64, by omega⟩ ⟨c.val % 64, by omega⟩) := by
  pointwise

/-- Two heads, each twice. -/
def twice (y : FVec Ideal S8x4096x2x64 .f32) : FVec Ideal S32768x256 .f32 :=
  shapeCast S32768x256 (concatenate S8x4096x2x128 3 [⟨S8x4096x2x64, y⟩, ⟨S8x4096x2x64, y⟩] concatenates_S8x4096x2x64_S8x4096x2x64_S8x4096x2x128_d3)
    shapeCasts_S8x4096x2x128_S32768x256

/-- Two heads, each twice, as 256 columns of the rows. -/
theorem twice_apply (y : FVec Ideal S8x4096x2x64 .f32) (R : Fin 32768) (c : Fin 256) :
    twice y (ix2 R c)
      = y (ix4 ⟨R.val / 4096, by omega⟩ ⟨R.val % 4096, by omega⟩ ⟨c.val / 128, by omega⟩ ⟨c.val % 64, by omega⟩) := by
  have e : ∀ (b : Fin 8) (s : Fin 4096) (h : Fin 2) (l : Fin 128),
      concatenate S8x4096x2x128 3 [⟨S8x4096x2x64, y⟩, ⟨S8x4096x2x64, y⟩] concatenates_S8x4096x2x64_S8x4096x2x64_S8x4096x2x128_d3 (ix4 b s h l)
        = y (ix4 b s h ⟨l.val % 64, by omega⟩) := by
    intro b s h l
    have hl := l.isLt
    pointwise
    by_cases h' : l.val < 64
    · rw [dif_pos h']
      exact congrArg (fun d => y (ix4 b s h d)) (Fin.ext (by show l.val = l.val % 64; omega))
    · rw [dif_neg h']
      exact congrArg (fun d => y (ix4 b s h d)) (Fin.ext (by show l.val - 64 = l.val % 64; omega))
  unfold twice
  generalize concatenate S8x4096x2x128 3 [⟨S8x4096x2x64, y⟩, ⟨S8x4096x2x64, y⟩] concatenates_S8x4096x2x64_S8x4096x2x64_S8x4096x2x128_d3 = z at e ⊢
  have e2 : shapeCast S32768x256 z shapeCasts_S8x4096x2x128_S32768x256 (ix2 R c)
      = z (ix4 ⟨R.val / 4096, by omega⟩ ⟨R.val % 4096, by omega⟩ ⟨c.val / 128, by omega⟩ ⟨c.val % 128, by omega⟩) := by pointwise
  rw [e2, e]
  have hc := c.isLt
  exact congrArg (fun d => y (ix4 ⟨R.val / 4096, by omega⟩ ⟨R.val % 4096, by omega⟩ ⟨c.val / 128, by omega⟩ d))
    (Fin.ext (by show c.val % 128 % 64 = c.val % 64; omega))

end Cert.Own.AbProjRef

end
-- ==== Proof.AbArray.lean ====
/- The projection to the first attentions' queries, keys and values: the result array from the arrays the kernel is launched on. -/
module

public import proofs.«01_k».proof.Proof.AbBlock
public import proofs.«01_k».proof.Proof.Gen.AbProjIdeal.Value
public import Idealize.ShloMosaic.Lib.Pipeline.ValueKit.Geometry

@[expose] public section

set_option maxRecDepth 16384

noncomputable section

namespace Cert.Own.AbProj

open Cert.AbProjIdeal Cert.AbProjIdeal.Gen Idealize.ShloMosaic Idealize.ShloMosaic.TcCoe Idealize.SL.Sem
open scoped BigOperators

variable (m : (ℓ : Loc nD τ sig) → Buf (Elt Ideal) ℓ)

/-- Input rows: block `t`. -/
theorem index0 : ∀ t : Fin cfg0.N, win0_0.index t = ![(grid0.coords t 0).val, 0] := (by decide +kernel : ∀ t : Fin grid0.N, _)
/-- The weights: all of them. -/
theorem index1 : ∀ t : Fin cfg0.N, win0_1.index t = ![0, 0] := (by decide +kernel : ∀ t : Fin grid0.N, _)
/-- The averaging matrix: all of it. -/
theorem index2 : ∀ t : Fin cfg0.N, win0_2.index t = ![0, 0] := (by decide +kernel : ∀ t : Fin grid0.N, _)
/-- The queries' gain: all of it. -/
theorem index3 : ∀ t : Fin cfg0.N, win0_3.index t = ![0, 0] := (by decide +kernel : ∀ t : Fin grid0.N, _)
/-- The keys' gain: all of it. -/
theorem index4 : ∀ t : Fin cfg0.N, win0_4.index t = ![0, 0] := (by decide +kernel : ∀ t : Fin grid0.N, _)
/-- The first cosines: the block of the position in the sequence. -/
theorem index5 : ∀ t : Fin cfg0.N, win0_5.index t = ![(grid0.coords t 0).val % 4, 0] := (by decide +kernel : ∀ t : Fin grid0.N, _)
/-- The first lower sines: the block of the position in the sequence. -/
theorem index6 : ∀ t : Fin cfg0.N, win0_6.index t = ![(grid0.coords t 0).val % 4, 0] := (by decide +kernel : ∀ t : Fin grid0.N, _)
/-- The first upper sines: the block of the position in the sequence. -/
theorem index7 : ∀ t : Fin cfg0.N, win0_7.index t = ![(grid0.coords t 0).val % 4, 0] := (by decide +kernel : ∀ t : Fin grid0.N, _)
/-- The second cosines: the block of the position in the sequence. -/
theorem index8 : ∀ t : Fin cfg0.N, win0_8.index t = ![(grid0.coords t 0).val % 4, 0] := (by decide +kernel : ∀ t : Fin grid0.N, _)
/-- The second lower sines: the block of the position in the sequence. -/
theorem index9 : ∀ t : Fin cfg0.N, win0_9.index t = ![(grid0.coords t 0).val % 4, 0] := (by decide +kernel : ∀ t : Fin grid0.N, _)
/-- The second upper sines: the block of the position in the sequence. -/
theorem index10 : ∀ t : Fin cfg0.N, win0_10.index t = ![(grid0.coords t 0).val % 4, 0] := (by decide +kernel : ∀ t : Fin grid0.N, _)
/-- Output rows: block `t`. -/
theorem index11 : ∀ t : Fin cfg0.N, win0_11.index t = ![(grid0.coords t 0).val, 0] := (by decide +kernel : ∀ t : Fin grid0.N, _)

/-- The position of a row in its sequence. -/
def position (R : Fin 32768) : Fin 4096 := ⟨R.val % 4096, Nat.mod_lt _ (by decide)⟩

/-- An element of the result, from the arrays the kernel is launched on. -/
def result (X : S32768x1024.Idx → EReal) (W : S1024x2048.Idx → EReal) (bd : S128x128.Idx → EReal) (qg kg : S1x128.Idx → EReal)
    (c2 l2 h2 c1 l1 h1 : S4096x128.Idx → EReal) (R : Fin 32768) (C : Fin 2048) : EReal :=
  ending (groupOf C) (fun k l => bd (ix2 k l)) (fun k => qg (ix2 0 k)) (fun k => kg (ix2 0 k)) (fun k => c2 (ix2 (position R) k))
    (fun k => l2 (ix2 (position R) k)) (fun k => h2 (ix2 (position R) k)) (fun k => c1 (ix2 (position R) k))
    (fun k => l1 (ix2 (position R) k)) (fun k => h1 (ix2 (position R) k))
    (fun l => ∑ k : Fin 1024, X (ix2 R k) * W (ix2 k ⟨128 * (groupOf C).val + l.val, by omega⟩)) (laneOf C)

/-- The row of the input a row of a block is. -/
def rowOf (t : Fin cfg0.N) (r : Fin 1024) : Fin 32768 :=
  ⟨(grid0.coords t 0).val * 1024 + r.val, by have h0 : (grid0.coords t 0).val < 32 := (grid0.coords t 0).isLt; omega⟩

/-- The position of a row of a block in its sequence, by the block's position. -/
theorem position_rowOf (t : Fin cfg0.N) (r : Fin 1024) :
    position (rowOf t r) = ⟨(grid0.coords t 0).val % 4 * 1024 + r.val, by omega⟩ := Fin.ext (by
  show ((grid0.coords t 0).val * 1024 + r.val) % 4096 = (grid0.coords t 0).val % 4 * 1024 + r.val; omega)

/-- The rows of a block. -/
theorem rows_eq (c : Dev nD) (t : Fin cfg0.N) (r k : Fin 1024) : iblk m c 0 t (ix2 r k) = V m c main_arg0 (ix2 (rowOf t r) k) := by
  have h0 : (grid0.coords t 0).val < 32 := (grid0.coords t 0).isLt
  have hk := k.isLt
  have hr := r.isLt
  unfold rowOf
  blk_simp [iblk, index0]
  refine congrArg (V m c main_arg0) ?_
  blk_ext [index0]

/-- The weights of a block. -/
theorem weights_eq (c : Dev nD) (t : Fin cfg0.N) (k : Fin 1024) (l : Fin 2048) : iblk m c 1 t (ix2 k l) = V m c main_v79 (ix2 k l) := by
  have hk := k.isLt
  have hl := l.isLt
  blk_simp [iblk, index1]
  refine congrArg (V m c main_v79) ?_
  blk_ext [index1]

/-- The averaging matrix of a block. -/
theorem matrix_eq (c : Dev nD) (t : Fin cfg0.N) (k l : Fin 128) : iblk m c 2 t (ix2 k l) = V m c main_cst (ix2 k l) := by
  have hk := k.isLt
  have hl := l.isLt
  blk_simp [iblk, index2]
  refine congrArg (V m c main_cst) ?_
  blk_ext [index2]

/-- The queries' gain of a block. -/
theorem queryGain_eq (c : Dev nD) (t : Fin cfg0.N) (l : Fin 128) : iblk m c 3 t (ix2 (0 : Fin 1) l) = V m c main_v85 (ix2 0 l) := by
  have hl := l.isLt
  blk_simp [iblk, index3]
  refine congrArg (V m c main_v85) ?_
  blk_ext [index3]

/-- The keys' gain of a block. -/
theorem keyGain_eq (c : Dev nD) (t : Fin cfg0.N) (l : Fin 128) : iblk m c 4 t (ix2 (0 : Fin 1) l) = V m c main_v91 (ix2 0 l) := by
  have hl := l.isLt
  blk_simp [iblk, index4]
  refine congrArg (V m c main_v91) ?_
  blk_ext [index4]

/-- The first cosines of a block. -/
theorem cos2_eq (c : Dev nD) (t : Fin cfg0.N) (r : Fin 1024) (l : Fin 128) :
    iblk m c 5 t (ix2 r l) = V m c main_v59 (ix2 (position (rowOf t r)) l) := by
  have hr := r.isLt
  have hl := l.isLt
  rw [position_rowOf]
  blk_simp [iblk, index5]
  refine congrArg (V m c main_v59) ?_
  blk_ext [index5]

/-- The first lower sines of a block. -/
theorem low2_eq (c : Dev nD) (t : Fin cfg0.N) (r : Fin 1024) (l : Fin 128) :
    iblk m c 6 t (ix2 r l) = V m c main_v60 (ix2 (position (rowOf t r)) l) := by
  have hr := r.isLt
  have hl := l.isLt
  rw [position_rowOf]
  blk_simp [iblk, index6]
  refine congrArg (V m c main_v60) ?_
  blk_ext [index6]

/-- The first upper sines of a block. -/
theorem high2_eq (c : Dev nD) (t : Fin cfg0.N) (r : Fin 1024) (l : Fin 128) :
    iblk m c 7 t (ix2 r l) = V m c main_v61 (ix2 (position (rowOf t r)) l) := by
  have hr := r.isLt
  have hl := l.isLt
  rw [position_rowOf]
  blk_simp [iblk, index7]
  refine congrArg (V m c main_v61) ?_
  blk_ext [index7]

/-- The second cosines of a block. -/
theorem cos1_eq (c : Dev nD) (t : Fin cfg0.N) (r : Fin 1024) (l : Fin 128) :
    iblk m c 8 t (ix2 r l) = V m c main_v69 (ix2 (position (rowOf t r)) l) := by
  have hr := r.isLt
  have hl := l.isLt
  rw [position_rowOf]
  blk_simp [iblk, index8]
  refine congrArg (V m c main_v69) ?_
  blk_ext [index8]

/-- The second lower sines of a block. -/
theorem low1_eq (c : Dev nD) (t : Fin cfg0.N) (r : Fin 1024) (l : Fin 128) :
    iblk m c 9 t (ix2 r l) = V m c main_v70 (ix2 (position (rowOf t r)) l) := by
  have hr := r.isLt
  have hl := l.isLt
  rw [position_rowOf]
  blk_simp [iblk, index9]
  refine congrArg (V m c main_v70) ?_
  blk_ext [index9]

/-- The second upper sines of a block. -/
theorem high1_eq (c : Dev nD) (t : Fin cfg0.N) (r : Fin 1024) (l : Fin 128) :
    iblk m c 10 t (ix2 r l) = V m c main_v71 (ix2 (position (rowOf t r)) l) := by
  have hr := r.isLt
  have hl := l.isLt
  rw [position_rowOf]
  blk_simp [iblk, index10]
  refine congrArg (V m c main_v71) ?_
  blk_ext [index10]

/-- An element of a block whose rows, weights, matrix, gains and tables are those of the arrays is the result's. -/
theorem element_eq_result (X : S32768x1024.Idx → EReal) (W : S1024x2048.Idx → EReal) (bd : S128x128.Idx → EReal) (qg kg : S1x128.Idx → EReal)
    (c2 l2 h2 c1 l1 h1 : S4096x128.Idx → EReal)
    (x0 : Vec Ideal S1024x1024 .f32) (x1 : Vec Ideal S1024x2048 .bf16) (x2 : Vec Ideal S128x128 .bf16) (x3 x4 : Vec Ideal S1x128 .f32)
    (x5 x6 x7 x8 x9 x10 : Vec Ideal S1024x128 .f32) (r : Fin 1024) (R : Fin 32768) (C : Fin 2048)
    (e0 : ∀ k : Fin 1024, x0 (ix2 r k) = X (ix2 R k)) (e1 : ∀ (k : Fin 1024) (l : Fin 2048), x1 (ix2 k l) = W (ix2 k l))
    (e2 : ∀ k l : Fin 128, x2 (ix2 k l) = bd (ix2 k l)) (e3 : ∀ l : Fin 128, x3 (ix2 0 l) = qg (ix2 0 l))
    (e4 : ∀ l : Fin 128, x4 (ix2 0 l) = kg (ix2 0 l))
    (e5 : ∀ l : Fin 128, x5 (ix2 r l) = c2 (ix2 (position R) l)) (e6 : ∀ l : Fin 128, x6 (ix2 r l) = l2 (ix2 (position R) l))
    (e7 : ∀ l : Fin 128, x7 (ix2 r l) = h2 (ix2 (position R) l)) (e8 : ∀ l : Fin 128, x8 (ix2 r l) = c1 (ix2 (position R) l))
    (e9 : ∀ l : Fin 128, x9 (ix2 r l) = l1 (ix2 (position R) l)) (e10 : ∀ l : Fin 128, x10 (ix2 r l) = h1 (ix2 (position R) l)) :
    element x0 x1 x2 x3 x4 x5 x6 x7 x8 x9 x10 r (groupOf C) (laneOf C) = result X W bd qg kg c2 l2 h2 c1 l1 h1 R C := by
  have el : lanes x0 x1 r (groupOf C)
      = fun l => ∑ k : Fin 1024, X (ix2 R k) * W (ix2 k ⟨128 * (groupOf C).val + l.val, by omega⟩) := by
    funext l
    unfold lanes
    refine Finset.sum_congr rfl fun k _ => ?_
    rw [e0, e1]
  unfold element result
  rw [funext e3, funext e4, funext e5, funext e6, funext e7, funext e8, funext e9, funext e10, funext fun k => funext (e2 k), el]

/-- The result array after the run. -/
theorem array_eq (c : Dev nD) :
    (dats m 0 c).arrAt 11 cfg0.N = fun i => result (V m c main_arg0) (V m c main_v79) (V m c main_cst) (V m c main_v85) (V m c main_v91)
      (V m c main_v59) (V m c main_v60) (V m c main_v61) (V m c main_v69) (V m c main_v70) (V m c main_v71) (i 0) (i 1) := by
  refine (dats m 0 c).arrAt_eq_of_covers 11 _ (by decide +kernel) fun t hf y => ?_
  blk_simp
  rw [after0_11]
  obtain ⟨r, d, rfl⟩ : ∃ (r : Fin 1024) (d : Fin 2048), y = ix2 r d := ⟨y 0, y 1, by funext a; match a with | ⟨0, _⟩ => rfl | ⟨1, _⟩ => rfl⟩
  rw [out_element]
  refine (element_eq_result (V m c main_arg0) (V m c main_v79) (V m c main_cst) (V m c main_v85) (V m c main_v91)
    (V m c main_v59) (V m c main_v60) (V m c main_v61) (V m c main_v69) (V m c main_v70) (V m c main_v71) _ _ _ _ _ _ _ _ _ _ _ r (rowOf t r) d
    (rows_eq m c t r) (weights_eq m c t) (matrix_eq m c t) (queryGain_eq m c t) (keyGain_eq m c t) (cos2_eq m c t r) (low2_eq m c t r)
    (high2_eq m c t r) (cos1_eq m c t r) (low1_eq m c t r) (high1_eq m c t r)).trans ?_
  have key : ∀ (R' : Fin 32768) (C' : Fin 2048), R' = rowOf t r → C' = d →
      result (V m c main_arg0) (V m c main_v79) (V m c main_cst) (V m c main_v85) (V m c main_v91)
      (V m c main_v59) (V m c main_v60) (V m c main_v61) (V m c main_v69) (V m c main_v70) (V m c main_v71) (rowOf t r) d
      = result (V m c main_arg0) (V m c main_v79) (V m c main_cst) (V m c main_v85) (V m c main_v91)
      (V m c main_v59) (V m c main_v60) (V m c main_v61) (V m c main_v69) (V m c main_v70) (V m c main_v71) R' C' := by
    rintro _ _ rfl rfl; rfl
  refine key _ _ (Fin.ext ?_) (Fin.ext ?_)
  · unfold rowOf
    blk_simp [index11]
  · blk_simp [index11]

end Cert.Own.AbProj

end
-- ==== Proof.ProjC.lean ====
/- The projection to the neighbourhood attention's queries, keys and values: what its kernel computes is the reference's product,
   the queries scaled. -/
module

public import proofs.«01_k».proof.Defs
public import proofs.«01_k».proof.Proof.Consts
public import proofs.«01_k».proof.Proof.Gen.ProjC.Frame
public import proofs.«01_k».proof.Proof.Gen.ProjCIdeal.Value
public import proofs.«01_k».proof.Proof.Gen.ProjCRefIdeal.Read
public import proofs.«01_k».proof.Proof.Gen.ProjCRefIdeal.Run
public import Idealize.ShloMosaic.PureOps.IdealRules
public import Idealize.ShloMosaic.Lib.Pointwise
public import Idealize.ShloMosaic.Lib.StableHlo.Run
public import Idealize.ShloMosaic.Lib.StableHlo.RunRead
public import Idealize.ShloMosaic.Lib.Pipeline.ValueKit.Geometry

@[expose] public section

set_option maxRecDepth 16384

noncomputable section

namespace Cert.Own.ProjC

open Idealize.ShloMosaic Idealize.ShloMosaic.TcCoe Idealize.SL.Sem
open scoped BigOperators

/-- The factor of a column: one over `log 256`, which is one over eight `log 2`, for the queries, and one for the rest. -/
def scaled (d : Fin 3072) (y : EReal) : EReal := if d.val < 1024 then y * (((Real.log 256)⁻¹ : ℝ) : EReal) else y

section Kernel

open Cert.ProjCIdeal Cert.ProjCIdeal.Gen

/-- One chunk of 512 columns of the scaled part of the result block, at an index. -/
theorem scaled_chunk (x0 : Vec Ideal S1024x1024 .f32) (w : Vec Ideal S1024x512 .bf16) (r : Fin 1024) (j : Fin 512) :
    k0_pay4 x0 w (ix2 r j) = (∑ k : Fin 1024, x0 (ix2 r k) * w (ix2 k j)) * (((Real.log 256)⁻¹ : ℝ) : EReal) := by
  unfold k0_pay4 k0_pay3
  pointwise
  rw [IdealRules.named_const.ideal_named_scalar κ "c" (φ := .f32) 0x3E38AA3B#32 _ rfl]

/-- One chunk of 512 columns of the rest of the result block, at an index. -/
theorem plain_chunk (x0 : Vec Ideal S1024x1024 .f32) (w : Vec Ideal S1024x512 .bf16) (r : Fin 1024) (j : Fin 512) :
    k0_pay6 x0 w (ix2 r j) = ∑ k : Fin 1024, x0 (ix2 r k) * w (ix2 k j) := by
  unfold k0_pay6 k0_pay3
  pointwise

/-- The result block's element: a row times a column, scaled. -/
def element (x0 : Vec Ideal S1024x1024 .f32) (x1 : Vec Ideal S1024x3072 .bf16) (r : Fin 1024) (d : Fin 3072) : EReal :=
  scaled d (∑ k : Fin 1024, x0 (ix2 r k) * x1 (ix2 k d))

/-- The chunk that starts at column `o` holds the block's elements there. -/
theorem piece_eq (x0 : Vec Ideal S1024x1024 .f32) (x1 : Vec Ideal S1024x3072 .bf16) (o : Nat)
    (h : ∀ a : Fin 2, (![0, o] : Fin 2 → Nat) a + S1024x512.size a ≤ S1024x3072.size a) (x : S1024x512.Idx)
    (i : S1024x3072.Idx) (h0 : (i 0).val = (x 0).val) (h1 : (i 1).val = o + (x 1).val) :
    (o + 512 ≤ 1024 → k0_pay4 (View.ld x0 r0_0) (View.ld x1 (Rect.unit (s := S1024x3072) ![0, o] S1024x512.size h)) x = element x0 x1 (i 0) (i 1))
    ∧ (1024 ≤ o → k0_pay6 (View.ld x0 r0_0) (View.ld x1 (Rect.unit (s := S1024x3072) ![0, o] S1024x512.size h)) x = element x0 x1 (i 0) (i 1)) := by
  obtain ⟨r, j, rfl⟩ : ∃ (r : Fin 1024) (j : Fin 512), x = ix2 r j := ⟨x 0, x 1, by funext a; match a with | ⟨0, _⟩ => rfl | ⟨1, _⟩ => rfl⟩
  have h1' : (i 1).val = o + j.val := h1
  have hi : (i 1).val < 3072 := (i 1).isLt
  have hj := j.isLt
  have e0 : i 0 = r := Fin.ext h0
  have e1 : i 1 = (⟨o + j.val, by omega⟩ : Fin 3072) := Fin.ext h1'
  have key : (∑ k : Fin 1024, View.ld x0 r0_0 (ix2 r k) * View.ld x1 (Rect.unit (s := S1024x3072) ![0, o] S1024x512.size h) (ix2 k j))
      = ∑ k : Fin 1024, x0 (ix2 r k) * x1 (ix2 k ⟨o + j.val, by omega⟩) := by
    refine Finset.sum_congr rfl fun k _ => ?_
    congr 1
    · pointwise
    · pointwise
  unfold element scaled
  rw [e0, e1]
  refine ⟨fun ho => ?_, fun ho => ?_⟩
  · rw [scaled_chunk, if_pos (show o + j.val < 1024 by omega), key]
  · rw [plain_chunk, if_neg (show ¬ o + j.val < 1024 by omega), key]

/-- Every element of the result block. -/
theorem out_element (x0 : Vec Ideal S1024x1024 .f32) (x1 : Vec Ideal S1024x3072 .bf16) (r : Fin 1024) (d : Fin 3072) :
    out0_2 x0 x1 (ix2 r d) = element x0 x1 r d := by
  unfold out0_2
  refine View.canon_apply_of_pieces (Val := Elt Ideal) (e := .bf16) (fun y : S1024x3072.Idx => element x0 x1 (y 0) (y 1)) _ ?_ (ix2 r d)
    (cover0_2 _ _ _ _ _ _ (ix2 r d))
  intro p hp x
  have z (n : Nat) : n = 0 + 1 * n := by omega
  have w (o n : Nat) : o + 1 * n = o + n := by omega
  simp only [List.mem_cons, List.not_mem_nil, or_false] at hp
  rcases hp with rfl | rfl | rfl | rfl | rfl | rfl
  · exact (piece_eq x0 x1 2560 _ x _ (z _).symm (w _ _)).2 (by omega)
  · exact (piece_eq x0 x1 2048 _ x _ (z _).symm (w _ _)).2 (by omega)
  · exact (piece_eq x0 x1 1536 _ x _ (z _).symm (w _ _)).2 (by omega)
  · exact (piece_eq x0 x1 1024 _ x _ (z _).symm (w _ _)).2 (by omega)
  · exact (piece_eq x0 x1 512 _ x _ (z _).symm (w _ _)).1 (by omega)
  · exact (piece_eq x0 x1 0 _ x _ (z _).symm (w _ _)).1 (by omega)

variable (m : (ℓ : Loc nD τ sig) → Buf (Elt Ideal) ℓ)

/-- Input rows: block `t`. -/
theorem index0 : ∀ t : Fin cfg0.N, win0_0.index t = ![(grid0.coords t 0).val, 0] := (by decide +kernel : ∀ t : Fin grid0.N, _)
/-- The weights: all of them. -/
theorem index1 : ∀ t : Fin cfg0.N, win0_1.index t = ![0, 0] := (by decide +kernel : ∀ t : Fin grid0.N, _)
/-- Output rows: block `t`. -/
theorem index2 : ∀ t : Fin cfg0.N, win0_2.index t = ![(grid0.coords t 0).val, 0] := (by decide +kernel : ∀ t : Fin grid0.N, _)

/-- An element of the result, from the arrays the kernel is launched on. -/
def result (X : S32768x1024.Idx → EReal) (W : S1024x3072.Idx → EReal) (R : Fin 32768) (C : Fin 3072) : EReal :=
  scaled C (∑ k : Fin 1024, X (ix2 R k) * W (ix2 k C))

/-- The result array after the run. -/
theorem array_eq (c : Dev nD) :
    (dats m 0 c).arrAt 2 cfg0.N = fun i => result (V m c main_arg0) (V m c main_v2) (i 0) (i 1) := by
  refine (dats m 0 c).arrAt_eq_of_covers 2 _ (by decide +kernel) fun t hf y => ?_
  blk_simp
  rw [after0_2]
  obtain ⟨r, d, rfl⟩ : ∃ (r : Fin 1024) (d : Fin 3072), y = ix2 r d := ⟨y 0, y 1, by funext a; match a with | ⟨0, _⟩ => rfl | ⟨1, _⟩ => rfl⟩
  rw [out_element]
  have h0 : (grid0.coords t 0).val < 32 := (grid0.coords t 0).isLt
  have hd := d.isLt
  have hr := r.isLt
  have e0 : ∀ k : Fin 1024, iblk m c 0 t (ix2 r k) = V m c main_arg0 (ix2 ⟨(grid0.coords t 0).val * 1024 + r.val, by omega⟩ k) := by
    intro k
    have hk := k.isLt
    blk_simp [iblk, index0]
    refine congrArg (V m c main_arg0) ?_
    blk_ext [index0]
  have e1 : ∀ k : Fin 1024, iblk m c 1 t (ix2 k d) = V m c main_v2 (ix2 k d) := by
    intro k
    have hk := k.isLt
    blk_simp [iblk, index1]
    refine congrArg (V m c main_v2) ?_
    blk_ext [index1]
  unfold element
  simp only [e0, e1]
  have key : ∀ (R' : Fin 32768) (C' : Fin 3072), R' = ⟨(grid0.coords t 0).val * 1024 + r.val, by omega⟩ → C' = d →
      result (V m c main_arg0) (V m c main_v2) ⟨(grid0.coords t 0).val * 1024 + r.val, by omega⟩ d
      = result (V m c main_arg0) (V m c main_v2) R' C' := by
    rintro _ _ rfl rfl; rfl
  refine key _ _ (Fin.ext ?_) (Fin.ext ?_)
  · blk_simp [index2]
  · blk_simp [index2]

/-- The first weights out of the stack. -/
def firstWeights (y : FVec Ideal S2x1024x3072 .f32) : FVec Ideal S1024x3072 .bf16 :=
  truncf .bf16 (shapeCast S1024x3072 (extractStridedSlice S1x1024x3072 ![0, 0, 0] y slices_S2x1024x3072_S1x1024x3072_0_0_0)
    shapeCasts_S1x1024x3072_S1024x3072) bitsLt_bf16_f32

/-- The first weights read at an index. -/
theorem firstWeights_apply (y : FVec Ideal S2x1024x3072 .f32) (k : Fin 1024) (C : Fin 3072) : firstWeights y (ix2 k C) = y (ix3 0 k C) := by
  unfold firstWeights
  pointwise

/-- The weights. -/
theorem V_weights (c : Dev nD) (k : Fin 1024) (C : Fin 3072) :
    V m c main_v2 (ix2 k C) = m ((c : Thread nD τ).loc main_arg1) (ix3 0 k C) := by
  have h : V m c main_v2 = firstWeights (m ((c : Thread nD τ).loc main_arg1)) := by
    show StableHlo.after hostOps0 _ (Proc.devRef .tc main_v2) = _
    after_reads_simp
    rfl
  rw [h]
  exact firstWeights_apply _ k C

end Kernel

section Reference

open Cert.ProjCRefIdeal Cert.ProjCRefIdeal.Read

/-- The reference's product: a row times a column of the weights. -/
theorem product_eq (x0 : FVec Ideal S32768x1024 .f32) (x1 : FVec Ideal S2x1024x3072 .f32) (i : S32768x3072.Idx) :
    val_main_v2 (F := Ideal) x0 x1 i = ∑ k : Fin 1024, x0 (ix2 (i 0) k) * x1 (ix3 0 k (i 1)) := by
  have hC : (i 1).val < 3072 := (i 1).isLt
  rw [val_main_v2_apply]
  refine Finset.sum_congr rfl fun k _ => ?_
  have hk := k.isLt
  rw [val_main_v1_apply, val_main_v0_apply]
  congr 1
  · refine congrArg x0 ?_
    funext a
    match a with
    | ⟨0, _⟩ => rfl
    | ⟨1, _⟩ => rfl
  · refine congrArg x1 ?_
    funext a
    match a with
    | ⟨0, _⟩ => rfl
    | ⟨1, _⟩ => apply Fin.ext; dsimp only [ridx_main_v2, idx_main_v1, idx_main_v0, ix2, ix3]; omega
    | ⟨2, _⟩ => apply Fin.ext; dsimp only [ridx_main_v2, idx_main_v1, idx_main_v0, ix2, ix3]; omega

/-- An eighth, over `log 2`. -/
theorem scale_eq (y : EReal) :
    Ideal.div (y * Ideal.ofBits .f32 0x3E000000#32) (Ideal.log (Ideal.ofBits .f32 0x40000000#32)) = y * (((Real.log 256)⁻¹ : ℝ) : EReal) := by
  have h2 : Real.log 2 ≠ 0 := ne_of_gt (Real.log_pos one_lt_two)
  have h256 : Real.log 256 = 8 * Real.log 2 := by
    rw [show (256 : ℝ) = 2 ^ 8 by norm_num, Real.log_pow]; norm_num
  rw [lit_eighth, lit_two, Ideal.log_coe, if_neg (by norm_num), Ideal.div_coe h2, mul_assoc, ← EReal.coe_mul, h256]
  congr 2
  field_simp

/-- The scaled queries of the reference. -/
theorem queries_eq (x0 : FVec Ideal S32768x1024 .f32) (x1 : FVec Ideal S2x1024x3072 .f32) (i : S32768x1024.Idx) :
    val_main_v11 (F := Ideal) x0 x1 i = val_main_v2 (F := Ideal) x0 x1 (idx_main_v3 i) * (((Real.log 256)⁻¹ : ℝ) : EReal) := by
  rw [val_main_v11_apply, val_main_v7_apply, val_main_v3_apply, val_main_v6_apply, val_main_cst_apply, val_main_v10_apply,
    val_main_v9_apply, val_main_v8_apply, val_main_cst_0_apply]
  exact scale_eq _

/-- The reference's result. -/
theorem reference_eq (x0 : FVec Ideal S32768x1024 .f32) (x1 : FVec Ideal S2x1024x3072 .f32) (R : Fin 32768) (C : Fin 3072) :
    val_main_v13 (F := Ideal) x0 x1 (ix2 R C) = scaled C (∑ k : Fin 1024, x0 (ix2 R k) * x1 (ix3 0 k C)) := by
  have hC := C.isLt
  rw [val_main_v13_apply]
  show val_main_v12 (F := Ideal) x0 x1 (ix2 R C) = _
  unfold val_main_v12
  have e3 := queries_eq x0 x1
  have e4 := val_main_v4_apply (F := Ideal) x0 x1
  have e5 := val_main_v5_apply (F := Ideal) x0 x1
  have e2 := product_eq x0 x1
  generalize val_main_v11 (F := Ideal) x0 x1 = y3 at *
  generalize val_main_v4 (F := Ideal) x0 x1 = y4 at *
  generalize val_main_v5 (F := Ideal) x0 x1 = y5 at *
  pointwise
  unfold scaled
  have k4 : ∀ j : Fin 1024, C.val = 1024 + j.val → y4 (ix2 R j) = ∑ k : Fin 1024, x0 (ix2 R k) * x1 (ix3 0 k C) := by
    intro j hj
    rw [e4, e2]
    have e : idx_main_v4 (ix2 R j) 1 = C := Fin.ext hj.symm
    rw [e]
    rfl
  have k5 : ∀ j : Fin 1024, C.val = 2048 + j.val → y5 (ix2 R j) = ∑ k : Fin 1024, x0 (ix2 R k) * x1 (ix3 0 k C) := by
    intro j hj
    rw [e5, e2]
    have e : idx_main_v5 (ix2 R j) 1 = C := Fin.ext hj.symm
    rw [e]
    rfl
  by_cases ha : C.val < 1024
  · simp only [ha, if_true, dif_pos]
    rw [e3, e2]
    rfl
  · simp only [ha, if_false, dif_neg, not_false_eq_true]
    by_cases hb : C.val - 1024 < 1024
    · simp only [hb, dif_pos]
      exact k4 _ (show C.val = 1024 + (C.val - 1024) by omega)
    · simp only [hb, dif_neg, not_false_eq_true]
      have h5 := k5 ⟨C.val - 1024 - 1024, by omega⟩ (show C.val = 2048 + (C.val - 1024 - 1024) by omega)
      split_ifs
      all_goals exact h5

end Reference

/-- The kernel's result where it is launched on the first of the weights `w`. -/
theorem result_of (x : FVec Ideal ProjCRefIdeal.S32768x1024 .f32) (w : FVec Ideal ProjCRefIdeal.S2x1024x3072 .f32)
    (W : ProjCIdeal.S1024x3072.Idx → EReal) (hW : ∀ (k : Fin 1024) (C : Fin 3072), W (ix2 k C) = w (ix3 0 k C))
    (R : Fin 32768) (C : Fin 3072) :
    result x W R C = scaled C (∑ k : Fin 1024, x (ix2 R k) * w (ix3 0 k C)) := by
  unfold result
  simp only [hW]

/-- The kernel's result array is the reference's. -/
theorem arrays_eq (m : (ℓ : Loc ProjCIdeal.nD ProjCIdeal.τ ProjCIdeal.sig) → Buf (Elt Ideal) ℓ) (c : Dev ProjCIdeal.nD) :
    ProjCRefIdeal.Read.val_main_v13 (F := Ideal) (m ((c.tc : Thread ProjCIdeal.nD ProjCIdeal.τ).loc ProjCIdeal.main_arg0))
        (m ((c.tc : Thread ProjCIdeal.nD ProjCIdeal.τ).loc ProjCIdeal.main_arg1))
      = (ProjCIdeal.Gen.dats m 0 c).arrAt 2 ProjCIdeal.cfg0.N := by
  rw [array_eq, ProjCIdeal.Gen.V_main_arg0]
  funext i
  obtain ⟨R, C, rfl⟩ : ∃ (R : Fin 32768) (C : Fin 3072), i = ix2 R C :=
    ⟨i 0, i 1, by funext a; match a with | ⟨0, _⟩ => rfl | ⟨1, _⟩ => rfl⟩
  rw [reference_eq]
  exact (result_of _ _ _ (V_weights m c) R C).symm

/-- The value claim. -/
theorem algebraic : Cert.algebraic_ProjCIdeal_ProjCRefIdeal (hProjCIdeal := Cert.ProjCIdeal.Gen.facts)
    (hProjCRefIdeal := Cert.ProjCRefIdeal.Gen.facts) := by
  intro m ρ m' ρ' _ hagree
  refine ⟨fun c => (ProjCIdeal.Gen.dats m 0 c).arrAt 2 ProjCIdeal.cfg0.N, ProjCIdeal.Value.run_blocks m ρ, ?_⟩
  refine (θ_run _ _ _).mono (fun r h c => ⟨?_, (h c).2⟩) (ProjCRefIdeal.Value.run (F := Ideal) m' ρ')
  rw [(h c).1, ProjCRefIdeal.Read.val_main_v13_eq, (hagree c).1, (hagree c).2]
  exact arrays_eq m c

/-- The named constant is the table's. -/
theorem preserves : Cert.preserves_ProjC_ProjCIdeal :=
  IdealRules.named_const.statement ProjCIdeal.κ "c" .f32 0x3E38AA3B#32 _ rfl

/-- The reference leaves its arguments as they were and every semaphore at zero. -/
theorem ref_frame (m : (ℓ : Loc ProjCRefIdeal.nD ProjCRefIdeal.τ ProjCRefIdeal.sig) → Buf (Elt Ideal) ℓ) (ρ : Dev ProjCRefIdeal.nD → PrngReg) :
    θ_run ProjCRefIdeal.defs (onTc (τ := ProjCRefIdeal.τ) (ProjCRefIdeal.main (F := Ideal))) ⟨m, fun _ => 0, ρ⟩ fun r =>
      (∀ c : Dev ProjCRefIdeal.nD,
        r.2.mem ((c.tc : Thread ProjCRefIdeal.nD ProjCRefIdeal.τ).loc ProjCRefIdeal.main_arg0) = m ((c.tc : Thread ProjCRefIdeal.nD ProjCRefIdeal.τ).loc ProjCRefIdeal.main_arg0)
        ∧ r.2.mem ((c.tc : Thread ProjCRefIdeal.nD ProjCRefIdeal.τ).loc ProjCRefIdeal.main_arg1) = m ((c.tc : Thread ProjCRefIdeal.nD ProjCRefIdeal.τ).loc ProjCRefIdeal.main_arg1))
      ∧ r.2.sem = fun _ => 0 :=
  (θ_run _ _ _).mono (fun r h => ⟨fun c => (h c).2, Idealize.ShloMosaic.sem_eq_zero_of_no_sems (by decide) r.2⟩)
    (ProjCRefIdeal.Value.run (F := Ideal) m ρ)

end Cert.Own.ProjC

end
-- ==== Proof.AbRef.lean ====
/- The projection to the first attentions' queries, keys and values: what the reference computes, element by element. -/
module

public import proofs.«01_k».proof.Proof.AbRefHeads
public import proofs.«01_k».proof.Proof.AbArray
public import proofs.«01_k».proof.Proof.ProjC

@[expose] public section

set_option maxRecDepth 16384

noncomputable section

namespace Cert.Own.AbProjRef

open Cert.AbProjRefIdeal Cert.AbProjRefIdeal.Read Cert.AbProjRefIdeal.Facts₀ Idealize.ShloMosaic Cert.Own.AbProj
open scoped BigOperators

variable (x0 : FVec Ideal S32768x1024 .f32) (x1 : FVec Ideal S2x1024x1536 .f32) (x2 x3 : FVec Ideal S2x64 .f32)

/-- A row of the product of the input and the first weights. -/
def product (R : Fin 32768) (d : Fin 1536) : EReal := ∑ k : Fin 1024, x0 (ix2 R k) * x1 (ix3 0 k d)

/-- The sequence a row belongs to. -/
def sequenceOf (R : Fin 32768) : Fin 8 := ⟨R.val / 4096, by omega⟩

/-- The product, at a position of a sequence. -/
theorem v55_eq (R : Fin 32768) (d : Fin 1536) : val_main_v55 (F := Ideal) x0 x1 (ix3 (sequenceOf R) (position R) d) = product x0 x1 R d := by
  rw [val_main_v55_apply]
  have hR := R.isLt
  have hd := d.isLt
  refine Finset.sum_congr rfl fun k _ => ?_
  have hk := k.isLt
  refine congrArg₂ (fun a b : EReal => a * b) ?_ ?_
  · have e : lidx_main_v55 (ix3 (sequenceOf R) (position R) d) k = ix3 (sequenceOf R) (position R) k := by
      funext a
      match a with
      | ⟨0, _⟩ => rfl
      | ⟨1, _⟩ => rfl
      | ⟨2, _⟩ => rfl
    rw [e]
    unfold val_main_v52
    pointwise
    exact congrArg (fun R' => x0 (ix2 R' k)) (Fin.ext (by show R.val / 4096 * 4096 + R.val % 4096 = R.val; omega))
  · have e : ridx_main_v55 (ix3 (sequenceOf R) (position R) d) k = ix2 k d := by
      funext a
      match a with
      | ⟨0, _⟩ => rfl
      | ⟨1, _⟩ => rfl
    rw [e]
    unfold val_main_v54 val_main_v53
    pointwise

/-- A head of the first queries. -/
theorem v62_eq (R : Fin 32768) (h : Fin 8) (j : Fin 64) :
    val_main_v62 (F := Ideal) x0 x1 (ix4 (sequenceOf R) (position R) h j) = product x0 x1 R ⟨h.val * 64 + j.val, by omega⟩ := by
  unfold val_main_v62
  rw [heads8_apply, val_main_v56_apply, ← v55_eq]
  refine congrArg _ ?_
  funext a
  match a with
  | ⟨0, _⟩ => rfl
  | ⟨1, _⟩ => rfl
  | ⟨2, _⟩ => rfl

/-- A head of the first keys. -/
theorem v95_eq (R : Fin 32768) (h : Fin 2) (j : Fin 64) :
    val_main_v95 (F := Ideal) x0 x1 (ix4 (sequenceOf R) (position R) h j) = product x0 x1 R ⟨512 + (h.val * 64 + j.val), by omega⟩ := by
  unfold val_main_v95
  rw [heads2_apply, val_main_v57_apply, ← v55_eq]
  refine congrArg _ ?_
  funext a
  match a with
  | ⟨0, _⟩ => rfl
  | ⟨1, _⟩ => rfl
  | ⟨2, _⟩ => rfl

/-- A head of the first values. -/
theorem v128_eq (R : Fin 32768) (h : Fin 2) (j : Fin 64) :
    val_main_v128 (F := Ideal) x0 x1 (ix4 (sequenceOf R) (position R) h j) = product x0 x1 R ⟨640 + (h.val * 64 + j.val), by omega⟩ := by
  unfold val_main_v128
  rw [heads2_apply, val_main_v58_apply, ← v55_eq]
  refine congrArg _ ?_
  funext a
  match a with
  | ⟨0, _⟩ => rfl
  | ⟨1, _⟩ => rfl
  | ⟨2, _⟩ => rfl

/-- A head of the second queries. -/
theorem v129_eq (R : Fin 32768) (h : Fin 8) (j : Fin 64) :
    val_main_v129 (F := Ideal) x0 x1 (ix4 (sequenceOf R) (position R) h j) = product x0 x1 R ⟨768 + (h.val * 64 + j.val), by omega⟩ := by
  unfold val_main_v129
  rw [heads8_apply, val_main_v59_apply, ← v55_eq]
  refine congrArg _ ?_
  funext a
  match a with
  | ⟨0, _⟩ => rfl
  | ⟨1, _⟩ => rfl
  | ⟨2, _⟩ => rfl

/-- A head of the second keys. -/
theorem v147_eq (R : Fin 32768) (h : Fin 2) (j : Fin 64) :
    val_main_v147 (F := Ideal) x0 x1 (ix4 (sequenceOf R) (position R) h j) = product x0 x1 R ⟨1280 + (h.val * 64 + j.val), by omega⟩ := by
  unfold val_main_v147
  rw [heads2_apply, val_main_v60_apply, ← v55_eq]
  refine congrArg _ ?_
  funext a
  match a with
  | ⟨0, _⟩ => rfl
  | ⟨1, _⟩ => rfl
  | ⟨2, _⟩ => rfl

/-- A head of the second values. -/
theorem v165_eq (R : Fin 32768) (h : Fin 2) (j : Fin 64) :
    val_main_v165 (F := Ideal) x0 x1 (ix4 (sequenceOf R) (position R) h j) = product x0 x1 R ⟨1408 + (h.val * 64 + j.val), by omega⟩ := by
  unfold val_main_v165
  rw [heads2_apply, val_main_v61_apply, ← v55_eq]
  refine congrArg _ ?_
  funext a
  match a with
  | ⟨0, _⟩ => rfl
  | ⟨1, _⟩ => rfl
  | ⟨2, _⟩ => rfl

/-- The first queries are normed and turned. -/
theorem v94_form : val_main_v94 (F := Ideal) x0 x1 x2 = turned8 (val_main_v35 (F := Ideal)) (normed8 x2 (val_main_v62 (F := Ideal) x0 x1)) := rfl

/-- The first keys are normed and turned. -/
theorem v127_form : val_main_v127 (F := Ideal) x0 x1 x3 = turned2 (val_main_v35 (F := Ideal)) (normed2 x3 (val_main_v95 (F := Ideal) x0 x1)) := rfl

/-- The second queries are turned. -/
theorem v146_form : val_main_v146 (F := Ideal) x0 x1 = turned8 (val_main_v51 (F := Ideal)) (val_main_v129 (F := Ideal) x0 x1) := rfl

/-- The second keys are turned. -/
theorem v164_form : val_main_v164 (F := Ideal) x0 x1 = turned2 (val_main_v51 (F := Ideal)) (val_main_v147 (F := Ideal) x0 x1) := rfl

/-- The first angles' cosines at a row. -/
def cos2 (R : Fin 32768) (k : Fin 32) : EReal := (Host.cos (val_main_v35 (F := Ideal)) : FVec Ideal S4096x32 .f32) (ix2 (position R) k)
/-- The first angles' sines at a row. -/
def sin2 (R : Fin 32768) (k : Fin 32) : EReal := (Host.sin (val_main_v35 (F := Ideal)) : FVec Ideal S4096x32 .f32) (ix2 (position R) k)
/-- The second angles' cosines at a row. -/
def cos1 (R : Fin 32768) (k : Fin 32) : EReal := (Host.cos (val_main_v51 (F := Ideal)) : FVec Ideal S4096x32 .f32) (ix2 (position R) k)
/-- The second angles' sines at a row. -/
def sin1 (R : Fin 32768) (k : Fin 32) : EReal := (Host.sin (val_main_v51 (F := Ideal)) : FVec Ideal S4096x32 .f32) (ix2 (position R) k)

/-- The first queries in the result. -/
theorem v182_eq (R : Fin 32768) (c : Fin 512) (C : Fin 2048) (h : C.val = c.val) :
    val_main_v182 (F := Ideal) x0 x1 x2 (ix2 R c)
      = turnHead (cos2 R) (sin2 R) (normHead (fun k => x2 (ix2 0 k)) (headAt (product x0 x1 R) C)) ⟨C.val % 64, Nat.mod_lt _ (by decide)⟩
        * (((Real.log 256)⁻¹ : ℝ) : EReal) := by
  have hc := c.isLt
  unfold val_main_v182
  rw [flat8_apply, val_main_v171_apply, val_main_v167_apply, val_main_v166_apply, val_main_cst_18_apply, val_main_v170_apply, val_main_v169_apply,
    val_main_v168_apply, val_main_cst_19_apply, v94_form, turned8_apply]
  refine (ProjC.scale_eq _).trans (congrArg (· * _) ?_)
  have eh : (fun k => val_main_v62 (F := Ideal) x0 x1 (ix4 (sequenceOf R) (position R) ⟨c.val / 64, by omega⟩ k)) = headAt (product x0 x1 R) C := by
    funext k
    rw [v62_eq]
    refine congrArg (product x0 x1 R) (Fin.ext ?_)
    show c.val / 64 * 64 + k.val = base C.val + k.val
    unfold base
    rw [h, if_pos (by omega)]
    omega
  have en : (fun k => normed8 x2 (val_main_v62 (F := Ideal) x0 x1) (ix4 (sequenceOf R) (position R) ⟨c.val / 64, by omega⟩ k))
      = normHead (fun k => x2 (ix2 0 k)) (headAt (product x0 x1 R) C) := by
    funext k
    rw [normed8_apply, eh]
  show turnHead (cos2 R) (sin2 R) (fun k => normed8 x2 (val_main_v62 (F := Ideal) x0 x1) (ix4 (sequenceOf R) (position R) ⟨c.val / 64, by omega⟩ k)) ⟨c.val % 64, by omega⟩ = _
  rw [en]
  simp only [h]

/-- The first keys in the result. -/
theorem v183_eq (R : Fin 32768) (c : Fin 256) (C : Fin 2048) (h : C.val = 512 + c.val) :
    val_main_v183 (F := Ideal) x0 x1 x3 (ix2 R c)
      = turnHead (cos2 R) (sin2 R) (normHead (fun k => x3 (ix2 0 k)) (headAt (product x0 x1 R) C)) ⟨C.val % 64, Nat.mod_lt _ (by decide)⟩ := by
  have hc := c.isLt
  show twice (val_main_v127 (F := Ideal) x0 x1 x3) (ix2 R c) = _
  rw [twice_apply, v127_form, turned2_apply]
  have eh : (fun k => val_main_v95 (F := Ideal) x0 x1 (ix4 (sequenceOf R) (position R) ⟨c.val / 128, by omega⟩ k)) = headAt (product x0 x1 R) C := by
    funext k
    rw [v95_eq]
    refine congrArg (product x0 x1 R) (Fin.ext ?_)
    show 512 + (c.val / 128 * 64 + k.val) = base C.val + k.val
    unfold base
    rw [h, if_neg (by omega), if_pos (by omega)]
    omega
  have en : (fun k => normed2 x3 (val_main_v95 (F := Ideal) x0 x1) (ix4 (sequenceOf R) (position R) ⟨c.val / 128, by omega⟩ k))
      = normHead (fun k => x3 (ix2 0 k)) (headAt (product x0 x1 R) C) := by
    funext k
    rw [normed2_apply, eh]
  show turnHead (cos2 R) (sin2 R) (fun k => normed2 x3 (val_main_v95 (F := Ideal) x0 x1) (ix4 (sequenceOf R) (position R) ⟨c.val / 128, by omega⟩ k)) ⟨c.val % 64, by omega⟩ = _
  rw [en]
  exact congrArg (turnHead _ _ _) (Fin.ext (by show c.val % 64 = C.val % 64; omega))

/-- The first values in the result. -/
theorem v184_eq (R : Fin 32768) (c : Fin 256) (C : Fin 2048) (h : C.val = 768 + c.val) :
    val_main_v184 (F := Ideal) x0 x1 (ix2 R c) = headAt (product x0 x1 R) C ⟨C.val % 64, Nat.mod_lt _ (by decide)⟩ := by
  have hc := c.isLt
  show twice (val_main_v128 (F := Ideal) x0 x1) (ix2 R c) = _
  rw [twice_apply]
  refine (v128_eq x0 x1 R ⟨c.val / 128, by omega⟩ ⟨c.val % 64, by omega⟩).trans ?_
  refine congrArg (product x0 x1 R) (Fin.ext ?_)
  show 640 + (c.val / 128 * 64 + c.val % 64) = base C.val + C.val % 64
  unfold base
  rw [h, if_neg (by omega), if_neg (by omega), if_pos (by omega)]
  omega

/-- The second queries in the result. -/
theorem v185_eq (R : Fin 32768) (c : Fin 512) (C : Fin 2048) (h : C.val = 1024 + c.val) :
    val_main_v185 (F := Ideal) x0 x1 (ix2 R c)
      = turnHead (cos1 R) (sin1 R) (headAt (product x0 x1 R) C) ⟨C.val % 64, Nat.mod_lt _ (by decide)⟩ * (((Real.log 256)⁻¹ : ℝ) : EReal) := by
  have hc := c.isLt
  unfold val_main_v185
  rw [flat8_apply, val_main_v177_apply, val_main_v173_apply, val_main_v172_apply, val_main_cst_20_apply, val_main_v176_apply, val_main_v175_apply,
    val_main_v174_apply, val_main_cst_21_apply, v146_form, turned8_apply]
  refine (ProjC.scale_eq _).trans (congrArg (· * _) ?_)
  have eh : (fun k => val_main_v129 (F := Ideal) x0 x1 (ix4 (sequenceOf R) (position R) ⟨c.val / 64, by omega⟩ k)) = headAt (product x0 x1 R) C := by
    funext k
    rw [v129_eq]
    refine congrArg (product x0 x1 R) (Fin.ext ?_)
    show 768 + (c.val / 64 * 64 + k.val) = base C.val + k.val
    unfold base
    rw [h, if_neg (by omega), if_neg (by omega), if_neg (by omega), if_pos (by omega)]
    omega
  show turnHead (cos1 R) (sin1 R) (fun k => val_main_v129 (F := Ideal) x0 x1 (ix4 (sequenceOf R) (position R) ⟨c.val / 64, by omega⟩ k)) ⟨c.val % 64, by omega⟩ = _
  rw [eh]
  exact congrArg (turnHead _ _ _) (Fin.ext (by show c.val % 64 = C.val % 64; omega))

/-- The second keys in the result. -/
theorem v186_eq (R : Fin 32768) (c : Fin 256) (C : Fin 2048) (h : C.val = 1536 + c.val) :
    val_main_v186 (F := Ideal) x0 x1 (ix2 R c)
      = turnHead (cos1 R) (sin1 R) (headAt (product x0 x1 R) C) ⟨C.val % 64, Nat.mod_lt _ (by decide)⟩ := by
  have hc := c.isLt
  show twice (val_main_v164 (F := Ideal) x0 x1) (ix2 R c) = _
  rw [twice_apply, v164_form, turned2_apply]
  have eh : (fun k => val_main_v147 (F := Ideal) x0 x1 (ix4 (sequenceOf R) (position R) ⟨c.val / 128, by omega⟩ k)) = headAt (product x0 x1 R) C := by
    funext k
    rw [v147_eq]
    refine congrArg (product x0 x1 R) (Fin.ext ?_)
    show 1280 + (c.val / 128 * 64 + k.val) = base C.val + k.val
    unfold base
    rw [h, if_neg (by omega), if_neg (by omega), if_neg (by omega), if_neg (by omega), if_pos (by omega)]
    omega
  show turnHead (cos1 R) (sin1 R) (fun k => val_main_v147 (F := Ideal) x0 x1 (ix4 (sequenceOf R) (position R) ⟨c.val / 128, by omega⟩ k)) ⟨c.val % 64, by omega⟩ = _
  rw [eh]
  exact congrArg (turnHead _ _ _) (Fin.ext (by show c.val % 64 = C.val % 64; omega))

/-- The second values in the result. -/
theorem v187_eq (R : Fin 32768) (c : Fin 256) (C : Fin 2048) (h : C.val = 1792 + c.val) :
    val_main_v187 (F := Ideal) x0 x1 (ix2 R c) = headAt (product x0 x1 R) C ⟨C.val % 64, Nat.mod_lt _ (by decide)⟩ := by
  have hc := c.isLt
  show twice (val_main_v165 (F := Ideal) x0 x1) (ix2 R c) = _
  rw [twice_apply]
  refine (v165_eq x0 x1 R ⟨c.val / 128, by omega⟩ ⟨c.val % 64, by omega⟩).trans ?_
  refine congrArg (product x0 x1 R) (Fin.ext ?_)
  show 1408 + (c.val / 128 * 64 + c.val % 64) = base C.val + C.val % 64
  unfold base
  rw [h, if_neg (by omega), if_neg (by omega), if_neg (by omega), if_neg (by omega), if_neg (by omega)]
  omega

/-- The reference's result. -/
theorem reference_eq (R : Fin 32768) (C : Fin 2048) :
    val_main_v189 (F := Ideal) x0 x1 x2 x3 (ix2 R C)
      = entry (product x0 x1 R) (fun k => x2 (ix2 0 k)) (fun k => x3 (ix2 0 k)) (cos2 R) (sin2 R) (cos1 R) (sin1 R) C := by
  have hC := C.isLt
  rw [val_main_v189_apply]
  show val_main_v188 (F := Ideal) x0 x1 x2 x3 (ix2 R C) = _
  unfold val_main_v188
  have e1 := v182_eq x0 x1 x2 R
  have e2 := v183_eq x0 x1 x3 R
  have e3 := v184_eq x0 x1 R
  have e4 := v185_eq x0 x1 R
  have e5 := v186_eq x0 x1 R
  have e6 := v187_eq x0 x1 R
  generalize val_main_v182 (F := Ideal) x0 x1 x2 = y1 at *
  generalize val_main_v183 (F := Ideal) x0 x1 x3 = y2 at *
  generalize val_main_v184 (F := Ideal) x0 x1 = y3 at *
  generalize val_main_v185 (F := Ideal) x0 x1 = y4 at *
  generalize val_main_v186 (F := Ideal) x0 x1 = y5 at *
  generalize val_main_v187 (F := Ideal) x0 x1 = y6 at *
  unfold entry
  pointwise
  by_cases h1 : C.val < 512
  · rw [dif_pos h1, if_pos h1]
    exact e1 _ C rfl
  rw [dif_neg h1, if_neg h1]
  by_cases h2 : C.val < 768
  · rw [dif_pos (by omega), if_pos h2]
    exact e2 _ C (by show C.val = 512 + (C.val - 512); omega)
  rw [dif_neg (by omega), if_neg h2]
  by_cases h3 : C.val < 1024
  · rw [dif_pos (by omega), if_pos h3]
    exact e3 _ C (by show C.val = 768 + (C.val - 512 - 256); omega)
  rw [dif_neg (by omega), if_neg h3]
  by_cases h4 : C.val < 1536
  · rw [dif_pos (by omega), if_pos h4]
    exact e4 _ C (by show C.val = 1024 + (C.val - 512 - 256 - 256); omega)
  rw [dif_neg (by omega), if_neg h4]
  by_cases h5 : C.val < 1792
  · rw [dif_pos (by omega), if_pos h5]
    exact e5 _ C (by show C.val = 1536 + (C.val - 512 - 256 - 256 - 512); omega)
  rw [dif_neg (by omega), if_neg h5]
  exact e6 _ C (by show C.val = 1792 + (C.val - 512 - 256 - 256 - 512 - 256); omega)

end Cert.Own.AbProjRef

end
-- ==== Proof.AbClaim.lean ====
/- The claims of the projection to the first attentions' queries, keys and values: with a finite input and finite weights of the first
   queries and keys, what it computes is what the reference computes. -/
module

public import proofs.«01_k».proof.Defs
public import proofs.«01_k».proof.Proof.AbHost
public import proofs.«01_k».proof.Proof.AbRef
public import proofs.«01_k».proof.Proof.Finite
public import proofs.«01_k».proof.Proof.Gen.AbProj.Frame
public import proofs.«01_k».proof.Proof.Gen.AbProjIdeal.Value
public import proofs.«01_k».proof.Proof.Gen.AbProjRefIdeal.Run
public import proofs.«01_k».proof.Proof.Gen.Pre_finite_norm
public import Idealize.ShloMosaic.PureOps.IdealRules

@[expose] public section

set_option maxRecDepth 16384

noncomputable section

namespace Cert.Own.AbProj

open Idealize.ShloMosaic Idealize.ShloMosaic.TcCoe Idealize.SL.Sem

/-- What the precondition says: the input and the weights of the first queries and keys are real numbers. -/
structure Real (x0 : FVec Ideal AbProjIdeal.S32768x1024 .f32) (x1 : FVec Ideal AbProjIdeal.S2x1024x1536 .f32) : Prop where
  /-- The input. -/
  input : ∀ (R : Fin 32768) (k : Fin 1024), Mix.IsReal (x0 (ix2 R k))
  /-- The weights. -/
  weights : ∀ (k : Fin 1024) (d : Fin 640), Mix.IsReal (x1 (ix3 0 k ⟨d.val, by omega⟩))

/-- The precondition gives it. -/
theorem real_of_pre (x0 : FVec Ideal AbProjIdeal.S32768x1024 .f32) (x1 : FVec Ideal AbProjIdeal.S2x1024x1536 .f32) (x2 x3 : FVec Ideal AbProjIdeal.S2x64 .f32)
    (h : (Cert.Pre_finite_norm.fn (F := Ideal) x0 x1 x2 x3).1 = (fun _ => 1#1) ∧ (Cert.Pre_finite_norm.fn (F := Ideal) x0 x1 x2 x3).2 = (fun _ => 1#1)) :
    Real x0 x1 where
  input R k := real_of_abs_lt (congrFun h.1 (ix2 R k))
  weights k d := by
    have e1 : shapeCast Pre_finite_norm.S1024x640 (extractStridedSlice Pre_finite_norm.S1x1024x640 ![0, 0, 0] x1
        Pre_finite_norm.Facts.slices_S2x1024x1536_S1x1024x640_0_0_0) Pre_finite_norm.Facts.shapeCasts_S1x1024x640_S1024x640 (ix2 k d)
          = x1 (ix3 0 k ⟨d.val, by omega⟩) := by pointwise
    rw [← e1]
    exact real_of_abs_lt (congrFun h.2 (ix2 k d))

/-- Element by element, the kernel's result is the reference's. -/
theorem result_eq (x0 : FVec Ideal AbProjIdeal.S32768x1024 .f32) (x1 : FVec Ideal AbProjIdeal.S2x1024x1536 .f32) (x2 x3 : FVec Ideal AbProjIdeal.S2x64 .f32)
    (h : Real x0 x1) (R : Fin 32768) (C : Fin 2048) :
    result x0 (gathered x1) (fun i => FloatOps.ofBits (F := Ideal) .bf16 (AbProjIdeal.lit0 (AbProjIdeal.S128x128.rowMajor i))) (gain x2) (gain x3)
      (doubled (F := Ideal) (Host.cos angles2) (Host.cos angles2)) (doubled (F := Ideal) (Host.negf (Host.sin angles2)) zeros) (doubled (F := Ideal) zeros (Host.sin angles2))
      (doubled (F := Ideal) (Host.cos angles1) (Host.cos angles1)) (doubled (F := Ideal) (Host.negf (Host.sin angles1)) zeros) (doubled (F := Ideal) zeros (Host.sin angles1)) R C
    = AbProjRefIdeal.Read.val_main_v189 (F := Ideal) x0 x1 x2 x3 (ix2 R C) := by
  rw [AbProjRef.reference_eq]
  unfold result
  refine ending_eq (AbProjRef.product x0 x1 R) _ _ _ _ _ _ _ (fun k j => ?_) _ _ (fun j => gain_at x2 j) (fun j => gain_at x3 j)
    _ _ _ _ _ _ (fun j => ?_) (fun j => ?_) (fun j => ?_) (fun j => ?_) (fun j => ?_) (fun j => ?_) C _ (fun l => ?_) (fun d => ?_)
  · rw [← lit_widthth, ← lit_zero_bf16]
    exact matrix_apply k j
  · rw [doubled_apply, ite_self]
    rfl
  · rw [doubled_apply, zeros_apply]
    rfl
  · rw [doubled_apply, zeros_apply]
    rfl
  · rw [doubled_apply, ite_self]
    rfl
  · rw [doubled_apply, zeros_apply]
    rfl
  · rw [doubled_apply, zeros_apply]
    rfl
  · unfold headAt AbProjRef.product
    refine Finset.sum_congr rfl fun k _ => ?_
    rw [gathered_apply]
    refine congrArg (x0 (ix2 R k) * ·) ?_
    have hl := l.isLt
    refine congrArg (fun d => x1 (ix3 0 k d)) (Fin.ext ?_)
    show base _ + (128 * (groupOf C).val + l.val) % 64 = base _ + l.val % 64
    omega
  · exact Mix.IsReal.sum fun k => (h.input R k).mul (h.weights k d)

/-- The kernel's result array is the reference's. -/
theorem arrays_eq (m : (ℓ : Loc AbProjIdeal.nD AbProjIdeal.τ AbProjIdeal.sig) → Buf (Elt Ideal) ℓ) (c : Dev AbProjIdeal.nD)
    (h : Real (m ((c.tc : Thread AbProjIdeal.nD AbProjIdeal.τ).loc AbProjIdeal.main_arg0))
        (m ((c.tc : Thread AbProjIdeal.nD AbProjIdeal.τ).loc AbProjIdeal.main_arg1))) :
    AbProjRefIdeal.Read.val_main_v189 (F := Ideal) (m ((c.tc : Thread AbProjIdeal.nD AbProjIdeal.τ).loc AbProjIdeal.main_arg0))
        (m ((c.tc : Thread AbProjIdeal.nD AbProjIdeal.τ).loc AbProjIdeal.main_arg1))
        (m ((c.tc : Thread AbProjIdeal.nD AbProjIdeal.τ).loc AbProjIdeal.main_arg2))
        (m ((c.tc : Thread AbProjIdeal.nD AbProjIdeal.τ).loc AbProjIdeal.main_arg3))
      = (AbProjIdeal.Gen.dats m 0 c).arrAt 11 AbProjIdeal.cfg0.N := by
  rw [array_eq, AbProjIdeal.Gen.V_main_arg0, V_weights, V_matrix, V_queryGain, V_keyGain, V_cos2, V_low2, V_high2, V_cos1, V_low1, V_high1]
  funext i
  obtain ⟨R, C, rfl⟩ : ∃ (R : Fin 32768) (C : Fin 2048), i = ix2 R C :=
    ⟨i 0, i 1, by funext a; match a with | ⟨0, _⟩ => rfl | ⟨1, _⟩ => rfl⟩
  exact (result_eq _ _ _ _ h R C).symm

/-- The value claim. -/
theorem algebraic : Cert.algebraic_AbProjIdeal_AbProjRefIdeal_pre_finite_norm (hAbProjIdeal := Cert.AbProjIdeal.Gen.facts)
    (hAbProjRefIdeal := Cert.AbProjRefIdeal.Gen.facts) (hPre_finite_norm := Cert.Pre_finite_norm.Gen.facts) := by
  intro m ρ m' ρ' hpre hagree
  refine ⟨fun c => (AbProjIdeal.Gen.dats m 0 c).arrAt 11 AbProjIdeal.cfg0.N, AbProjIdeal.Value.run_blocks m ρ, ?_⟩
  refine (θ_run _ _ _).mono (fun r h c => ⟨?_, (h c).2⟩) (AbProjRefIdeal.Value.run (F := Ideal) m' ρ')
  obtain ⟨a0, a1, a2, a3⟩ := hagree c
  have hv : r.2.mem ((c.tc : Thread AbProjRefIdeal.nD AbProjRefIdeal.τ).loc AbProjRefIdeal.main_v189)
    = AbProjRefIdeal.Read.val_main_v189 (F := Ideal) (m' ((c.tc : Thread AbProjRefIdeal.nD AbProjRefIdeal.τ).loc AbProjRefIdeal.main_arg0))
      (m' ((c.tc : Thread AbProjRefIdeal.nD AbProjRefIdeal.τ).loc AbProjRefIdeal.main_arg1))
      (m' ((c.tc : Thread AbProjRefIdeal.nD AbProjRefIdeal.τ).loc AbProjRefIdeal.main_arg2))
      (m' ((c.tc : Thread AbProjRefIdeal.nD AbProjRefIdeal.τ).loc AbProjRefIdeal.main_arg3)) :=
    (h c).1.trans (AbProjRefIdeal.Read.val_main_v189_eq (StableHlo.launchContents m' c))
  rw [a0, a1, a2, a3] at hv
  refine hv.trans ?_
  exact arrays_eq m c (real_of_pre _ _ _ _ (hpre c))

/-- The constant that the idealized program names is the one it rounds. -/
theorem preserves : Cert.preserves_AbProj_AbProjIdeal :=
  IdealRules.named_const.statement AbProjIdeal.κ "c" .f32 0x3E38AA3B#32 _ rfl

/-- The reference leaves its arguments as they were and every semaphore at zero. -/
theorem ref_frame (m : (ℓ : Loc AbProjRefIdeal.nD AbProjRefIdeal.τ AbProjRefIdeal.sig) → Buf (Elt Ideal) ℓ) (ρ : Dev AbProjRefIdeal.nD → PrngReg) :
    θ_run AbProjRefIdeal.defs (onTc (τ := AbProjRefIdeal.τ) (AbProjRefIdeal.main (F := Ideal))) ⟨m, fun _ => 0, ρ⟩ fun r =>
      (∀ c : Dev AbProjRefIdeal.nD,
        r.2.mem ((c.tc : Thread AbProjRefIdeal.nD AbProjRefIdeal.τ).loc AbProjRefIdeal.main_arg0) = m ((c.tc : Thread AbProjRefIdeal.nD AbProjRefIdeal.τ).loc AbProjRefIdeal.main_arg0)
        ∧ r.2.mem ((c.tc : Thread AbProjRefIdeal.nD AbProjRefIdeal.τ).loc AbProjRefIdeal.main_arg1) = m ((c.tc : Thread AbProjRefIdeal.nD AbProjRefIdeal.τ).loc AbProjRefIdeal.main_arg1)
        ∧ r.2.mem ((c.tc : Thread AbProjRefIdeal.nD AbProjRefIdeal.τ).loc AbProjRefIdeal.main_arg2) = m ((c.tc : Thread AbProjRefIdeal.nD AbProjRefIdeal.τ).loc AbProjRefIdeal.main_arg2)
        ∧ r.2.mem ((c.tc : Thread AbProjRefIdeal.nD AbProjRefIdeal.τ).loc AbProjRefIdeal.main_arg3) = m ((c.tc : Thread AbProjRefIdeal.nD AbProjRefIdeal.τ).loc AbProjRefIdeal.main_arg3))
      ∧ r.2.sem = fun _ => 0 :=
  (θ_run _ _ _).mono (fun r h => ⟨fun c => (h c).2, Idealize.ShloMosaic.sem_eq_zero_of_no_sems (by decide) r.2⟩)
    (AbProjRefIdeal.Value.run (F := Ideal) m ρ)

end Cert.Own.AbProj

end
-- ==== Proof.MixAbBlock.lean ====
/- What the memory attention's kernel computes for one block of rows after the two attentions, read at an index. -/
module

public import proofs.«01_k».proof.Proof.Gen.MixAbIdeal.Frame
public import proofs.«01_k».proof.Proof.Consts
public import proofs.«01_k».proof.Proof.MixRow
public import Idealize.ShloMosaic.PureOps.IdealRules
public import Idealize.ShloMosaic.Lib.Pointwise
public import Idealize.ShloMosaic.Lib.Pipeline.Value

@[expose] public section

set_option maxRecDepth 16384

noncomputable section

namespace Cert.Own.MixAb

open Cert.MixAbIdeal Cert.MixAbIdeal.Gen Idealize.ShloMosaic
open scoped BigOperators

variable {F : FTy → Type} [FloatOps F] [Named F]

/-- The weights of one head: two to the power of the scores less the largest of the row. -/
def weights (q k : FVec F S256x256 .bf16) : FVec F S256x256 .f32 :=
  let s := matmul dot_S256x256_S256x256_S256x256_1_1_0_0_n_n none q k (constant S256x256 .f32 0x00000000#32)
  exp2 (subf s (broadcastTo S256x256 (shapeCast S256x1
    (multiReduction .maximumf [1] S256 s 0xFF800000#32 reduces_S256x256_S256 (.inl rfl) rfl) shapeCasts_S256_S256x1) broadcasts_S256x1_S256x256))

/-- One head. -/
def head (q k v : FVec F S256x256 .bf16) : FVec F S256x256 .bf16 :=
  truncf .bf16 (divf
    (matmul dot_S256x256_S256x256_S256x256_1_0_0_1_n_n none (truncf .bf16 (weights q k) bitsLt_bf16_f32) v (constant S256x256 .f32 0x00000000#32))
    (broadcastTo S256x256 (shapeCast S256x1
      (multiReduction .add [1] S256 (weights q k) 0x00000000#32 reduces_S256x256_S256 (.inl rfl) rfl) shapeCasts_S256_S256x1) broadcasts_S256x1_S256x256))
    bitsLt_bf16_f32

/-- The four heads side by side. -/
def heads (q : FVec F S256x1024 .bf16) (k v : Vec F S256x1024 .bf16) : FVec F S256x1024 .bf16 :=
  concatenate S256x1024 1 [
    ⟨S256x256, head (extractStridedSlice S256x256 ![0, 0] q slices_S256x1024_o0_0_S256x256) (View.ld k r0_11) (View.ld v r0_11)⟩,
    ⟨S256x256, head (extractStridedSlice S256x256 ![0, 256] q slices_S256x1024_o0_256_S256x256) (View.ld k r0_12) (View.ld v r0_12)⟩,
    ⟨S256x256, head (extractStridedSlice S256x256 ![0, 512] q slices_S256x1024_o0_512_S256x256) (View.ld k r0_13) (View.ld v r0_13)⟩,
    ⟨S256x256, head (extractStridedSlice S256x256 ![0, 768] q slices_S256x1024_o0_768_S256x256) (View.ld k r0_14) (View.ld v r0_14)⟩]
    concatenates_S256x256_S256x256_S256x256_S256x256_S256x1024_d1

/-- The first layer norm of a slab of rows. -/
def first (a0 a1 : Vec F S256x512 .bf16) (x : Vec F S256x1024 .f32) (w0 w1 : Vec F S512x1024 .bf16) (g1 b1 : Vec F S1x1024 .f32) :
    FVec F S256x1024 .f32 :=
  k0_pay7 (k0_pay3 a0 (View.ld w0 r0_1) a1 (View.ld w1 r0_1)) x (View.ld g1 r0_6) (View.ld b1 r0_6)

/-- A slab of the output from the first layer norm. -/
def second (h : FVec F S256x1024 .f32) (wq : Vec F S1024x1024 .bf16) (k v : Vec F S256x1024 .bf16) (wo : Vec F S1024x1024 .bf16)
    (g2 b2 : Vec F S1x1024 .f32) : FVec F S256x1024 .f32 :=
  k0_pay49 h (k0_pay40 (heads (k0_pay16 h (View.ld wq r0_10)) k v) (View.ld wo r0_10)) (View.ld g2 r0_6) (View.ld b2 r0_6)

/-- The output block is its four slabs. -/
theorem out_eq (x0 x1 : Vec F S1024x512 .bf16) (x2 x3 : Vec F S512x1024 .bf16) (x4 : Vec F S1024x1024 .f32) (x5 x6 : Vec F S1x1024 .f32)
    (x7 : Vec F S1024x1024 .bf16) (x8 x9 : Vec F S256x1024 .bf16) (x10 : Vec F S1024x1024 .bf16) (x11 x12 : Vec F S1x1024 .f32) :
    out0_13 x0 x1 x2 x3 x4 x5 x6 x7 x8 x9 x10 x11 x12 = View.canon [
      ⟨r0_9, second (first (View.ld x0 r0_4) (View.ld x1 r0_4) (View.ld x4 r0_9) x2 x3 x5 x6) x7 x8 x9 x10 x11 x12⟩,
      ⟨r0_8, second (first (View.ld x0 r0_3) (View.ld x1 r0_3) (View.ld x4 r0_8) x2 x3 x5 x6) x7 x8 x9 x10 x11 x12⟩,
      ⟨r0_7, second (first (View.ld x0 r0_2) (View.ld x1 r0_2) (View.ld x4 r0_7) x2 x3 x5 x6) x7 x8 x9 x10 x11 x12⟩,
      ⟨r0_5, second (first (View.ld x0 r0_0) (View.ld x1 r0_0) (View.ld x4 r0_5) x2 x3 x5 x6) x7 x8 x9 x10 x11 x12⟩] := by
  rfl

/-! ## Read at an index, over the extended reals -/

/-- The first layer norm at an index. -/
theorem first_apply (a0 a1 : Vec Ideal S256x512 .bf16) (x : Vec Ideal S256x1024 .f32) (w0 w1 : Vec Ideal S512x1024 .bf16)
    (g1 b1 : Vec Ideal S1x1024 .f32) (r : Fin 256) (c : Fin 1024) :
    first a0 a1 x w0 w1 g1 b1 (ix2 r c)
      = layerNorm (fun k => Ideal.ofBits .f32 0x3FD744FD#32 * x (ix2 r k)
            + ((∑ e : Fin 512, a0 (ix2 r e) * w0 (ix2 e k)) + ∑ e : Fin 512, a1 (ix2 r e) * w1 (ix2 e k)))
          (fun k => g1 (ix2 0 k)) (fun k => b1 (ix2 0 k)) c := by
  unfold first k0_pay7 k0_pay3 layerNorm mean
  pointwise

/-- The queries at an index. -/
theorem queries_apply (h : FVec Ideal S256x1024 .f32) (wq : Vec Ideal S1024x1024 .bf16) (r : Fin 256) (c : Fin 1024) :
    k0_pay16 h (View.ld wq r0_10) (ix2 r c)
      = (∑ k : Fin 1024, h (ix2 r k) * wq (ix2 k c)) * (((Real.log 65536)⁻¹ : ℝ) : EReal) := by
  unfold k0_pay16
  rw [IdealRules.named_const.ideal_named_scalar κ "s" (φ := .f32) 0x3DB8AA3B#32 _ rfl]
  pointwise

/-- The weights of one head at an index. -/
theorem weights_apply (q k : FVec Ideal S256x256 .bf16) (r t : Fin 256) :
    weights q k (ix2 r t) = Ideal.exp2 ((∑ e : Fin 256, q (ix2 r e) * k (ix2 t e))
      - Finset.univ.fold max ⊥ fun t' : Fin 256 => ∑ e : Fin 256, q (ix2 r e) * k (ix2 t' e)) := by
  unfold weights
  pointwise
  rw [lit_bot]
  rfl

/-- One head at an index. -/
theorem head_apply (q k v : FVec Ideal S256x256 .bf16) (r c : Fin 256) :
    head q k v (ix2 r c)
      = Ideal.div (∑ t : Fin 256, weights q k (ix2 r t) * v (ix2 t c)) (∑ t : Fin 256, weights q k (ix2 r t)) := by
  unfold head
  generalize weights q k = w
  pointwise

/-- The output's layer norm at an index. -/
theorem last_apply (h : FVec Ideal S256x1024 .f32) (o : FVec Ideal S256x1024 .bf16) (wo : Vec Ideal S1024x1024 .bf16)
    (g2 b2 : Vec Ideal S1x1024 .f32) (r : Fin 256) (c : Fin 1024) :
    k0_pay49 h (k0_pay40 o (View.ld wo r0_10)) (View.ld g2 r0_6) (View.ld b2 r0_6) (ix2 r c)
      = layerNorm (fun k => Ideal.ofBits .f32 0x3FD744FD#32 * h (ix2 r k) + ∑ d : Fin 1024, o (ix2 r d) * wo (ix2 d k))
          (fun k => g2 (ix2 0 k)) (fun k => b2 (ix2 0 k)) c := by
  unfold k0_pay49 k0_pay40 layerNorm mean
  pointwise

/-- One head of a slab's queries, keys and values, at an index. -/
theorem head_at (q : FVec Ideal S256x1024 .bf16) (k v : Vec Ideal S256x1024 .bf16) (n : Fin 4) (q' k' v' : FVec Ideal S256x256 .bf16)
    (hq : ∀ r e : Fin 256, q' (ix2 r e) = q (ix2 r (Mix.col n e))) (hk : ∀ t e : Fin 256, k' (ix2 t e) = k (ix2 t (Mix.col n e)))
    (hv : ∀ t e : Fin 256, v' (ix2 t e) = v (ix2 t (Mix.col n e))) (r e : Fin 256) (c : Fin 1024) (hc : c.val = n.val * 256 + e.val) :
    head q' k' v' (ix2 r e) = Mix.attend (fun d => q (ix2 r d)) (fun t d => k (ix2 t d)) (fun t d => v (ix2 t d)) c := by
  obtain rfl : c = Mix.col n e := Fin.ext hc
  have hn : Mix.headOf (Mix.col n e) = n := Fin.ext (by show (n.val * 256 + e.val) / 256 = n.val; omega)
  rw [head_apply]
  unfold Mix.attend Mix.weight
  simp only [weights_apply, hq, hk, hv, hn]
  rfl

/-- The four heads at an index. -/
theorem heads_apply (q : FVec Ideal S256x1024 .bf16) (k v : Vec Ideal S256x1024 .bf16) (r : Fin 256) (c : Fin 1024) :
    heads q k v (ix2 r c) = Mix.attend (fun d => q (ix2 r d)) (fun t d => k (ix2 t d)) (fun t d => v (ix2 t d)) c := by
  have hc := c.isLt
  have key : ∀ (x : Vec Ideal S256x1024 .bf16) (n : Fin 4) (a e : Fin 256) (d : Fin 1024), d.val = n.val * 256 + e.val →
      x (ix2 a d) = x (ix2 a (Mix.col n e)) := by
    intro x n a e d hd
    obtain rfl : d = Mix.col n e := Fin.ext hd
    rfl
  unfold heads
  pointwise
  by_cases c0 : c.val < 256
  · rw [dif_pos c0]
    refine head_at q k v 0 _ _ _ (fun r e => ?_) (fun t e => ?_) (fun t e => ?_) r _ c ?_
    · pointwise; exact key q 0 r e _ (by show e.val = 0 * 256 + e.val; omega)
    · pointwise; exact key k 0 t e _ (by show e.val = 0 * 256 + e.val; omega)
    · pointwise; exact key v 0 t e _ (by show e.val = 0 * 256 + e.val; omega)
    · show c.val = 0 * 256 + c.val; omega
  rw [dif_neg c0]
  by_cases c1 : c.val - 256 < 256
  · rw [dif_pos c1]
    refine head_at q k v 1 _ _ _ (fun r e => ?_) (fun t e => ?_) (fun t e => ?_) r _ c ?_
    · pointwise; exact key q 1 r e _ (by show 256 + e.val = 1 * 256 + e.val; omega)
    · pointwise; exact key k 1 t e _ (by show 256 + e.val = 1 * 256 + e.val; omega)
    · pointwise; exact key v 1 t e _ (by show 256 + e.val = 1 * 256 + e.val; omega)
    · show c.val = 1 * 256 + (c.val - 256); omega
  rw [dif_neg c1]
  by_cases c2 : c.val - 256 - 256 < 256
  · rw [dif_pos c2]
    refine head_at q k v 2 _ _ _ (fun r e => ?_) (fun t e => ?_) (fun t e => ?_) r _ c ?_
    · pointwise; exact key q 2 r e _ (by show 512 + e.val = 2 * 256 + e.val; omega)
    · pointwise; exact key k 2 t e _ (by show 512 + e.val = 2 * 256 + e.val; omega)
    · pointwise; exact key v 2 t e _ (by show 512 + e.val = 2 * 256 + e.val; omega)
    · show c.val = 2 * 256 + (c.val - 256 - 256); omega
  rw [dif_neg c2]
  refine head_at q k v 3 _ _ _ (fun r e => ?_) (fun t e => ?_) (fun t e => ?_) r _ c ?_
  · pointwise; exact key q 3 r e _ (by show 768 + e.val = 3 * 256 + e.val; omega)
  · pointwise; exact key k 3 t e _ (by show 768 + e.val = 3 * 256 + e.val; omega)
  · pointwise; exact key v 3 t e _ (by show 768 + e.val = 3 * 256 + e.val; omega)
  · show c.val = 3 * 256 + (c.val - 256 - 256 - 256); omega

/-- A slab of the output at an index. -/
theorem second_apply (h : FVec Ideal S256x1024 .f32) (wq : Vec Ideal S1024x1024 .bf16) (k v : Vec Ideal S256x1024 .bf16)
    (wo : Vec Ideal S1024x1024 .bf16) (g2 b2 : Vec Ideal S1x1024 .f32) (r : Fin 256) (c : Fin 1024) :
    second h wq k v wo g2 b2 (ix2 r c)
      = layerNorm (fun j => Ideal.ofBits .f32 0x3FD744FD#32 * h (ix2 r j)
          + ∑ d, Mix.attend (fun d => (∑ j : Fin 1024, h (ix2 r j) * wq (ix2 j d)) * (((Real.log 65536)⁻¹ : ℝ) : EReal))
              (fun t d => k (ix2 t d)) (fun t d => v (ix2 t d)) d * wo (ix2 d j))
          (fun j => g2 (ix2 0 j)) (fun j => b2 (ix2 0 j)) c := by
  unfold second
  rw [last_apply]
  simp only [heads_apply, queries_apply]

/-- A slab of the output from the block's rows `o` and on is `row` of those rows. -/
theorem slab_apply (x0 x1 : Vec Ideal S1024x512 .bf16) (x2 x3 : Vec Ideal S512x1024 .bf16) (x4 : Vec Ideal S1024x1024 .f32)
    (x5 x6 : Vec Ideal S1x1024 .f32) (x7 : Vec Ideal S1024x1024 .bf16) (x8 x9 : Vec Ideal S256x1024 .bf16)
    (x10 : Vec Ideal S1024x1024 .bf16) (x11 x12 : Vec Ideal S1x1024 .f32) (a0 a1 : Vec Ideal S256x512 .bf16) (x : Vec Ideal S256x1024 .f32)
    (r : Fin 256) (R : Fin 1024) (h0 : ∀ e : Fin 512, a0 (ix2 r e) = x0 (ix2 R e)) (h1 : ∀ e : Fin 512, a1 (ix2 r e) = x1 (ix2 R e))
    (hx : ∀ e : Fin 1024, x (ix2 r e) = x4 (ix2 R e)) (c : Fin 1024) :
    second (first a0 a1 x x2 x3 x5 x6) x7 x8 x9 x10 x11 x12 (ix2 r c)
      = Mix.row (((Real.log 65536)⁻¹ : ℝ) : EReal)
          (fun k => (∑ e : Fin 512, x0 (ix2 R e) * x2 (ix2 e k)) + ∑ e : Fin 512, x1 (ix2 R e) * x3 (ix2 e k)) (fun k => x4 (ix2 R k))
          (fun k => x5 (ix2 0 k)) (fun k => x6 (ix2 0 k)) (fun k d => x7 (ix2 k d)) (fun t d => x8 (ix2 t d)) (fun t d => x9 (ix2 t d))
          (fun d k => x10 (ix2 d k)) (fun k => x11 (ix2 0 k)) (fun k => x12 (ix2 0 k)) c := by
  rw [second_apply]
  unfold Mix.row
  simp only [first_apply, h0, h1, hx]

/-- An element of the output block. -/
def element (x0 x1 : Vec Ideal S1024x512 .bf16) (x2 x3 : Vec Ideal S512x1024 .bf16) (x4 : Vec Ideal S1024x1024 .f32)
    (x5 x6 : Vec Ideal S1x1024 .f32) (x7 : Vec Ideal S1024x1024 .bf16) (x8 x9 : Vec Ideal S256x1024 .bf16)
    (x10 : Vec Ideal S1024x1024 .bf16) (x11 x12 : Vec Ideal S1x1024 .f32) (R : Fin 1024) (c : Fin 1024) : EReal :=
  Mix.row (((Real.log 65536)⁻¹ : ℝ) : EReal)
    (fun k => (∑ e : Fin 512, x0 (ix2 R e) * x2 (ix2 e k)) + ∑ e : Fin 512, x1 (ix2 R e) * x3 (ix2 e k)) (fun k => x4 (ix2 R k))
    (fun k => x5 (ix2 0 k)) (fun k => x6 (ix2 0 k)) (fun k d => x7 (ix2 k d)) (fun t d => x8 (ix2 t d)) (fun t d => x9 (ix2 t d))
    (fun d k => x10 (ix2 d k)) (fun k => x11 (ix2 0 k)) (fun k => x12 (ix2 0 k)) c

/-- A slab that takes the block's rows `o` and on is `element` at those rows. -/
theorem piece_eq (x0 x1 : Vec Ideal S1024x512 .bf16) (x2 x3 : Vec Ideal S512x1024 .bf16) (x4 : Vec Ideal S1024x1024 .f32)
    (x5 x6 : Vec Ideal S1x1024 .f32) (x7 : Vec Ideal S1024x1024 .bf16) (x8 x9 : Vec Ideal S256x1024 .bf16)
    (x10 : Vec Ideal S1024x1024 .bf16) (x11 x12 : Vec Ideal S1x1024 .f32) (o : Nat) (ho : o + 256 ≤ 1024)
    (h : ∀ a : Fin 2, (![o, 0] : Fin 2 → Nat) a + S256x512.size a ≤ S1024x512.size a)
    (h' : ∀ a : Fin 2, (![o, 0] : Fin 2 → Nat) a + S256x1024.size a ≤ S1024x1024.size a)
    (y : S256x1024.Idx) (i : S1024x1024.Idx) (e0 : (i 0).val = o + (y 0).val) (e1 : (i 1).val = (y 1).val) :
    second (first (View.ld x0 (Rect.unit (s := S1024x512) ![o, 0] S256x512.size h))
        (View.ld x1 (Rect.unit (s := S1024x512) ![o, 0] S256x512.size h))
        (View.ld x4 (Rect.unit (s := S1024x1024) ![o, 0] S256x1024.size h')) x2 x3 x5 x6) x7 x8 x9 x10 x11 x12 y
      = element x0 x1 x2 x3 x4 x5 x6 x7 x8 x9 x10 x11 x12 (i 0) (i 1) := by
  obtain ⟨r, c, rfl⟩ : ∃ (r : Fin 256) (c : Fin 1024), y = ix2 r c := ⟨y 0, y 1, by funext a; match a with | ⟨0, _⟩ => rfl | ⟨1, _⟩ => rfl⟩
  obtain ⟨R, C, rfl⟩ : ∃ (R : Fin 1024) (C : Fin 1024), i = ix2 R C := ⟨i 0, i 1, by funext a; match a with | ⟨0, _⟩ => rfl | ⟨1, _⟩ => rfl⟩
  obtain rfl : C = c := Fin.ext e1
  have hR : R = ⟨o + r.val, by omega⟩ := Fin.ext e0
  rw [hR]
  exact slab_apply x0 x1 x2 x3 x4 x5 x6 x7 x8 x9 x10 x11 x12 _ _ _ r _ (fun e => by pointwise) (fun e => by pointwise) (fun e => by pointwise) C

/-- Every element of the output block. -/
theorem out_element (x0 x1 : Vec Ideal S1024x512 .bf16) (x2 x3 : Vec Ideal S512x1024 .bf16) (x4 : Vec Ideal S1024x1024 .f32)
    (x5 x6 : Vec Ideal S1x1024 .f32) (x7 : Vec Ideal S1024x1024 .bf16) (x8 x9 : Vec Ideal S256x1024 .bf16)
    (x10 : Vec Ideal S1024x1024 .bf16) (x11 x12 : Vec Ideal S1x1024 .f32) (r c : Fin 1024) :
    out0_13 x0 x1 x2 x3 x4 x5 x6 x7 x8 x9 x10 x11 x12 (ix2 r c) = element x0 x1 x2 x3 x4 x5 x6 x7 x8 x9 x10 x11 x12 r c := by
  have z : ∀ n : Nat, 0 + 1 * n = n := fun n => by omega
  have w : ∀ o n : Nat, o + 1 * n = o + n := fun o n => by omega
  rw [out_eq]
  refine View.canon_apply_of_pieces (Val := Elt Ideal) (e := .f32)
    (fun y : S1024x1024.Idx => element x0 x1 x2 x3 x4 x5 x6 x7 x8 x9 x10 x11 x12 (y 0) (y 1)) _ ?_ (ix2 r c) (cover0_13 _ _ _ _ (ix2 r c))
  intro p hp y
  simp only [List.mem_cons, List.not_mem_nil, or_false] at hp
  rcases hp with rfl | rfl | rfl | rfl
  · exact piece_eq x0 x1 x2 x3 x4 x5 x6 x7 x8 x9 x10 x11 x12 768 (by omega) _ _ y _ (w _ _) (z _)
  · exact piece_eq x0 x1 x2 x3 x4 x5 x6 x7 x8 x9 x10 x11 x12 512 (by omega) _ _ y _ (w _ _) (z _)
  · exact piece_eq x0 x1 x2 x3 x4 x5 x6 x7 x8 x9 x10 x11 x12 256 (by omega) _ _ y _ (w _ _) (z _)
  · exact piece_eq x0 x1 x2 x3 x4 x5 x6 x7 x8 x9 x10 x11 x12 0 (by omega) _ _ y _ (w _ _) (z _)

end Cert.Own.MixAb

end
-- ==== Proof.MixAbArray.lean ====
/- The memory attention's kernel after the two attentions: its result array, element by element, from its arguments. -/
module

public import proofs.«01_k».proof.Proof.Gen.MixAbIdeal.Value
public import proofs.«01_k».proof.Proof.MixAbBlock
public import Idealize.ShloMosaic.Lib.StableHlo.Run
public import Idealize.ShloMosaic.Lib.StableHlo.RunRead
public import Idealize.ShloMosaic.Lib.Pipeline.ValueKit.Geometry

@[expose] public section

set_option maxRecDepth 16384

noncomputable section

namespace Cert.Own.MixAb

open Cert.MixAbIdeal Cert.MixAbIdeal.Gen Idealize.ShloMosaic Idealize.ShloMosaic.TcCoe Idealize.SL.Sem
open scoped BigOperators

variable (m : (ℓ : Loc nD τ sig) → Buf (Elt Ideal) ℓ) (c : Dev nD)

/-! ## What the kernel is launched on -/

/-- The first plane of the output weights, in the kernel's type. -/
def outPlane (y : FVec Ideal S2x1024x1024 .f32) : FVec Ideal S1024x1024 .bf16 :=
  truncf .bf16 (shapeCast S1024x1024 (extractStridedSlice S1x1024x1024 ![0, 0, 0] y slices_S2x1024x1024_S1x1024x1024_0_0_0)
    shapeCasts_S1x1024x1024_S1024x1024) bitsLt_bf16_f32

/-- The output weights of the first attention. -/
theorem V_out_a (e : Fin 512) (k : Fin 1024) :
    V m c main_v3 (ix2 e k) = m ((c : Thread nD τ).loc main_arg2) (ix3 0 ⟨e.val, by omega⟩ k) := by
  have h : V m c main_v3 = extractStridedSlice S512x1024 ![0, 0] (outPlane (m ((c : Thread nD τ).loc main_arg2))) slices_S1024x1024_S512x1024_0_0 := by
    show StableHlo.after hostOps0 _ (Proc.devRef .tc main_v3) = _
    after_reads_simp
    rfl
  rw [h]
  generalize m ((c : Thread nD τ).loc main_arg2) = y
  unfold outPlane
  pointwise

/-- The output weights of the second attention. -/
theorem V_out_b (e : Fin 512) (k : Fin 1024) :
    V m c main_v4 (ix2 e k) = m ((c : Thread nD τ).loc main_arg2) (ix3 0 ⟨512 + e.val, by omega⟩ k) := by
  have h : V m c main_v4 = extractStridedSlice S512x1024 ![512, 0] (outPlane (m ((c : Thread nD τ).loc main_arg2))) slices_S1024x1024_S512x1024_512_0 := by
    show StableHlo.after hostOps0 _ (Proc.devRef .tc main_v4) = _
    after_reads_simp
    rfl
  rw [h]
  generalize m ((c : Thread nD τ).loc main_arg2) = y
  unfold outPlane
  pointwise

/-- Row 1 of the first plane of a stack of gains or biases. -/
def row1 (y : FVec Ideal S4x4x1024 .f32) : FVec Ideal S1x1024 .f32 :=
  shapeCast S1x1024 (shapeCast S1024 (extractStridedSlice S1x1x1024 ![0, 1, 0] y slices_S4x4x1024_S1x1x1024_0_1_0)
    shapeCasts_S1x1x1024_S1024) shapeCasts_S1024_S1x1024

/-- Row 1 at a column. -/
theorem row1_apply (y : FVec Ideal S4x4x1024 .f32) (k : Fin 1024) : row1 y (ix2 0 k) = y (ix3 0 1 k) := by
  unfold row1
  pointwise

/-- Row 2 of the first plane of a stack of gains or biases. -/
def row2 (y : FVec Ideal S4x4x1024 .f32) : FVec Ideal S1x1024 .f32 :=
  shapeCast S1x1024 (shapeCast S1024 (extractStridedSlice S1x1x1024 ![0, 2, 0] y slices_S4x4x1024_S1x1x1024_0_2_0)
    shapeCasts_S1x1x1024_S1024) shapeCasts_S1024_S1x1024

/-- Row 2 at a column. -/
theorem row2_apply (y : FVec Ideal S4x4x1024 .f32) (k : Fin 1024) : row2 y (ix2 0 k) = y (ix3 0 2 k) := by
  unfold row2
  pointwise

/-- The first plane of a stack of weights, in the kernel's type. -/
def plane (y : FVec Ideal S4x1024x1024 .f32) : FVec Ideal S1024x1024 .bf16 :=
  truncf .bf16 (shapeCast S1024x1024 (extractStridedSlice S1x1024x1024 ![0, 0, 0] y slices_S4x1024x1024_S1x1024x1024_0_0_0)
    shapeCasts_S1x1024x1024_S1024x1024) bitsLt_bf16_f32

/-- The first plane at an index. -/
theorem plane_apply (y : FVec Ideal S4x1024x1024 .f32) (k d : Fin 1024) : plane y (ix2 k d) = y (ix3 0 k d) := by
  unfold plane
  pointwise

/-- The first gain. -/
theorem V_gain1 : V m c main_v7 = row1 (m ((c : Thread nD τ).loc main_arg4)) := by
  show StableHlo.after hostOps0 _ (Proc.devRef .tc main_v7) = _
  after_reads_simp
  rfl

/-- The first bias. -/
theorem V_bias1 : V m c main_v10 = row1 (m ((c : Thread nD τ).loc main_arg5)) := by
  show StableHlo.after hostOps0 _ (Proc.devRef .tc main_v10) = _
  after_reads_simp
  rfl

/-- The second gain. -/
theorem V_gain2 : V m c main_v19 = row2 (m ((c : Thread nD τ).loc main_arg4)) := by
  show StableHlo.after hostOps0 _ (Proc.devRef .tc main_v19) = _
  after_reads_simp
  rfl

/-- The second bias. -/
theorem V_bias2 : V m c main_v22 = row2 (m ((c : Thread nD τ).loc main_arg5)) := by
  show StableHlo.after hostOps0 _ (Proc.devRef .tc main_v22) = _
  after_reads_simp
  rfl

/-- The weights of the queries. -/
theorem V_wq : V m c main_v13 = plane (m ((c : Thread nD τ).loc main_arg6)) := by
  show StableHlo.after hostOps0 _ (Proc.devRef .tc main_v13) = _
  after_reads_simp
  rfl

/-- The weights of the way back. -/
theorem V_wo : V m c main_v16 = plane (m ((c : Thread nD τ).loc main_arg8)) := by
  show StableHlo.after hostOps0 _ (Proc.devRef .tc main_v16) = _
  after_reads_simp
  rfl

/-! ## The blocks of a grid point -/

/-- The rows of the first attention: block `4 b + t`. -/
theorem index0 : ∀ t : Fin cfg0.N, win0_0.index t = ![(grid0.coords t 0).val * 4 + (grid0.coords t 1).val, 0] := (by decide +kernel : ∀ t : Fin grid0.N, _)
/-- The rows of the second attention: block `4 b + t`. -/
theorem index1 : ∀ t : Fin cfg0.N, win0_1.index t = ![(grid0.coords t 0).val * 4 + (grid0.coords t 1).val, 0] := (by decide +kernel : ∀ t : Fin grid0.N, _)
/-- All the weights. -/
theorem index2 : ∀ t : Fin cfg0.N, win0_2.index t = ![0, 0] := (by decide +kernel : ∀ t : Fin grid0.N, _)
/-- All the weights. -/
theorem index3 : ∀ t : Fin cfg0.N, win0_3.index t = ![0, 0] := (by decide +kernel : ∀ t : Fin grid0.N, _)
/-- The residual rows: block `4 b + t`. -/
theorem index4 : ∀ t : Fin cfg0.N, win0_4.index t = ![(grid0.coords t 0).val * 4 + (grid0.coords t 1).val, 0] := (by decide +kernel : ∀ t : Fin grid0.N, _)
/-- All the first gain. -/
theorem index5 : ∀ t : Fin cfg0.N, win0_5.index t = ![0, 0] := (by decide +kernel : ∀ t : Fin grid0.N, _)
/-- All the first bias. -/
theorem index6 : ∀ t : Fin cfg0.N, win0_6.index t = ![0, 0] := (by decide +kernel : ∀ t : Fin grid0.N, _)
/-- All the weights of the queries. -/
theorem index7 : ∀ t : Fin cfg0.N, win0_7.index t = ![0, 0] := (by decide +kernel : ∀ t : Fin grid0.N, _)
/-- The keys of the sequence. -/
theorem index8 : ∀ t : Fin cfg0.N, win0_8.index t = ![(grid0.coords t 0).val, 0] := (by decide +kernel : ∀ t : Fin grid0.N, _)
/-- The values of the sequence. -/
theorem index9 : ∀ t : Fin cfg0.N, win0_9.index t = ![(grid0.coords t 0).val, 1] := (by decide +kernel : ∀ t : Fin grid0.N, _)
/-- All the weights of the way back. -/
theorem index10 : ∀ t : Fin cfg0.N, win0_10.index t = ![0, 0] := (by decide +kernel : ∀ t : Fin grid0.N, _)
/-- All the second gain. -/
theorem index11 : ∀ t : Fin cfg0.N, win0_11.index t = ![0, 0] := (by decide +kernel : ∀ t : Fin grid0.N, _)
/-- All the second bias. -/
theorem index12 : ∀ t : Fin cfg0.N, win0_12.index t = ![0, 0] := (by decide +kernel : ∀ t : Fin grid0.N, _)
/-- The output rows: block `4 b + t`. -/
theorem index13 : ∀ t : Fin cfg0.N, win0_13.index t = ![(grid0.coords t 0).val * 4 + (grid0.coords t 1).val, 0] := (by decide +kernel : ∀ t : Fin grid0.N, _)

variable (t : Fin cfg0.N)

/-- The row of the arrays that row `r` of a grid point's blocks is. -/
def rowAt (r : Fin 1024) : Fin 32768 :=
  ⟨((grid0.coords t 0).val * 4 + (grid0.coords t 1).val) * 1024 + r.val, by
    have h0 : (grid0.coords t 0).val < 8 := (grid0.coords t 0).isLt
    have h1 : (grid0.coords t 1).val < 4 := (grid0.coords t 1).isLt
    omega⟩

/-- The memory token of the arrays that token `n` of a grid point's sequence is. -/
def tokenAt (n : Fin 256) : Fin 2048 :=
  ⟨(grid0.coords t 0).val * 256 + n.val, by
    have h0 : (grid0.coords t 0).val < 8 := (grid0.coords t 0).isLt
    omega⟩

/-- A row of the first attention. -/
theorem block0 (r : Fin 1024) (e : Fin 512) : iblk m c 0 t (ix2 r e) = m ((c : Thread nD τ).loc main_arg0) (ix2 (rowAt t r) e) := by
  rw [← V_main_arg0 m c]
  have he := e.isLt
  blk_simp [iblk, index0]
  refine congrArg (V m c main_arg0) ?_
  blk_ext [index0, rowAt]

/-- A row of the second attention. -/
theorem block1 (r : Fin 1024) (e : Fin 512) : iblk m c 1 t (ix2 r e) = m ((c : Thread nD τ).loc main_arg1) (ix2 (rowAt t r) e) := by
  rw [← V_main_arg1 m c]
  have he := e.isLt
  blk_simp [iblk, index1]
  refine congrArg (V m c main_arg1) ?_
  blk_ext [index1, rowAt]

/-- The output weights of the first attention. -/
theorem block2 (e : Fin 512) (k : Fin 1024) : iblk m c 2 t (ix2 e k) = m ((c : Thread nD τ).loc main_arg2) (ix3 0 ⟨e.val, by omega⟩ k) := by
  rw [← V_out_a m c]
  have he := e.isLt
  have hk := k.isLt
  blk_simp [iblk, index2]
  refine congrArg (V m c main_v3) ?_
  blk_ext [index2]

/-- The output weights of the second attention. -/
theorem block3 (e : Fin 512) (k : Fin 1024) : iblk m c 3 t (ix2 e k) = m ((c : Thread nD τ).loc main_arg2) (ix3 0 ⟨512 + e.val, by omega⟩ k) := by
  rw [← V_out_b m c]
  have he := e.isLt
  have hk := k.isLt
  blk_simp [iblk, index3]
  refine congrArg (V m c main_v4) ?_
  blk_ext [index3]

/-- A residual row. -/
theorem block4 (r k : Fin 1024) : iblk m c 4 t (ix2 r k) = m ((c : Thread nD τ).loc main_arg3) (ix2 (rowAt t r) k) := by
  rw [← V_main_arg3 m c]
  have hk := k.isLt
  blk_simp [iblk, index4]
  refine congrArg (V m c main_arg3) ?_
  blk_ext [index4, rowAt]

/-- The first gain. -/
theorem block5 (k : Fin 1024) : iblk m c 5 t (ix2 0 k) = m ((c : Thread nD τ).loc main_arg4) (ix3 0 1 k) := by
  refine Eq.trans ?_ (row1_apply (m ((c : Thread nD τ).loc main_arg4)) k)
  rw [← V_gain1 m c]
  have hk := k.isLt
  blk_simp [iblk, index5]
  refine congrArg (V m c main_v7) ?_
  blk_ext [index5]

/-- The first bias. -/
theorem block6 (k : Fin 1024) : iblk m c 6 t (ix2 0 k) = m ((c : Thread nD τ).loc main_arg5) (ix3 0 1 k) := by
  refine Eq.trans ?_ (row1_apply (m ((c : Thread nD τ).loc main_arg5)) k)
  rw [← V_bias1 m c]
  have hk := k.isLt
  blk_simp [iblk, index6]
  refine congrArg (V m c main_v10) ?_
  blk_ext [index6]

/-- The weights of the queries. -/
theorem block7 (k d : Fin 1024) : iblk m c 7 t (ix2 k d) = m ((c : Thread nD τ).loc main_arg6) (ix3 0 k d) := by
  refine Eq.trans ?_ (plane_apply (m ((c : Thread nD τ).loc main_arg6)) k d)
  rw [← V_wq m c]
  have hk := k.isLt
  have hd := d.isLt
  blk_simp [iblk, index7]
  refine congrArg (V m c main_v13) ?_
  blk_ext [index7]

/-- The keys. -/
theorem block8 (n : Fin 256) (d : Fin 1024) : iblk m c 8 t (ix2 n d) = m ((c : Thread nD τ).loc main_arg7) (ix2 (tokenAt t n) ⟨d.val, by omega⟩) := by
  rw [← V_main_arg7 m c]
  have hd := d.isLt
  blk_simp [iblk, index8]
  refine congrArg (V m c main_arg7) ?_
  blk_ext [index8, tokenAt]

/-- The values. -/
theorem block9 (n : Fin 256) (d : Fin 1024) : iblk m c 9 t (ix2 n d) = m ((c : Thread nD τ).loc main_arg7) (ix2 (tokenAt t n) ⟨1024 + d.val, by omega⟩) := by
  rw [← V_main_arg7 m c]
  have hd := d.isLt
  blk_simp [iblk, index9]
  refine congrArg (V m c main_arg7) ?_
  blk_ext [index9, tokenAt]

/-- The weights of the way back. -/
theorem block10 (d k : Fin 1024) : iblk m c 10 t (ix2 d k) = m ((c : Thread nD τ).loc main_arg8) (ix3 0 d k) := by
  refine Eq.trans ?_ (plane_apply (m ((c : Thread nD τ).loc main_arg8)) d k)
  rw [← V_wo m c]
  have hk := k.isLt
  have hd := d.isLt
  blk_simp [iblk, index10]
  refine congrArg (V m c main_v16) ?_
  blk_ext [index10]

/-- The second gain. -/
theorem block11 (k : Fin 1024) : iblk m c 11 t (ix2 0 k) = m ((c : Thread nD τ).loc main_arg4) (ix3 0 2 k) := by
  refine Eq.trans ?_ (row2_apply (m ((c : Thread nD τ).loc main_arg4)) k)
  rw [← V_gain2 m c]
  have hk := k.isLt
  blk_simp [iblk, index11]
  refine congrArg (V m c main_v19) ?_
  blk_ext [index11]

/-- The second bias. -/
theorem block12 (k : Fin 1024) : iblk m c 12 t (ix2 0 k) = m ((c : Thread nD τ).loc main_arg5) (ix3 0 2 k) := by
  refine Eq.trans ?_ (row2_apply (m ((c : Thread nD τ).loc main_arg5)) k)
  rw [← V_bias2 m c]
  have hk := k.isLt
  blk_simp [iblk, index12]
  refine congrArg (V m c main_v22) ?_
  blk_ext [index12]

/-! ## The result -/

/-- An element of the result from the arguments: row `R`, column `C`. -/
def result (x0 x1 : FVec Ideal S32768x512 .bf16) (x2 : FVec Ideal S2x1024x1024 .f32) (x3 : FVec Ideal S32768x1024 .f32)
    (x4 x5 : FVec Ideal S4x4x1024 .f32) (x6 : FVec Ideal S4x1024x1024 .f32) (x7 : FVec Ideal S2048x2048 .bf16)
    (x8 : FVec Ideal S4x1024x1024 .f32) (R : Fin 32768) (C : Fin 1024) : EReal :=
  Mix.row (((Real.log 65536)⁻¹ : ℝ) : EReal)
    (fun k => (∑ e : Fin 512, x0 (ix2 R e) * x2 (ix3 0 ⟨e.val, by omega⟩ k)) + ∑ e : Fin 512, x1 (ix2 R e) * x2 (ix3 0 ⟨512 + e.val, by omega⟩ k))
    (fun k => x3 (ix2 R k)) (fun k => x4 (ix3 0 1 k)) (fun k => x5 (ix3 0 1 k)) (fun k d => x6 (ix3 0 k d))
    (fun n d => x7 (ix2 ⟨R.val / 4096 * 256 + n.val, by omega⟩ ⟨d.val, by omega⟩))
    (fun n d => x7 (ix2 ⟨R.val / 4096 * 256 + n.val, by omega⟩ ⟨1024 + d.val, by omega⟩))
    (fun d k => x8 (ix3 0 d k)) (fun k => x4 (ix3 0 2 k)) (fun k => x5 (ix3 0 2 k)) C

/-- The result array after the run. -/
theorem array_eq :
    (dats m 0 c).arrAt 13 cfg0.N
      = fun i => result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (i 0) (i 1) := by
  refine (dats m 0 c).arrAt_eq_of_covers 13 _ (by decide +kernel) fun t hf y => ?_
  blk_simp
  rw [after0_13]
  obtain ⟨r, d, rfl⟩ : ∃ (r : Fin 1024) (d : Fin 1024), y = ix2 r d := ⟨y 0, y 1, by funext a; match a with | ⟨0, _⟩ => rfl | ⟨1, _⟩ => rfl⟩
  rw [out_element]
  unfold element
  simp only [block0, block1, block2, block3, block4, block5, block6, block7, block8, block9, block10, block11, block12]
  have h0 : (grid0.coords t 0).val < 8 := (grid0.coords t 0).isLt
  have h1 : (grid0.coords t 1).val < 4 := (grid0.coords t 1).isLt
  have hd := d.isLt
  have hr := r.isLt
  have ht : ∀ n : Fin 256, tokenAt t n = ⟨(rowAt t r).val / 4096 * 256 + n.val, by have := (rowAt t r).isLt; omega⟩ := fun n => Fin.ext (by
    show (grid0.coords t 0).val * 256 + n.val = (((grid0.coords t 0).val * 4 + (grid0.coords t 1).val) * 1024 + r.val) / 4096 * 256 + n.val
    omega)
  simp only [ht]
  have key : ∀ (f : Fin 32768 → Fin 1024 → EReal) (R' : Fin 32768) (C' : Fin 1024), R' = rowAt t r → C' = d → f (rowAt t r) d = f R' C' := by
    rintro _ _ _ rfl rfl; rfl
  refine key (result _ _ _ _ _ _ _ _ _) _ _ (Fin.ext ?_) (Fin.ext ?_)
  · blk_simp [index13, rowAt]
  · blk_simp [index13]

end Cert.Own.MixAb

end
-- ==== Proof.MixAbRef.lean ====
/- The reference of the memory attention's step after the two attentions, element by element, from its argument arrays. -/
module

public import proofs.«01_k».proof.Proof.Gen.MixAbRefIdeal.Read
public import proofs.«01_k».proof.Proof.MixLaw
public import Idealize.ShloMosaic.Lib.Pointwise
public import Idealize.ShloMosaic.PureOps.Ideal.Laws

@[expose] public section

set_option maxRecDepth 16384

noncomputable section

namespace Cert.Own.MixAbRef

open Cert.MixAbRefIdeal Cert.MixAbRefIdeal.Read Idealize.ShloMosaic
open scoped BigOperators

variable (x0 x1 : FVec Ideal S32768x512 .bf16) (x2 : FVec Ideal S2x1024x1024 .f32) (x3 : FVec Ideal S32768x1024 .f32)
  (x4 x5 : FVec Ideal S4x4x1024 .f32) (x6 : FVec Ideal S4x1024x1024 .f32) (x7 : FVec Ideal S2048x2048 .bf16)
  (x8 : FVec Ideal S4x1024x1024 .f32)

/-- What the attentions add to a row. -/
def added (R : Fin 32768) (k : Fin 1024) : EReal :=
  (∑ e : Fin 512, x0 (ix2 R e) * x2 (ix3 0 ⟨e.val, by omega⟩ k)) + ∑ e : Fin 512, x1 (ix2 R e) * x2 (ix3 0 ⟨512 + e.val, by omega⟩ k)

/-- The output weights. -/
theorem v3_eq (i : S1024x1024.Idx) : val_main_v3 (F := Ideal) x2 i = x2 (ix3 0 (i 0) (i 1)) := by
  have h0 : (i 0).val < 1024 := (i 0).isLt
  have h1 : (i 1).val < 1024 := (i 1).isLt
  rw [val_main_v3_apply, val_main_v2_apply]
  refine congrArg x2 ?_
  funext a
  match a with
  | ⟨0, _⟩ => rfl
  | ⟨1, _⟩ => apply Fin.ext; dsimp only [idx_main_v2, idx_main_v3, ix3]; omega
  | ⟨2, _⟩ => apply Fin.ext; dsimp only [idx_main_v2, idx_main_v3, ix3]; omega

/-- The first half of the joined rows. -/
theorem v0_left (R : Fin 32768) (e : Fin 512) : val_main_v0 (F := Ideal) x0 x1 (ix2 R ⟨e.val, by omega⟩) = x0 (ix2 R e) := by
  unfold val_main_v0
  pointwise

/-- The second half of the joined rows. -/
theorem v0_right (R : Fin 32768) (e : Fin 512) : val_main_v0 (F := Ideal) x0 x1 (ix2 R ⟨512 + e.val, by omega⟩) = x1 (ix2 R e) := by
  unfold val_main_v0
  pointwise

/-- What the attentions add, as the reference has it. -/
theorem v4_eq (i : S32768x1024.Idx) : val_main_v4 (F := Ideal) x0 x1 x2 i = added x0 x1 x2 (i 0) (i 1) := by
  rw [val_main_v4_apply, Fin.sum_univ_two_halves 512 512 rfl]
  unfold added
  refine congrArg₂ (fun a b : EReal => a + b) (Finset.sum_congr rfl fun e _ => ?_) (Finset.sum_congr rfl fun e _ => ?_)
  · rw [v3_eq, val_main_v1_apply]
    refine congrArg₂ (fun a b : EReal => a * b) (Eq.trans ?_ (v0_left x0 x1 (i 0) e)) ?_
    · refine congrArg (val_main_v0 (F := Ideal) x0 x1) ?_
      funext a
      match a with
      | ⟨0, _⟩ => rfl
      | ⟨1, _⟩ => rfl
    · rfl
  · rw [v3_eq, val_main_v1_apply]
    refine congrArg₂ (fun a b : EReal => a * b) (Eq.trans ?_ (v0_right x0 x1 (i 0) e)) ?_
    · refine congrArg (val_main_v0 (F := Ideal) x0 x1) ?_
      funext a
      match a with
      | ⟨0, _⟩ => rfl
      | ⟨1, _⟩ => rfl
    · rfl

/-- The row before the first layer norm. -/
def pre (R : Fin 32768) (k : Fin 1024) : EReal := Ideal.ofBits .f32 0x3FD744FD#32 * x3 (ix2 R k) + added x0 x1 x2 R k

/-- The row before the first layer norm, as the reference has it. -/
theorem v7_eq (i : S32768x1024.Idx) : val_main_v7 (F := Ideal) x0 x1 x2 x3 i = pre x0 x1 x2 x3 (i 0) (i 1) := by
  rw [val_main_v7_apply, val_main_v6_apply, val_main_v5_apply, val_main_cst_apply, v4_eq]
  have e : x3 i = x3 (ix2 (i 0) (i 1)) := congrArg x3 (by
    funext a
    match a with
    | ⟨0, _⟩ => rfl
    | ⟨1, _⟩ => rfl)
  rw [e]
  rfl

/-- The row's mean. -/
theorem v15_eq (i : S32768x1.Idx) : val_main_v15 (F := Ideal) x0 x1 x2 x3 i = mean (pre x0 x1 x2 x3 (i 0)) := by
  rw [val_main_v15_apply, val_main_v13_apply, val_main_v14_apply, val_main_cst_1_apply, val_main_v12_apply, val_main_cst_0_apply]
  simp only [v7_eq]
  show Ideal.div (Ideal.ofBits .f32 0x00000000#32 + _) _ = _
  rw [lit_zero, zero_add]
  rfl

/-- The row's variance. -/
theorem v22_eq (i : S32768x1.Idx) :
    val_main_v22 (F := Ideal) x0 x1 x2 x3 i
      = mean (fun k => (pre x0 x1 x2 x3 (i 0) k - mean (pre x0 x1 x2 x3 (i 0))) * (pre x0 x1 x2 x3 (i 0) k - mean (pre x0 x1 x2 x3 (i 0)))) := by
  rw [val_main_v22_apply, val_main_v20_apply, val_main_v21_apply, val_main_cst_3_apply, val_main_v19_apply, val_main_cst_2_apply]
  simp only [val_main_v18_apply, val_main_v17_apply, val_main_v16_apply, v7_eq, v15_eq]
  show Ideal.div (Ideal.ofBits .f32 0x00000000#32 + _) _ = _
  rw [lit_zero, zero_add]
  rfl

/-- The first gain. -/
theorem v9_eq (i : S1024.Idx) : val_main_v9 (F := Ideal) x4 i = x4 (ix3 0 1 (i 0)) := by
  have h0 : (i 0).val < 1024 := (i 0).isLt
  rw [val_main_v9_apply, val_main_v8_apply]
  refine congrArg x4 ?_
  funext a
  match a with
  | ⟨0, _⟩ => rfl
  | ⟨1, _⟩ => rfl
  | ⟨2, _⟩ => apply Fin.ext; dsimp only [idx_main_v8, idx_main_v9, ix3]; omega

/-- The first bias. -/
theorem v11_eq (i : S1024.Idx) : val_main_v11 (F := Ideal) x5 i = x5 (ix3 0 1 (i 0)) := by
  have h0 : (i 0).val < 1024 := (i 0).isLt
  rw [val_main_v11_apply, val_main_v10_apply]
  refine congrArg x5 ?_
  funext a
  match a with
  | ⟨0, _⟩ => rfl
  | ⟨1, _⟩ => rfl
  | ⟨2, _⟩ => apply Fin.ext; dsimp only [idx_main_v10, idx_main_v11, ix3]; omega

/-- The row after the first layer norm. -/
def hidden (R : Fin 32768) : Fin 1024 → EReal :=
  layerNorm (pre x0 x1 x2 x3 R) (fun k => x4 (ix3 0 1 k)) (fun k => x5 (ix3 0 1 k))

/-- The row after the first layer norm, as the reference has it. -/
theorem v35_eq (i : S32768x1024.Idx) : val_main_v35 (F := Ideal) x0 x1 x2 x3 x4 x5 i = hidden x0 x1 x2 x3 x4 x5 (i 0) (i 1) := by
  rw [val_main_v35_apply, val_main_v34_apply, val_main_v33_apply, v11_eq, val_main_v32_apply, val_main_v31_apply, val_main_v30_apply, v9_eq,
    val_main_v29_apply, val_main_v24_apply, val_main_v23_apply, v7_eq, v15_eq, val_main_v28_apply, val_main_v27_apply,
    val_main_v26_apply, val_main_v25_apply, val_main_cst_4_apply, v22_eq]
  rfl

/-- The weights of the queries. -/
theorem v39_eq (i : S1024x1024.Idx) : val_main_v39 (F := Ideal) x6 i = x6 (ix3 0 (i 0) (i 1)) := by
  have h0 : (i 0).val < 1024 := (i 0).isLt
  have h1 : (i 1).val < 1024 := (i 1).isLt
  rw [val_main_v39_apply, val_main_v38_apply]
  refine congrArg x6 ?_
  funext a
  match a with
  | ⟨0, _⟩ => rfl
  | ⟨1, _⟩ => apply Fin.ext; dsimp only [idx_main_v38, idx_main_v39, ix3]; omega
  | ⟨2, _⟩ => apply Fin.ext; dsimp only [idx_main_v38, idx_main_v39, ix3]; omega

/-- The weights of the way back. -/
theorem v41_eq (i : S1024x1024.Idx) : val_main_v41 (F := Ideal) x8 i = x8 (ix3 0 (i 0) (i 1)) := by
  have h0 : (i 0).val < 1024 := (i 0).isLt
  have h1 : (i 1).val < 1024 := (i 1).isLt
  rw [val_main_v41_apply, val_main_v40_apply]
  refine congrArg x8 ?_
  funext a
  match a with
  | ⟨0, _⟩ => rfl
  | ⟨1, _⟩ => apply Fin.ext; dsimp only [idx_main_v40, idx_main_v41, ix3]; omega
  | ⟨2, _⟩ => apply Fin.ext; dsimp only [idx_main_v40, idx_main_v41, ix3]; omega

/-- A row's queries. -/
def queries (R : Fin 32768) (d : Fin 1024) : EReal := ∑ k, hidden x0 x1 x2 x3 x4 x5 R k * x6 (ix3 0 k d)

/-- A row's queries, as the reference has them. -/
theorem v42_eq (i : S32768x1024.Idx) : val_main_v42 (F := Ideal) x0 x1 x2 x3 x4 x5 x6 i = queries x0 x1 x2 x3 x4 x5 x6 (i 0) (i 1) := by
  rw [val_main_v42_apply]
  simp only [v35_eq, v39_eq]
  rfl

/-- The keys of a row's sequence. -/
def keys (R : Fin 32768) (n : Fin 256) (d : Fin 1024) : EReal := x7 (ix2 ⟨R.val / 4096 * 256 + n.val, by omega⟩ ⟨d.val, by omega⟩)

/-- The values of a row's sequence. -/
def values (R : Fin 32768) (n : Fin 256) (d : Fin 1024) : EReal := x7 (ix2 ⟨R.val / 4096 * 256 + n.val, by omega⟩ ⟨1024 + d.val, by omega⟩)

/-- The row of the arrays that an index of the scores stands for. -/
abbrev rowOf (i : S8x4x4096x256.Idx) : Fin 32768 :=
  ⟨(i 0).val * 4096 + (i 2).val, by have h0 : (i 0).val < 8 := (i 0).isLt; have h2 : (i 2).val < 4096 := (i 2).isLt; omega⟩

/-- The scaled scores. -/
theorem v51_eq (i : S8x4x4096x256.Idx) :
    val_main_v51 (F := Ideal) x0 x1 x2 x3 x4 x5 x6 x7 i
      = Mix.refScore (queries x0 x1 x2 x3 x4 x5 x6 (rowOf i)) (keys x7 (rowOf i)) (i 1) (i 3) := by
  have h0 : (i 0).val < 8 := (i 0).isLt
  have h1 : (i 1).val < 4 := (i 1).isLt
  have h2 : (i 2).val < 4096 := (i 2).isLt
  have h3 : (i 3).val < 256 := (i 3).isLt
  rw [val_main_v51_apply, val_main_v50_apply, val_main_cst_6_apply, val_main_v49_apply]
  unfold Mix.refScore Mix.score
  refine congrArg (fun x : EReal => x * _) (Finset.sum_congr rfl fun e _ => ?_)
  have he := e.isLt
  rw [val_main_v43_apply, v42_eq, val_main_v47_apply, val_main_v45_apply, val_main_v44_apply]
  refine congrArg₂ (fun a b : EReal => a * b) (congrArg₂ (queries x0 x1 x2 x3 x4 x5 x6) (Fin.ext ?_) (Fin.ext ?_)) (congrArg x7 ?_)
  · dsimp only [lidx_main_v49, idx_main_v43]; omega
  · dsimp only [lidx_main_v49, idx_main_v43]; omega
  · funext a
    match a with
    | ⟨0, _⟩ => apply Fin.ext; dsimp only [ridx_main_v49, idx_main_v47, idx_main_v45, ix2]; omega
    | ⟨1, _⟩ => apply Fin.ext; dsimp only [ridx_main_v49, idx_main_v47, idx_main_v45, ix2]; omega

/-- The largest score, as a fold over the memory tokens. -/
theorem v52_eq (i : S8x4x4096.Idx) :
    val_main_v52 (F := Ideal) x0 x1 x2 x3 x4 x5 x6 x7 i
      = Finset.univ.fold max ⊥ fun n : Fin 256 => val_main_v51 (F := Ideal) x0 x1 x2 x3 x4 x5 x6 x7 (idx_main_v59 i n) := by
  unfold val_main_v52
  generalize val_main_v51 (F := Ideal) x0 x1 x2 x3 x4 x5 x6 x7 = y
  pointwise [val_main_cst_7]
  rw [lit_bot]
  refine congrArg (fun f => Finset.fold max ⊥ f Finset.univ) (funext fun n => congrArg y ?_)
  funext a
  match a with
  | ⟨0, _⟩ => rfl
  | ⟨1, _⟩ => rfl
  | ⟨2, _⟩ => rfl
  | ⟨3, _⟩ => rfl

/-- The exponentials of the scores, the largest taken off. -/
theorem v58_eq (i : S8x4x4096x256.Idx) :
    val_main_v58 (F := Ideal) x0 x1 x2 x3 x4 x5 x6 x7 i
      = Ideal.exp (Mix.refScore (queries x0 x1 x2 x3 x4 x5 x6 (rowOf i)) (keys x7 (rowOf i)) (i 1) (i 3)
          - Mix.refLargest (queries x0 x1 x2 x3 x4 x5 x6 (rowOf i)) (keys x7 (rowOf i)) (i 1)) := by
  rw [val_main_v58_apply, val_main_v57_apply, v51_eq, val_main_v56_apply, val_main_v55_apply, val_main_v54_apply, v52_eq,
    val_main_v53_apply, val_main_cst_8_apply]
  simp only [v51_eq]
  show Ideal.exp (_ - max (Ideal.ofBits .f32 0xFF800000#32) _) = _
  rw [lit_bot]
  rfl

/-- The softmax weights. -/
theorem v62_eq (i : S8x4x4096x256.Idx) :
    val_main_v62 (F := Ideal) x0 x1 x2 x3 x4 x5 x6 x7 i
      = Mix.refWeight (queries x0 x1 x2 x3 x4 x5 x6 (rowOf i)) (keys x7 (rowOf i)) (i 1) (i 3) := by
  rw [val_main_v62_apply, v58_eq, val_main_v61_apply, val_main_v60_apply, val_main_v59_apply, val_main_cst_9_apply]
  simp only [v58_eq]
  show Ideal.div _ (Ideal.ofBits .f32 0x00000000#32 + _) = _
  rw [lit_zero, zero_add]
  rfl

/-- The attention's rows. -/
theorem v65_eq (i : S32768x1024.Idx) :
    val_main_v65 (F := Ideal) x0 x1 x2 x3 x4 x5 x6 x7 i
      = Mix.refAttend (queries x0 x1 x2 x3 x4 x5 x6 (i 0)) (keys x7 (i 0)) (values x7 (i 0)) (i 1) := by
  have h0 : (i 0).val < 32768 := (i 0).isLt
  have h1 : (i 1).val < 1024 := (i 1).isLt
  rw [val_main_v65_apply, val_main_v64_apply, val_main_v63_apply]
  unfold Mix.refAttend
  refine Finset.sum_congr rfl fun n _ => ?_
  have hn := n.isLt
  have a1 : ((i 0).val * 1024 + (i 1).val) / 4194304 = (i 0).val / 4096 := by omega
  have a2 : ((i 0).val * 1024 + (i 1).val) / 256 % 4 = (i 1).val / 256 := by omega
  have a3 : ((i 0).val * 1024 + (i 1).val) % 256 = (i 1).val % 256 := by omega
  rw [v62_eq, val_main_v48_apply, val_main_v46_apply, val_main_v44_apply]
  have e1 : rowOf (ridx_main_v63 (idx_main_v64 (idx_main_v65 i)) n) = i 0 := by
    apply Fin.ext; dsimp only [ridx_main_v63, idx_main_v64, idx_main_v65]; omega
  have e2 : ridx_main_v63 (idx_main_v64 (idx_main_v65 i)) n 1 = Mix.headOf (i 1) := by
    apply Fin.ext; dsimp only [ridx_main_v63, idx_main_v64, idx_main_v65]; omega
  rw [e1, e2]
  refine congrArg₂ (fun a b : EReal => a * b) (congrArg x7 ?_) rfl
  funext a
  match a with
  | ⟨0, _⟩ => apply Fin.ext; dsimp only [lidx_main_v63, idx_main_v64, idx_main_v65, idx_main_v48, idx_main_v46, ix2]; rw [a1, a2, a3]; omega
  | ⟨1, _⟩ => apply Fin.ext; dsimp only [lidx_main_v63, idx_main_v64, idx_main_v65, idx_main_v48, idx_main_v46, ix2]; rw [a1, a2, a3]; omega

/-- The row before the second layer norm. -/
def post (R : Fin 32768) (k : Fin 1024) : EReal :=
  Ideal.ofBits .f32 0x3FD744FD#32 * hidden x0 x1 x2 x3 x4 x5 R k
    + ∑ d, Mix.refAttend (queries x0 x1 x2 x3 x4 x5 x6 R) (keys x7 R) (values x7 R) d * x8 (ix3 0 d k)

/-- The row before the second layer norm, as the reference has it. -/
theorem v67_eq (i : S32768x1024.Idx) :
    val_main_v67 (F := Ideal) x0 x1 x2 x3 x4 x5 x6 x7 x8 i = post x0 x1 x2 x3 x4 x5 x6 x7 x8 (i 0) (i 1) := by
  rw [val_main_v67_apply, val_main_v37_apply, val_main_v36_apply, val_main_cst_5_apply, v35_eq, val_main_v66_apply]
  simp only [v65_eq, v41_eq]
  rfl

/-- The second row's mean. -/
theorem v75_eq (i : S32768x1.Idx) :
    val_main_v75 (F := Ideal) x0 x1 x2 x3 x4 x5 x6 x7 x8 i = mean (post x0 x1 x2 x3 x4 x5 x6 x7 x8 (i 0)) := by
  rw [val_main_v75_apply, val_main_v73_apply, val_main_v74_apply, val_main_cst_11_apply, val_main_v72_apply, val_main_cst_10_apply]
  simp only [v67_eq]
  show Ideal.div (Ideal.ofBits .f32 0x00000000#32 + _) _ = _
  rw [lit_zero, zero_add]
  rfl

/-- The second row's variance. -/
theorem v82_eq (i : S32768x1.Idx) :
    val_main_v82 (F := Ideal) x0 x1 x2 x3 x4 x5 x6 x7 x8 i
      = mean (fun k => (post x0 x1 x2 x3 x4 x5 x6 x7 x8 (i 0) k - mean (post x0 x1 x2 x3 x4 x5 x6 x7 x8 (i 0)))
          * (post x0 x1 x2 x3 x4 x5 x6 x7 x8 (i 0) k - mean (post x0 x1 x2 x3 x4 x5 x6 x7 x8 (i 0)))) := by
  rw [val_main_v82_apply, val_main_v80_apply, val_main_v81_apply, val_main_cst_13_apply, val_main_v79_apply, val_main_cst_12_apply]
  simp only [val_main_v78_apply, val_main_v77_apply, val_main_v76_apply, v67_eq, v75_eq]
  show Ideal.div (Ideal.ofBits .f32 0x00000000#32 + _) _ = _
  rw [lit_zero, zero_add]
  rfl

/-- The second gain. -/
theorem v69_eq (i : S1024.Idx) : val_main_v69 (F := Ideal) x4 i = x4 (ix3 0 2 (i 0)) := by
  have h0 : (i 0).val < 1024 := (i 0).isLt
  rw [val_main_v69_apply, val_main_v68_apply]
  refine congrArg x4 ?_
  funext a
  match a with
  | ⟨0, _⟩ => rfl
  | ⟨1, _⟩ => rfl
  | ⟨2, _⟩ => apply Fin.ext; dsimp only [idx_main_v68, idx_main_v69, ix3]; omega

/-- The second bias. -/
theorem v71_eq (i : S1024.Idx) : val_main_v71 (F := Ideal) x5 i = x5 (ix3 0 2 (i 0)) := by
  have h0 : (i 0).val < 1024 := (i 0).isLt
  rw [val_main_v71_apply, val_main_v70_apply]
  refine congrArg x5 ?_
  funext a
  match a with
  | ⟨0, _⟩ => rfl
  | ⟨1, _⟩ => rfl
  | ⟨2, _⟩ => apply Fin.ext; dsimp only [idx_main_v70, idx_main_v71, ix3]; omega

/-- The reference's result. -/
theorem v95_eq (R : Fin 32768) (C : Fin 1024) :
    val_main_v95 (F := Ideal) x0 x1 x2 x3 x4 x5 x6 x7 x8 (ix2 R C)
      = Mix.refRow (added x0 x1 x2 R) (fun k => x3 (ix2 R k)) (fun k => x4 (ix3 0 1 k)) (fun k => x5 (ix3 0 1 k))
          (fun k d => x6 (ix3 0 k d)) (keys x7 R) (values x7 R) (fun d k => x8 (ix3 0 d k)) (fun k => x4 (ix3 0 2 k))
          (fun k => x5 (ix3 0 2 k)) C := by
  rw [val_main_v95_apply, val_main_v94_apply, val_main_v93_apply, v71_eq, val_main_v92_apply, val_main_v91_apply, val_main_v90_apply, v69_eq,
    val_main_v89_apply, val_main_v84_apply, val_main_v83_apply, v67_eq, v75_eq, val_main_v88_apply, val_main_v87_apply,
    val_main_v86_apply, val_main_v85_apply, val_main_cst_14_apply, v82_eq]
  rfl

end Cert.Own.MixAbRef

end
-- ==== Proof.MixAbClaim.lean ====
/- The claims of the memory attention's step after the two attentions: with finite gain, bias, weights of the queries and keys, what it
   computes is what the reference computes. -/
module

public import proofs.«01_k».proof.Defs
public import proofs.«01_k».proof.Proof.MixAbArray
public import proofs.«01_k».proof.Proof.MixAbRef
public import proofs.«01_k».proof.Proof.Finite
public import proofs.«01_k».proof.Proof.Gen.MixAb.Frame
public import proofs.«01_k».proof.Proof.Gen.MixAbRefIdeal.Run
public import proofs.«01_k».proof.Proof.Gen.Pre_finite_ab

@[expose] public section

set_option maxRecDepth 16384

noncomputable section

namespace Cert.Own.MixAb

open Idealize.ShloMosaic Idealize.ShloMosaic.TcCoe Idealize.SL.Sem

variable (x0 x1 : FVec Ideal MixAbIdeal.S32768x512 .bf16) (x2 : FVec Ideal MixAbIdeal.S2x1024x1024 .f32) (x3 : FVec Ideal MixAbIdeal.S32768x1024 .f32)
  (x4 x5 : FVec Ideal MixAbIdeal.S4x4x1024 .f32) (x6 : FVec Ideal MixAbIdeal.S4x1024x1024 .f32) (x7 : FVec Ideal MixAbIdeal.S2048x2048 .bf16)
  (x8 : FVec Ideal MixAbIdeal.S4x1024x1024 .f32)

/-- What the precondition says: the first gain and bias, the weights of the queries and the keys are real numbers. -/
structure Real : Prop where
  /-- The first gain. -/
  gain : ∀ k : Fin 1024, Mix.IsReal (x4 (ix3 0 1 k))
  /-- The first bias. -/
  bias : ∀ k : Fin 1024, Mix.IsReal (x5 (ix3 0 1 k))
  /-- The weights of the queries. -/
  wq : ∀ k d : Fin 1024, Mix.IsReal (x6 (ix3 0 k d))
  /-- The keys. -/
  keys : ∀ (n : Fin 2048) (d : Fin 1024), Mix.IsReal (x7 (ix2 n ⟨d.val, by omega⟩))

/-- The precondition gives it. -/
theorem real_of_pre
    (h : (Cert.Pre_finite_ab.fn (F := Ideal) x0 x1 x2 x3 x4 x5 x6 x7 x8).1 = (fun _ => 1#1)
      ∧ (Cert.Pre_finite_ab.fn (F := Ideal) x0 x1 x2 x3 x4 x5 x6 x7 x8).2.1 = (fun _ => 1#1)
      ∧ (Cert.Pre_finite_ab.fn (F := Ideal) x0 x1 x2 x3 x4 x5 x6 x7 x8).2.2.1 = (fun _ => 1#1)
      ∧ (Cert.Pre_finite_ab.fn (F := Ideal) x0 x1 x2 x3 x4 x5 x6 x7 x8).2.2.2 = (fun _ => 1#1)) :
    Real x4 x5 x6 x7 where
  gain k := by
    have e1 : shapeCast Pre_finite_ab.S1024 (extractStridedSlice Pre_finite_ab.S1x1x1024 ![0, 1, 0] x4
        Pre_finite_ab.Facts.slices_S4x4x1024_S1x1x1024_0_1_0) Pre_finite_ab.Facts.shapeCasts_S1x1x1024_S1024 (ix1 k)
          = x4 (ix3 0 1 k) := by pointwise
    rw [← e1]
    exact real_of_abs_lt (congrFun h.1 (ix1 k))
  bias k := by
    have e1 : shapeCast Pre_finite_ab.S1024 (extractStridedSlice Pre_finite_ab.S1x1x1024 ![0, 1, 0] x5
        Pre_finite_ab.Facts.slices_S4x4x1024_S1x1x1024_0_1_0) Pre_finite_ab.Facts.shapeCasts_S1x1x1024_S1024 (ix1 k)
          = x5 (ix3 0 1 k) := by pointwise
    rw [← e1]
    exact real_of_abs_lt (congrFun h.2.1 (ix1 k))
  wq k d := by
    have e1 : shapeCast Pre_finite_ab.S1024x1024 (extractStridedSlice Pre_finite_ab.S1x1024x1024 ![0, 0, 0] x6
        Pre_finite_ab.Facts.slices_S4x1024x1024_S1x1024x1024_0_0_0) Pre_finite_ab.Facts.shapeCasts_S1x1024x1024_S1024x1024 (ix2 k d)
          = x6 (ix3 0 k d) := by pointwise
    rw [← e1]
    exact real_of_abs_lt (congrFun h.2.2.1 (ix2 k d))
  keys n d := by
    have e1 : extractStridedSlice Pre_finite_ab.S2048x1024 ![0, 0] x7 Pre_finite_ab.Facts.slices_S2048x2048_S2048x1024_0_0 (ix2 n d)
          = x7 (ix2 n ⟨d.val, by omega⟩) := by pointwise
    rw [← e1]
    exact real_of_abs_lt_bf16 (congrFun h.2.2.2 (ix2 n d))

/-- Element by element, the kernel's result is the reference's. -/
theorem result_eq (h : Real x4 x5 x6 x7) (R : Fin 32768) (C : Fin 1024) :
    MixAbRefIdeal.Read.val_main_v95 (F := Ideal) x0 x1 x2 x3 x4 x5 x6 x7 x8 (ix2 R C) = result x0 x1 x2 x3 x4 x5 x6 x7 x8 R C := by
  rw [MixAbRef.v95_eq]
  exact (Mix.row_eq _ _ _ _ _ _ _ _ _ _ h.gain h.bias h.wq (fun n d => h.keys _ d) C).symm

/-- The kernel's result array is the reference's. -/
theorem arrays_eq (m : (ℓ : Loc MixAbIdeal.nD MixAbIdeal.τ MixAbIdeal.sig) → Buf (Elt Ideal) ℓ) (c : Dev MixAbIdeal.nD)
    (h : Real (m ((c.tc : Thread MixAbIdeal.nD MixAbIdeal.τ).loc MixAbIdeal.main_arg4))
        (m ((c.tc : Thread MixAbIdeal.nD MixAbIdeal.τ).loc MixAbIdeal.main_arg5))
        (m ((c.tc : Thread MixAbIdeal.nD MixAbIdeal.τ).loc MixAbIdeal.main_arg6))
        (m ((c.tc : Thread MixAbIdeal.nD MixAbIdeal.τ).loc MixAbIdeal.main_arg7))) :
    MixAbRefIdeal.Read.val_main_v95 (F := Ideal) (m ((c.tc : Thread MixAbIdeal.nD MixAbIdeal.τ).loc MixAbIdeal.main_arg0))
        (m ((c.tc : Thread MixAbIdeal.nD MixAbIdeal.τ).loc MixAbIdeal.main_arg1))
        (m ((c.tc : Thread MixAbIdeal.nD MixAbIdeal.τ).loc MixAbIdeal.main_arg2))
        (m ((c.tc : Thread MixAbIdeal.nD MixAbIdeal.τ).loc MixAbIdeal.main_arg3))
        (m ((c.tc : Thread MixAbIdeal.nD MixAbIdeal.τ).loc MixAbIdeal.main_arg4))
        (m ((c.tc : Thread MixAbIdeal.nD MixAbIdeal.τ).loc MixAbIdeal.main_arg5))
        (m ((c.tc : Thread MixAbIdeal.nD MixAbIdeal.τ).loc MixAbIdeal.main_arg6))
        (m ((c.tc : Thread MixAbIdeal.nD MixAbIdeal.τ).loc MixAbIdeal.main_arg7))
        (m ((c.tc : Thread MixAbIdeal.nD MixAbIdeal.τ).loc MixAbIdeal.main_arg8))
      = (MixAbIdeal.Gen.dats m 0 c).arrAt 13 MixAbIdeal.cfg0.N := by
  rw [array_eq]
  funext i
  obtain ⟨R, C, rfl⟩ : ∃ (R : Fin 32768) (C : Fin 1024), i = ix2 R C :=
    ⟨i 0, i 1, by funext a; match a with | ⟨0, _⟩ => rfl | ⟨1, _⟩ => rfl⟩
  exact result_eq _ _ _ _ _ _ _ _ _ h R C

/-- The value claim. -/
theorem algebraic : Cert.algebraic_MixAbIdeal_MixAbRefIdeal_pre_finite_ab (hMixAbIdeal := Cert.MixAbIdeal.Gen.facts)
    (hMixAbRefIdeal := Cert.MixAbRefIdeal.Gen.facts) (hPre_finite_ab := Cert.Pre_finite_ab.Gen.facts) := by
  intro m ρ m' ρ' hpre hagree
  refine ⟨fun c => (MixAbIdeal.Gen.dats m 0 c).arrAt 13 MixAbIdeal.cfg0.N, MixAbIdeal.Value.run_blocks m ρ, ?_⟩
  refine (θ_run _ _ _).mono (fun r h c => ⟨?_, (h c).2⟩) (MixAbRefIdeal.Value.run (F := Ideal) m' ρ')
  obtain ⟨a0, a1, a2, a3, a4, a5, a6, a7, a8⟩ := hagree c
  have hv : r.2.mem ((c.tc : Thread MixAbRefIdeal.nD MixAbRefIdeal.τ).loc MixAbRefIdeal.main_v95)
    = MixAbRefIdeal.Read.val_main_v95 (F := Ideal) (m' ((c.tc : Thread MixAbRefIdeal.nD MixAbRefIdeal.τ).loc MixAbRefIdeal.main_arg0))
      (m' ((c.tc : Thread MixAbRefIdeal.nD MixAbRefIdeal.τ).loc MixAbRefIdeal.main_arg1))
      (m' ((c.tc : Thread MixAbRefIdeal.nD MixAbRefIdeal.τ).loc MixAbRefIdeal.main_arg2))
      (m' ((c.tc : Thread MixAbRefIdeal.nD MixAbRefIdeal.τ).loc MixAbRefIdeal.main_arg3))
      (m' ((c.tc : Thread MixAbRefIdeal.nD MixAbRefIdeal.τ).loc MixAbRefIdeal.main_arg4))
      (m' ((c.tc : Thread MixAbRefIdeal.nD MixAbRefIdeal.τ).loc MixAbRefIdeal.main_arg5))
      (m' ((c.tc : Thread MixAbRefIdeal.nD MixAbRefIdeal.τ).loc MixAbRefIdeal.main_arg6))
      (m' ((c.tc : Thread MixAbRefIdeal.nD MixAbRefIdeal.τ).loc MixAbRefIdeal.main_arg7))
      (m' ((c.tc : Thread MixAbRefIdeal.nD MixAbRefIdeal.τ).loc MixAbRefIdeal.main_arg8)) :=
    (h c).1.trans (MixAbRefIdeal.Read.val_main_v95_eq (StableHlo.launchContents m' c))
  rw [a0, a1, a2, a3, a4, a5, a6, a7, a8] at hv
  refine hv.trans ?_
  exact arrays_eq m c (real_of_pre _ _ _ _ _ _ _ _ _ (hpre c))

/-- The constant that the idealized program names is the one it rounds. -/
theorem preserves : Cert.preserves_MixAb_MixAbIdeal :=
  IdealRules.named_const.statement MixAbIdeal.κ "s" .f32 0x3DB8AA3B#32 _ rfl

/-- The reference leaves its arguments as they were and every semaphore at zero. -/
theorem ref_frame (m : (ℓ : Loc MixAbRefIdeal.nD MixAbRefIdeal.τ MixAbRefIdeal.sig) → Buf (Elt Ideal) ℓ) (ρ : Dev MixAbRefIdeal.nD → PrngReg) :
    θ_run MixAbRefIdeal.defs (onTc (τ := MixAbRefIdeal.τ) (MixAbRefIdeal.main (F := Ideal))) ⟨m, fun _ => 0, ρ⟩ fun r =>
      (∀ c : Dev MixAbRefIdeal.nD,
        r.2.mem ((c.tc : Thread MixAbRefIdeal.nD MixAbRefIdeal.τ).loc MixAbRefIdeal.main_arg0) = m ((c.tc : Thread MixAbRefIdeal.nD MixAbRefIdeal.τ).loc MixAbRefIdeal.main_arg0)
        ∧ r.2.mem ((c.tc : Thread MixAbRefIdeal.nD MixAbRefIdeal.τ).loc MixAbRefIdeal.main_arg1) = m ((c.tc : Thread MixAbRefIdeal.nD MixAbRefIdeal.τ).loc MixAbRefIdeal.main_arg1)
        ∧ r.2.mem ((c.tc : Thread MixAbRefIdeal.nD MixAbRefIdeal.τ).loc MixAbRefIdeal.main_arg2) = m ((c.tc : Thread MixAbRefIdeal.nD MixAbRefIdeal.τ).loc MixAbRefIdeal.main_arg2)
        ∧ r.2.mem ((c.tc : Thread MixAbRefIdeal.nD MixAbRefIdeal.τ).loc MixAbRefIdeal.main_arg3) = m ((c.tc : Thread MixAbRefIdeal.nD MixAbRefIdeal.τ).loc MixAbRefIdeal.main_arg3)
        ∧ r.2.mem ((c.tc : Thread MixAbRefIdeal.nD MixAbRefIdeal.τ).loc MixAbRefIdeal.main_arg4) = m ((c.tc : Thread MixAbRefIdeal.nD MixAbRefIdeal.τ).loc MixAbRefIdeal.main_arg4)
        ∧ r.2.mem ((c.tc : Thread MixAbRefIdeal.nD MixAbRefIdeal.τ).loc MixAbRefIdeal.main_arg5) = m ((c.tc : Thread MixAbRefIdeal.nD MixAbRefIdeal.τ).loc MixAbRefIdeal.main_arg5)
        ∧ r.2.mem ((c.tc : Thread MixAbRefIdeal.nD MixAbRefIdeal.τ).loc MixAbRefIdeal.main_arg6) = m ((c.tc : Thread MixAbRefIdeal.nD MixAbRefIdeal.τ).loc MixAbRefIdeal.main_arg6)
        ∧ r.2.mem ((c.tc : Thread MixAbRefIdeal.nD MixAbRefIdeal.τ).loc MixAbRefIdeal.main_arg7) = m ((c.tc : Thread MixAbRefIdeal.nD MixAbRefIdeal.τ).loc MixAbRefIdeal.main_arg7)
        ∧ r.2.mem ((c.tc : Thread MixAbRefIdeal.nD MixAbRefIdeal.τ).loc MixAbRefIdeal.main_arg8) = m ((c.tc : Thread MixAbRefIdeal.nD MixAbRefIdeal.τ).loc MixAbRefIdeal.main_arg8))
      ∧ r.2.sem = fun _ => 0 :=
  (θ_run _ _ _).mono (fun r h => ⟨fun c => (h c).2, Idealize.ShloMosaic.sem_eq_zero_of_no_sems (by decide) r.2⟩)
    (MixAbRefIdeal.Value.run (F := Ideal) m ρ)

end Cert.Own.MixAb

end
-- ==== Proof.MixCBlock.lean ====
/- The memory attention's kernel after the third attention: its output block, element by element. -/
module

public import proofs.«01_k».proof.Proof.MixAbBlock
public import proofs.«01_k».proof.Proof.Gen.MixCIdeal.Frame

@[expose] public section

set_option maxRecDepth 16384

noncomputable section

namespace Cert.Own.MixC

open Cert.MixCIdeal Cert.MixCIdeal.Gen Idealize.ShloMosaic
open scoped BigOperators

section

variable {F : FTy → Type} [FloatOps F] [Named F]

/-- A slab of rows after the first layer norm. -/
def first (a : Vec F S256x1024 .bf16) (x : Vec F S256x1024 .f32) (w : Vec F S1024x1024 .bf16) (g1 b1 : Vec F S1x1024 .f32) :
    FVec F S256x1024 .f32 :=
  k0_pay10 (k0_pay2 a (View.ld w r0_1)) x (View.ld g1 r0_5) (View.ld b1 r0_5)

/-- The output block is its four slabs, the rest of each being the other call's. -/
theorem out_eq (x0 x1 : Vec F S1024x1024 .bf16) (x2 : Vec F S1024x1024 .f32) (x3 x4 : Vec F S1x1024 .f32)
    (x5 : Vec F S1024x1024 .bf16) (x6 x7 : Vec F S256x1024 .bf16) (x8 : Vec F S1024x1024 .bf16) (x9 x10 : Vec F S1x1024 .f32) :
    out0_11 x0 x1 x2 x3 x4 x5 x6 x7 x8 x9 x10 = View.canon [
      ⟨r0_4, MixAb.second (first (View.ld x0 r0_4) (View.ld x2 r0_4) x1 x3 x4) x5 x6 x7 x8 x9 x10⟩,
      ⟨r0_3, MixAb.second (first (View.ld x0 r0_3) (View.ld x2 r0_3) x1 x3 x4) x5 x6 x7 x8 x9 x10⟩,
      ⟨r0_2, MixAb.second (first (View.ld x0 r0_2) (View.ld x2 r0_2) x1 x3 x4) x5 x6 x7 x8 x9 x10⟩,
      ⟨r0_0, MixAb.second (first (View.ld x0 r0_0) (View.ld x2 r0_0) x1 x3 x4) x5 x6 x7 x8 x9 x10⟩] := by
  rfl

end

/-- The first layer norm at an index. -/
theorem first_apply (a : Vec Ideal S256x1024 .bf16) (x : Vec Ideal S256x1024 .f32) (w : Vec Ideal S1024x1024 .bf16)
    (g1 b1 : Vec Ideal S1x1024 .f32) (r : Fin 256) (c : Fin 1024) :
    first a x w g1 b1 (ix2 r c)
      = layerNorm (fun k => Ideal.ofBits .f32 0x3FD744FD#32 * x (ix2 r k) + ∑ e : Fin 1024, a (ix2 r e) * w (ix2 e k))
          (fun k => g1 (ix2 0 k)) (fun k => b1 (ix2 0 k)) c := by
  unfold first k0_pay10 k0_pay2 layerNorm mean
  pointwise

variable (x0 x1 : Vec Ideal S1024x1024 .bf16) (x2 : Vec Ideal S1024x1024 .f32) (x3 x4 : Vec Ideal S1x1024 .f32)
  (x5 : Vec Ideal S1024x1024 .bf16) (x6 x7 : Vec Ideal S256x1024 .bf16) (x8 : Vec Ideal S1024x1024 .bf16) (x9 x10 : Vec Ideal S1x1024 .f32)

/-- An element of the output block. -/
def element (R : Fin 1024) (c : Fin 1024) : EReal :=
  Mix.row (((Real.log 65536)⁻¹ : ℝ) : EReal)
    (fun k => ∑ e : Fin 1024, x0 (ix2 R e) * x1 (ix2 e k)) (fun k => x2 (ix2 R k))
    (fun k => x3 (ix2 0 k)) (fun k => x4 (ix2 0 k)) (fun k d => x5 (ix2 k d)) (fun t d => x6 (ix2 t d)) (fun t d => x7 (ix2 t d))
    (fun d k => x8 (ix2 d k)) (fun k => x9 (ix2 0 k)) (fun k => x10 (ix2 0 k)) c

/-- A slab whose rows are the block's rows is `element` at those rows. -/
theorem slab_apply (a : Vec Ideal S256x1024 .bf16) (x : Vec Ideal S256x1024 .f32) (r : Fin 256) (R : Fin 1024)
    (ha : ∀ e : Fin 1024, a (ix2 r e) = x0 (ix2 R e)) (hx : ∀ e : Fin 1024, x (ix2 r e) = x2 (ix2 R e)) (c : Fin 1024) :
    MixAb.second (first a x x1 x3 x4) x5 x6 x7 x8 x9 x10 (ix2 r c) = element x0 x1 x2 x3 x4 x5 x6 x7 x8 x9 x10 R c := by
  refine (MixAb.second_apply _ _ _ _ _ _ _ r c).trans ?_
  unfold element Mix.row
  simp only [first_apply, ha, hx]

/-- A slab that takes the block's rows `o` and on is `element` at those rows. -/
theorem piece_eq (o : Nat) (ho : o + 256 ≤ 1024) (h : ∀ a : Fin 2, (![o, 0] : Fin 2 → Nat) a + S256x1024.size a ≤ S1024x1024.size a)
    (y : S256x1024.Idx) (i : S1024x1024.Idx) (e0 : (i 0).val = o + (y 0).val) (e1 : (i 1).val = (y 1).val) :
    MixAb.second (first (View.ld x0 (Rect.unit (s := S1024x1024) ![o, 0] S256x1024.size h))
        (View.ld x2 (Rect.unit (s := S1024x1024) ![o, 0] S256x1024.size h)) x1 x3 x4) x5 x6 x7 x8 x9 x10 y
      = element x0 x1 x2 x3 x4 x5 x6 x7 x8 x9 x10 (i 0) (i 1) := by
  obtain ⟨r, c, rfl⟩ : ∃ (r : Fin 256) (c : Fin 1024), y = ix2 r c := ⟨y 0, y 1, by funext a; match a with | ⟨0, _⟩ => rfl | ⟨1, _⟩ => rfl⟩
  obtain ⟨R, C, rfl⟩ : ∃ (R : Fin 1024) (C : Fin 1024), i = ix2 R C := ⟨i 0, i 1, by funext a; match a with | ⟨0, _⟩ => rfl | ⟨1, _⟩ => rfl⟩
  obtain rfl : C = c := Fin.ext e1
  have hR : R = ⟨o + r.val, by omega⟩ := Fin.ext e0
  rw [hR]
  exact slab_apply x0 x1 x2 x3 x4 x5 x6 x7 x8 x9 x10 _ _ r _ (fun e => by pointwise) (fun e => by pointwise) C

/-- Every element of the output block. -/
theorem out_element (r c : Fin 1024) :
    out0_11 x0 x1 x2 x3 x4 x5 x6 x7 x8 x9 x10 (ix2 r c) = element x0 x1 x2 x3 x4 x5 x6 x7 x8 x9 x10 r c := by
  have z : ∀ n : Nat, 0 + 1 * n = n := fun n => by omega
  have w : ∀ o n : Nat, o + 1 * n = o + n := fun o n => by omega
  rw [out_eq]
  refine View.canon_apply_of_pieces (Val := Elt Ideal) (e := .f32)
    (fun y : S1024x1024.Idx => element x0 x1 x2 x3 x4 x5 x6 x7 x8 x9 x10 (y 0) (y 1)) _ ?_ (ix2 r c) (cover0_11 _ _ _ _ (ix2 r c))
  intro p hp y
  simp only [List.mem_cons, List.not_mem_nil, or_false] at hp
  rcases hp with rfl | rfl | rfl | rfl
  · exact piece_eq x0 x1 x2 x3 x4 x5 x6 x7 x8 x9 x10 768 (by omega) _ y _ (w _ _) (z _)
  · exact piece_eq x0 x1 x2 x3 x4 x5 x6 x7 x8 x9 x10 512 (by omega) _ y _ (w _ _) (z _)
  · exact piece_eq x0 x1 x2 x3 x4 x5 x6 x7 x8 x9 x10 256 (by omega) _ y _ (w _ _) (z _)
  · exact piece_eq x0 x1 x2 x3 x4 x5 x6 x7 x8 x9 x10 0 (by omega) _ y _ (w _ _) (z _)

end Cert.Own.MixC

end
-- ==== Proof.MixCArray.lean ====
/- The memory attention's kernel after the third attention: its result array, element by element, from its arguments. -/
module

public import proofs.«01_k».proof.Proof.Gen.MixCIdeal.Value
public import proofs.«01_k».proof.Proof.MixCBlock
public import Idealize.ShloMosaic.Lib.StableHlo.Run
public import Idealize.ShloMosaic.Lib.StableHlo.RunRead
public import Idealize.ShloMosaic.Lib.Pipeline.ValueKit.Geometry

@[expose] public section

set_option maxRecDepth 16384

noncomputable section

namespace Cert.Own.MixC

open Cert.MixCIdeal Cert.MixCIdeal.Gen Idealize.ShloMosaic Idealize.ShloMosaic.TcCoe Idealize.SL.Sem
open scoped BigOperators

variable (m : (ℓ : Loc nD τ sig) → Buf (Elt Ideal) ℓ) (c : Dev nD)

/-! ## What the kernel is launched on -/

/-- The first plane of the output weights, in the kernel's type. -/
def outPlane (y : FVec Ideal S2x1024x1024 .f32) : FVec Ideal S1024x1024 .bf16 :=
  truncf .bf16 (shapeCast S1024x1024 (extractStridedSlice S1x1024x1024 ![0, 0, 0] y slices_S2x1024x1024_S1x1024x1024_0_0_0)
    shapeCasts_S1x1024x1024_S1024x1024) bitsLt_bf16_f32

/-- The output weights at an index. -/
theorem outPlane_apply (y : FVec Ideal S2x1024x1024 .f32) (e k : Fin 1024) : outPlane y (ix2 e k) = y (ix3 0 e k) := by
  unfold outPlane
  pointwise

/-- The output weights. -/
theorem V_out : V m c main_v2 = outPlane (m ((c : Thread nD τ).loc main_arg1)) := by
  show StableHlo.after hostOps0 _ (Proc.devRef .tc main_v2) = _
  after_reads_simp
  rfl

/-- Row 1 of the second plane of a stack of gains or biases. -/
def row1 (y : FVec Ideal S4x4x1024 .f32) : FVec Ideal S1x1024 .f32 :=
  shapeCast S1x1024 (shapeCast S1024 (extractStridedSlice S1x1x1024 ![1, 1, 0] y slices_S4x4x1024_S1x1x1024_1_1_0)
    shapeCasts_S1x1x1024_S1024) shapeCasts_S1024_S1x1024

/-- Row 1 at a column. -/
theorem row1_apply (y : FVec Ideal S4x4x1024 .f32) (k : Fin 1024) : row1 y (ix2 0 k) = y (ix3 1 1 k) := by
  unfold row1
  pointwise

/-- Row 2 of the second plane of a stack of gains or biases. -/
def row2 (y : FVec Ideal S4x4x1024 .f32) : FVec Ideal S1x1024 .f32 :=
  shapeCast S1x1024 (shapeCast S1024 (extractStridedSlice S1x1x1024 ![1, 2, 0] y slices_S4x4x1024_S1x1x1024_1_2_0)
    shapeCasts_S1x1x1024_S1024) shapeCasts_S1024_S1x1024

/-- Row 2 at a column. -/
theorem row2_apply (y : FVec Ideal S4x4x1024 .f32) (k : Fin 1024) : row2 y (ix2 0 k) = y (ix3 1 2 k) := by
  unfold row2
  pointwise

/-- The second plane of a stack of weights, in the kernel's type. -/
def plane (y : FVec Ideal S4x1024x1024 .f32) : FVec Ideal S1024x1024 .bf16 :=
  truncf .bf16 (shapeCast S1024x1024 (extractStridedSlice S1x1024x1024 ![1, 0, 0] y slices_S4x1024x1024_S1x1024x1024_1_0_0)
    shapeCasts_S1x1024x1024_S1024x1024) bitsLt_bf16_f32

/-- The second plane at an index. -/
theorem plane_apply (y : FVec Ideal S4x1024x1024 .f32) (k d : Fin 1024) : plane y (ix2 k d) = y (ix3 1 k d) := by
  unfold plane
  pointwise

/-- The first gain. -/
theorem V_gain1 : V m c main_v5 = row1 (m ((c : Thread nD τ).loc main_arg3)) := by
  show StableHlo.after hostOps0 _ (Proc.devRef .tc main_v5) = _
  after_reads_simp
  rfl

/-- The first bias. -/
theorem V_bias1 : V m c main_v8 = row1 (m ((c : Thread nD τ).loc main_arg4)) := by
  show StableHlo.after hostOps0 _ (Proc.devRef .tc main_v8) = _
  after_reads_simp
  rfl

/-- The second gain. -/
theorem V_gain2 : V m c main_v17 = row2 (m ((c : Thread nD τ).loc main_arg3)) := by
  show StableHlo.after hostOps0 _ (Proc.devRef .tc main_v17) = _
  after_reads_simp
  rfl

/-- The second bias. -/
theorem V_bias2 : V m c main_v20 = row2 (m ((c : Thread nD τ).loc main_arg4)) := by
  show StableHlo.after hostOps0 _ (Proc.devRef .tc main_v20) = _
  after_reads_simp
  rfl

/-- The weights of the queries. -/
theorem V_wq : V m c main_v11 = plane (m ((c : Thread nD τ).loc main_arg5)) := by
  show StableHlo.after hostOps0 _ (Proc.devRef .tc main_v11) = _
  after_reads_simp
  rfl

/-- The weights of the way back. -/
theorem V_wo : V m c main_v14 = plane (m ((c : Thread nD τ).loc main_arg7)) := by
  show StableHlo.after hostOps0 _ (Proc.devRef .tc main_v14) = _
  after_reads_simp
  rfl

/-! ## The blocks of a grid point -/

/-- The attention's rows: block `4 b + t`. -/
theorem index0 : ∀ t : Fin cfg0.N, win0_0.index t = ![(grid0.coords t 0).val * 4 + (grid0.coords t 1).val, 0] := (by decide +kernel : ∀ t : Fin grid0.N, _)
/-- All the weights. -/
theorem index1 : ∀ t : Fin cfg0.N, win0_1.index t = ![0, 0] := (by decide +kernel : ∀ t : Fin grid0.N, _)
/-- The residual rows: block `4 b + t`. -/
theorem index2 : ∀ t : Fin cfg0.N, win0_2.index t = ![(grid0.coords t 0).val * 4 + (grid0.coords t 1).val, 0] := (by decide +kernel : ∀ t : Fin grid0.N, _)
/-- All the first gain. -/
theorem index3 : ∀ t : Fin cfg0.N, win0_3.index t = ![0, 0] := (by decide +kernel : ∀ t : Fin grid0.N, _)
/-- All the first bias. -/
theorem index4 : ∀ t : Fin cfg0.N, win0_4.index t = ![0, 0] := (by decide +kernel : ∀ t : Fin grid0.N, _)
/-- All the weights of the queries. -/
theorem index5 : ∀ t : Fin cfg0.N, win0_5.index t = ![0, 0] := (by decide +kernel : ∀ t : Fin grid0.N, _)
/-- The keys of the sequence. -/
theorem index6 : ∀ t : Fin cfg0.N, win0_6.index t = ![(grid0.coords t 0).val, 0] := (by decide +kernel : ∀ t : Fin grid0.N, _)
/-- The values of the sequence. -/
theorem index7 : ∀ t : Fin cfg0.N, win0_7.index t = ![(grid0.coords t 0).val, 1] := (by decide +kernel : ∀ t : Fin grid0.N, _)
/-- All the weights of the way back. -/
theorem index8 : ∀ t : Fin cfg0.N, win0_8.index t = ![0, 0] := (by decide +kernel : ∀ t : Fin grid0.N, _)
/-- All the second gain. -/
theorem index9 : ∀ t : Fin cfg0.N, win0_9.index t = ![0, 0] := (by decide +kernel : ∀ t : Fin grid0.N, _)
/-- All the second bias. -/
theorem index10 : ∀ t : Fin cfg0.N, win0_10.index t = ![0, 0] := (by decide +kernel : ∀ t : Fin grid0.N, _)
/-- The output rows: block `4 b + t`. -/
theorem index11 : ∀ t : Fin cfg0.N, win0_11.index t = ![(grid0.coords t 0).val * 4 + (grid0.coords t 1).val, 0] := (by decide +kernel : ∀ t : Fin grid0.N, _)

variable (t : Fin cfg0.N)

/-- The row of the arrays that row `r` of a grid point's blocks is. -/
def rowAt (r : Fin 1024) : Fin 32768 :=
  ⟨((grid0.coords t 0).val * 4 + (grid0.coords t 1).val) * 1024 + r.val, by
    have h0 : (grid0.coords t 0).val < 8 := (grid0.coords t 0).isLt
    have h1 : (grid0.coords t 1).val < 4 := (grid0.coords t 1).isLt
    omega⟩

/-- The memory token of the arrays that token `n` of a grid point's sequence is. -/
def tokenAt (n : Fin 256) : Fin 2048 :=
  ⟨(grid0.coords t 0).val * 256 + n.val, by
    have h0 : (grid0.coords t 0).val < 8 := (grid0.coords t 0).isLt
    omega⟩

/-- An attention's row. -/
theorem block0 (r e : Fin 1024) : iblk m c 0 t (ix2 r e) = m ((c : Thread nD τ).loc main_arg0) (ix2 (rowAt t r) e) := by
  rw [← V_main_arg0 m c]
  have he := e.isLt
  blk_simp [iblk, index0]
  refine congrArg (V m c main_arg0) ?_
  blk_ext [index0, rowAt]

/-- The output weights. -/
theorem block1 (e k : Fin 1024) : iblk m c 1 t (ix2 e k) = m ((c : Thread nD τ).loc main_arg1) (ix3 0 e k) := by
  refine Eq.trans ?_ (outPlane_apply (m ((c : Thread nD τ).loc main_arg1)) e k)
  rw [← V_out]
  have he := e.isLt
  have hk := k.isLt
  blk_simp [iblk, index1]
  refine congrArg (V m c main_v2) ?_
  blk_ext [index1]

/-- A residual row. -/
theorem block2 (r k : Fin 1024) : iblk m c 2 t (ix2 r k) = m ((c : Thread nD τ).loc main_arg2) (ix2 (rowAt t r) k) := by
  rw [← V_main_arg2 m c]
  have hk := k.isLt
  blk_simp [iblk, index2]
  refine congrArg (V m c main_arg2) ?_
  blk_ext [index2, rowAt]

/-- The first gain. -/
theorem block3 (k : Fin 1024) : iblk m c 3 t (ix2 0 k) = m ((c : Thread nD τ).loc main_arg3) (ix3 1 1 k) := by
  refine Eq.trans ?_ (row1_apply (m ((c : Thread nD τ).loc main_arg3)) k)
  rw [← V_gain1 m c]
  have hk := k.isLt
  blk_simp [iblk, index3]
  refine congrArg (V m c main_v5) ?_
  blk_ext [index3]

/-- The first bias. -/
theorem block4 (k : Fin 1024) : iblk m c 4 t (ix2 0 k) = m ((c : Thread nD τ).loc main_arg4) (ix3 1 1 k) := by
  refine Eq.trans ?_ (row1_apply (m ((c : Thread nD τ).loc main_arg4)) k)
  rw [← V_bias1 m c]
  have hk := k.isLt
  blk_simp [iblk, index4]
  refine congrArg (V m c main_v8) ?_
  blk_ext [index4]

/-- The weights of the queries. -/
theorem block5 (k d : Fin 1024) : iblk m c 5 t (ix2 k d) = m ((c : Thread nD τ).loc main_arg5) (ix3 1 k d) := by
  refine Eq.trans ?_ (plane_apply (m ((c : Thread nD τ).loc main_arg5)) k d)
  rw [← V_wq m c]
  have hk := k.isLt
  have hd := d.isLt
  blk_simp [iblk, index5]
  refine congrArg (V m c main_v11) ?_
  blk_ext [index5]

/-- The keys. -/
theorem block6 (n : Fin 256) (d : Fin 1024) : iblk m c 6 t (ix2 n d) = m ((c : Thread nD τ).loc main_arg6) (ix2 (tokenAt t n) ⟨d.val, by omega⟩) := by
  rw [← V_main_arg6 m c]
  have hd := d.isLt
  blk_simp [iblk, index6]
  refine congrArg (V m c main_arg6) ?_
  blk_ext [index6, tokenAt]

/-- The values. -/
theorem block7 (n : Fin 256) (d : Fin 1024) : iblk m c 7 t (ix2 n d) = m ((c : Thread nD τ).loc main_arg6) (ix2 (tokenAt t n) ⟨1024 + d.val, by omega⟩) := by
  rw [← V_main_arg6 m c]
  have hd := d.isLt
  blk_simp [iblk, index7]
  refine congrArg (V m c main_arg6) ?_
  blk_ext [index7, tokenAt]

/-- The weights of the way back. -/
theorem block8 (d k : Fin 1024) : iblk m c 8 t (ix2 d k) = m ((c : Thread nD τ).loc main_arg7) (ix3 1 d k) := by
  refine Eq.trans ?_ (plane_apply (m ((c : Thread nD τ).loc main_arg7)) d k)
  rw [← V_wo m c]
  have hk := k.isLt
  have hd := d.isLt
  blk_simp [iblk, index8]
  refine congrArg (V m c main_v14) ?_
  blk_ext [index8]

/-- The second gain. -/
theorem block9 (k : Fin 1024) : iblk m c 9 t (ix2 0 k) = m ((c : Thread nD τ).loc main_arg3) (ix3 1 2 k) := by
  refine Eq.trans ?_ (row2_apply (m ((c : Thread nD τ).loc main_arg3)) k)
  rw [← V_gain2 m c]
  have hk := k.isLt
  blk_simp [iblk, index9]
  refine congrArg (V m c main_v17) ?_
  blk_ext [index9]

/-- The second bias. -/
theorem block10 (k : Fin 1024) : iblk m c 10 t (ix2 0 k) = m ((c : Thread nD τ).loc main_arg4) (ix3 1 2 k) := by
  refine Eq.trans ?_ (row2_apply (m ((c : Thread nD τ).loc main_arg4)) k)
  rw [← V_bias2 m c]
  have hk := k.isLt
  blk_simp [iblk, index10]
  refine congrArg (V m c main_v20) ?_
  blk_ext [index10]

/-! ## The result -/

/-- An element of the result from the arguments: row `R`, column `C`. -/
def result (x0 : FVec Ideal S32768x1024 .bf16) (x1 : FVec Ideal S2x1024x1024 .f32) (x2 : FVec Ideal S32768x1024 .f32)
    (x3 x4 : FVec Ideal S4x4x1024 .f32) (x5 : FVec Ideal S4x1024x1024 .f32) (x6 : FVec Ideal S2048x2048 .bf16)
    (x7 : FVec Ideal S4x1024x1024 .f32) (R : Fin 32768) (C : Fin 1024) : EReal :=
  Mix.row (((Real.log 65536)⁻¹ : ℝ) : EReal) (fun k => ∑ e : Fin 1024, x0 (ix2 R e) * x1 (ix3 0 e k))
    (fun k => x2 (ix2 R k)) (fun k => x3 (ix3 1 1 k)) (fun k => x4 (ix3 1 1 k)) (fun k d => x5 (ix3 1 k d))
    (fun n d => x6 (ix2 ⟨R.val / 4096 * 256 + n.val, by omega⟩ ⟨d.val, by omega⟩))
    (fun n d => x6 (ix2 ⟨R.val / 4096 * 256 + n.val, by omega⟩ ⟨1024 + d.val, by omega⟩))
    (fun d k => x7 (ix3 1 d k)) (fun k => x3 (ix3 1 2 k)) (fun k => x4 (ix3 1 2 k)) C

/-- The result array after the run. -/
theorem array_eq :
    (dats m 0 c).arrAt 11 cfg0.N
      = fun i => result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (i 0) (i 1) := by
  refine (dats m 0 c).arrAt_eq_of_covers 11 _ (by decide +kernel) fun t hf y => ?_
  blk_simp
  rw [after0_11]
  obtain ⟨r, d, rfl⟩ : ∃ (r : Fin 1024) (d : Fin 1024), y = ix2 r d := ⟨y 0, y 1, by funext a; match a with | ⟨0, _⟩ => rfl | ⟨1, _⟩ => rfl⟩
  rw [out_element]
  unfold element
  simp only [block0, block1, block2, block3, block4, block5, block6, block7, block8, block9, block10]
  have h0 : (grid0.coords t 0).val < 8 := (grid0.coords t 0).isLt
  have h1 : (grid0.coords t 1).val < 4 := (grid0.coords t 1).isLt
  have hd := d.isLt
  have hr := r.isLt
  have ht : ∀ n : Fin 256, tokenAt t n = ⟨(rowAt t r).val / 4096 * 256 + n.val, by have := (rowAt t r).isLt; omega⟩ := fun n => Fin.ext (by
    show (grid0.coords t 0).val * 256 + n.val = (((grid0.coords t 0).val * 4 + (grid0.coords t 1).val) * 1024 + r.val) / 4096 * 256 + n.val
    omega)
  simp only [ht]
  have key : ∀ (f : Fin 32768 → Fin 1024 → EReal) (R' : Fin 32768) (C' : Fin 1024), R' = rowAt t r → C' = d → f (rowAt t r) d = f R' C' := by
    rintro _ _ _ rfl rfl; rfl
  refine key (result _ _ _ _ _ _ _ _) _ _ (Fin.ext ?_) (Fin.ext ?_)
  · blk_simp [index11, rowAt]
  · blk_simp [index11]

end Cert.Own.MixC

end
-- ==== Proof.MixCRef.lean ====
/- The reference of the memory attention's step after the third attention, element by element, from its argument arrays. -/
module

public import proofs.«01_k».proof.Proof.Gen.MixCRefIdeal.Read
public import proofs.«01_k».proof.Proof.MixLaw
public import Idealize.ShloMosaic.Lib.Pointwise
public import Idealize.ShloMosaic.PureOps.Ideal.Laws

@[expose] public section

set_option maxRecDepth 16384

noncomputable section

namespace Cert.Own.MixCRef

open Cert.MixCRefIdeal Cert.MixCRefIdeal.Read Idealize.ShloMosaic
open scoped BigOperators

variable (x0 : FVec Ideal S32768x1024 .bf16) (x1 : FVec Ideal S2x1024x1024 .f32) (x2 : FVec Ideal S32768x1024 .f32)
  (x3 x4 : FVec Ideal S4x4x1024 .f32) (x5 : FVec Ideal S4x1024x1024 .f32) (x6 : FVec Ideal S2048x2048 .bf16)
  (x7 : FVec Ideal S4x1024x1024 .f32)

/-- What the attention adds to a row. -/
def added (R : Fin 32768) (k : Fin 1024) : EReal := ∑ e : Fin 1024, x0 (ix2 R e) * x1 (ix3 0 e k)

/-- The output weights. -/
theorem v2_eq (i : S1024x1024.Idx) : val_main_v2 (F := Ideal) x1 i = x1 (ix3 0 (i 0) (i 1)) := by
  have h0 : (i 0).val < 1024 := (i 0).isLt
  have h1 : (i 1).val < 1024 := (i 1).isLt
  rw [val_main_v2_apply, val_main_v1_apply]
  refine congrArg x1 ?_
  funext a
  match a with
  | ⟨0, _⟩ => rfl
  | ⟨1, _⟩ => apply Fin.ext; dsimp only [idx_main_v1, idx_main_v2, ix3]; omega
  | ⟨2, _⟩ => apply Fin.ext; dsimp only [idx_main_v1, idx_main_v2, ix3]; omega

/-- What the attention adds, as the reference has it. -/
theorem v3_eq (i : S32768x1024.Idx) : val_main_v3 (F := Ideal) x0 x1 i = added x0 x1 (i 0) (i 1) := by
  rw [val_main_v3_apply]
  unfold added
  refine Finset.sum_congr rfl fun e _ => ?_
  rw [v2_eq, val_main_v0_apply]
  refine congrArg₂ (fun a b : EReal => a * b) (congrArg x0 ?_) rfl
  funext a
  match a with
  | ⟨0, _⟩ => rfl
  | ⟨1, _⟩ => rfl

/-- The row before the first layer norm. -/
def pre (R : Fin 32768) (k : Fin 1024) : EReal := Ideal.ofBits .f32 0x3FD744FD#32 * x2 (ix2 R k) + added x0 x1 R k

/-- The row before the first layer norm, as the reference has it. -/
theorem v6_eq (i : S32768x1024.Idx) : val_main_v6 (F := Ideal) x0 x1 x2 i = pre x0 x1 x2 (i 0) (i 1) := by
  rw [val_main_v6_apply, val_main_v5_apply, val_main_v4_apply, val_main_cst_apply, v3_eq]
  have e : x2 i = x2 (ix2 (i 0) (i 1)) := congrArg x2 (by
    funext a
    match a with
    | ⟨0, _⟩ => rfl
    | ⟨1, _⟩ => rfl)
  rw [e]
  rfl

/-- The row's mean. -/
theorem v14_eq (i : S32768x1.Idx) : val_main_v14 (F := Ideal) x0 x1 x2 i = mean (pre x0 x1 x2 (i 0)) := by
  rw [val_main_v14_apply, val_main_v12_apply, val_main_v13_apply, val_main_cst_1_apply, val_main_v11_apply, val_main_cst_0_apply]
  simp only [v6_eq]
  show Ideal.div (Ideal.ofBits .f32 0x00000000#32 + _) _ = _
  rw [lit_zero, zero_add]
  rfl

/-- The row's variance. -/
theorem v21_eq (i : S32768x1.Idx) :
    val_main_v21 (F := Ideal) x0 x1 x2 i
      = mean (fun k => (pre x0 x1 x2 (i 0) k - mean (pre x0 x1 x2 (i 0))) * (pre x0 x1 x2 (i 0) k - mean (pre x0 x1 x2 (i 0)))) := by
  rw [val_main_v21_apply, val_main_v19_apply, val_main_v20_apply, val_main_cst_3_apply, val_main_v18_apply, val_main_cst_2_apply]
  simp only [val_main_v17_apply, val_main_v16_apply, val_main_v15_apply, v6_eq, v14_eq]
  show Ideal.div (Ideal.ofBits .f32 0x00000000#32 + _) _ = _
  rw [lit_zero, zero_add]
  rfl

/-- The first gain. -/
theorem v8_eq (i : S1024.Idx) : val_main_v8 (F := Ideal) x3 i = x3 (ix3 1 1 (i 0)) := by
  have h0 : (i 0).val < 1024 := (i 0).isLt
  rw [val_main_v8_apply, val_main_v7_apply]
  refine congrArg x3 ?_
  funext a
  match a with
  | ⟨0, _⟩ => rfl
  | ⟨1, _⟩ => rfl
  | ⟨2, _⟩ => apply Fin.ext; dsimp only [idx_main_v7, idx_main_v8, ix3]; omega

/-- The first bias. -/
theorem v10_eq (i : S1024.Idx) : val_main_v10 (F := Ideal) x4 i = x4 (ix3 1 1 (i 0)) := by
  have h0 : (i 0).val < 1024 := (i 0).isLt
  rw [val_main_v10_apply, val_main_v9_apply]
  refine congrArg x4 ?_
  funext a
  match a with
  | ⟨0, _⟩ => rfl
  | ⟨1, _⟩ => rfl
  | ⟨2, _⟩ => apply Fin.ext; dsimp only [idx_main_v9, idx_main_v10, ix3]; omega

/-- The row after the first layer norm. -/
def hidden (R : Fin 32768) : Fin 1024 → EReal :=
  layerNorm (pre x0 x1 x2 R) (fun k => x3 (ix3 1 1 k)) (fun k => x4 (ix3 1 1 k))

/-- The row after the first layer norm, as the reference has it. -/
theorem v34_eq (i : S32768x1024.Idx) : val_main_v34 (F := Ideal) x0 x1 x2 x3 x4 i = hidden x0 x1 x2 x3 x4 (i 0) (i 1) := by
  rw [val_main_v34_apply, val_main_v33_apply, val_main_v32_apply, v10_eq, val_main_v31_apply, val_main_v30_apply, val_main_v29_apply, v8_eq,
    val_main_v28_apply, val_main_v23_apply, val_main_v22_apply, v6_eq, v14_eq, val_main_v27_apply, val_main_v26_apply,
    val_main_v25_apply, val_main_v24_apply, val_main_cst_4_apply, v21_eq]
  rfl

/-- The weights of the queries. -/
theorem v38_eq (i : S1024x1024.Idx) : val_main_v38 (F := Ideal) x5 i = x5 (ix3 1 (i 0) (i 1)) := by
  have h0 : (i 0).val < 1024 := (i 0).isLt
  have h1 : (i 1).val < 1024 := (i 1).isLt
  rw [val_main_v38_apply, val_main_v37_apply]
  refine congrArg x5 ?_
  funext a
  match a with
  | ⟨0, _⟩ => rfl
  | ⟨1, _⟩ => apply Fin.ext; dsimp only [idx_main_v37, idx_main_v38, ix3]; omega
  | ⟨2, _⟩ => apply Fin.ext; dsimp only [idx_main_v37, idx_main_v38, ix3]; omega

/-- The weights of the way back. -/
theorem v40_eq (i : S1024x1024.Idx) : val_main_v40 (F := Ideal) x7 i = x7 (ix3 1 (i 0) (i 1)) := by
  have h0 : (i 0).val < 1024 := (i 0).isLt
  have h1 : (i 1).val < 1024 := (i 1).isLt
  rw [val_main_v40_apply, val_main_v39_apply]
  refine congrArg x7 ?_
  funext a
  match a with
  | ⟨0, _⟩ => rfl
  | ⟨1, _⟩ => apply Fin.ext; dsimp only [idx_main_v39, idx_main_v40, ix3]; omega
  | ⟨2, _⟩ => apply Fin.ext; dsimp only [idx_main_v39, idx_main_v40, ix3]; omega

/-- A row's queries. -/
def queries (R : Fin 32768) (d : Fin 1024) : EReal := ∑ k, hidden x0 x1 x2 x3 x4 R k * x5 (ix3 1 k d)

/-- A row's queries, as the reference has them. -/
theorem v41_eq (i : S32768x1024.Idx) : val_main_v41 (F := Ideal) x0 x1 x2 x3 x4 x5 i = queries x0 x1 x2 x3 x4 x5 (i 0) (i 1) := by
  rw [val_main_v41_apply]
  simp only [v34_eq, v38_eq]
  rfl

/-- The keys of a row's sequence. -/
def keys (R : Fin 32768) (n : Fin 256) (d : Fin 1024) : EReal := x6 (ix2 ⟨R.val / 4096 * 256 + n.val, by omega⟩ ⟨d.val, by omega⟩)

/-- The values of a row's sequence. -/
def values (R : Fin 32768) (n : Fin 256) (d : Fin 1024) : EReal := x6 (ix2 ⟨R.val / 4096 * 256 + n.val, by omega⟩ ⟨1024 + d.val, by omega⟩)

/-- The row of the arrays that an index of the scores stands for. -/
abbrev rowOf (i : S8x4x4096x256.Idx) : Fin 32768 :=
  ⟨(i 0).val * 4096 + (i 2).val, by have h0 : (i 0).val < 8 := (i 0).isLt; have h2 : (i 2).val < 4096 := (i 2).isLt; omega⟩

/-- The scaled scores. -/
theorem v50_eq (i : S8x4x4096x256.Idx) :
    val_main_v50 (F := Ideal) x0 x1 x2 x3 x4 x5 x6 i
      = Mix.refScore (queries x0 x1 x2 x3 x4 x5 (rowOf i)) (keys x6 (rowOf i)) (i 1) (i 3) := by
  have h0 : (i 0).val < 8 := (i 0).isLt
  have h1 : (i 1).val < 4 := (i 1).isLt
  have h2 : (i 2).val < 4096 := (i 2).isLt
  have h3 : (i 3).val < 256 := (i 3).isLt
  rw [val_main_v50_apply, val_main_v49_apply, val_main_cst_6_apply, val_main_v48_apply]
  unfold Mix.refScore Mix.score
  refine congrArg (fun x : EReal => x * _) (Finset.sum_congr rfl fun e _ => ?_)
  have he := e.isLt
  rw [val_main_v42_apply, v41_eq, val_main_v46_apply, val_main_v44_apply, val_main_v43_apply]
  refine congrArg₂ (fun a b : EReal => a * b) (congrArg₂ (queries x0 x1 x2 x3 x4 x5) (Fin.ext ?_) (Fin.ext ?_)) (congrArg x6 ?_)
  · dsimp only [lidx_main_v48, idx_main_v42]; omega
  · dsimp only [lidx_main_v48, idx_main_v42]; omega
  · funext a
    match a with
    | ⟨0, _⟩ => apply Fin.ext; dsimp only [ridx_main_v48, idx_main_v46, idx_main_v44, ix2]; omega
    | ⟨1, _⟩ => apply Fin.ext; dsimp only [ridx_main_v48, idx_main_v46, idx_main_v44, ix2]; omega

/-- The largest score, as a fold over the memory tokens. -/
theorem v51_eq (i : S8x4x4096.Idx) :
    val_main_v51 (F := Ideal) x0 x1 x2 x3 x4 x5 x6 i
      = Finset.univ.fold max ⊥ fun n : Fin 256 => val_main_v50 (F := Ideal) x0 x1 x2 x3 x4 x5 x6 (idx_main_v58 i n) := by
  unfold val_main_v51
  generalize val_main_v50 (F := Ideal) x0 x1 x2 x3 x4 x5 x6 = y
  pointwise [val_main_cst_7]
  rw [lit_bot]
  refine congrArg (fun f => Finset.fold max ⊥ f Finset.univ) (funext fun n => congrArg y ?_)
  funext a
  match a with
  | ⟨0, _⟩ => rfl
  | ⟨1, _⟩ => rfl
  | ⟨2, _⟩ => rfl
  | ⟨3, _⟩ => rfl

/-- The exponentials of the scores, the largest taken off. -/
theorem v57_eq (i : S8x4x4096x256.Idx) :
    val_main_v57 (F := Ideal) x0 x1 x2 x3 x4 x5 x6 i
      = Ideal.exp (Mix.refScore (queries x0 x1 x2 x3 x4 x5 (rowOf i)) (keys x6 (rowOf i)) (i 1) (i 3)
          - Mix.refLargest (queries x0 x1 x2 x3 x4 x5 (rowOf i)) (keys x6 (rowOf i)) (i 1)) := by
  rw [val_main_v57_apply, val_main_v56_apply, v50_eq, val_main_v55_apply, val_main_v54_apply, val_main_v53_apply, v51_eq,
    val_main_v52_apply, val_main_cst_8_apply]
  simp only [v50_eq]
  show Ideal.exp (_ - max (Ideal.ofBits .f32 0xFF800000#32) _) = _
  rw [lit_bot]
  rfl

/-- The softmax weights. -/
theorem v61_eq (i : S8x4x4096x256.Idx) :
    val_main_v61 (F := Ideal) x0 x1 x2 x3 x4 x5 x6 i
      = Mix.refWeight (queries x0 x1 x2 x3 x4 x5 (rowOf i)) (keys x6 (rowOf i)) (i 1) (i 3) := by
  rw [val_main_v61_apply, v57_eq, val_main_v60_apply, val_main_v59_apply, val_main_v58_apply, val_main_cst_9_apply]
  simp only [v57_eq]
  show Ideal.div _ (Ideal.ofBits .f32 0x00000000#32 + _) = _
  rw [lit_zero, zero_add]
  rfl

/-- The attention's rows. -/
theorem v64_eq (i : S32768x1024.Idx) :
    val_main_v64 (F := Ideal) x0 x1 x2 x3 x4 x5 x6 i
      = Mix.refAttend (queries x0 x1 x2 x3 x4 x5 (i 0)) (keys x6 (i 0)) (values x6 (i 0)) (i 1) := by
  have h0 : (i 0).val < 32768 := (i 0).isLt
  have h1 : (i 1).val < 1024 := (i 1).isLt
  rw [val_main_v64_apply, val_main_v63_apply, val_main_v62_apply]
  unfold Mix.refAttend
  refine Finset.sum_congr rfl fun n _ => ?_
  have hn := n.isLt
  have a1 : ((i 0).val * 1024 + (i 1).val) / 4194304 = (i 0).val / 4096 := by omega
  have a2 : ((i 0).val * 1024 + (i 1).val) / 256 % 4 = (i 1).val / 256 := by omega
  have a3 : ((i 0).val * 1024 + (i 1).val) % 256 = (i 1).val % 256 := by omega
  rw [v61_eq, val_main_v47_apply, val_main_v45_apply, val_main_v43_apply]
  have e1 : rowOf (ridx_main_v62 (idx_main_v63 (idx_main_v64 i)) n) = i 0 := by
    apply Fin.ext; dsimp only [ridx_main_v62, idx_main_v63, idx_main_v64]; omega
  have e2 : ridx_main_v62 (idx_main_v63 (idx_main_v64 i)) n 1 = Mix.headOf (i 1) := by
    apply Fin.ext; dsimp only [ridx_main_v62, idx_main_v63, idx_main_v64]; omega
  rw [e1, e2]
  refine congrArg₂ (fun a b : EReal => a * b) (congrArg x6 ?_) rfl
  funext a
  match a with
  | ⟨0, _⟩ => apply Fin.ext; dsimp only [lidx_main_v62, idx_main_v63, idx_main_v64, idx_main_v47, idx_main_v45, ix2]; rw [a1, a2, a3]; omega
  | ⟨1, _⟩ => apply Fin.ext; dsimp only [lidx_main_v62, idx_main_v63, idx_main_v64, idx_main_v47, idx_main_v45, ix2]; rw [a1, a2, a3]; omega

/-- The row before the second layer norm. -/
def post (R : Fin 32768) (k : Fin 1024) : EReal :=
  Ideal.ofBits .f32 0x3FD744FD#32 * hidden x0 x1 x2 x3 x4 R k
    + ∑ d, Mix.refAttend (queries x0 x1 x2 x3 x4 x5 R) (keys x6 R) (values x6 R) d * x7 (ix3 1 d k)

/-- The row before the second layer norm, as the reference has it. -/
theorem v66_eq (i : S32768x1024.Idx) :
    val_main_v66 (F := Ideal) x0 x1 x2 x3 x4 x5 x6 x7 i = post x0 x1 x2 x3 x4 x5 x6 x7 (i 0) (i 1) := by
  rw [val_main_v66_apply, val_main_v36_apply, val_main_v35_apply, val_main_cst_5_apply, v34_eq, val_main_v65_apply]
  simp only [v64_eq, v40_eq]
  rfl

/-- The second row's mean. -/
theorem v74_eq (i : S32768x1.Idx) :
    val_main_v74 (F := Ideal) x0 x1 x2 x3 x4 x5 x6 x7 i = mean (post x0 x1 x2 x3 x4 x5 x6 x7 (i 0)) := by
  rw [val_main_v74_apply, val_main_v72_apply, val_main_v73_apply, val_main_cst_11_apply, val_main_v71_apply, val_main_cst_10_apply]
  simp only [v66_eq]
  show Ideal.div (Ideal.ofBits .f32 0x00000000#32 + _) _ = _
  rw [lit_zero, zero_add]
  rfl

/-- The second row's variance. -/
theorem v81_eq (i : S32768x1.Idx) :
    val_main_v81 (F := Ideal) x0 x1 x2 x3 x4 x5 x6 x7 i
      = mean (fun k => (post x0 x1 x2 x3 x4 x5 x6 x7 (i 0) k - mean (post x0 x1 x2 x3 x4 x5 x6 x7 (i 0)))
          * (post x0 x1 x2 x3 x4 x5 x6 x7 (i 0) k - mean (post x0 x1 x2 x3 x4 x5 x6 x7 (i 0)))) := by
  rw [val_main_v81_apply, val_main_v79_apply, val_main_v80_apply, val_main_cst_13_apply, val_main_v78_apply, val_main_cst_12_apply]
  simp only [val_main_v77_apply, val_main_v76_apply, val_main_v75_apply, v66_eq, v74_eq]
  show Ideal.div (Ideal.ofBits .f32 0x00000000#32 + _) _ = _
  rw [lit_zero, zero_add]
  rfl

/-- The second gain. -/
theorem v68_eq (i : S1024.Idx) : val_main_v68 (F := Ideal) x3 i = x3 (ix3 1 2 (i 0)) := by
  have h0 : (i 0).val < 1024 := (i 0).isLt
  rw [val_main_v68_apply, val_main_v67_apply]
  refine congrArg x3 ?_
  funext a
  match a with
  | ⟨0, _⟩ => rfl
  | ⟨1, _⟩ => rfl
  | ⟨2, _⟩ => apply Fin.ext; dsimp only [idx_main_v67, idx_main_v68, ix3]; omega

/-- The second bias. -/
theorem v70_eq (i : S1024.Idx) : val_main_v70 (F := Ideal) x4 i = x4 (ix3 1 2 (i 0)) := by
  have h0 : (i 0).val < 1024 := (i 0).isLt
  rw [val_main_v70_apply, val_main_v69_apply]
  refine congrArg x4 ?_
  funext a
  match a with
  | ⟨0, _⟩ => rfl
  | ⟨1, _⟩ => rfl
  | ⟨2, _⟩ => apply Fin.ext; dsimp only [idx_main_v69, idx_main_v70, ix3]; omega

/-- The reference's result. -/
theorem v94_eq (R : Fin 32768) (C : Fin 1024) :
    val_main_v94 (F := Ideal) x0 x1 x2 x3 x4 x5 x6 x7 (ix2 R C)
      = Mix.refRow (added x0 x1 R) (fun k => x2 (ix2 R k)) (fun k => x3 (ix3 1 1 k)) (fun k => x4 (ix3 1 1 k))
          (fun k d => x5 (ix3 1 k d)) (keys x6 R) (values x6 R) (fun d k => x7 (ix3 1 d k)) (fun k => x3 (ix3 1 2 k))
          (fun k => x4 (ix3 1 2 k)) C := by
  rw [val_main_v94_apply, val_main_v93_apply, val_main_v92_apply, v70_eq, val_main_v91_apply, val_main_v90_apply, val_main_v89_apply, v68_eq,
    val_main_v88_apply, val_main_v83_apply, val_main_v82_apply, v66_eq, v74_eq, val_main_v87_apply, val_main_v86_apply,
    val_main_v85_apply, val_main_v84_apply, val_main_cst_14_apply, v81_eq]
  rfl

end Cert.Own.MixCRef

end
-- ==== Proof.MixCClaim.lean ====
/- The claims of the memory attention's step after the third attention: with finite gain, bias, weights of the queries and keys, what it
   computes is what the reference computes. -/
module

public import proofs.«01_k».proof.Defs
public import proofs.«01_k».proof.Proof.MixCArray
public import proofs.«01_k».proof.Proof.MixCRef
public import proofs.«01_k».proof.Proof.Finite
public import proofs.«01_k».proof.Proof.Gen.MixC.Frame
public import proofs.«01_k».proof.Proof.Gen.MixCRefIdeal.Run
public import proofs.«01_k».proof.Proof.Gen.Pre_finite_c

@[expose] public section

set_option maxRecDepth 16384

noncomputable section

namespace Cert.Own.MixC

open Idealize.ShloMosaic Idealize.ShloMosaic.TcCoe Idealize.SL.Sem

variable (x0 : FVec Ideal MixCIdeal.S32768x1024 .bf16) (x1 : FVec Ideal MixCIdeal.S2x1024x1024 .f32) (x2 : FVec Ideal MixCIdeal.S32768x1024 .f32)
  (x3 x4 : FVec Ideal MixCIdeal.S4x4x1024 .f32) (x5 : FVec Ideal MixCIdeal.S4x1024x1024 .f32) (x6 : FVec Ideal MixCIdeal.S2048x2048 .bf16)
  (x7 : FVec Ideal MixCIdeal.S4x1024x1024 .f32)

/-- What the precondition says: the first gain and bias, the weights of the queries and the keys are real numbers. -/
structure Real : Prop where
  /-- The first gain. -/
  gain : ∀ k : Fin 1024, Mix.IsReal (x3 (ix3 1 1 k))
  /-- The first bias. -/
  bias : ∀ k : Fin 1024, Mix.IsReal (x4 (ix3 1 1 k))
  /-- The weights of the queries. -/
  wq : ∀ k d : Fin 1024, Mix.IsReal (x5 (ix3 1 k d))
  /-- The keys. -/
  keys : ∀ (n : Fin 2048) (d : Fin 1024), Mix.IsReal (x6 (ix2 n ⟨d.val, by omega⟩))

/-- The precondition gives it. -/
theorem real_of_pre
    (h : (Cert.Pre_finite_c.fn (F := Ideal) x0 x1 x2 x3 x4 x5 x6 x7).1 = (fun _ => 1#1)
      ∧ (Cert.Pre_finite_c.fn (F := Ideal) x0 x1 x2 x3 x4 x5 x6 x7).2.1 = (fun _ => 1#1)
      ∧ (Cert.Pre_finite_c.fn (F := Ideal) x0 x1 x2 x3 x4 x5 x6 x7).2.2.1 = (fun _ => 1#1)
      ∧ (Cert.Pre_finite_c.fn (F := Ideal) x0 x1 x2 x3 x4 x5 x6 x7).2.2.2 = (fun _ => 1#1)) :
    Real x3 x4 x5 x6 where
  gain k := by
    have e1 : shapeCast Pre_finite_c.S1024 (extractStridedSlice Pre_finite_c.S1x1x1024 ![1, 1, 0] x3
        Pre_finite_c.Facts.slices_S4x4x1024_S1x1x1024_1_1_0) Pre_finite_c.Facts.shapeCasts_S1x1x1024_S1024 (ix1 k)
          = x3 (ix3 1 1 k) := by pointwise
    rw [← e1]
    exact real_of_abs_lt (congrFun h.1 (ix1 k))
  bias k := by
    have e1 : shapeCast Pre_finite_c.S1024 (extractStridedSlice Pre_finite_c.S1x1x1024 ![1, 1, 0] x4
        Pre_finite_c.Facts.slices_S4x4x1024_S1x1x1024_1_1_0) Pre_finite_c.Facts.shapeCasts_S1x1x1024_S1024 (ix1 k)
          = x4 (ix3 1 1 k) := by pointwise
    rw [← e1]
    exact real_of_abs_lt (congrFun h.2.1 (ix1 k))
  wq k d := by
    have e1 : shapeCast Pre_finite_c.S1024x1024 (extractStridedSlice Pre_finite_c.S1x1024x1024 ![1, 0, 0] x5
        Pre_finite_c.Facts.slices_S4x1024x1024_S1x1024x1024_1_0_0) Pre_finite_c.Facts.shapeCasts_S1x1024x1024_S1024x1024 (ix2 k d)
          = x5 (ix3 1 k d) := by pointwise
    rw [← e1]
    exact real_of_abs_lt (congrFun h.2.2.1 (ix2 k d))
  keys n d := by
    have e1 : extractStridedSlice Pre_finite_c.S2048x1024 ![0, 0] x6 Pre_finite_c.Facts.slices_S2048x2048_S2048x1024_0_0 (ix2 n d)
          = x6 (ix2 n ⟨d.val, by omega⟩) := by pointwise
    rw [← e1]
    exact real_of_abs_lt_bf16 (congrFun h.2.2.2 (ix2 n d))

/-- Element by element, the kernel's result is the reference's. -/
theorem result_eq (h : Real x3 x4 x5 x6) (R : Fin 32768) (C : Fin 1024) :
    MixCRefIdeal.Read.val_main_v94 (F := Ideal) x0 x1 x2 x3 x4 x5 x6 x7 (ix2 R C) = result x0 x1 x2 x3 x4 x5 x6 x7 R C := by
  rw [MixCRef.v94_eq]
  exact (Mix.row_eq _ _ _ _ _ _ _ _ _ _ h.gain h.bias h.wq (fun n d => h.keys _ d) C).symm

/-- The kernel's result array is the reference's. -/
theorem arrays_eq (m : (ℓ : Loc MixCIdeal.nD MixCIdeal.τ MixCIdeal.sig) → Buf (Elt Ideal) ℓ) (c : Dev MixCIdeal.nD)
    (h : Real (m ((c.tc : Thread MixCIdeal.nD MixCIdeal.τ).loc MixCIdeal.main_arg3))
        (m ((c.tc : Thread MixCIdeal.nD MixCIdeal.τ).loc MixCIdeal.main_arg4))
        (m ((c.tc : Thread MixCIdeal.nD MixCIdeal.τ).loc MixCIdeal.main_arg5))
        (m ((c.tc : Thread MixCIdeal.nD MixCIdeal.τ).loc MixCIdeal.main_arg6))) :
    MixCRefIdeal.Read.val_main_v94 (F := Ideal) (m ((c.tc : Thread MixCIdeal.nD MixCIdeal.τ).loc MixCIdeal.main_arg0))
        (m ((c.tc : Thread MixCIdeal.nD MixCIdeal.τ).loc MixCIdeal.main_arg1))
        (m ((c.tc : Thread MixCIdeal.nD MixCIdeal.τ).loc MixCIdeal.main_arg2))
        (m ((c.tc : Thread MixCIdeal.nD MixCIdeal.τ).loc MixCIdeal.main_arg3))
        (m ((c.tc : Thread MixCIdeal.nD MixCIdeal.τ).loc MixCIdeal.main_arg4))
        (m ((c.tc : Thread MixCIdeal.nD MixCIdeal.τ).loc MixCIdeal.main_arg5))
        (m ((c.tc : Thread MixCIdeal.nD MixCIdeal.τ).loc MixCIdeal.main_arg6))
        (m ((c.tc : Thread MixCIdeal.nD MixCIdeal.τ).loc MixCIdeal.main_arg7))
      = (MixCIdeal.Gen.dats m 0 c).arrAt 11 MixCIdeal.cfg0.N := by
  rw [array_eq]
  funext i
  obtain ⟨R, C, rfl⟩ : ∃ (R : Fin 32768) (C : Fin 1024), i = ix2 R C :=
    ⟨i 0, i 1, by funext a; match a with | ⟨0, _⟩ => rfl | ⟨1, _⟩ => rfl⟩
  exact result_eq _ _ _ _ _ _ _ _ h R C

/-- The value claim. -/
theorem algebraic : Cert.algebraic_MixCIdeal_MixCRefIdeal_pre_finite_c (hMixCIdeal := Cert.MixCIdeal.Gen.facts)
    (hMixCRefIdeal := Cert.MixCRefIdeal.Gen.facts) (hPre_finite_c := Cert.Pre_finite_c.Gen.facts) := by
  intro m ρ m' ρ' hpre hagree
  refine ⟨fun c => (MixCIdeal.Gen.dats m 0 c).arrAt 11 MixCIdeal.cfg0.N, MixCIdeal.Value.run_blocks m ρ, ?_⟩
  refine (θ_run _ _ _).mono (fun r h c => ⟨?_, (h c).2⟩) (MixCRefIdeal.Value.run (F := Ideal) m' ρ')
  obtain ⟨a0, a1, a2, a3, a4, a5, a6, a7⟩ := hagree c
  have hv : r.2.mem ((c.tc : Thread MixCRefIdeal.nD MixCRefIdeal.τ).loc MixCRefIdeal.main_v94)
    = MixCRefIdeal.Read.val_main_v94 (F := Ideal) (m' ((c.tc : Thread MixCRefIdeal.nD MixCRefIdeal.τ).loc MixCRefIdeal.main_arg0))
      (m' ((c.tc : Thread MixCRefIdeal.nD MixCRefIdeal.τ).loc MixCRefIdeal.main_arg1))
      (m' ((c.tc : Thread MixCRefIdeal.nD MixCRefIdeal.τ).loc MixCRefIdeal.main_arg2))
      (m' ((c.tc : Thread MixCRefIdeal.nD MixCRefIdeal.τ).loc MixCRefIdeal.main_arg3))
      (m' ((c.tc : Thread MixCRefIdeal.nD MixCRefIdeal.τ).loc MixCRefIdeal.main_arg4))
      (m' ((c.tc : Thread MixCRefIdeal.nD MixCRefIdeal.τ).loc MixCRefIdeal.main_arg5))
      (m' ((c.tc : Thread MixCRefIdeal.nD MixCRefIdeal.τ).loc MixCRefIdeal.main_arg6))
      (m' ((c.tc : Thread MixCRefIdeal.nD MixCRefIdeal.τ).loc MixCRefIdeal.main_arg7)) :=
    (h c).1.trans (MixCRefIdeal.Read.val_main_v94_eq (StableHlo.launchContents m' c))
  rw [a0, a1, a2, a3, a4, a5, a6, a7] at hv
  refine hv.trans ?_
  exact arrays_eq m c (real_of_pre _ _ _ _ _ _ _ _ (hpre c))

/-- The constant that the idealized program names is the one it rounds. -/
theorem preserves : Cert.preserves_MixC_MixCIdeal :=
  IdealRules.named_const.statement MixCIdeal.κ "s" .f32 0x3DB8AA3B#32 _ rfl

/-- The reference leaves its arguments as they were and every semaphore at zero. -/
theorem ref_frame (m : (ℓ : Loc MixCRefIdeal.nD MixCRefIdeal.τ MixCRefIdeal.sig) → Buf (Elt Ideal) ℓ) (ρ : Dev MixCRefIdeal.nD → PrngReg) :
    θ_run MixCRefIdeal.defs (onTc (τ := MixCRefIdeal.τ) (MixCRefIdeal.main (F := Ideal))) ⟨m, fun _ => 0, ρ⟩ fun r =>
      (∀ c : Dev MixCRefIdeal.nD,
        r.2.mem ((c.tc : Thread MixCRefIdeal.nD MixCRefIdeal.τ).loc MixCRefIdeal.main_arg0) = m ((c.tc : Thread MixCRefIdeal.nD MixCRefIdeal.τ).loc MixCRefIdeal.main_arg0)
        ∧ r.2.mem ((c.tc : Thread MixCRefIdeal.nD MixCRefIdeal.τ).loc MixCRefIdeal.main_arg1) = m ((c.tc : Thread MixCRefIdeal.nD MixCRefIdeal.τ).loc MixCRefIdeal.main_arg1)
        ∧ r.2.mem ((c.tc : Thread MixCRefIdeal.nD MixCRefIdeal.τ).loc MixCRefIdeal.main_arg2) = m ((c.tc : Thread MixCRefIdeal.nD MixCRefIdeal.τ).loc MixCRefIdeal.main_arg2)
        ∧ r.2.mem ((c.tc : Thread MixCRefIdeal.nD MixCRefIdeal.τ).loc MixCRefIdeal.main_arg3) = m ((c.tc : Thread MixCRefIdeal.nD MixCRefIdeal.τ).loc MixCRefIdeal.main_arg3)
        ∧ r.2.mem ((c.tc : Thread MixCRefIdeal.nD MixCRefIdeal.τ).loc MixCRefIdeal.main_arg4) = m ((c.tc : Thread MixCRefIdeal.nD MixCRefIdeal.τ).loc MixCRefIdeal.main_arg4)
        ∧ r.2.mem ((c.tc : Thread MixCRefIdeal.nD MixCRefIdeal.τ).loc MixCRefIdeal.main_arg5) = m ((c.tc : Thread MixCRefIdeal.nD MixCRefIdeal.τ).loc MixCRefIdeal.main_arg5)
        ∧ r.2.mem ((c.tc : Thread MixCRefIdeal.nD MixCRefIdeal.τ).loc MixCRefIdeal.main_arg6) = m ((c.tc : Thread MixCRefIdeal.nD MixCRefIdeal.τ).loc MixCRefIdeal.main_arg6)
        ∧ r.2.mem ((c.tc : Thread MixCRefIdeal.nD MixCRefIdeal.τ).loc MixCRefIdeal.main_arg7) = m ((c.tc : Thread MixCRefIdeal.nD MixCRefIdeal.τ).loc MixCRefIdeal.main_arg7))
      ∧ r.2.sem = fun _ => 0 :=
  (θ_run _ _ _).mono (fun r h => ⟨fun c => (h c).2, Idealize.ShloMosaic.sem_eq_zero_of_no_sems (by decide) r.2⟩)
    (MixCRefIdeal.Value.run (F := Ideal) m ρ)

end Cert.Own.MixC

end
-- ==== Proof.ProjMem.lean ====
/- The projection of the memory to its keys and values: what its kernel computes is the reference's product. -/
module

public import proofs.«01_k».proof.Defs
public import proofs.«01_k».proof.Proof.Gen.ProjMem.Frame
public import proofs.«01_k».proof.Proof.Gen.ProjMemIdeal.Value
public import proofs.«01_k».proof.Proof.Gen.ProjMemRefIdeal.Read
public import proofs.«01_k».proof.Proof.Gen.ProjMemRefIdeal.Run
public import Idealize.ShloMosaic.Lib.Pointwise
public import Idealize.ShloMosaic.Lib.StableHlo.Run
public import Idealize.ShloMosaic.Lib.StableHlo.RunRead
public import Idealize.ShloMosaic.Lib.Pipeline.ValueKit.Geometry

@[expose] public section

set_option maxRecDepth 16384

noncomputable section

namespace Cert.Own.ProjMem

open Idealize.ShloMosaic Idealize.ShloMosaic.TcCoe Idealize.SL.Sem
open scoped BigOperators

section Kernel

open Cert.ProjMemIdeal Cert.ProjMemIdeal.Gen

/-- One chunk of 512 columns of the result block, at an index. -/
theorem chunk_apply (x0 : Vec Ideal S512x1024 .f32) (w : Vec Ideal S1024x512 .bf16) (r j : Fin 512) :
    k0_pay2 x0 w (ix2 r j) = ∑ k : Fin 1024, x0 (ix2 r k) * w (ix2 k j) := by
  unfold k0_pay2 k0_pay1
  pointwise

/-- The result block's element: a row times a column. -/
def element (x0 : Vec Ideal S512x1024 .f32) (x1 : Vec Ideal S1024x2048 .bf16) (r : Fin 512) (d : Fin 2048) : EReal :=
  ∑ k : Fin 1024, x0 (ix2 r k) * x1 (ix2 k d)

/-- The chunk that starts at column `o` holds the block's elements there. -/
theorem piece_eq (x0 : Vec Ideal S512x1024 .f32) (x1 : Vec Ideal S1024x2048 .bf16) (o : Nat)
    (h : ∀ a : Fin 2, (![0, o] : Fin 2 → Nat) a + S1024x512.size a ≤ S1024x2048.size a) (x : S512x512.Idx)
    (i : S512x2048.Idx) (h0 : (i 0).val = (x 0).val) (h1 : (i 1).val = o + (x 1).val) :
    k0_pay2 (View.ld x0 r0_0) (View.ld x1 (Rect.unit (s := S1024x2048) ![0, o] S1024x512.size h)) x = element x0 x1 (i 0) (i 1) := by
  obtain ⟨r, j, rfl⟩ : ∃ (r : Fin 512) (j : Fin 512), x = ix2 r j := ⟨x 0, x 1, by funext a; match a with | ⟨0, _⟩ => rfl | ⟨1, _⟩ => rfl⟩
  rw [chunk_apply]
  have h1' : (i 1).val = o + j.val := h1
  have hi : (i 1).val < 2048 := (i 1).isLt
  have e0 : i 0 = r := Fin.ext h0
  have e1 : i 1 = (⟨o + j.val, by omega⟩ : Fin 2048) := Fin.ext h1'
  unfold element
  rw [e0, e1]
  refine Finset.sum_congr rfl fun k _ => ?_
  congr 1
  · pointwise
  · pointwise

/-- Every element of the result block. -/
theorem out_element (x0 : Vec Ideal S512x1024 .f32) (x1 : Vec Ideal S1024x2048 .bf16) (r : Fin 512) (d : Fin 2048) :
    out0_2 x0 x1 (ix2 r d) = element x0 x1 r d := by
  unfold out0_2
  refine View.canon_apply_of_pieces (Val := Elt Ideal) (e := .bf16) (fun y : S512x2048.Idx => element x0 x1 (y 0) (y 1)) _ ?_ (ix2 r d)
    (cover0_2 _ _ _ _ (ix2 r d))
  intro p hp x
  have z (n : Nat) : n = 0 + 1 * n := by omega
  have w (o n : Nat) : o + 1 * n = o + n := by omega
  simp only [List.mem_cons, List.not_mem_nil, or_false] at hp
  rcases hp with rfl | rfl | rfl | rfl
  · exact piece_eq x0 x1 1536 _ x _ (z _).symm (w _ _)
  · exact piece_eq x0 x1 1024 _ x _ (z _).symm (w _ _)
  · exact piece_eq x0 x1 512 _ x _ (z _).symm (w _ _)
  · exact piece_eq x0 x1 0 _ x _ (z _).symm (w _ _)

variable (m : (ℓ : Loc nD τ sig) → Buf (Elt Ideal) ℓ)

/-- Input rows: block `t`. -/
theorem index0 : ∀ t : Fin cfg0.N, win0_0.index t = ![(grid0.coords t 0).val, 0] := (by decide +kernel : ∀ t : Fin grid0.N, _)
/-- The weights: all of them. -/
theorem index1 : ∀ t : Fin cfg0.N, win0_1.index t = ![0, 0] := (by decide +kernel : ∀ t : Fin grid0.N, _)
/-- Output rows: block `t`. -/
theorem index2 : ∀ t : Fin cfg0.N, win0_2.index t = ![(grid0.coords t 0).val, 0] := (by decide +kernel : ∀ t : Fin grid0.N, _)

/-- An element of the result, from the arrays the kernel is launched on. -/
def result (X : S2048x1024.Idx → EReal) (W : S1024x2048.Idx → EReal) (R : Fin 2048) (C : Fin 2048) : EReal :=
  ∑ k : Fin 1024, X (ix2 R k) * W (ix2 k C)

/-- The result array after the run. -/
theorem array_eq (c : Dev nD) :
    (dats m 0 c).arrAt 2 cfg0.N = fun i => result (V m c main_v0) (V m c main_v3) (i 0) (i 1) := by
  refine (dats m 0 c).arrAt_eq_of_covers 2 _ (by decide +kernel) fun t hf y => ?_
  blk_simp
  rw [after0_2]
  obtain ⟨r, d, rfl⟩ : ∃ (r : Fin 512) (d : Fin 2048), y = ix2 r d := ⟨y 0, y 1, by funext a; match a with | ⟨0, _⟩ => rfl | ⟨1, _⟩ => rfl⟩
  rw [out_element]
  have h0 : (grid0.coords t 0).val < 4 := (grid0.coords t 0).isLt
  have hd := d.isLt
  have hr := r.isLt
  have e0 : ∀ k : Fin 1024, iblk m c 0 t (ix2 r k) = V m c main_v0 (ix2 ⟨(grid0.coords t 0).val * 512 + r.val, by omega⟩ k) := by
    intro k
    have hk := k.isLt
    blk_simp [iblk, index0]
    refine congrArg (V m c main_v0) ?_
    blk_ext [index0]
  have e1 : ∀ k : Fin 1024, iblk m c 1 t (ix2 k d) = V m c main_v3 (ix2 k d) := by
    intro k
    have hk := k.isLt
    blk_simp [iblk, index1]
    refine congrArg (V m c main_v3) ?_
    blk_ext [index1]
  unfold element
  simp only [e0, e1]
  have key : ∀ (R' : Fin 2048) (C' : Fin 2048), R' = ⟨(grid0.coords t 0).val * 512 + r.val, by omega⟩ → C' = d →
      result (V m c main_v0) (V m c main_v3) ⟨(grid0.coords t 0).val * 512 + r.val, by omega⟩ d
      = result (V m c main_v0) (V m c main_v3) R' C' := by
    rintro _ _ rfl rfl; rfl
  refine key _ _ (Fin.ext ?_) (Fin.ext ?_)
  · blk_simp [index2]
  · blk_simp [index2]

/-- The memory of 8 sequences of 256 tokens, read as one sequence of rows. -/
theorem rows_apply (y : FVec Ideal S8x256x1024 .f32) (R : Fin 2048) (k : Fin 1024) :
    shapeCast S2048x1024 y shapeCasts_S8x256x1024_S2048x1024 (ix2 R k)
      = y (ix3 ⟨R.val / 256, by omega⟩ ⟨R.val % 256, by omega⟩ k) := by
  refine shapeCast_apply y shapeCasts_S8x256x1024_S2048x1024 _ _ ?_
  rewrite [Shape.rowMajor_val_three, Shape.rowMajor_val_two]
  have hk := k.isLt
  show (R.val / 256 * 256 + R.val % 256) * 1024 + k.val = R.val * 1024 + k.val
  omega

/-- The rows of the memory, all sequences one after the other. -/
theorem V_rows (c : Dev nD) (R : Fin 2048) (k : Fin 1024) :
    V m c main_v0 (ix2 R k) = m ((c : Thread nD τ).loc main_arg0) (ix3 ⟨R.val / 256, by omega⟩ ⟨R.val % 256, by omega⟩ k) := by
  have h : V m c main_v0 = shapeCast S2048x1024 (m ((c : Thread nD τ).loc main_arg0)) shapeCasts_S8x256x1024_S2048x1024 := by
    show StableHlo.after hostOps0 _ (Proc.devRef .tc main_v0) = _
    after_reads_simp
    rfl
  rw [h]
  exact rows_apply _ R k

/-- The weights of layer 0 out of the stack. -/
def firstWeights (y : FVec Ideal S4x1024x2048 .f32) : FVec Ideal S1024x2048 .bf16 :=
  truncf .bf16 (shapeCast S1024x2048 (extractStridedSlice S1x1024x2048 ![0, 0, 0] y slices_S4x1024x2048_S1x1024x2048_0_0_0)
    shapeCasts_S1x1024x2048_S1024x2048) bitsLt_bf16_f32

/-- The weights of layer 0 read at an index. -/
theorem firstWeights_apply (y : FVec Ideal S4x1024x2048 .f32) (k : Fin 1024) (C : Fin 2048) : firstWeights y (ix2 k C) = y (ix3 0 k C) := by
  unfold firstWeights
  pointwise

/-- The weights. -/
theorem V_weights (c : Dev nD) (k : Fin 1024) (C : Fin 2048) :
    V m c main_v3 (ix2 k C) = m ((c : Thread nD τ).loc main_arg1) (ix3 0 k C) := by
  have h : V m c main_v3 = firstWeights (m ((c : Thread nD τ).loc main_arg1)) := by
    show StableHlo.after hostOps0 _ (Proc.devRef .tc main_v3) = _
    after_reads_simp
    rfl
  rw [h]
  exact firstWeights_apply _ k C

end Kernel

section Reference

open Cert.ProjMemRefIdeal Cert.ProjMemRefIdeal.Read

/-- The reference's result: a row of the memory times a column of the weights. -/
theorem reference_eq (x0 : FVec Ideal S8x256x1024 .f32) (x1 : FVec Ideal S4x1024x2048 .f32) (R C : Fin 2048) :
    val_main_v4 (F := Ideal) x0 x1 (ix2 R C)
      = ∑ k : Fin 1024, x0 (ix3 ⟨R.val / 256, by omega⟩ ⟨R.val % 256, by omega⟩ k) * x1 (ix3 0 k C) := by
  have hR := R.isLt
  have hC := C.isLt
  rw [val_main_v4_apply, val_main_v3_apply, val_main_v2_apply]
  show (∑ k : Fin 1024, _ : EReal) = _
  refine Finset.sum_congr rfl fun k _ => ?_
  have hk := k.isLt
  rw [val_main_v1_apply, val_main_v0_apply]
  congr 1
  · refine congrArg x0 ?_
    funext a
    match a with
    | ⟨0, _⟩ => apply Fin.ext; dsimp only [lidx_main_v2, idx_main_v3, ix2, ix3]; omega
    | ⟨1, _⟩ => apply Fin.ext; dsimp only [lidx_main_v2, idx_main_v3, ix2, ix3]; omega
    | ⟨2, _⟩ => rfl
  · refine congrArg x1 ?_
    funext a
    match a with
    | ⟨0, _⟩ => rfl
    | ⟨1, _⟩ => apply Fin.ext; dsimp only [ridx_main_v2, idx_main_v3, idx_main_v1, idx_main_v0, ix2, ix3]; omega
    | ⟨2, _⟩ => apply Fin.ext; dsimp only [ridx_main_v2, idx_main_v3, idx_main_v1, idx_main_v0, ix2, ix3]; omega

end Reference

/-- The kernel's result where it is launched on the rows of `x` and the first of the weights `w`. -/
theorem result_of (x : FVec Ideal ProjMemRefIdeal.S8x256x1024 .f32) (w : FVec Ideal ProjMemRefIdeal.S4x1024x2048 .f32)
    (X : ProjMemIdeal.S2048x1024.Idx → EReal) (W : ProjMemIdeal.S1024x2048.Idx → EReal)
    (hX : ∀ (R : Fin 2048) (k : Fin 1024), X (ix2 R k) = x (ix3 ⟨R.val / 256, by omega⟩ ⟨R.val % 256, by omega⟩ k))
    (hW : ∀ (k : Fin 1024) (C : Fin 2048), W (ix2 k C) = w (ix3 0 k C)) (R C : Fin 2048) :
    result X W R C = ∑ k : Fin 1024, x (ix3 ⟨R.val / 256, by omega⟩ ⟨R.val % 256, by omega⟩ k) * w (ix3 0 k C) := by
  unfold result
  simp only [hX, hW]

/-- The kernel's result array is the reference's. -/
theorem arrays_eq (m : (ℓ : Loc ProjMemIdeal.nD ProjMemIdeal.τ ProjMemIdeal.sig) → Buf (Elt Ideal) ℓ) (c : Dev ProjMemIdeal.nD) :
    ProjMemRefIdeal.Read.val_main_v4 (F := Ideal) (m ((c.tc : Thread ProjMemIdeal.nD ProjMemIdeal.τ).loc ProjMemIdeal.main_arg0))
        (m ((c.tc : Thread ProjMemIdeal.nD ProjMemIdeal.τ).loc ProjMemIdeal.main_arg1))
      = (ProjMemIdeal.Gen.dats m 0 c).arrAt 2 ProjMemIdeal.cfg0.N := by
  rw [array_eq]
  funext i
  obtain ⟨R, C, rfl⟩ : ∃ (R : Fin 2048) (C : Fin 2048), i = ix2 R C :=
    ⟨i 0, i 1, by funext a; match a with | ⟨0, _⟩ => rfl | ⟨1, _⟩ => rfl⟩
  rw [reference_eq]
  exact (result_of _ _ _ _ (V_rows m c) (V_weights m c) R C).symm

/-- The value claim. -/
theorem algebraic : Cert.algebraic_ProjMemIdeal_ProjMemRefIdeal (hProjMemIdeal := Cert.ProjMemIdeal.Gen.facts)
    (hProjMemRefIdeal := Cert.ProjMemRefIdeal.Gen.facts) := by
  intro m ρ m' ρ' _ hagree
  refine ⟨fun c => (ProjMemIdeal.Gen.dats m 0 c).arrAt 2 ProjMemIdeal.cfg0.N, ProjMemIdeal.Value.run_blocks m ρ, ?_⟩
  refine (θ_run _ _ _).mono (fun r h c => ⟨?_, (h c).2⟩) (ProjMemRefIdeal.Value.run (F := Ideal) m' ρ')
  rw [(h c).1, ProjMemRefIdeal.Read.val_main_v4_eq, (hagree c).1, (hagree c).2]
  exact arrays_eq m c

/-- The reference leaves its arguments as they were and every semaphore at zero. -/
theorem ref_frame (m : (ℓ : Loc ProjMemRefIdeal.nD ProjMemRefIdeal.τ ProjMemRefIdeal.sig) → Buf (Elt Ideal) ℓ) (ρ : Dev ProjMemRefIdeal.nD → PrngReg) :
    θ_run ProjMemRefIdeal.defs (onTc (τ := ProjMemRefIdeal.τ) (ProjMemRefIdeal.main (F := Ideal))) ⟨m, fun _ => 0, ρ⟩ fun r =>
      (∀ c : Dev ProjMemRefIdeal.nD,
        r.2.mem ((c.tc : Thread ProjMemRefIdeal.nD ProjMemRefIdeal.τ).loc ProjMemRefIdeal.main_arg0) = m ((c.tc : Thread ProjMemRefIdeal.nD ProjMemRefIdeal.τ).loc ProjMemRefIdeal.main_arg0)
        ∧ r.2.mem ((c.tc : Thread ProjMemRefIdeal.nD ProjMemRefIdeal.τ).loc ProjMemRefIdeal.main_arg1) = m ((c.tc : Thread ProjMemRefIdeal.nD ProjMemRefIdeal.τ).loc ProjMemRefIdeal.main_arg1))
      ∧ r.2.sem = fun _ => 0 :=
  (θ_run _ _ _).mono (fun r h => ⟨fun c => (h c).2, Idealize.ShloMosaic.sem_eq_zero_of_no_sems (by decide) r.2⟩)
    (ProjMemRefIdeal.Value.run (F := Ideal) m ρ)

end Cert.Own.ProjMem

end
-- ==== Proof.lean ====
/- The claims proved: the attention in both its forms, the feed-forward, the two memory attention steps and the three projections. The value proofs are
   Proof/AttnClaim.lean, Proof/RunningClaim.lean, Proof/FfnClaim.lean, Proof/MixAbClaim.lean, Proof/MixCClaim.lean,
   Proof/AbClaim.lean, Proof/ProjC.lean and Proof/ProjMem.lean. -/
module

public import proofs.«01_k».proof.Defs
public import proofs.«01_k».proof.Proof.Gen.AttnAIdeal.Value
public import proofs.«01_k».proof.Proof.Gen.AttnARefIdeal.Run
public import proofs.«01_k».proof.Proof.Gen.AttnARefIdeal.Read
public import proofs.«01_k».proof.Proof.Gen.AttnMIdeal.Value
public import proofs.«01_k».proof.Proof.Gen.AttnM.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.MixAbIdeal.Value
public import proofs.«01_k».proof.Proof.Gen.MixAbRefIdeal.Run
public import proofs.«01_k».proof.Proof.Gen.MixAbRefIdeal.Read
public import proofs.«01_k».proof.Proof.Gen.MixCIdeal.Value
public import proofs.«01_k».proof.Proof.Gen.MixCRefIdeal.Run
public import proofs.«01_k».proof.Proof.Gen.MixCRefIdeal.Read
public import proofs.«01_k».proof.Proof.Gen.AbProjIdeal.Value
public import proofs.«01_k».proof.Proof.Gen.AbProj.Frame
public import proofs.«01_k».proof.Proof.Gen.AbProjRefIdeal.Run
public import proofs.«01_k».proof.Proof.Gen.AbProjRefIdeal.Read
public import proofs.«01_k».proof.Proof.Gen.Pre_finite_norm
public import proofs.«01_k».proof.Proof.AttnClaim
public import proofs.«01_k».proof.Proof.RunningClaim
public import proofs.«01_k».proof.Proof.FfnClaim
public import proofs.«01_k».proof.Proof.AbClaim
public import proofs.«01_k».proof.Proof.MixAbClaim
public import proofs.«01_k».proof.Proof.MixCClaim
public import proofs.«01_k».proof.Proof.ProjC
public import proofs.«01_k».proof.Proof.ProjMem

@[expose] public section

noncomputable section

namespace Cert.Proof

open Idealize.ShloMosaic Idealize.SL.Sem

/-- Every claim. -/
theorem claim : Cert.Claim := ⟨Cert.AttnA.Gen.facts, Cert.AttnAIdeal.Gen.facts, Cert.AttnARefIdeal.Gen.facts,
  Cert.AttnM.Gen.facts, Cert.AttnMIdeal.Gen.facts,
  Cert.Ffn.Gen.facts, Cert.FfnIdeal.Gen.facts, Cert.FfnRefIdeal.Gen.facts,
  Cert.AbProj.Gen.facts, Cert.AbProjIdeal.Gen.facts, Cert.AbProjRefIdeal.Gen.facts,
  Cert.MixAb.Gen.facts, Cert.MixAbIdeal.Gen.facts, Cert.MixAbRefIdeal.Gen.facts,
  Cert.MixC.Gen.facts, Cert.MixCIdeal.Gen.facts, Cert.MixCRefIdeal.Gen.facts,
  Cert.ProjC.Gen.facts, Cert.ProjCIdeal.Gen.facts, Cert.ProjCRefIdeal.Gen.facts,
  Cert.ProjMem.Gen.facts, Cert.ProjMemIdeal.Gen.facts, Cert.ProjMemRefIdeal.Gen.facts, Cert.Pre_finite_qk.Gen.facts,
  Cert.Pre_finite_norm.Gen.facts, Cert.Pre_finite_ab.Gen.facts, Cert.Pre_finite_c.Gen.facts,
  fun m ρ _ => Cert.AttnA.Gen.frame m ρ, fun m ρ _ => Cert.AttnAIdeal.Gen.frame m ρ, fun m ρ _ => Cert.AttnAIdeal.Gen.frame m ρ,
  fun m ρ _ => Cert.Own.Attn.ref_frame m ρ, fun m ρ _ => Cert.Own.Attn.ref_frame m ρ,
  fun m ρ _ => Cert.AttnM.Gen.frame m ρ, fun m ρ _ => Cert.AttnMIdeal.Gen.frame m ρ, fun m ρ _ => Cert.AttnMIdeal.Gen.frame m ρ,
  fun m ρ _ => Cert.Ffn.Gen.frame m ρ, fun m ρ _ => Cert.FfnIdeal.Gen.frame m ρ, fun m ρ _ => Cert.Own.Ffn.ref_frame m ρ,
  fun m ρ _ => Cert.AbProj.Gen.frame m ρ, fun m ρ _ => Cert.AbProjIdeal.Gen.frame m ρ, fun m ρ _ => Cert.AbProjIdeal.Gen.frame m ρ,
  fun m ρ _ => Cert.Own.AbProj.ref_frame m ρ, fun m ρ _ => Cert.Own.AbProj.ref_frame m ρ,
  fun m ρ _ => Cert.MixAb.Gen.frame m ρ, fun m ρ _ => Cert.MixAbIdeal.Gen.frame m ρ, fun m ρ _ => Cert.MixAbIdeal.Gen.frame m ρ,
  fun m ρ _ => Cert.Own.MixAb.ref_frame m ρ, fun m ρ _ => Cert.Own.MixAb.ref_frame m ρ,
  fun m ρ _ => Cert.MixC.Gen.frame m ρ, fun m ρ _ => Cert.MixCIdeal.Gen.frame m ρ, fun m ρ _ => Cert.MixCIdeal.Gen.frame m ρ,
  fun m ρ _ => Cert.Own.MixC.ref_frame m ρ, fun m ρ _ => Cert.Own.MixC.ref_frame m ρ,
  fun m ρ _ => Cert.ProjC.Gen.frame m ρ, fun m ρ _ => Cert.ProjCIdeal.Gen.frame m ρ, fun m ρ _ => Cert.Own.ProjC.ref_frame m ρ,
  fun m ρ _ => Cert.ProjMem.Gen.frame m ρ, fun m ρ _ => Cert.ProjMemIdeal.Gen.frame m ρ, fun m ρ _ => Cert.Own.ProjMem.ref_frame m ρ,
  trivial, Cert.Own.Attn.algebraic, trivial, Cert.Own.Running.algebraic, trivial, Cert.Own.Ffn.algebraic, Cert.Own.AbProj.preserves, Cert.Own.AbProj.algebraic,
  Cert.Own.MixAb.preserves, Cert.Own.MixAb.algebraic,
  Cert.Own.MixC.preserves, Cert.Own.MixC.algebraic,
  Cert.Own.ProjC.preserves, Cert.Own.ProjC.algebraic, trivial, Cert.Own.ProjMem.algebraic⟩

end Cert.Proof

end
